-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_normal [hPre_normal : Cert.Pre_normal.Facts] (m : (ℓ : Loc Cert.PrepIdeal.nD Cert.PrepIdeal.τ Cert.PrepIdeal.sig) → Buf (Elt Ideal) ℓ) : Prop :=
  ∀ c : Dev Cert.PrepIdeal.nD,
    (Cert.Pre_normal.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_normal [hPre_normal : Cert.Pre_normal.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_normal.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepIdeal_pre_normal [hPrepIdeal : Cert.PrepIdeal.Facts] [hPre_normal : Cert.Pre_normal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_normal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1))
      ∧ r.2.sem = fun _ => 0)

def quiescent_PrepReferenceIdeal_pre_normal [hPrepReferenceIdeal : Cert.PrepReferenceIdeal.Facts] [hPre_normal : Cert.Pre_normal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_normal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1))
      ∧ r.2.sem = fun _ => 0)

def preserves_Kernel_KernelIdeal : Prop :=
  IdealRules.named_const.Statement Cert.KernelIdeal.κ "ten_log2e" .f32 0x4166D4CA#32 ((10 * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Prep_PrepIdeal : Prop :=
  True

def algebraic_PrepIdeal_PrepReferenceIdeal_pre_normal [hPrepIdeal : Cert.PrepIdeal.Facts] [hPrepReferenceIdeal : Cert.PrepReferenceIdeal.Facts] [hPre_normal : Cert.Pre_normal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_normal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v0_0) = v0 c
          ∧ r.2.mem ((c.tc : Thread Cert.PrepReferenceIdeal.nD Cert.PrepReferenceIdeal.τ).loc Cert.PrepReferenceIdeal.main_v0_1) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_finite : Cert.Pre_finite.Facts) (hPre_normal : Cert.Pre_normal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prep (hPrep := hPrep)
    ∧ quiescent_PrepIdeal (hPrepIdeal := hPrepIdeal)
    ∧ quiescent_PrepIdeal_pre_normal (hPrepIdeal := hPrepIdeal) (hPre_normal := hPre_normal)
    ∧ quiescent_PrepReferenceIdeal (hPrepReferenceIdeal := hPrepReferenceIdeal)
    ∧ quiescent_PrepReferenceIdeal_pre_normal (hPrepReferenceIdeal := hPrepReferenceIdeal) (hPre_normal := hPre_normal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prep_PrepIdeal
    ∧ algebraic_PrepIdeal_PrepReferenceIdeal_pre_normal (hPrepIdeal := hPrepIdeal) (hPrepReferenceIdeal := hPrepReferenceIdeal) (hPre_normal := hPre_normal)
-- ==== Pre_finite.lean ====
abbrev S16384x128 : Shape := ⟨2, ![16384, 128]⟩
abbrev S1x1 : Shape := ⟨2, ![1, 1]⟩
abbrev S8192 : Shape := ⟨1, ![8192]⟩
abbrev S_ : Shape := ⟨0, ![]⟩

class Facts : Prop where
  bitsLt_bf16_f32 : FTy.bits .bf16 < FTy.bits .f32
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x128 .bf16) (main_arg1 : FVec F S1x1 .f32) (main_arg2 : IVec S8192 32) : IVec S_ 1 :=
  let main_v0 : FVec F S16384x128 .f32 := (extf .f32 · bitsLt_bf16_f32) main_arg0
  let main_v1 : FVec F S16384x128 .f32 := Host.absf main_v0
  let main_cst : FVec F S_ .f32 := constant S_ .f32 0x7F800000#32
  let main_v2 : FVec F S16384x128 .f32 := broadcastInDim S16384x128 ![] bcast_S_S16384x128 main_cst
  let main_v3 : IVec S16384x128 1 := cmpf .olt main_v1 main_v2
  let main_c : IVec S_ 1 := constantI S_ 1 1#1
  let main_v4 : IVec S_ 1 := (fun x v => Host.reduce IntOp.andi x v reducesTo_S16384x128_S_d0_1 h_S_) main_v3 main_c
  let main_c_0 : IVec S_ 32 := constantI S_ 32 1024#32
  let main_v5 : IVec S8192 32 := broadcastInDim S8192 ![] bcast_S_S8192 main_c_0
  let main_v6 : IVec S8192 1 := cmpi .slt main_arg2 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v4 main_v7
  main_v8
-- ==== Pre_normal.lean ====
abbrev S16384x128 : Shape := ⟨2, ![16384, 128]⟩
abbrev S16384x4 : Shape := ⟨2, ![16384, 4]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel

variable [Facts]

def fn {F : FTy → Type} [FloatOps F] (main_arg0 : FVec F S16384x128 .fp8e4m3) (main_arg1 : IVec S16384x4 8) : IVec S_ 1 :=
  let main_c : IVec S_ 8 := constantI S_ 8 0#8
  let main_v0 : IVec S16384x4 8 := broadcastInDim S16384x4 ![] bcast_S_S16384x4 main_c
  let main_v1 : IVec S16384x4 1 := cmpi .ugt main_arg1 main_v0
  let main_c_0 : IVec S_ 1 := constantI S_ 1 1#1
  let main_v2 : IVec S_ 1 := (fun x v => Host.reduce IntOp.andi x v reducesTo_S16384x4_S_d0_1 h_S_) main_v1 main_c_0
  let main_c_1 : IVec S_ 8 := constantI S_ 8 255#8
  let main_v3 : IVec S16384x4 8 := broadcastInDim S16384x4 ![] bcast_S_S16384x4 main_c_1
  let main_v4 : IVec S16384x4 1 := cmpi .ult main_arg1 main_v3
  let main_c_2 : IVec S_ 1 := constantI S_ 1 1#1
  let main_v5 : IVec S_ 1 := (fun x v => Host.reduce IntOp.andi x v reducesTo_S16384x4_S_d0_1 h_S_) main_v4 main_c_2
  let main_v6 : IVec S_ 1 := andi main_v2 main_v5
  main_v6
-- ==== Kernel.lean ====
abbrev S16384x128 : Shape := ⟨2, ![16384, 128]⟩
abbrev S1x1 : Shape := ⟨2, ![1, 1]⟩
abbrev S8192 : Shape := ⟨1, ![8192]⟩
abbrev S32x8x512 : Shape := ⟨3, ![32, 8, 512]⟩
abbrev S512x128 : Shape := ⟨2, ![512, 128]⟩
abbrev S256x128 : Shape := ⟨2, ![256, 128]⟩
abbrev S256x512 : Shape := ⟨2, ![256, 512]⟩
abbrev S1x8x512 : Shape := ⟨3, ![1, 8, 512]⟩
abbrev S8x512 : Shape := ⟨2, ![8, 512]⟩
abbrev S128x512 : Shape := ⟨2, ![128, 512]⟩
abbrev S16x8x512 : Shape := ⟨3, ![16, 8, 512]⟩
abbrev S1x8192 : Shape := ⟨2, ![1, 8192]⟩
abbrev S2x8192 : Shape := ⟨2, ![2, 8192]⟩
abbrev S256x8192 : Shape := ⟨2, ![256, 8192]⟩
abbrev S256x1024 : Shape := ⟨2, ![256, 1024]⟩
abbrev S512x1024 : Shape := ⟨2, ![512, 1024]⟩
abbrev S1024x128 : Shape := ⟨2, ![1024, 128]⟩
abbrev S1x512 : Shape := ⟨2, ![1, 512]⟩
abbrev S1024x512 : Shape := ⟨2, ![1024, 512]⟩
abbrev S128x1024 : Shape := ⟨2, ![128, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S_ : Shape := ⟨0, ![]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 9
  | .vmem => 19
  | .smem => 2
  | _ => 0

abbrev bufTy : (tb : Table) → Fin (tcTables nBuf tb) → BufTy
  | .hbm, ⟨0, _⟩ => ⟨S16384x128, .bf16⟩
  | .hbm, ⟨1, _⟩ => ⟨S1x1, .f32⟩
  | .hbm, ⟨2, _⟩ => ⟨S8192, .i32⟩
  | .hbm, ⟨3, _⟩ => ⟨S32x8x512, .f32⟩
  | .hbm, ⟨4, _⟩ => ⟨S1x8192, .i32⟩
  | .hbm, ⟨5, _⟩ => ⟨S2x8192, .f32⟩
  | .hbm, ⟨6, _⟩ => ⟨S2x8192, .i32⟩
  | .hbm, ⟨7, _⟩ => ⟨S2x8192, .f32⟩
  | .hbm, ⟨8, _⟩ => ⟨S2x8192, .f32⟩
  | .local _ .vmem, ⟨0, _⟩ => ⟨S16384x128, .bf16⟩
  | .local _ .vmem, ⟨1, _⟩ => ⟨S32x8x512, .f32⟩
  | .local _ .vmem, ⟨2, _⟩ => ⟨S512x128, .f32⟩
  | .local _ .vmem, ⟨3, _⟩ => ⟨S1x8192, .i32⟩
  | .local _ .vmem, ⟨4, _⟩ => ⟨S16384x128, .bf16⟩
  | .local _ .vmem, ⟨5, _⟩ => ⟨S2x8192, .f32⟩
  | .local _ .vmem, ⟨6, _⟩ => ⟨S2x8192, .i32⟩
  | .local _ .vmem, ⟨7, _⟩ => ⟨S256x8192, .bf16⟩
  | .local _ .vmem, ⟨8, _⟩ => ⟨S256x1024, .f32⟩
  | .local _ .vmem, ⟨9, _⟩ => ⟨S512x1024, .bf16⟩
  | .local _ .vmem, ⟨10, _⟩ => ⟨S1024x128, .f32⟩
  | .local _ .vmem, ⟨11, _⟩ => ⟨S32x8x512, .f32⟩
  | .local _ .vmem, ⟨12, _⟩ => ⟨S2x8192, .f32⟩
  | .local _ .vmem, ⟨13, _⟩ => ⟨S2x8192, .i32⟩
  | .local _ .vmem, ⟨14, _⟩ => ⟨S2x8192, .f32⟩
  | .local _ .vmem, ⟨15, _⟩ => ⟨S2x8192, .f32⟩
  | .local _ .vmem, ⟨16, _⟩ => ⟨S16384x128, .bf16⟩
  | .local _ .vmem, ⟨17, _⟩ => ⟨S1x512, .f32⟩
  | .local _ .vmem, ⟨18, _⟩ => ⟨S1x512, .f32⟩
  | .local _ .smem, ⟨0, _⟩ => ⟨S1x1, .f32⟩
  | .local _ .smem, ⟨1, _⟩ => ⟨S1x1, .f32⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc1_scratch3 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_scratch0 : Ref sig .tc := ⟨.vmem, 16, rfl⟩
abbrev cc2_scratch1 : Ref sig .tc := ⟨.vmem, 17, rfl⟩
abbrev cc2_scratch2 : Ref sig .tc := ⟨.vmem, 18, rfl⟩
abbrev cc0_stg0_0 : Ref sig .tc := ⟨.smem, 0, rfl⟩
abbrev cc2_stg0_0 : Ref sig .tc := ⟨.smem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v8 : BitVec 32 := Scalar.muli arg4 c512_i32
  v8
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v8 : BitVec 32 := Scalar.muli arg4 c512_i32
  let v9 : BitVec 32 := v8
  let v10 : Index := Scalar.indexCast v9
  let c0_9 : Index := 0#32
  ![v10.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_10 : BitVec 32 := 512#32
  let v12 : BitVec 32 := Scalar.muli arg4 c512_i32_10
  let c0_i32_11 : BitVec 32 := 0#32
  let v13 : BitVec 32 := Scalar.addi v12 c0_i32_11
  v13
def k0_off2 (k0_t1 : Fin k0_t1_loop.trips) (c0_i32_11 : BitVec 32) : Fin 2 → Nat :=
  let c0_i32 : BitVec 32 := 0#32
  let c1_i32 : BitVec 32 := 1#32
  let arg4 : BitVec 32 := Scf.iv c0_i32 c1_i32 k0_t1
  let c512_i32_10 : BitVec 32 := 512#32
  let v12 : BitVec 32 := Scalar.muli arg4 c512_i32_10
  let v13 : BitVec 32 := Scalar.addi v12 c0_i32_11
  let v14 : BitVec 32 := v13
  let v15 : Index := Scalar.indexCast v14
  let c0_12 : Index := 0#32
  ![v15.toNat, 0]
def k0_mult3 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_19 : BitVec 32 := 512#32
  let v40 : BitVec 32 := Scalar.muli arg4 c512_i32_19
  let c256_i32 : BitVec 32 := 256#32
  let v41 : BitVec 32 := Scalar.addi v40 c256_i32
  v41
@[reducible] def k0_t2_loop (k0_t1 : Fin k0_t1_loop.trips) : Scf.Loop 32 :=
  let c1_i32_27 : BitVec 32 := 1#32
  let c0_i32 : BitVec 32 := 0#32
  let c1_i32 : BitVec 32 := 1#32
  let arg4 : BitVec 32 := Scf.iv c0_i32 c1_i32 k0_t1
  let c16_i32 : BitVec 32 := 16#32
  let v68 : BitVec 1 := Scalar.cmpi .slt arg4 c16_i32
  let c17_i32 : BitVec 32 := 17#32
  let c16_i32_26 : BitVec 32 := 16#32
  let v69 : BitVec 32 := Scalar.select v68 c17_i32 c16_i32_26
  let v70 : BitVec 32 := Scalar.subi v69 c1_i32_27
  let c1_i32_29 : BitVec 32 := 1#32
  let v72 : BitVec 32 := Scalar.divsi v70 c1_i32_29
  let v73 : BitVec 32 := Scalar.muli v72 c1_i32_29
  let v74 : BitVec 32 := Scalar.addi c1_i32_27 v73
  let c1_i32_30 : BitVec 32 := 1#32
  ⟨c1_i32_27, v74, c1_i32_30⟩
def k0_mult4 (k0_t1 : Fin k0_t1_loop.trips) (k0_t2 : Fin (k0_t2_loop k0_t1).trips) : BitVec 32 :=
  let c0_i32 : BitVec 32 := 0#32
  let c1_i32 : BitVec 32 := 1#32
  let arg4 : BitVec 32 := Scf.iv c0_i32 c1_i32 k0_t1
  let c1_i32_27 : BitVec 32 := 1#32
  let c1_i32_30 : BitVec 32 := 1#32
  let arg5 : BitVec 32 := Scf.iv c1_i32_27 c1_i32_30 k0_t2
  let v89 : BitVec 32 := Scalar.addi arg4 arg5
  let c32_i32_39 : BitVec 32 := 32#32
  let v90 : BitVec 32 := Scalar.remsi v89 c32_i32_39
  let c512_i32_40 : BitVec 32 := 512#32
  let v91 : BitVec 32 := Scalar.muli v90 c512_i32_40
  v91
def k0_off3 (k0_t1 : Fin k0_t1_loop.trips) (k0_t2 : Fin (k0_t2_loop k0_t1).trips) : Fin 2 → Nat :=
  let c0_i32 : BitVec 32 := 0#32
  let c1_i32 : BitVec 32 := 1#32
  let arg4 : BitVec 32 := Scf.iv c0_i32 c1_i32 k0_t1
  let c1_i32_27 : BitVec 32 := 1#32
  let c1_i32_30 : BitVec 32 := 1#32
  let arg5 : BitVec 32 := Scf.iv c1_i32_27 c1_i32_30 k0_t2
  let v89 : BitVec 32 := Scalar.addi arg4 arg5
  let c32_i32_39 : BitVec 32 := 32#32
  let v90 : BitVec 32 := Scalar.remsi v89 c32_i32_39
  let c512_i32_40 : BitVec 32 := 512#32
  let v91 : BitVec 32 := Scalar.muli v90 c512_i32_40
  let v92 : BitVec 32 := v91
  let v93 : Index := Scalar.indexCast v92
  let c0_41 : Index := 0#32
  ![v93.toNat, 0]
def k0_mult5 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_42 : BitVec 32 := 512#32
  let v95 : BitVec 32 := Scalar.muli arg4 c512_i32_42
  let c0_i32_43 : BitVec 32 := 0#32
  let v96 : BitVec 32 := Scalar.addi v95 c0_i32_43
  v96
def k0_off4 (k0_t1 : Fin k0_t1_loop.trips) (c0_i32_43 : BitVec 32) : Fin 2 → Nat :=
  let c0_i32 : BitVec 32 := 0#32
  let c1_i32 : BitVec 32 := 1#32
  let arg4 : BitVec 32 := Scf.iv c0_i32 c1_i32 k0_t1
  let c512_i32_42 : BitVec 32 := 512#32
  let v95 : BitVec 32 := Scalar.muli arg4 c512_i32_42
  let v96 : BitVec 32 := Scalar.addi v95 c0_i32_43
  let v97 : BitVec 32 := v96
  let v98 : Index := Scalar.indexCast v97
  let c0_44 : Index := 0#32
  ![v98.toNat, 0]
def k0_off5 (k0_t1 : Fin k0_t1_loop.trips) (k0_t2 : Fin (k0_t2_loop k0_t1).trips) : Fin 3 → Nat :=
  let c0_i32 : BitVec 32 := 0#32
  let c1_i32 : BitVec 32 := 1#32
  let arg4 : BitVec 32 := Scf.iv c0_i32 c1_i32 k0_t1
  let c1_i32_27 : BitVec 32 := 1#32
  let c1_i32_30 : BitVec 32 := 1#32
  let arg5 : BitVec 32 := Scf.iv c1_i32_27 c1_i32_30 k0_t2
  let v89 : BitVec 32 := Scalar.addi arg4 arg5
  let c32_i32_39 : BitVec 32 := 32#32
  let v90 : BitVec 32 := Scalar.remsi v89 c32_i32_39
  let v106 : Index := Scalar.indexCast v90
  let c0_47 : Index := 0#32
  let c0_48 : Index := 0#32
  ![v106.toNat, 0, 0]
def k0_mult6 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_56 : BitVec 32 := 512#32
  let v128 : BitVec 32 := Scalar.muli arg4 c512_i32_56
  let c256_i32_57 : BitVec 32 := 256#32
  let v129 : BitVec 32 := Scalar.addi v128 c256_i32_57
  v129
@[reducible] def k0_t3_loop (k0_t1 : Fin k0_t1_loop.trips) : Scf.Loop 32 :=
  let c1_i32_27 : BitVec 32 := 1#32
  let c0_i32 : BitVec 32 := 0#32
  let c1_i32 : BitVec 32 := 1#32
  let arg4 : BitVec 32 := Scf.iv c0_i32 c1_i32 k0_t1
  let c16_i32 : BitVec 32 := 16#32
  let v68 : BitVec 1 := Scalar.cmpi .slt arg4 c16_i32
  let c17_i32 : BitVec 32 := 17#32
  let c16_i32_26 : BitVec 32 := 16#32
  let v69 : BitVec 32 := Scalar.select v68 c17_i32 c16_i32_26
  let v70 : BitVec 32 := Scalar.subi v69 c1_i32_27
  let c1_i32_29 : BitVec 32 := 1#32
  let v72 : BitVec 32 := Scalar.divsi v70 c1_i32_29
  let v73 : BitVec 32 := Scalar.muli v72 c1_i32_29
  let v74 : BitVec 32 := Scalar.addi c1_i32_27 v73
  let v71 : BitVec 32 := Scalar.addi c1_i32_27 v70
  let c1_i32_31 : BitVec 32 := 1#32
  ⟨v74, v71, c1_i32_31⟩
def k0_mult7 (k0_t1 : Fin k0_t1_loop.trips) (k0_t3 : Fin (k0_t3_loop k0_t1).trips) : BitVec 32 :=
  let c0_i32 : BitVec 32 := 0#32
  let c1_i32 : BitVec 32 := 1#32
  let arg4 : BitVec 32 := Scf.iv c0_i32 c1_i32 k0_t1
  let c1_i32_27 : BitVec 32 := 1#32
  let c16_i32 : BitVec 32 := 16#32
  let v68 : BitVec 1 := Scalar.cmpi .slt arg4 c16_i32
  let c17_i32 : BitVec 32 := 17#32
  let c16_i32_26 : BitVec 32 := 16#32
  let v69 : BitVec 32 := Scalar.select v68 c17_i32 c16_i32_26
  let v70 : BitVec 32 := Scalar.subi v69 c1_i32_27
  let c1_i32_29 : BitVec 32 := 1#32
  let v72 : BitVec 32 := Scalar.divsi v70 c1_i32_29
  let v73 : BitVec 32 := Scalar.muli v72 c1_i32_29
  let v74 : BitVec 32 := Scalar.addi c1_i32_27 v73
  let c1_i32_31 : BitVec 32 := 1#32
  let arg5 : BitVec 32 := Scf.iv v74 c1_i32_31 k0_t3
  let v89 : BitVec 32 := Scalar.addi arg4 arg5
  let c32_i32_39 : BitVec 32 := 32#32
  let v90 : BitVec 32 := Scalar.remsi v89 c32_i32_39
  let c512_i32_40 : BitVec 32 := 512#32
  let v91 : BitVec 32 := Scalar.muli v90 c512_i32_40
  v91
def k0_off6 (k0_t1 : Fin k0_t1_loop.trips) (k0_t3 : Fin (k0_t3_loop k0_t1).trips) : Fin 2 → Nat :=
  let c0_i32 : BitVec 32 := 0#32
  let c1_i32 : BitVec 32 := 1#32
  let arg4 : BitVec 32 := Scf.iv c0_i32 c1_i32 k0_t1
  let c1_i32_27 : BitVec 32 := 1#32
  let c16_i32 : BitVec 32 := 16#32
  let v68 : BitVec 1 := Scalar.cmpi .slt arg4 c16_i32
  let c17_i32 : BitVec 32 := 17#32
  let c16_i32_26 : BitVec 32 := 16#32
  let v69 : BitVec 32 := Scalar.select v68 c17_i32 c16_i32_26
  let v70 : BitVec 32 := Scalar.subi v69 c1_i32_27
  let c1_i32_29 : BitVec 32 := 1#32
  let v72 : BitVec 32 := Scalar.divsi v70 c1_i32_29
  let v73 : BitVec 32 := Scalar.muli v72 c1_i32_29
  let v74 : BitVec 32 := Scalar.addi c1_i32_27 v73
  let c1_i32_31 : BitVec 32 := 1#32
  let arg5 : BitVec 32 := Scf.iv v74 c1_i32_31 k0_t3
  let v89 : BitVec 32 := Scalar.addi arg4 arg5
  let c32_i32_39 : BitVec 32 := 32#32
  let v90 : BitVec 32 := Scalar.remsi v89 c32_i32_39
  let c512_i32_40 : BitVec 32 := 512#32
  let v91 : BitVec 32 := Scalar.muli v90 c512_i32_40
  let v92 : BitVec 32 := v91
  let v93 : Index := Scalar.indexCast v92
  let c0_41 : Index := 0#32
  ![v93.toNat, 0]
def k0_mult8 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_42 : BitVec 32 := 512#32
  let v95 : BitVec 32 := Scalar.muli arg4 c512_i32_42
  let c0_i32_43 : BitVec 32 := 0#32
  let v96 : BitVec 32 := Scalar.addi v95 c0_i32_43
  v96
def k0_off7 (k0_t1 : Fin k0_t1_loop.trips) (c0_i32_43 : BitVec 32) : Fin 2 → Nat :=
  let c0_i32 : BitVec 32 := 0#32
  let c1_i32 : BitVec 32 := 1#32
  let arg4 : BitVec 32 := Scf.iv c0_i32 c1_i32 k0_t1
  let c512_i32_42 : BitVec 32 := 512#32
  let v95 : BitVec 32 := Scalar.muli arg4 c512_i32_42
  let v96 : BitVec 32 := Scalar.addi v95 c0_i32_43
  let v97 : BitVec 32 := v96
  let v98 : Index := Scalar.indexCast v97
  let c0_44 : Index := 0#32
  ![v98.toNat, 0]
def k0_off8 (k0_t1 : Fin k0_t1_loop.trips) (k0_t3 : Fin (k0_t3_loop k0_t1).trips) : Fin 3 → Nat :=
  let c0_i32 : BitVec 32 := 0#32
  let c1_i32 : BitVec 32 := 1#32
  let arg4 : BitVec 32 := Scf.iv c0_i32 c1_i32 k0_t1
  let c1_i32_27 : BitVec 32 := 1#32
  let c16_i32 : BitVec 32 := 16#32
  let v68 : BitVec 1 := Scalar.cmpi .slt arg4 c16_i32
  let c17_i32 : BitVec 32 := 17#32
  let c16_i32_26 : BitVec 32 := 16#32
  let v69 : BitVec 32 := Scalar.select v68 c17_i32 c16_i32_26
  let v70 : BitVec 32 := Scalar.subi v69 c1_i32_27
  let c1_i32_29 : BitVec 32 := 1#32
  let v72 : BitVec 32 := Scalar.divsi v70 c1_i32_29
  let v73 : BitVec 32 := Scalar.muli v72 c1_i32_29
  let v74 : BitVec 32 := Scalar.addi c1_i32_27 v73
  let c1_i32_31 : BitVec 32 := 1#32
  let arg5 : BitVec 32 := Scf.iv v74 c1_i32_31 k0_t3
  let v89 : BitVec 32 := Scalar.addi arg4 arg5
  let c32_i32_39 : BitVec 32 := 32#32
  let v90 : BitVec 32 := Scalar.remsi v89 c32_i32_39
  let v106 : Index := Scalar.indexCast v90
  let c0_47 : Index := 0#32
  let c0_48 : Index := 0#32
  ![v106.toNat, 0, 0]
def k0_mult9 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32_56 : BitVec 32 := 512#32
  let v128 : BitVec 32 := Scalar.muli arg4 c512_i32_56
  let c256_i32_57 : BitVec 32 := 256#32
  let v129 : BitVec 32 := Scalar.addi v128 c256_i32_57
  v129
def k0_off9 (k0_t1 : Fin k0_t1_loop.trips) : Fin 3 → Nat :=
  let c0_i32 : BitVec 32 := 0#32
  let c1_i32 : BitVec 32 := 1#32
  let arg4 : BitVec 32 := Scf.iv c0_i32 c1_i32 k0_t1
  let v77 : Index := Scalar.indexCast arg4
  let c0_32 : Index := 0#32
  let c0_33 : Index := 0#32
  ![v77.toNat, 0, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  v55
def k1_off1 (k1_t1 : Fin k1_t1_loop.trips) (c0_i32_26 : BitVec 32) : Fin 2 → Nat :=
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  let v56 : BitVec 32 := v55
  let v57 : BitVec 32 := Scalar.addi c0_i32_26 v56
  let v58 : Index := Scalar.indexCast v57
  let c0_27 : Index := 0#32
  ![v58.toNat, 0]
def k1_off2 (k1_t1 : Fin k1_t1_loop.trips) : Fin 2 → Nat :=
  let c0_28 : Index := 0#32
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  let v56 : BitVec 32 := v55
  let v61 : Index := Scalar.indexCast v56
  ![0, v61.toNat]
def k1_off3 (k1_t1 : Fin k1_t1_loop.trips) : Fin 2 → Nat :=
  let c128_30 : Index := 128#32
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  let v56 : BitVec 32 := v55
  let v69 : Index := Scalar.indexCast v56
  ![128, v69.toNat]
def k1_off4 (k1_t1 : Fin k1_t1_loop.trips) : Fin 2 → Nat :=
  let c0_31 : Index := 0#32
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  let v56 : BitVec 32 := v55
  let v73 : Index := Scalar.indexCast v56
  ![0, v73.toNat]
def k1_off5 (k1_t1 : Fin k1_t1_loop.trips) : Fin 2 → Nat :=
  let c0_34 : Index := 0#32
  let c0_i32 : BitVec 32 := 0#32
  let c1_i32 : BitVec 32 := 1#32
  let arg8 : BitVec 32 := Scf.iv c0_i32 c1_i32 k1_t1
  let c512_i32 : BitVec 32 := 512#32
  let v55 : BitVec 32 := Scalar.muli arg8 c512_i32
  let v56 : BitVec 32 := v55
  let v80 : Index := Scalar.indexCast v56
  ![0, v80.toNat]
@[reducible] def k1_t2_loop : Scf.Loop 32 :=
  let c0_i32_22 : BitVec 32 := 0#32
  let c16_i32_23 : BitVec 32 := 16#32
  let v54 : BitVec 32 := Scalar.addi c0_i32_22 c16_i32_23
  let c1_i32_24 : BitVec 32 := 1#32
  ⟨c0_i32_22, v54, c1_i32_24⟩
def k1_mult2 (k1_t2 : Fin k1_t2_loop.trips) : BitVec 32 :=
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  v55
def k1_off6 (k1_t2 : Fin k1_t2_loop.trips) : Fin 2 → Nat :=
  let c0_26 : Index := 0#32
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  let v56 : BitVec 32 := v55
  let v57 : Index := Scalar.indexCast v56
  ![0, v57.toNat]
def k1_off7 (k1_t2 : Fin k1_t2_loop.trips) : Fin 2 → Nat :=
  let c0_35 : Index := 0#32
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  let v56 : BitVec 32 := v55
  let v87 : Index := Scalar.indexCast v56
  ![0, v87.toNat]
def k1_off8 (k1_t2 : Fin k1_t2_loop.trips) : Fin 2 → Nat :=
  let c0_41 : Index := 0#32
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  let v56 : BitVec 32 := v55
  let v103 : Index := Scalar.indexCast v56
  ![0, v103.toNat]
def k1_off9 (k1_t2 : Fin k1_t2_loop.trips) : Fin 2 → Nat :=
  let c128_43 : Index := 128#32
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  let v56 : BitVec 32 := v55
  let v107 : Index := Scalar.indexCast v56
  ![128, v107.toNat]
def k1_off10 (k1_t2 : Fin k1_t2_loop.trips) : Fin 2 → Nat :=
  let c1 : Index := 1#32
  let c0_i32_22 : BitVec 32 := 0#32
  let c1_i32_24 : BitVec 32 := 1#32
  let arg8 : BitVec 32 := Scf.iv c0_i32_22 c1_i32_24 k1_t2
  let c512_i32 : BitVec 32 := 512#32
  let v55 : BitVec 32 := Scalar.muli arg8 c512_i32
  let v56 : BitVec 32 := v55
  let v123 : Index := Scalar.indexCast v56
  ![1, v123.toNat]
abbrev stage1_0 : Fin 1 → Memref sig .tc .vmem S1x8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

@[reducible] def k2_t1_loop : Scf.Loop 32 :=
  let c0_i32_291 : BitVec 32 := 0#32
  let c32_i32 : BitVec 32 := 32#32
  let v637 : BitVec 32 := Scalar.addi c0_i32_291 c32_i32
  let c1_i32_292 : BitVec 32 := 1#32
  ⟨c0_i32_291, v637, c1_i32_292⟩
def k2_mult1 (k2_t1 : Fin k2_t1_loop.trips) : BitVec 32 :=
  let c0_i32_291 : BitVec 32 := 0#32
  let c1_i32_292 : BitVec 32 := 1#32
  let arg11 : BitVec 32 := Scf.iv c0_i32_291 c1_i32_292 k2_t1
  let c512_i32 : BitVec 32 := 512#32
  let v638 : BitVec 32 := Scalar.muli arg11 c512_i32
  v638
def k2_off1 (k2_t1 : Fin k2_t1_loop.trips) : Fin 2 → Nat :=
  let c0_i32_291 : BitVec 32 := 0#32
  let c1_i32_292 : BitVec 32 := 1#32
  let arg11 : BitVec 32 := Scf.iv c0_i32_291 c1_i32_292 k2_t1
  let c512_i32 : BitVec 32 := 512#32
  let v638 : BitVec 32 := Scalar.muli arg11 c512_i32
  let v639 : BitVec 32 := v638
  let v640 : Index := Scalar.indexCast v639
  let c0_294 : Index := 0#32
  ![v640.toNat, 0]
@[reducible] def k2_t2_loop : Scf.Loop 32 :=
  let c0_i32_301 : BitVec 32 := 0#32
  let c64_i32 : BitVec 32 := 64#32
  let v650 : BitVec 32 := Scalar.addi c0_i32_301 c64_i32
  let c1_i32_302 : BitVec 32 := 1#32
  ⟨c0_i32_301, v650, c1_i32_302⟩
def k2_mult2 (k2_t2 : Fin k2_t2_loop.trips) : BitVec 32 :=
  let c0_i32_301 : BitVec 32 := 0#32
  let c1_i32_302 : BitVec 32 := 1#32
  let arg12 : BitVec 32 := Scf.iv c0_i32_301 c1_i32_302 k2_t2
  let c256_i32 : BitVec 32 := 256#32
  let v684 : BitVec 32 := Scalar.muli arg12 c256_i32
  v684
def k2_off2 (k2_t2 : Fin k2_t2_loop.trips) : Fin 2 → Nat :=
  let c0_i32_301 : BitVec 32 := 0#32
  let c1_i32_302 : BitVec 32 := 1#32
  let arg12 : BitVec 32 := Scf.iv c0_i32_301 c1_i32_302 k2_t2
  let c256_i32 : BitVec 32 := 256#32
  let v684 : BitVec 32 := Scalar.muli arg12 c256_i32
  let v685 : BitVec 32 := v684
  let v686 : Index := Scalar.indexCast v685
  let c0_318 : Index := 0#32
  ![v686.toNat, 0]
def k2_mult3 (k2_t1 : Fin k2_t1_loop.trips) : BitVec 32 :=
  let c0_i32_291 : BitVec 32 := 0#32
  let c1_i32_292 : BitVec 32 := 1#32
  let arg11 : BitVec 32 := Scf.iv c0_i32_291 c1_i32_292 k2_t1
  let c0_i32_308 : BitVec 32 := 0#32
  let v658 : BitVec 1 := Scalar.cmpi .sgt arg11 c0_i32_308
  let v659 : BitVec 32 := Scalar.extui v658
  let c0_i32_309 : BitVec 32 := 0#32
  let v660 : BitVec 1 := Scalar.cmpi .slt arg11 c0_i32_309
  let v661 : BitVec 32 := Scalar.extui v660
  let v662 : BitVec 32 := Scalar.subi v659 v661
  let c16_i32 : BitVec 32 := 16#32
  let c0_i32_310 : BitVec 32 := 0#32
  let v663 : BitVec 1 := Scalar.cmpi .sgt c16_i32 c0_i32_310
  let v664 : BitVec 32 := Scalar.extui v663
  let c0_i32_311 : BitVec 32 := 0#32
  let v665 : BitVec 1 := Scalar.cmpi .slt c16_i32 c0_i32_311
  let v666 : BitVec 32 := Scalar.extui v665
  let v667 : BitVec 32 := Scalar.subi v664 v666
  let v668 : BitVec 1 := Scalar.cmpi .ne v662 v667
  let v669 : BitVec 32 := Scalar.remsi arg11 c16_i32
  let c0_i32_312 : BitVec 32 := 0#32
  let v670 : BitVec 1 := Scalar.cmpi .ne v669 c0_i32_312
  let v671 : BitVec 1 := Scalar.andi v668 v670
  let v657 : BitVec 32 := Scalar.divsi arg11 c16_i32
  let c1_i32_313 : BitVec 32 := 1#32
  let v672 : BitVec 32 := Scalar.subi v657 c1_i32_313
  let v673 : BitVec 32 := Scalar.select v671 v672 v657
  let c16_i32_314 : BitVec 32 := 16#32
  let v674 : BitVec 32 := Scalar.muli v673 c16_i32_314
  let v675 : BitVec 32 := Scalar.subi arg11 v674
  let c512_i32_315 : BitVec 32 := 512#32
  let v676 : BitVec 32 := Scalar.muli v675 c512_i32_315
  v676
def k2_off3 (k2_t1 : Fin k2_t1_loop.trips) : Fin 2 → Nat :=
  let c0_i32_291 : BitVec 32 := 0#32
  let c1_i32_292 : BitVec 32 := 1#32
  let arg11 : BitVec 32 := Scf.iv c0_i32_291 c1_i32_292 k2_t1
  let c0_i32_308 : BitVec 32 := 0#32
  let v658 : BitVec 1 := Scalar.cmpi .sgt arg11 c0_i32_308
  let v659 : BitVec 32 := Scalar.extui v658
  let c0_i32_309 : BitVec 32 := 0#32
  let v660 : BitVec 1 := Scalar.cmpi .slt arg11 c0_i32_309
  let v661 : BitVec 32 := Scalar.extui v660
  let v662 : BitVec 32 := Scalar.subi v659 v661
  let c16_i32 : BitVec 32 := 16#32
  let c0_i32_310 : BitVec 32 := 0#32
  let v663 : BitVec 1 := Scalar.cmpi .sgt c16_i32 c0_i32_310
  let v664 : BitVec 32 := Scalar.extui v663
  let c0_i32_311 : BitVec 32 := 0#32
  let v665 : BitVec 1 := Scalar.cmpi .slt c16_i32 c0_i32_311
  let v666 : BitVec 32 := Scalar.extui v665
  let v667 : BitVec 32 := Scalar.subi v664 v666
  let v668 : BitVec 1 := Scalar.cmpi .ne v662 v667
  let v669 : BitVec 32 := Scalar.remsi arg11 c16_i32
  let c0_i32_312 : BitVec 32 := 0#32
  let v670 : BitVec 1 := Scalar.cmpi .ne v669 c0_i32_312
  let v671 : BitVec 1 := Scalar.andi v668 v670
  let v657 : BitVec 32 := Scalar.divsi arg11 c16_i32
  let c1_i32_313 : BitVec 32 := 1#32
  let v672 : BitVec 32 := Scalar.subi v657 c1_i32_313
  let v673 : BitVec 32 := Scalar.select v671 v672 v657
  let v681 : Index := Scalar.indexCast v673
  let c16_i32_314 : BitVec 32 := 16#32
  let v674 : BitVec 32 := Scalar.muli v673 c16_i32_314
  let v675 : BitVec 32 := Scalar.subi arg11 v674
  let c512_i32_315 : BitVec 32 := 512#32
  let v676 : BitVec 32 := Scalar.muli v675 c512_i32_315
  let v677 : BitVec 32 := v676
  let v682 : Index := Scalar.indexCast v677
  ![v681.toNat, v682.toNat]
abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x8x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2x8192 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S2x8192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2x8192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "ten_log2e" => some ((10 * (Real.log 2)⁻¹ : ℝ) : EReal)
  | _ => none
-- ==== ReferenceIdeal.lean ====
abbrev S16384x128 : Shape := ⟨2, ![16384, 128]⟩
abbrev S1x1 : Shape := ⟨2, ![1, 1]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 11
  | .vmem => 6
  | .smem => 0
  | _ => 0

abbrev bufTy : (tb : Table) → Fin (tcTables nBuf tb) → BufTy
  | .hbm, ⟨0, _⟩ => ⟨S16384x128, .bf16⟩
  | .hbm, ⟨1, _⟩ => ⟨S1x1, .f32⟩
  | .hbm, ⟨2, _⟩ => ⟨S8192, .i32⟩
  | .hbm, ⟨3, _⟩ => ⟨S1x8192, .i32⟩
  | .hbm, ⟨4, _⟩ => ⟨S2x8192, .i32⟩
  | .hbm, ⟨5, _⟩ => ⟨S16384, .i32⟩
  | .hbm, ⟨6, _⟩ => ⟨S16384x1, .i32⟩
  | .hbm, ⟨7, _⟩ => ⟨S1x16384, .i32⟩
  | .hbm, ⟨8, _⟩ => ⟨S2x8192, .f32⟩
  | .hbm, ⟨9, _⟩ => ⟨S2x8192, .f32⟩
  | .hbm, ⟨10, _⟩ => ⟨S2x8192, .i32⟩
  | .local _ .vmem, ⟨0, _⟩ => ⟨S16384x128, .bf16⟩
  | .local _ .vmem, ⟨1, _⟩ => ⟨S16384x1, .i32⟩
  | .local _ .vmem, ⟨2, _⟩ => ⟨S1x16384, .i32⟩
  | .local _ .vmem, ⟨3, _⟩ => ⟨S2x8192, .f32⟩
  | .local _ .vmem, ⟨4, _⟩ => ⟨S2x8192, .f32⟩
  | .local _ .vmem, ⟨5, _⟩ => ⟨S2x8192, .i32⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Prep.lean ====
abbrev S16384x128 : Shape := ⟨2, ![16384, 128]⟩
abbrev S16384x4 : Shape := ⟨2, ![16384, 4]⟩
abbrev S1x1 : Shape := ⟨2, ![1, 1]⟩
abbrev S2048x128 : Shape := ⟨2, ![2048, 128]⟩
abbrev S2048x4 : Shape := ⟨2, ![2048, 4]⟩
abbrev S4x128 : Shape := ⟨2, ![4, 128]⟩
abbrev S2048 : Shape := ⟨1, ![2048]⟩
abbrev S2048x1 : Shape := ⟨2, ![2048, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S16384x128, .fp8e4m3⟩
  | .hbm, ⟨1, _⟩ => ⟨S16384x4, .i8⟩
  | .hbm, ⟨2, _⟩ => ⟨S16384x128, .bf16⟩
  | .hbm, ⟨3, _⟩ => ⟨S1x1, .f32⟩
  | .local _ .vmem, ⟨0, _⟩ => ⟨S2048x128, .fp8e4m3⟩
  | .local _ .vmem, ⟨1, _⟩ => ⟨S2048x128, .fp8e4m3⟩
  | .local _ .vmem, ⟨2, _⟩ => ⟨S2048x4, .i8⟩
  | .local _ .vmem, ⟨3, _⟩ => ⟨S2048x4, .i8⟩
  | .local _ .vmem, ⟨4, _⟩ => ⟨S2048x128, .bf16⟩
  | .local _ .vmem, ⟨5, _⟩ => ⟨S2048x128, .bf16⟩
  | .local _ .vmem, ⟨6, _⟩ => ⟨S1x1, .f32⟩
  | _, _ => ⟨S16384x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PrepReferenceIdeal.lean ====
abbrev S16384x128 : Shape := ⟨2, ![16384, 128]⟩
abbrev S16384x4 : Shape := ⟨2, ![16384, 4]⟩
abbrev S1x1 : Shape := ⟨2, ![1, 1]⟩
abbrev S16384x4x32 : Shape := ⟨3, ![16384, 4, 32]⟩
abbrev S16384x4x1 : Shape := ⟨3, ![16384, 4, 1]⟩
abbrev S16384 : Shape := ⟨1, ![16384]⟩
abbrev S1x16384 : Shape := ⟨2, ![1, 16384]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S16384x128, .fp8e4m3⟩
  | .hbm, ⟨1, _⟩ => ⟨S16384x4, .i8⟩
  | .hbm, ⟨2, _⟩ => ⟨S16384x128, .bf16⟩
  | .hbm, ⟨3, _⟩ => ⟨S1x1, .f32⟩
  | .local _ .vmem, ⟨0, _⟩ => ⟨S16384x128, .fp8e4m3⟩
  | .local _ .vmem, ⟨1, _⟩ => ⟨S16384x4, .i8⟩
  | .local _ .vmem, ⟨2, _⟩ => ⟨S16384x128, .bf16⟩
  | .local _ .vmem, ⟨3, _⟩ => ⟨S1x1, .f32⟩
  | _, _ => ⟨S16384x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.SumsLoop.lean ====
/-
  The loops of the sums kernel (`cc0_sums`): one trip of the outer loop takes row block `i` against the column blocks that the
  symmetric walk gives it, one trip of the inner loop is one such block off the diagonal. A trip's run finds what it writes into the accumulator; the row scratch is overwritten whole at the start of a trip, so
  what a trip writes does not depend on what the scratch held.
-/
module

public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the whole program: the pipelines' own, beside the counters that the combine kernel's transfer takes its
    token from. -/
abbrev UU : Type := UR sig nD τ × Counters

/-- The propositions of the runs. -/
local notation "𝕄G" => MT nD τ sig Unit (Elt F) ℕ UU ℕ

variable (𝒱 : Variants) (c : Dev nD) (bd : Option 𝒱.V)
  (arg0 : Memref sig .tc .smem S1x1 .f32) (harg0 : arg0.IsWhole) (arg1 : Memref sig .tc .vmem S16384x128 .bf16) (harg1 : arg1.IsWhole)
  (arg2 : Memref sig .tc .vmem S32x8x512 .f32) (harg2 : arg2.IsWhole) (arg3 : Memref sig .tc .vmem S512x128 .f32) (harg3 : arg3.IsWhole)
  (v0 : Elt F .f32) (X1 : BufTy.Contents (Elt F) arg1.view.ty)

/-! ## The inner loop -/

section inner

variable (v4 : F .f32) (k0_t1 : Fin k0_t1_loop.trips) (arg4 : BitVec 32) (v49 : FVec F S256x512 .f32)

/-- What a trip of the inner loop touches: the embeddings, the accumulator at `f2`, the row scratch at `f3`. -/
abbrev TripT (f2 : BufTy.Contents (Elt F) arg2.view.ty) (f3 : BufTy.Contents (Elt F) arg3.view.ty) : sProp 𝕄G :=
  iprop((arg1.view.loc (c : Thread nD τ) ↦[arg1.view.set]{fullShare} X1) ∗ (arg2.view.loc (c : Thread nD τ) ↦[arg2.view.set]{fullShare} f2)
    ∗ (arg3.view.loc (c : Thread nD τ) ↦[arg3.view.set]{fullShare} f3))

/-- One trip of the inner loop: the pieces it writes into the accumulator and into the row scratch, as functions of what it finds
    there. -/
@[irreducible] def tripT (k : Fin (k0_t2_loop k0_t1).trips) :
    Σ' (L2 : BufTy.Contents (Elt F) arg2.view.ty → BufTy.Contents (Elt F) arg3.view.ty → List (View.Piece (Elt F) S32x8x512 .f32))
      (L3 : BufTy.Contents (Elt F) arg2.view.ty → BufTy.Contents (Elt F) arg3.view.ty → List (View.Piece (Elt F) S512x128 .f32)),
      ∀ (E : Set ℕ) (acc : BitVec 32) (f2 : BufTy.Contents (Elt F) arg2.view.ty) (f3 : BufTy.Contents (Elt F) arg3.view.ty),
        TripT (F := F) c arg1 arg2 arg3 X1 f2 f3
        ⊢ wp frame (wpE (defs₀ (F := F)) 𝒱 (c : Thread nD τ) bd) E
            (k0_t2_body (F := F) arg0 harg0 arg1 harg1 arg2 harg2 arg3 harg3 v4 k0_t1 arg4 v49 k acc)
            (fun _ => TripT (F := F) c arg1 arg2 arg3 X1 (arg2.view.writes (Elt F) f2 (L2 f2 f3)) (arg3.view.writes (Elt F) f3 (L3 f2 f3))) := by
  refine ⟨?_, ?_, fun E acc f2 f3 => ?run⟩
  case run =>
    unfold k0_t2_body
    iintro ⟨HR, HW, HS⟩
    sl_exec_parts
    sl_step
    sl_close

/-- The pieces of the trips before trip `k`, over the contents `G2`, `G3` at the loop's start. -/
def pbT (G2 : BufTy.Contents (Elt F) arg2.view.ty) (G3 : BufTy.Contents (Elt F) arg3.view.ty) :
    ℕ → List (View.Piece (Elt F) S32x8x512 .f32) × List (View.Piece (Elt F) S512x128 .f32)
  | 0 => ([], [])
  | k + 1 => if h : k < (k0_t2_loop k0_t1).trips then
      ((tripT (F := F) 𝒱 c bd arg0 harg0 arg1 harg1 arg2 harg2 arg3 harg3 X1 v4 k0_t1 arg4 v49 ⟨k, h⟩).1
          (arg2.view.writes (Elt F) G2 (pbT G2 G3 k).1) (arg3.view.writes (Elt F) G3 (pbT G2 G3 k).2) ++ (pbT G2 G3 k).1,
        (tripT (F := F) 𝒱 c bd arg0 harg0 arg1 harg1 arg2 harg2 arg3 harg3 X1 v4 k0_t1 arg4 v49 ⟨k, h⟩).2.1
          (arg2.view.writes (Elt F) G2 (pbT G2 G3 k).1) (arg3.view.writes (Elt F) G3 (pbT G2 G3 k).2) ++ (pbT G2 G3 k).2)
    else pbT G2 G3 k

theorem pbT_succ (G2 : BufTy.Contents (Elt F) arg2.view.ty) (G3 : BufTy.Contents (Elt F) arg3.view.ty) (k : Fin (k0_t2_loop k0_t1).trips) :
    pbT (F := F) 𝒱 c bd arg0 harg0 arg1 harg1 arg2 harg2 arg3 harg3 X1 v4 k0_t1 arg4 v49 G2 G3 (k.val + 1)
      = ((tripT (F := F) 𝒱 c bd arg0 harg0 arg1 harg1 arg2 harg2 arg3 harg3 X1 v4 k0_t1 arg4 v49 k).1
          (arg2.view.writes (Elt F) G2 (pbT (F := F) 𝒱 c bd arg0 harg0 arg1 harg1 arg2 harg2 arg3 harg3 X1 v4 k0_t1 arg4 v49 G2 G3 k.val).1)
          (arg3.view.writes (Elt F) G3 (pbT (F := F) 𝒱 c bd arg0 harg0 arg1 harg1 arg2 harg2 arg3 harg3 X1 v4 k0_t1 arg4 v49 G2 G3 k.val).2)
            ++ (pbT (F := F) 𝒱 c bd arg0 harg0 arg1 harg1 arg2 harg2 arg3 harg3 X1 v4 k0_t1 arg4 v49 G2 G3 k.val).1,
        (tripT (F := F) 𝒱 c bd arg0 harg0 arg1 harg1 arg2 harg2 arg3 harg3 X1 v4 k0_t1 arg4 v49 k).2.1
          (arg2.view.writes (Elt F) G2 (pbT (F := F) 𝒱 c bd arg0 harg0 arg1 harg1 arg2 harg2 arg3 harg3 X1 v4 k0_t1 arg4 v49 G2 G3 k.val).1)
          (arg3.view.writes (Elt F) G3 (pbT (F := F) 𝒱 c bd arg0 harg0 arg1 harg1 arg2 harg2 arg3 harg3 X1 v4 k0_t1 arg4 v49 G2 G3 k.val).2)
            ++ (pbT (F := F) 𝒱 c bd arg0 harg0 arg1 harg1 arg2 harg2 arg3 harg3 X1 v4 k0_t1 arg4 v49 G2 G3 k.val).2) := by
  rw [pbT.eq_2]; exact dif_pos k.isLt

/-- Before trip `k` the accumulator and the row scratch hold the pieces of the trips before. -/
abbrev invT (G2 : BufTy.Contents (Elt F) arg2.view.ty) (G3 : BufTy.Contents (Elt F) arg3.view.ty) (k : ℕ) (_acc : BitVec 32) : sProp 𝕄G :=
  iprop((arg1.view.loc (c : Thread nD τ) ↦[arg1.view.set]{fullShare} X1)
    ∗ (∃ f, (arg2.view.loc (c : Thread nD τ) ↦[arg2.view.set]{fullShare} f)
        ∗ ⌜f = arg2.view.writes (Elt F) G2 (pbT (F := F) 𝒱 c bd arg0 harg0 arg1 harg1 arg2 harg2 arg3 harg3 X1 v4 k0_t1 arg4 v49 G2 G3 k).1⌝)
    ∗ (∃ f, (arg3.view.loc (c : Thread nD τ) ↦[arg3.view.set]{fullShare} f)
        ∗ ⌜f = arg3.view.writes (Elt F) G3 (pbT (F := F) 𝒱 c bd arg0 harg0 arg1 harg1 arg2 harg2 arg3 harg3 X1 v4 k0_t1 arg4 v49 G2 G3 k).2⌝))

set_option warn.classDefReducibility false in
/-- The inner loop by its invariant. -/
@[sl_loop] def loopInvT (E : Set ℕ) (G2 : BufTy.Contents (Elt F) arg2.view.ty) (G3 : BufTy.Contents (Elt F) arg3.view.ty) (init : BitVec 32) :
    LoopInvTy_k0_t2 (F := F) Unit ℕ UU ℕ 𝒱 c bd E arg0 harg0 arg1 harg1 arg2 harg2 arg3 harg3 v4 k0_t1 arg4 v49 init where
  inv := invT (F := F) 𝒱 c bd arg0 harg0 arg1 harg1 arg2 harg2 arg3 harg3 X1 v4 k0_t1 arg4 v49 G2 G3
  step k acc := by
    iintro ⟨HR, ⟨%f2, HW, %h2⟩, ⟨%f3, HS, %h3⟩⟩
    iapply (wp_wand_r Idealize.ShloMosaic.frame (wpE (defs₀ (F := F)) 𝒱 (c : Thread nD τ) bd) E)
    isplitl [HR HW HS]
    · iapply ((tripT (F := F) 𝒱 c bd arg0 harg0 arg1 harg1 arg2 harg2 arg3 harg3 X1 v4 k0_t1 arg4 v49 k).2.2 E acc f2 f3)
      isplitl [HR]; · iexact HR
      isplitl [HW]; · iexact HW
      iexact HS
    · iintro %yld ⟨HR, HW, HS⟩
      isplitl [HR]; · iexact HR
      simp only [pbT_succ]
      isplitl [HW]
      · iexists _; isplitl [HW]; · iexact HW
        ipureintro; rw [h2, h3, ← View.writes_append]
      iexists _; isplitl [HS]; · iexact HS
      ipureintro; rw [h2, h3, ← View.writes_append]

set_option warn.classDefReducibility false in
/-- The remainder loop makes no trip: what it touches stays. -/
@[sl_loop] def loopInvR (E : Set ℕ) (v74 : BitVec 32) (init : BitVec 32) :
    LoopInvTy_k0_t3 (F := F) Unit ℕ UU ℕ 𝒱 c bd E arg0 harg0 arg1 harg1 arg2 harg2 arg3 harg3 v4 k0_t1 arg4 v49 v74 init where
  inv _ _ := iprop(emp)
  step k acc := absurd k.isLt (Nat.not_lt.mpr (Nat.le_trans (k0_t3_abs k0_t1).2.1 (Nat.zero_le _)))

end inner

/-! ## The outer loop -/

/-- What one trip touches: the embeddings at their contents, the accumulator at `f2`, the row scratch at any contents. -/
abbrev TripS (f2 : BufTy.Contents (Elt F) arg2.view.ty) : sProp 𝕄G :=
  iprop((arg1.view.loc (c : Thread nD τ) ↦[arg1.view.set]{fullShare} X1) ∗ (arg2.view.loc (c : Thread nD τ) ↦[arg2.view.set]{fullShare} f2)
    ∗ (∃ f3, arg3.view.loc (c : Thread nD τ) ↦[arg3.view.set]{fullShare} f3))

/-- One trip of the outer loop: the pieces it writes into the accumulator, as a function of what it finds there. -/
@[irreducible] def tripS (k : Fin k0_t1_loop.trips) :
    { L : BufTy.Contents (Elt F) arg2.view.ty → List (View.Piece (Elt F) S32x8x512 .f32) //
      ∀ (E : Set ℕ) (f2 : BufTy.Contents (Elt F) arg2.view.ty),
        TripS (F := F) c arg1 arg2 arg3 X1 f2
        ⊢ wp frame (wpE (defs₀ (F := F)) 𝒱 (c : Thread nD τ) bd) E (k0_t1_body (F := F) arg0 harg0 arg1 harg1 arg2 harg2 arg3 harg3 v0 k ())
            (fun _ => TripS (F := F) c arg1 arg2 arg3 X1 (arg2.view.writes (Elt F) f2 (L f2))) } := by
  refine ⟨?_, fun E f2 => ?run⟩
  case run =>
    unfold k0_t1_body
    iintro ⟨HR, HW, ⟨%f3, HS⟩⟩
    sl_exec_parts
    sl_step
    sl_close

/-- The accumulator's pieces before trip `k`, over its contents `G` at the loop's start. -/
def pbS (G : BufTy.Contents (Elt F) arg2.view.ty) : ℕ → List (View.Piece (Elt F) S32x8x512 .f32)
  | 0 => []
  | k + 1 => if h : k < k0_t1_loop.trips then
      (tripS (F := F) 𝒱 c bd arg0 harg0 arg1 harg1 arg2 harg2 arg3 harg3 v0 X1 ⟨k, h⟩).1 (arg2.view.writes (Elt F) G (pbS G k)) ++ pbS G k
    else pbS G k

theorem pbS_succ (G : BufTy.Contents (Elt F) arg2.view.ty) (k : Fin k0_t1_loop.trips) :
    pbS (F := F) 𝒱 c bd arg0 harg0 arg1 harg1 arg2 harg2 arg3 harg3 v0 X1 G (k.val + 1)
      = (tripS (F := F) 𝒱 c bd arg0 harg0 arg1 harg1 arg2 harg2 arg3 harg3 v0 X1 k).1
          (arg2.view.writes (Elt F) G (pbS (F := F) 𝒱 c bd arg0 harg0 arg1 harg1 arg2 harg2 arg3 harg3 v0 X1 G k.val))
        ++ pbS (F := F) 𝒱 c bd arg0 harg0 arg1 harg1 arg2 harg2 arg3 harg3 v0 X1 G k.val := by
  rw [pbS.eq_2]; exact dif_pos k.isLt

/-- Before trip `k` the accumulator holds the pieces of the trips before. -/
abbrev invS (G : BufTy.Contents (Elt F) arg2.view.ty) (k : ℕ) (_acc : Unit) : sProp 𝕄G :=
  iprop((arg1.view.loc (c : Thread nD τ) ↦[arg1.view.set]{fullShare} X1)
    ∗ (∃ f, (arg2.view.loc (c : Thread nD τ) ↦[arg2.view.set]{fullShare} f)
        ∗ ⌜f = arg2.view.writes (Elt F) G (pbS (F := F) 𝒱 c bd arg0 harg0 arg1 harg1 arg2 harg2 arg3 harg3 v0 X1 G k)⌝)
    ∗ (∃ f3, arg3.view.loc (c : Thread nD τ) ↦[arg3.view.set]{fullShare} f3))

set_option warn.classDefReducibility false in
/-- The outer loop by its invariant. -/
@[sl_loop] def loopInv_k0_t1 (E : Set ℕ) (G : BufTy.Contents (Elt F) arg2.view.ty) :
    LoopInvTy_k0_t1 (F := F) Unit ℕ UU ℕ 𝒱 c bd E arg0 harg0 arg1 harg1 arg2 harg2 arg3 harg3 v0 where
  inv := invS (F := F) 𝒱 c bd arg0 harg0 arg1 harg1 arg2 harg2 arg3 harg3 v0 X1 G
  step k acc := by
    iintro ⟨HR, ⟨%f2, HW, %h2⟩, HS⟩
    iapply (wp_wand_r Idealize.ShloMosaic.frame (wpE (defs₀ (F := F)) 𝒱 (c : Thread nD τ) bd) E)
    isplitl [HR HW HS]
    · iapply ((tripS (F := F) 𝒱 c bd arg0 harg0 arg1 harg1 arg2 harg2 arg3 harg3 v0 X1 k).2 E f2)
      isplitl [HR]; · iexact HR
      isplitl [HW]; · iexact HW
      iexact HS
    · iintro %yld ⟨HR, HW, HS⟩
      isplitl [HR]; · iexact HR
      isplitl [HW]
      · iexists _; isplitl [HW]; · iexact HW
        ipureintro; rw [pbS_succ, h2, ← View.writes_append]
      iexact HS

end Cert.Proof.Kernel
-- ==== Proof.Kernel.SumsRun.lean ====
/-
  The sums kernel (`cc0_sums`) run once at symbolic operands: from the staged shift bound and embeddings, whatever the accumulator and
  the row scratch hold, it leaves the accumulator at one function of the two inputs.
-/
module

public import proofs.«01_k».proof.Proof.Kernel.SumsLoop
public import proofs.«01_k».proof.Proof.Gen.Kernel.Launch
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the runs. -/
local notation "𝕄G" => MT nD τ sig Unit (Elt F) ℕ UU ℕ

/-- Memref `M`'s buffer on core `c`: its contents type, and the memref held at `f`. -/
abbrev Bf (c : Dev nD) {sp : Space} {S : Shape} {e : EltTy} (M : Memref sig .tc sp S e) : Type := Buf (Elt F) (M.view.loc (c : Thread nD τ))
@[inherit_doc Bf]
abbrev pt (c : Dev nD) {sp : Space} {S : Shape} {e : EltTy} (M : Memref sig .tc sp S e) (f : Bf (F := F) c M) : sProp 𝕄G :=
  M.view.loc (c : Thread nD τ) ↦[M.view.set]{fullShare} f

/-- A whole buffer held through its memref is the buffer held. -/
theorem pt_whole (c : Dev nD) (b : Ref sig .tc) (f : Buf (Elt F) ((c : Thread nD τ).loc b)) :
    pt (F := F) c (Memref.whole b) f = (((c : Thread nD τ).loc b) ↦{fullShare} f : sProp 𝕄G) := by
  show (((c : Thread nD τ).loc b) ↦[(View.whole b).set]{fullShare} f : sProp 𝕄G) = _
  rw [View.set_whole]

/-- The same, at some contents. -/
theorem pt_whole_ex (c : Dev nD) (b : Ref sig .tc) :
    (iprop(∃ f, pt (F := F) c (Memref.whole b) f) : sProp 𝕄G) = iprop(∃ f : Buf (Elt F) ((c : Thread nD τ).loc b), ((c : Thread nD τ).loc b) ↦{fullShare} f) :=
  congrArg _ (funext (pt_whole c b))

/-- What the kernel leaves in the accumulator, with the run that leaves it there. -/
@[irreducible] def sumsRun (c : Dev nD) (M0 : Memref sig .tc .smem S1x1 .f32) (h0 : M0.IsWhole) (M1 : Memref sig .tc .vmem S16384x128 .bf16) (h1 : M1.IsWhole)
    (M2 : Memref sig .tc .vmem S32x8x512 .f32) (h2 : M2.IsWhole) (M3 : Memref sig .tc .vmem S512x128 .f32) (h3 : M3.IsWhole)
    (f0 : Bf (F := F) c M0) (f1 : Bf (F := F) c M1) :
    { W : Bf (F := F) c M2 // ∀ (f2 : Bf (F := F) c M2) (f3 : Bf (F := F) c M3) (E : Set ℕ) (Q : PUnit → sProp 𝕄G),
        iprop(pt c M0 f0 ∗ pt c M1 f1 ∗ pt c M2 f2 ∗ pt c M3 f3
            ∗ (iprop(pt c M0 f0 ∗ pt c M1 f1 ∗ pt c M2 W ∗ (∃ f, pt c M3 f)) -∗ Q ⟨⟩))
          ⊢ wp frame (wpE (defs₀ (F := F)) Variants.none (c : Thread nD τ) none) E (cc0_sums (F := F) M0 h0 M1 h1 M2 h2 M3 h3) Q } := by
  refine ⟨?_, fun f2 f3 E Q => ?run⟩
  case run =>
    iintro ⟨H0, H1, H2, H3, Hk⟩
    sl_exec!
    sl_step
    iapply Hk
    isplitl [H0]; · iexact H0
    isplitl [H1]; · iexact H1
    isplitl [H2]; · iexact H2
    sl_close

end Cert.Proof.Kernel
-- ==== Proof.Kernel.SumsRegion.lean ====
/-
  The sums call as a region of the whole program: what it finds in the arrays, what its body leaves, and the region entered from every
  unscoped buffer at the launch contents and left with the accumulator's array replaced.
-/
module

public import proofs.«01_k».proof.Proof.Kernel.SumsRun
public import Idealize.ShloMosaic.Lib.Pipeline.RegionsLoop
public import proofs.«01_k».proof.Proof.Gen.Kernel.Regions
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The propositions of the runs. -/
local notation "𝕄G" => MT nD τ sig Unit (Elt F) ℕ UU ℕ

/-- Every unscoped buffer's contents when a region is entered, per core. -/
abbrev Entry : Type := (c : Dev nD) → (b : Ref sig .tc) → Buf (Elt F) ((c : Thread nD τ).loc b)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between the calls: the core's `owes`, owing nothing. -/
abbrev Rides (c : Dev nD) : sProp 𝕄G := iprop(∃ W, owes (c : Thread nD τ) (0 : CellTallies nD τ sig Unit) W)

variable (V : Entry (F := F))

/-- The shift bound and the embeddings as the fetches stage them. -/
abbrev stgS0 (c : Dev nD) : (cfg0.win 0).block.Idx → Elt F (cfg0.win 0).elt :=
  ((cfg0.win 0).blk t0_0).view.read (Elt F) (V c main_arg1)
@[inherit_doc stgS0]
abbrev stgS1 (c : Dev nD) : (cfg0.win 1).block.Idx → Elt F (cfg0.win 1).elt :=
  ((cfg0.win 1).blk t0_0).view.read (Elt F) (V c main_arg0)

/-- What the sums kernel leaves in the accumulator, from the staged shift bound and embeddings. -/
def sumsOut (c : Dev nD) : Buf (Elt F) ((c : Thread nD τ).loc cc0_stg2_0) :=
  (sumsRun (F := F) c (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (stgS0 V c) (stgS1 V c)).1

/-- The run, over the buffers themselves. -/
theorem sumsOut_run (c : Dev nD) (f2 : Buf (Elt F) ((c : Thread nD τ).loc cc0_stg2_0)) (f3 : Buf (Elt F) ((c : Thread nD τ).loc cc0_scratch0))
    (Q : PUnit → sProp 𝕄G) :
    iprop((((c : Thread nD τ).loc cc0_stg0_0) ↦{fullShare} stgS0 V c) ∗ (((c : Thread nD τ).loc cc0_stg1_0) ↦{fullShare} stgS1 V c)
        ∗ (((c : Thread nD τ).loc cc0_stg2_0) ↦{fullShare} f2) ∗ (((c : Thread nD τ).loc cc0_scratch0) ↦{fullShare} f3)
        ∗ (iprop((((c : Thread nD τ).loc cc0_stg0_0) ↦{fullShare} stgS0 V c) ∗ (((c : Thread nD τ).loc cc0_stg1_0) ↦{fullShare} stgS1 V c)
            ∗ (((c : Thread nD τ).loc cc0_stg2_0) ↦{fullShare} sumsOut V c) ∗ (∃ f, ((c : Thread nD τ).loc cc0_scratch0) ↦{fullShare} f)) -∗ Q ⟨⟩))
      ⊢ wp frame (wpE (defs₀ (F := F)) Variants.none (c : Thread nD τ) none) Set.univ
          (cc0_sums (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)) Q := by
  have h : ∀ W, W = sumsOut V c → iprop(pt c (Memref.whole cc0_stg0_0) (stgS0 V c) ∗ pt c (Memref.whole cc0_stg1_0) (stgS1 V c)
        ∗ pt c (Memref.whole cc0_stg2_0) f2 ∗ pt c (Memref.whole cc0_scratch0) f3
        ∗ (iprop(pt c (Memref.whole cc0_stg0_0) (stgS0 V c) ∗ pt c (Memref.whole cc0_stg1_0) (stgS1 V c)
            ∗ pt c (Memref.whole cc0_stg2_0) W ∗ (∃ f, pt c (Memref.whole cc0_scratch0) f)) -∗ Q ⟨⟩))
      ⊢ wp frame (wpE (defs₀ (F := F)) Variants.none (c : Thread nD τ) none) Set.univ
          (cc0_sums (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)) Q := by
    intro W hW
    subst hW
    unfold sumsOut
    exact (sumsRun (F := F) c (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (stgS0 V c) (stgS1 V c)).2 f2 f3 Set.univ Q
  have h := h _ rfl
  generalize sumsOut V c = W at h ⊢
  rw [pt_whole, pt_whole, pt_whole, pt_whole, pt_whole, pt_whole_ex] at h
  exact h

/-- The invariant between the region's ends: the scoped buffers that the pipeline does not stage, at something. -/
abbrev ΦS (c : Dev nD) : sProp 𝕄G := Pipeline.scopedRest (Ix := Unit) (Name := ℕ) (U := UU) (Lvl := ℕ) (Val := Elt F) spec0 c

/-- The region's proof data, entered at `V`: the arrays at `V`; after the body the inputs as fetched and the accumulator at the run's
    result. -/
def datS (c : Dev nD) : Dat τ (Elt F) Unit ℕ UU ℕ cfg0 c where
  A w := V c (Pipeline.arrRef spec0 w)
  after w _ := match w with
    | ⟨0, _⟩ => stgS0 V c
    | ⟨1, _⟩ => stgS1 V c
    | ⟨2, _⟩ => sumsOut V c
  Φ _ := ΦS c
  q _ := fullShare
  owed _ := 0

theorem beforeS_0 (c : Dev nD) (d) : (datS V c).before 0 t0_0 d = stgS0 V c := by unfold Dat.before; rw [if_pos (by decide)]; rfl
theorem beforeS_1 (c : Dev nD) (d) : (datS V c).before 1 t0_0 d = stgS1 V c := by unfold Dat.before; rw [if_pos (by decide)]; rfl

/-- The body obligation: the staging buffers and the scratch taken apart, the run applied, its post put back. -/
theorem body_obligationS (c : Dev nD) : BodyObligation (datS V c) (defs₀ (F := F)) 𝒱₀ () Set.univ := fun t => by
  obtain rfl := fin_N0 t
  rw [bigSep_W0, bigSep_W0]
  simp only [owns_whole_eq]
  rw [show (datS V c).Φ t0_0.castSucc = ΦS c from rfl, show (datS V c).Φ t0_0.succ = ΦS c from rfl,
    show (datS V c).owesAt () t0_0.succ = (datS V c).owesAt () t0_0.castSucc from rfl]
  unfold ΦS
  rw [scopedRest0_eq]
  iintro ⟨⟨⟨%fs, Hs⟩, Hrest⟩, Howes, ⟨%d0, %f0, %hf0, H0⟩, ⟨%d1, %f1, %hf1, H1⟩, ⟨%d2, %f2, -, H2⟩⟩
  rw [beforeS_0] at hf0
  rw [beforeS_1] at hf1
  subst hf0 hf1
  iapply (sumsOut_run V c f2 fs _)
  isplitl [H0]; · iexact H0
  isplitl [H1]; · iexact H1
  isplitl [H2]; · iexact H2
  isplitl [Hs]; · iexact Hs
  iintro ⟨H0, H1, H2, Hs⟩
  isplitl [Hrest Hs]
  · isplitl [Hs]; · iexact Hs
    iexact Hrest
  isplitl [Howes]; · iexact Howes
  isplitl [H0]; · iexists _; isplitr; swap; (· iexact H0); ipureintro; dsimp only [datS]
  isplitl [H1]; · iexists _; isplitr; swap; (· iexact H1); ipureintro; dsimp only [datS]
  iexists _; isplitr; swap; (· iexact H2); ipureintro; dsimp only [datS]

/-- The accumulator's array after the region. -/
def accArr (c : Dev nD) : Buf (Elt F) ((c : Thread nD τ).loc main_v0) := (datS V c).arrAt 2 cfg0.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the accumulator's array at the run's result and agrees
    with `V` off it. -/
def regS (Vp : Entry (F := F)) (hp : ∀ c, pdats 0 c = datS V c) (hout : ∀ c, Vp c main_v0 = accArr V c)
    (hne : ∀ c (b : Ref sig .tc), b ≠ main_v0 → Vp c b = V c b) :
    Pipeline.RegionSeg (pcfgs (F := F)) adm pdats () defs₀ 𝒱₀ L lv 0 where
  win := (launch0).win.to₀
  block_pos := (launch0).block_pos
  stage_whole := (launch0).stage_whole
  K := PEmpty
  osem k := k.elim
  ho := Pipeline.OwnSemFacts.none _
  hbody c := by rw [hp c]; exact (body_obligationS V c).loose
  hwaits := Pipeline.hwaits_of_owed_zero _ _ _ _ L lv 0 fun c _ => by rw [hp c]; rfl
  pre c := iprop(unscopedBufs c (V c) ∗ Rides c)
  post c := iprop(unscopedBufs c (Vp c) ∗ Rides c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm pdats (launch0).win (launch0).arr_whole c
      ((pdats 0 c).share_full fun _ => by rw [hp c]; rfl) (V c) fun _ => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (datS V c).Φ 0 = ΦS c from rfl]
    iintro ⟨-, -, Hr⟩; iexact Hr
  hout c := by
    rw [Pipeline.ownSems0_none, hp c]
    change ΦS c ⊢ _
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      pdats ((pdats 0 c).share_full fun _ => by rw [hp c]; rfl) (V c) (Vp c) ((pdats 0 c).arrAt · cfg0.N)
      (fun w => by
        rw [hp c]
        fin_cases w
        · exact ((datS V c).arrAt_in 0 rfl _).trans (hne c main_arg1 (by decide)).symm
        · exact ((datS V c).arrAt_in 1 rfl _).trans (hne c main_arg0 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.Kernel
-- ==== Proof.Kernel.CombineLoop.lean ====
/-
  The loops of the combine kernel's second branch (`cc2_combine`): one trip of the outer loop is one block of 512 columns, one trip
  of the inner loop takes 256 rows into that block's running maximum and running sum. Both start a block anew, so what a trip of the
  outer loop writes does not depend on what they held.
-/
module

public import proofs.«01_k».proof.Proof.Kernel.SumsLoop

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the runs. -/
local notation "𝕄G" => MT nD τ sig Unit (Elt F) ℕ UU ℕ

variable (𝒱 : Variants) (c : Dev nD) (bd : Option 𝒱.V)
  (arg0 : Memref sig .tc .smem S1x1 .f32) (harg0 : arg0.IsWhole)
  (arg1 : Memref sig .tc .vmem S32x8x512 .f32) (harg1 : arg1.IsWhole)
  (arg2 : Memref sig .tc .vmem S2x8192 .f32) (harg2 : arg2.IsWhole)
  (arg3 : Memref sig .tc .vmem S2x8192 .i32) (harg3 : arg3.IsWhole)
  (arg4 : Memref sig .tc .hbm S16384x128 .bf16) (harg4 : arg4.IsWhole)
  (arg5 : Memref sig .tc .vmem S2x8192 .f32) (harg5 : arg5.IsWhole)
  (arg6 : Memref sig .tc .vmem S2x8192 .f32) (harg6 : arg6.IsWhole)
  (arg7 : Memref sig .tc .vmem S16384x128 .bf16) (harg7 : arg7.IsWhole)
  (arg8 : Memref sig .tc .vmem S1x512 .f32) (harg8 : arg8.IsWhole)
  (arg9 : Memref sig .tc .vmem S1x512 .f32) (harg9 : arg9.IsWhole)
  (arg10 : DmaSems sig S_) (X7 : BufTy.Contents (Elt F) arg7.view.ty)

/-- The first trip of the outer loop. The inner loop's body takes a trip of the outer loop and does not use it: this one stands for
    any. -/
abbrev trip0 : Fin k2_t1_loop.trips := ⟨0, by decide +kernel⟩

/-! ## The inner loop -/

section inner

variable (arg11 : BitVec 32) (v639 : Vec F S512x128 .bf16)

/-- What a trip of the inner loop touches: the embeddings, the running maximum at `f8`, the running sum at `f9`. -/
abbrev TripM (f8 : BufTy.Contents (Elt F) arg8.view.ty) (f9 : BufTy.Contents (Elt F) arg9.view.ty) : sProp 𝕄G :=
  iprop((arg7.view.loc (c : Thread nD τ) ↦[arg7.view.set]{fullShare} X7) ∗ (arg8.view.loc (c : Thread nD τ) ↦[arg8.view.set]{fullShare} f8)
    ∗ (arg9.view.loc (c : Thread nD τ) ↦[arg9.view.set]{fullShare} f9))

/-- One trip of the inner loop: the pieces it writes into the running maximum and the running sum. -/
@[irreducible] def tripM (k : Fin k2_t2_loop.trips) :
    Σ' (L8 : BufTy.Contents (Elt F) arg8.view.ty → BufTy.Contents (Elt F) arg9.view.ty → List (View.Piece (Elt F) S1x512 .f32))
      (L9 : BufTy.Contents (Elt F) arg8.view.ty → BufTy.Contents (Elt F) arg9.view.ty → List (View.Piece (Elt F) S1x512 .f32)),
      ∀ (E : Set ℕ) (f8 : BufTy.Contents (Elt F) arg8.view.ty) (f9 : BufTy.Contents (Elt F) arg9.view.ty),
        TripM (F := F) c arg7 arg8 arg9 X7 f8 f9
        ⊢ wp frame (wpE (defs₀ (F := F)) 𝒱 (c : Thread nD τ) bd) E
            (k2_t2_body (F := F) arg0 harg0 arg1 harg1 arg2 harg2 arg3 harg3 arg4 harg4 arg5 harg5 arg6 harg6 arg7 harg7 arg8 harg8 arg9 harg9 arg10 0#32 1#32 trip0 arg11 v639 k ())
            (fun _ => TripM (F := F) c arg7 arg8 arg9 X7 (arg8.view.writes (Elt F) f8 (L8 f8 f9)) (arg9.view.writes (Elt F) f9 (L9 f8 f9))) := by
  refine ⟨?_, ?_, fun E f8 f9 => ?run⟩
  case run =>
    unfold k2_t2_body
    iintro ⟨HR, HW, HS⟩
    sl_exec_parts
    sl_step
    sl_close

/-- The pieces of the trips before trip `k`, over the contents `G8`, `G9` at the loop's start. -/
def pbM (G8 : BufTy.Contents (Elt F) arg8.view.ty) (G9 : BufTy.Contents (Elt F) arg9.view.ty) :
    ℕ → List (View.Piece (Elt F) S1x512 .f32) × List (View.Piece (Elt F) S1x512 .f32)
  | 0 => ([], [])
  | k + 1 => if h : k < k2_t2_loop.trips then
      ((tripM (F := F) 𝒱 c bd arg0 harg0 arg1 harg1 arg2 harg2 arg3 harg3 arg4 harg4 arg5 harg5 arg6 harg6 arg7 harg7 arg8 harg8 arg9 harg9 arg10 X7 arg11 v639 ⟨k, h⟩).1
          (arg8.view.writes (Elt F) G8 (pbM G8 G9 k).1) (arg9.view.writes (Elt F) G9 (pbM G8 G9 k).2) ++ (pbM G8 G9 k).1,
        (tripM (F := F) 𝒱 c bd arg0 harg0 arg1 harg1 arg2 harg2 arg3 harg3 arg4 harg4 arg5 harg5 arg6 harg6 arg7 harg7 arg8 harg8 arg9 harg9 arg10 X7 arg11 v639 ⟨k, h⟩).2.1
          (arg8.view.writes (Elt F) G8 (pbM G8 G9 k).1) (arg9.view.writes (Elt F) G9 (pbM G8 G9 k).2) ++ (pbM G8 G9 k).2)
    else pbM G8 G9 k

theorem pbM_succ (G8 : BufTy.Contents (Elt F) arg8.view.ty) (G9 : BufTy.Contents (Elt F) arg9.view.ty) (k : Fin k2_t2_loop.trips) :
    pbM (F := F) 𝒱 c bd arg0 harg0 arg1 harg1 arg2 harg2 arg3 harg3 arg4 harg4 arg5 harg5 arg6 harg6 arg7 harg7 arg8 harg8 arg9 harg9 arg10 X7 arg11 v639 G8 G9 (k.val + 1)
      = ((tripM (F := F) 𝒱 c bd arg0 harg0 arg1 harg1 arg2 harg2 arg3 harg3 arg4 harg4 arg5 harg5 arg6 harg6 arg7 harg7 arg8 harg8 arg9 harg9 arg10 X7 arg11 v639 k).1 (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k.val).1) (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k.val).2) ++ (pbM (F := F) 𝒱 c bd arg0 harg0 arg1 harg1 arg2 harg2 arg3 harg3 arg4 harg4 arg5 harg5 arg6 harg6 arg7 harg7 arg8 harg8 arg9 harg9 arg10 X7 arg11 v639 G8 G9 k.val).1,
        (tripM (F := F) 𝒱 c bd arg0 harg0 arg1 harg1 arg2 harg2 arg3 harg3 arg4 harg4 arg5 harg5 arg6 harg6 arg7 harg7 arg8 harg8 arg9 harg9 arg10 X7 arg11 v639 k).2.1 (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k.val).1) (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k.val).2) ++ (pbM (F := F) 𝒱 c bd arg0 harg0 arg1 harg1 arg2 harg2 arg3 harg3 arg4 harg4 arg5 harg5 arg6 harg6 arg7 harg7 arg8 harg8 arg9 harg9 arg10 X7 arg11 v639 G8 G9 k.val).2) := by
  rw [pbM.eq_2]; exact dif_pos k.isLt

/-- Before trip `k` the running maximum and the running sum hold the pieces of the trips before. -/
abbrev invM (G8 : BufTy.Contents (Elt F) arg8.view.ty) (G9 : BufTy.Contents (Elt F) arg9.view.ty) (k : ℕ) (_acc : Unit) : sProp 𝕄G :=
  iprop((arg7.view.loc (c : Thread nD τ) ↦[arg7.view.set]{fullShare} X7)
    ∗ (∃ f, (arg8.view.loc (c : Thread nD τ) ↦[arg8.view.set]{fullShare} f) ∗ ⌜f = (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k).1)⌝)
    ∗ (∃ f, (arg9.view.loc (c : Thread nD τ) ↦[arg9.view.set]{fullShare} f) ∗ ⌜f = (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k).2)⌝))

set_option warn.classDefReducibility false in
/-- The inner loop by its invariant. -/
@[sl_loop] def loopInvM (E : Set ℕ) (G8 : BufTy.Contents (Elt F) arg8.view.ty) (G9 : BufTy.Contents (Elt F) arg9.view.ty) :
    LoopInvTy_k2_t2 (F := F) Unit ℕ UU ℕ 𝒱 c bd E arg0 harg0 arg1 harg1 arg2 harg2 arg3 harg3 arg4 harg4 arg5 harg5 arg6 harg6 arg7 harg7 arg8 harg8 arg9 harg9 arg10 0#32 1#32 trip0 arg11 v639 where
  inv := invM (F := F) 𝒱 c bd arg0 harg0 arg1 harg1 arg2 harg2 arg3 harg3 arg4 harg4 arg5 harg5 arg6 harg6 arg7 harg7 arg8 harg8 arg9 harg9 arg10 X7 arg11 v639 G8 G9
  step k acc := by
    iintro ⟨HR, ⟨%f8, HW, %h8⟩, ⟨%f9, HS, %h9⟩⟩
    iapply (wp_wand_r Idealize.ShloMosaic.frame (wpE (defs₀ (F := F)) 𝒱 (c : Thread nD τ) bd) E)
    isplitl [HR HW HS]
    · iapply ((tripM (F := F) 𝒱 c bd arg0 harg0 arg1 harg1 arg2 harg2 arg3 harg3 arg4 harg4 arg5 harg5 arg6 harg6 arg7 harg7 arg8 harg8 arg9 harg9 arg10 X7 arg11 v639 k).2.2 E f8 f9)
      isplitl [HR]; · iexact HR
      isplitl [HW]; · iexact HW
      iexact HS
    · iintro %yld ⟨HR, HW, HS⟩
      isplitl [HR]; · iexact HR
      simp only [pbM_succ]
      isplitl [HW]
      · iexists _; isplitl [HW]; · iexact HW
        ipureintro; rw [h8, h9, ← View.writes_append]
      iexists _; isplitl [HS]; · iexact HS
      ipureintro; rw [h8, h9, ← View.writes_append]

end inner

/-! ## The outer loop -/

/-- What a trip of the outer loop touches: the embeddings, the result at `f6`, the running maximum and sum at any contents. -/
abbrev TripB (f6 : BufTy.Contents (Elt F) arg6.view.ty) : sProp 𝕄G :=
  iprop((arg7.view.loc (c : Thread nD τ) ↦[arg7.view.set]{fullShare} X7) ∗ (arg6.view.loc (c : Thread nD τ) ↦[arg6.view.set]{fullShare} f6)
    ∗ (∃ f8, (arg8.view.loc (c : Thread nD τ) ↦[arg8.view.set]{fullShare} f8)) ∗ (∃ f9, (arg9.view.loc (c : Thread nD τ) ↦[arg9.view.set]{fullShare} f9)))

/-- One trip of the outer loop: the pieces it writes into the result. -/
@[irreducible] def tripB (k : Fin k2_t1_loop.trips) :
    { L : BufTy.Contents (Elt F) arg6.view.ty → List (View.Piece (Elt F) S2x8192 .f32) //
      ∀ (E : Set ℕ) (f6 : BufTy.Contents (Elt F) arg6.view.ty),
        TripB (F := F) c arg6 arg7 arg8 arg9 X7 f6
        ⊢ wp frame (wpE (defs₀ (F := F)) 𝒱 (c : Thread nD τ) bd) E (k2_t1_body (F := F) arg0 harg0 arg1 harg1 arg2 harg2 arg3 harg3 arg4 harg4 arg5 harg5 arg6 harg6 arg7 harg7 arg8 harg8 arg9 harg9 arg10 k ())
            (fun _ => TripB (F := F) c arg6 arg7 arg8 arg9 X7 (arg6.view.writes (Elt F) f6 (L f6))) } := by
  refine ⟨?_, fun E f6 => ?run⟩
  case run =>
    unfold k2_t1_body
    iintro ⟨HR, HW, ⟨%f8, H8⟩, ⟨%f9, H9⟩⟩
    sl_exec_parts
    sl_step
    sl_close

/-- The pieces of the trips before trip `k`, over the result's contents `G` at the loop's start. -/
def pbB (G : BufTy.Contents (Elt F) arg6.view.ty) : ℕ → List (View.Piece (Elt F) S2x8192 .f32)
  | 0 => []
  | k + 1 => if h : k < k2_t1_loop.trips then
      (tripB (F := F) 𝒱 c bd arg0 harg0 arg1 harg1 arg2 harg2 arg3 harg3 arg4 harg4 arg5 harg5 arg6 harg6 arg7 harg7 arg8 harg8 arg9 harg9 arg10 X7 ⟨k, h⟩).1 (arg6.view.writes (Elt F) G (pbB G k)) ++ pbB G k
    else pbB G k

theorem pbB_succ (G : BufTy.Contents (Elt F) arg6.view.ty) (k : Fin k2_t1_loop.trips) :
    pbB (F := F) 𝒱 c bd arg0 harg0 arg1 harg1 arg2 harg2 arg3 harg3 arg4 harg4 arg5 harg5 arg6 harg6 arg7 harg7 arg8 harg8 arg9 harg9 arg10 X7 G (k.val + 1)
      = (tripB (F := F) 𝒱 c bd arg0 harg0 arg1 harg1 arg2 harg2 arg3 harg3 arg4 harg4 arg5 harg5 arg6 harg6 arg7 harg7 arg8 harg8 arg9 harg9 arg10 X7 k).1 (arg6.view.writes (Elt F) G (pbB (F := F) 𝒱 c bd arg0 harg0 arg1 harg1 arg2 harg2 arg3 harg3 arg4 harg4 arg5 harg5 arg6 harg6 arg7 harg7 arg8 harg8 arg9 harg9 arg10 X7 G k.val)) ++ pbB (F := F) 𝒱 c bd arg0 harg0 arg1 harg1 arg2 harg2 arg3 harg3 arg4 harg4 arg5 harg5 arg6 harg6 arg7 harg7 arg8 harg8 arg9 harg9 arg10 X7 G k.val := by
  rw [pbB.eq_2]; exact dif_pos k.isLt

/-- Before trip `k` the result holds the pieces of the trips before. -/
abbrev invB (G : BufTy.Contents (Elt F) arg6.view.ty) (k : ℕ) (_acc : Unit) : sProp 𝕄G :=
  iprop((arg7.view.loc (c : Thread nD τ) ↦[arg7.view.set]{fullShare} X7)
    ∗ (∃ f, (arg6.view.loc (c : Thread nD τ) ↦[arg6.view.set]{fullShare} f) ∗ ⌜f = arg6.view.writes (Elt F) G (pbB (F := F) 𝒱 c bd arg0 harg0 arg1 harg1 arg2 harg2 arg3 harg3 arg4 harg4 arg5 harg5 arg6 harg6 arg7 harg7 arg8 harg8 arg9 harg9 arg10 X7 G k)⌝)
    ∗ (∃ f8, (arg8.view.loc (c : Thread nD τ) ↦[arg8.view.set]{fullShare} f8)) ∗ (∃ f9, (arg9.view.loc (c : Thread nD τ) ↦[arg9.view.set]{fullShare} f9)))

set_option warn.classDefReducibility false in
/-- The outer loop by its invariant. -/
@[sl_loop] def loopInvB (E : Set ℕ) (G : BufTy.Contents (Elt F) arg6.view.ty) :
    LoopInvTy_k2_t1 (F := F) Unit ℕ UU ℕ 𝒱 c bd E arg0 harg0 arg1 harg1 arg2 harg2 arg3 harg3 arg4 harg4 arg5 harg5 arg6 harg6 arg7 harg7 arg8 harg8 arg9 harg9 arg10 where
  inv := invB (F := F) 𝒱 c bd arg0 harg0 arg1 harg1 arg2 harg2 arg3 harg3 arg4 harg4 arg5 harg5 arg6 harg6 arg7 harg7 arg8 harg8 arg9 harg9 arg10 X7 G
  step k acc := by
    iintro ⟨HR, ⟨%f6, HW, %h6⟩, H8, H9⟩
    iapply (wp_wand_r Idealize.ShloMosaic.frame (wpE (defs₀ (F := F)) 𝒱 (c : Thread nD τ) bd) E)
    isplitl [HR HW H8 H9]
    · iapply ((tripB (F := F) 𝒱 c bd arg0 harg0 arg1 harg1 arg2 harg2 arg3 harg3 arg4 harg4 arg5 harg5 arg6 harg6 arg7 harg7 arg8 harg8 arg9 harg9 arg10 X7 k).2 E f6)
      isplitl [HR]; · iexact HR
      isplitl [HW]; · iexact HW
      isplitl [H8]; · iexact H8
      iexact H9
    · iintro %yld ⟨HR, HW, H8, H9⟩
      isplitl [HR]; · iexact HR
      isplitl [HW]
      · iexists _; isplitl [HW]; · iexact HW
        ipureintro; rw [pbB_succ, h6, ← View.writes_append]
      isplitl [H8]; · iexact H8
      iexact H9

end Cert.Proof.Kernel
-- ==== Proof.Kernel.CombineRun.lean ====
/-
  The combine kernel (`cc2_combine`) run once at symbolic operands. It stores every block of the row results from the sums; a word
  made of those sums then decides whether the second branch runs, which copies the embeddings on chip and computes every block again.
  One run for each outcome, and one statement over both.
-/
module

public import proofs.«01_k».proof.Proof.Kernel.CombineLoop
public import proofs.«01_k».proof.Proof.Kernel.SumsRun
public import proofs.«01_k».proof.Proof.Gen.Kernel.Launch
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the runs. -/
local notation "𝕄G" => MT nD τ sig Unit (Elt F) ℕ UU ℕ

variable (c : Dev nD)
  (M0 : Memref sig .tc .smem S1x1 .f32) (h0 : M0.IsWhole)
  (M1 : Memref sig .tc .vmem S32x8x512 .f32) (h1 : M1.IsWhole)
  (M2 : Memref sig .tc .vmem S2x8192 .f32) (h2 : M2.IsWhole)
  (M3 : Memref sig .tc .vmem S2x8192 .i32) (h3 : M3.IsWhole)
  (M4 : Memref sig .tc .hbm S16384x128 .bf16) (h4 : M4.IsWhole)
  (M5 : Memref sig .tc .vmem S2x8192 .f32) (h5 : M5.IsWhole)
  (M6 : Memref sig .tc .vmem S2x8192 .f32) (h6 : M6.IsWhole)
  (M7 : Memref sig .tc .vmem S16384x128 .bf16) (h7 : M7.IsWhole)
  (M8 : Memref sig .tc .vmem S1x512 .f32) (h8 : M8.IsWhole)
  (M9 : Memref sig .tc .vmem S1x512 .f32) (h9 : M9.IsWhole)
  (f0 : Bf (F := F) c M0) (f1 : Bf (F := F) c M1) (f2 : Bf (F := F) c M2) (f3 : Bf (F := F) c M3) (f4 : Bf (F := F) c M4)

/-- The word that sends the kernel into its second branch: one when some row's sum lies outside the range that the first branch
    trusts. -/
def chk (f1 : Bf (F := F) c M1) : BitVec 1 :=
  let m0 := k2_pay13 (F := F) (View.readAt (Elt F) M1.view (Rect.unit (s := S32x8x512) ![0, 0, 0] S1x8x512.size inb_S32x8x512_S1x8x512_0_0_0).toLoadRect f1) (View.readAt (Elt F) M1.view (Rect.unit (s := S32x8x512) ![1, 0, 0] S1x8x512.size inb_S32x8x512_S1x8x512_1_0_0).toLoadRect f1)
  let m1 := k2_pay20 (F := F) m0 (View.readAt (Elt F) M1.view (Rect.unit (s := S32x8x512) ![2, 0, 0] S1x8x512.size inb_S32x8x512_S1x8x512_2_0_0).toLoadRect f1) (View.readAt (Elt F) M1.view (Rect.unit (s := S32x8x512) ![3, 0, 0] S1x8x512.size inb_S32x8x512_S1x8x512_3_0_0).toLoadRect f1)
  let m2 := k2_pay27 (F := F) m1 (View.readAt (Elt F) M1.view (Rect.unit (s := S32x8x512) ![4, 0, 0] S1x8x512.size inb_S32x8x512_S1x8x512_4_0_0).toLoadRect f1) (View.readAt (Elt F) M1.view (Rect.unit (s := S32x8x512) ![5, 0, 0] S1x8x512.size inb_S32x8x512_S1x8x512_5_0_0).toLoadRect f1)
  let m3 := k2_pay34 (F := F) m2 (View.readAt (Elt F) M1.view (Rect.unit (s := S32x8x512) ![6, 0, 0] S1x8x512.size inb_S32x8x512_S1x8x512_6_0_0).toLoadRect f1) (View.readAt (Elt F) M1.view (Rect.unit (s := S32x8x512) ![7, 0, 0] S1x8x512.size inb_S32x8x512_S1x8x512_7_0_0).toLoadRect f1)
  let m4 := k2_pay41 (F := F) m3 (View.readAt (Elt F) M1.view (Rect.unit (s := S32x8x512) ![8, 0, 0] S1x8x512.size inb_S32x8x512_S1x8x512_8_0_0).toLoadRect f1) (View.readAt (Elt F) M1.view (Rect.unit (s := S32x8x512) ![9, 0, 0] S1x8x512.size inb_S32x8x512_S1x8x512_9_0_0).toLoadRect f1)
  let m5 := k2_pay48 (F := F) m4 (View.readAt (Elt F) M1.view (Rect.unit (s := S32x8x512) ![10, 0, 0] S1x8x512.size inb_S32x8x512_S1x8x512_10_0_0).toLoadRect f1) (View.readAt (Elt F) M1.view (Rect.unit (s := S32x8x512) ![11, 0, 0] S1x8x512.size inb_S32x8x512_S1x8x512_11_0_0).toLoadRect f1)
  let m6 := k2_pay55 (F := F) m5 (View.readAt (Elt F) M1.view (Rect.unit (s := S32x8x512) ![12, 0, 0] S1x8x512.size inb_S32x8x512_S1x8x512_12_0_0).toLoadRect f1) (View.readAt (Elt F) M1.view (Rect.unit (s := S32x8x512) ![13, 0, 0] S1x8x512.size inb_S32x8x512_S1x8x512_13_0_0).toLoadRect f1)
  let m7 := k2_pay62 (F := F) m6 (View.readAt (Elt F) M1.view (Rect.unit (s := S32x8x512) ![14, 0, 0] S1x8x512.size inb_S32x8x512_S1x8x512_14_0_0).toLoadRect f1) (View.readAt (Elt F) M1.view (Rect.unit (s := S32x8x512) ![15, 0, 0] S1x8x512.size inb_S32x8x512_S1x8x512_15_0_0).toLoadRect f1)
  let m8 := k2_pay69 (F := F) m7 (View.readAt (Elt F) M1.view (Rect.unit (s := S32x8x512) ![16, 0, 0] S1x8x512.size inb_S32x8x512_S1x8x512_16_0_0).toLoadRect f1) (View.readAt (Elt F) M1.view (Rect.unit (s := S32x8x512) ![17, 0, 0] S1x8x512.size inb_S32x8x512_S1x8x512_17_0_0).toLoadRect f1)
  let m9 := k2_pay76 (F := F) m8 (View.readAt (Elt F) M1.view (Rect.unit (s := S32x8x512) ![18, 0, 0] S1x8x512.size inb_S32x8x512_S1x8x512_18_0_0).toLoadRect f1) (View.readAt (Elt F) M1.view (Rect.unit (s := S32x8x512) ![19, 0, 0] S1x8x512.size inb_S32x8x512_S1x8x512_19_0_0).toLoadRect f1)
  let m10 := k2_pay83 (F := F) m9 (View.readAt (Elt F) M1.view (Rect.unit (s := S32x8x512) ![20, 0, 0] S1x8x512.size inb_S32x8x512_S1x8x512_20_0_0).toLoadRect f1) (View.readAt (Elt F) M1.view (Rect.unit (s := S32x8x512) ![21, 0, 0] S1x8x512.size inb_S32x8x512_S1x8x512_21_0_0).toLoadRect f1)
  let m11 := k2_pay90 (F := F) m10 (View.readAt (Elt F) M1.view (Rect.unit (s := S32x8x512) ![22, 0, 0] S1x8x512.size inb_S32x8x512_S1x8x512_22_0_0).toLoadRect f1) (View.readAt (Elt F) M1.view (Rect.unit (s := S32x8x512) ![23, 0, 0] S1x8x512.size inb_S32x8x512_S1x8x512_23_0_0).toLoadRect f1)
  let m12 := k2_pay97 (F := F) m11 (View.readAt (Elt F) M1.view (Rect.unit (s := S32x8x512) ![24, 0, 0] S1x8x512.size inb_S32x8x512_S1x8x512_24_0_0).toLoadRect f1) (View.readAt (Elt F) M1.view (Rect.unit (s := S32x8x512) ![25, 0, 0] S1x8x512.size inb_S32x8x512_S1x8x512_25_0_0).toLoadRect f1)
  let m13 := k2_pay104 (F := F) m12 (View.readAt (Elt F) M1.view (Rect.unit (s := S32x8x512) ![26, 0, 0] S1x8x512.size inb_S32x8x512_S1x8x512_26_0_0).toLoadRect f1) (View.readAt (Elt F) M1.view (Rect.unit (s := S32x8x512) ![27, 0, 0] S1x8x512.size inb_S32x8x512_S1x8x512_27_0_0).toLoadRect f1)
  let m14 := k2_pay111 (F := F) m13 (View.readAt (Elt F) M1.view (Rect.unit (s := S32x8x512) ![28, 0, 0] S1x8x512.size inb_S32x8x512_S1x8x512_28_0_0).toLoadRect f1) (View.readAt (Elt F) M1.view (Rect.unit (s := S32x8x512) ![29, 0, 0] S1x8x512.size inb_S32x8x512_S1x8x512_29_0_0).toLoadRect f1)
  let m15 := k2_pay118 (F := F) m14 (View.readAt (Elt F) M1.view (Rect.unit (s := S32x8x512) ![30, 0, 0] S1x8x512.size inb_S32x8x512_S1x8x512_30_0_0).toLoadRect f1) (View.readAt (Elt F) M1.view (Rect.unit (s := S32x8x512) ![31, 0, 0] S1x8x512.size inb_S32x8x512_S1x8x512_31_0_0).toLoadRect f1)
  Scalar.cmpi .ne (Scalar.extui (Scalar.cmpi .eq (extractAt ![0, 0, 0] (k2_pay122 m15) inpos_S1x1x1_p0_0_0) 0#32)) 0#32

/-- The run that takes the second branch: what it leaves in the loss and in the row results. -/
@[irreducible] def combineRunB (hv : chk (F := F) c M1 f1 = 1#1) :
    Σ' (W5 : Bf (F := F) c M5) (W6 : Bf (F := F) c M6),
      ∀ (f5 : Bf (F := F) c M5) (f6 : Bf (F := F) c M6) (f7 : Bf (F := F) c M7) (f8 : Bf (F := F) c M8) (f9 : Bf (F := F) c M9)
        (W : Waits sig Unit) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
            ∗ semVal ((c : Thread nD τ), .dma 13) 0 ∗ owes (c : Thread nD τ) 0 W
            ∗ (iprop(pt c M0 f0 ∗ pt c M1 f1 ∗ pt c M2 f2 ∗ pt c M3 f3 ∗ pt c M4 f4 ∗ pt c M5 W5 ∗ pt c M6 W6 ∗ (∃ f, pt c M7 f) ∗ (∃ f, pt c M8 f)
                ∗ (∃ f, pt c M9 f) ∗ semVal ((c : Thread nD τ), .dma 13) 0 ∗ ∃ W, owes (c : Thread nD τ) 0 W) -∗ Q ⟨⟩))
          ⊢ wp frame (wpE (defs₀ (F := F)) Variants.none (c : Thread nD τ) none) Set.univ
              (cc2_combine (F := F) M0 h0 M1 h1 M2 h2 M3 h3 M4 h4 M5 h5 M6 h6 M7 h7 M8 h8 M9 h9 cc2_scratch3) Q := by
  refine ⟨?_, ?_, fun f5 f6 f7 f8 f9 W Q => ?run⟩
  case run =>
    iintro ⟨H0, H1, H2, H3, H4, H5, H6, H7, H8, H9, Hd, HO, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    sl_close

/-- The run that passes the second branch by. -/
@[irreducible] def combineRunA (hv : ¬ chk (F := F) c M1 f1 = 1#1) :
    Σ' (W5 : Bf (F := F) c M5) (W6 : Bf (F := F) c M6),
      ∀ (f5 : Bf (F := F) c M5) (f6 : Bf (F := F) c M6) (f7 : Bf (F := F) c M7) (f8 : Bf (F := F) c M8) (f9 : Bf (F := F) c M9)
        (W : Waits sig Unit) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
            ∗ semVal ((c : Thread nD τ), .dma 13) 0 ∗ owes (c : Thread nD τ) 0 W
            ∗ (iprop(pt c M0 f0 ∗ pt c M1 f1 ∗ pt c M2 f2 ∗ pt c M3 f3 ∗ pt c M4 f4 ∗ pt c M5 W5 ∗ pt c M6 W6 ∗ (∃ f, pt c M7 f) ∗ (∃ f, pt c M8 f)
                ∗ (∃ f, pt c M9 f) ∗ semVal ((c : Thread nD τ), .dma 13) 0 ∗ ∃ W, owes (c : Thread nD τ) 0 W) -∗ Q ⟨⟩))
          ⊢ wp frame (wpE (defs₀ (F := F)) Variants.none (c : Thread nD τ) none) Set.univ
              (cc2_combine (F := F) M0 h0 M1 h1 M2 h2 M3 h3 M4 h4 M5 h5 M6 h6 M7 h7 M8 h8 M9 h9 cc2_scratch3) Q := by
  refine ⟨?_, ?_, fun f5 f6 f7 f8 f9 W Q => ?run⟩
  case run =>
    iintro ⟨H0, H1, H2, H3, H4, H5, H6, H7, H8, H9, Hd, HO, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    sl_close

end Cert.Proof.Kernel
-- ==== Proof.Kernel.CombineRegion.lean ====
/-
  The combine call as a region of the whole program: what it finds in the arrays, what its body leaves, and the region entered from every
  unscoped buffer and left with the arrays of the loss and of the row results replaced. The copy that the second branch makes has a
  semaphore of its own, which the region's invariant holds at zero.
-/
module

public import proofs.«01_k».proof.Proof.Kernel.SumsRegion
public import proofs.«01_k».proof.Proof.Kernel.CombineRun
public import Idealize.ShloMosaic.Lib.Pipeline.RegionsLoop
public import proofs.«01_k».proof.Proof.Gen.Kernel.Regions
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The propositions of the runs. -/
local notation "𝕄G" => MT nD τ sig Unit (Elt F) ℕ UU ℕ

variable (V : Entry (F := F))

/-- Window 0 as its fetch stages it. -/
abbrev stgC0 (c : Dev nD) : (cfg2.win 0).block.Idx → Elt F (cfg2.win 0).elt :=
  ((cfg2.win 0).blk t2_0).view.read (Elt F) (V c main_arg1)
/-- Window 1 as its fetch stages it. -/
abbrev stgC1 (c : Dev nD) : (cfg2.win 1).block.Idx → Elt F (cfg2.win 1).elt :=
  ((cfg2.win 1).blk t2_0).view.read (Elt F) (V c main_v0)
/-- Window 2 as its fetch stages it. -/
abbrev stgC2 (c : Dev nD) : (cfg2.win 2).block.Idx → Elt F (cfg2.win 2).elt :=
  ((cfg2.win 2).blk t2_0).view.read (Elt F) (V c main_v2_0)
/-- Window 3 as its fetch stages it. -/
abbrev stgC3 (c : Dev nD) : (cfg2.win 3).block.Idx → Elt F (cfg2.win 3).elt :=
  ((cfg2.win 3).blk t2_0).view.read (Elt F) (V c main_v2_1)

/-- The word that decides the second branch, from the staged sums. -/
abbrev chkC (c : Dev nD) : Prop := chk (F := F) c (Memref.whole cc2_stg1_0) (stgC1 V c) = 1#1

/-- What the combine kernel leaves in the loss, from the staged operands. -/
def lossOut (c : Dev nD) : Buf (Elt F) ((c : Thread nD τ).loc cc2_stg4_0) :=
  if hv : chkC V c then (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).1
  else (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).1
/-- What the combine kernel leaves in the row results, from the staged operands. -/
def lseOut (c : Dev nD) : Buf (Elt F) ((c : Thread nD τ).loc cc2_stg5_0) :=
  if hv : chkC V c then (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.1
  else (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.1

/-- The run, over the memrefs. -/
theorem combineOut_pt (c : Dev nD)
    (f5 : Buf (Elt F) ((c : Thread nD τ).loc cc2_stg4_0)) (f6 : Buf (Elt F) ((c : Thread nD τ).loc cc2_stg5_0)) (f7 : Buf (Elt F) ((c : Thread nD τ).loc cc2_scratch0)) (f8 : Buf (Elt F) ((c : Thread nD τ).loc cc2_scratch1)) (f9 : Buf (Elt F) ((c : Thread nD τ).loc cc2_scratch2))
    (W : Waits sig Unit) (Q : PUnit → sProp 𝕄G) (Wl Ws) (hl : Wl = lossOut V c) (hs : Ws = lseOut V c) :
    iprop(pt c (Memref.whole cc2_stg0_0) (stgC0 V c) ∗ pt c (Memref.whole cc2_stg1_0) (stgC1 V c) ∗ pt c (Memref.whole cc2_stg2_0) (stgC2 V c) ∗ pt c (Memref.whole cc2_stg3_0) (stgC3 V c) ∗ pt c (Memref.whole main_arg0) (V c main_arg0)
        ∗ pt c (Memref.whole cc2_stg4_0) f5 ∗ pt c (Memref.whole cc2_stg5_0) f6 ∗ pt c (Memref.whole cc2_scratch0) f7 ∗ pt c (Memref.whole cc2_scratch1) f8 ∗ pt c (Memref.whole cc2_scratch2) f9
        ∗ semVal ((c : Thread nD τ), .dma 13) 0 ∗ owes (c : Thread nD τ) 0 W
        ∗ (iprop(pt c (Memref.whole cc2_stg0_0) (stgC0 V c) ∗ pt c (Memref.whole cc2_stg1_0) (stgC1 V c) ∗ pt c (Memref.whole cc2_stg2_0) (stgC2 V c) ∗ pt c (Memref.whole cc2_stg3_0) (stgC3 V c) ∗ pt c (Memref.whole main_arg0) (V c main_arg0)
            ∗ pt c (Memref.whole cc2_stg4_0) Wl ∗ pt c (Memref.whole cc2_stg5_0) Ws ∗ (∃ f, pt c (Memref.whole cc2_scratch0) f) ∗ (∃ f, pt c (Memref.whole cc2_scratch1) f) ∗ (∃ f, pt c (Memref.whole cc2_scratch2) f)
            ∗ semVal ((c : Thread nD τ), .dma 13) 0 ∗ ∃ W, owes (c : Thread nD τ) 0 W) -∗ Q ⟨⟩))
      ⊢ wp frame (wpE (defs₀ (F := F)) Variants.none (c : Thread nD τ) none) Set.univ
          (cc2_combine (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _) cc2_scratch3) Q := by
  subst hl hs
  by_cases hv : chkC V c
  · unfold lossOut lseOut
    rw [dif_pos hv, dif_pos hv]
    exact (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.2 f5 f6 f7 f8 f9 W Q
  · unfold lossOut lseOut
    rw [dif_neg hv, dif_neg hv]
    exact (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.2 f5 f6 f7 f8 f9 W Q

/-- The run, over the buffers themselves. -/
theorem combineOut_run (c : Dev nD)
    (f5 : Buf (Elt F) ((c : Thread nD τ).loc cc2_stg4_0)) (f6 : Buf (Elt F) ((c : Thread nD τ).loc cc2_stg5_0)) (f7 : Buf (Elt F) ((c : Thread nD τ).loc cc2_scratch0)) (f8 : Buf (Elt F) ((c : Thread nD τ).loc cc2_scratch1)) (f9 : Buf (Elt F) ((c : Thread nD τ).loc cc2_scratch2))
    (W : Waits sig Unit) (Q : PUnit → sProp 𝕄G) :
    iprop((((c : Thread nD τ).loc cc2_stg0_0) ↦{fullShare} (stgC0 V c)) ∗ (((c : Thread nD τ).loc cc2_stg1_0) ↦{fullShare} (stgC1 V c)) ∗ (((c : Thread nD τ).loc cc2_stg2_0) ↦{fullShare} (stgC2 V c)) ∗ (((c : Thread nD τ).loc cc2_stg3_0) ↦{fullShare} (stgC3 V c)) ∗ (((c : Thread nD τ).loc main_arg0) ↦{fullShare} (V c main_arg0))
        ∗ (((c : Thread nD τ).loc cc2_stg4_0) ↦{fullShare} f5) ∗ (((c : Thread nD τ).loc cc2_stg5_0) ↦{fullShare} f6) ∗ (((c : Thread nD τ).loc cc2_scratch0) ↦{fullShare} f7) ∗ (((c : Thread nD τ).loc cc2_scratch1) ↦{fullShare} f8) ∗ (((c : Thread nD τ).loc cc2_scratch2) ↦{fullShare} f9)
        ∗ semVal ((c : Thread nD τ), .dma 13) 0 ∗ owes (c : Thread nD τ) 0 W
        ∗ (iprop((((c : Thread nD τ).loc cc2_stg0_0) ↦{fullShare} (stgC0 V c)) ∗ (((c : Thread nD τ).loc cc2_stg1_0) ↦{fullShare} (stgC1 V c)) ∗ (((c : Thread nD τ).loc cc2_stg2_0) ↦{fullShare} (stgC2 V c)) ∗ (((c : Thread nD τ).loc cc2_stg3_0) ↦{fullShare} (stgC3 V c)) ∗ (((c : Thread nD τ).loc main_arg0) ↦{fullShare} (V c main_arg0))
            ∗ (((c : Thread nD τ).loc cc2_stg4_0) ↦{fullShare} lossOut V c) ∗ (((c : Thread nD τ).loc cc2_stg5_0) ↦{fullShare} lseOut V c) ∗ (∃ f, ((c : Thread nD τ).loc cc2_scratch0) ↦{fullShare} f) ∗ (∃ f, ((c : Thread nD τ).loc cc2_scratch1) ↦{fullShare} f) ∗ (∃ f, ((c : Thread nD τ).loc cc2_scratch2) ↦{fullShare} f)
            ∗ semVal ((c : Thread nD τ), .dma 13) 0 ∗ ∃ W, owes (c : Thread nD τ) 0 W) -∗ Q ⟨⟩))
      ⊢ wp frame (wpE (defs₀ (F := F)) Variants.none (c : Thread nD τ) none) Set.univ
          (cc2_combine (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _) cc2_scratch3) Q := by
  have h := combineOut_pt V c f5 f6 f7 f8 f9 W Q _ _ rfl rfl
  generalize lossOut V c = Wl at h ⊢
  generalize lseOut V c = Ws at h ⊢
  rw [pt_whole, pt_whole, pt_whole, pt_whole, pt_whole, pt_whole, pt_whole, pt_whole, pt_whole, pt_whole, pt_whole, pt_whole, pt_whole_ex, pt_whole_ex, pt_whole_ex] at h
  exact h

/-- The semaphore of the kernel's own copy. -/
abbrev osem : Fin 1 → SemLoc sig := fun _ => .dma 13
theorem ownSemFacts : Pipeline.OwnSemFacts spec2 osem := by decide
theorem ownSems0_eq (c : Dev nD) :
    (Pipeline.ownSems0 (Ix := Unit) (Name := ℕ) (U := UU) (Lvl := ℕ) (Val := Elt F) (τ := τ) osem c : sProp 𝕄G)
      = semVal ((c : Thread nD τ), .dma 13) 0 :=
  Pipeline.ownSems0_eq_of_list c osem [0] (by decide) (by decide)

/-- The invariant between the region's ends: the embeddings where the copy reads them, the copy's semaphore at zero, and the scoped
    buffers that the pipeline does not stage at something. -/
def ΦC (c : Dev nD) : sProp 𝕄G :=
  iprop((((c : Thread nD τ).loc main_arg0) ↦{fullShare} V c main_arg0) ∗ semVal ((c : Thread nD τ), .dma 13) 0
    ∗ Pipeline.scopedRest (Ix := Unit) (Name := ℕ) (U := UU) (Lvl := ℕ) (Val := Elt F) spec2 c)

/-- The region's proof data, entered at `V`: the arrays at `V`; after the body the inputs as fetched and the two results at the run's. -/
def datC (c : Dev nD) : Dat τ (Elt F) Unit ℕ UU ℕ cfg2 c where
  A w := V c (Pipeline.arrRef spec2 w)
  after w _ := match w with
    | ⟨0, _⟩ => stgC0 V c
    | ⟨1, _⟩ => stgC1 V c
    | ⟨2, _⟩ => stgC2 V c
    | ⟨3, _⟩ => stgC3 V c
    | ⟨4, _⟩ => lossOut V c
    | ⟨5, _⟩ => lseOut V c
  Φ _ := ΦC V c
  q _ := fullShare
  owed _ := 0

theorem beforeC_0 (c : Dev nD) (d) : (datC V c).before 0 t2_0 d = stgC0 V c := by unfold Dat.before; rw [if_pos (by decide)]; rfl
theorem beforeC_1 (c : Dev nD) (d) : (datC V c).before 1 t2_0 d = stgC1 V c := by unfold Dat.before; rw [if_pos (by decide)]; rfl
theorem beforeC_2 (c : Dev nD) (d) : (datC V c).before 2 t2_0 d = stgC2 V c := by unfold Dat.before; rw [if_pos (by decide)]; rfl
theorem beforeC_3 (c : Dev nD) (d) : (datC V c).before 3 t2_0 d = stgC3 V c := by unfold Dat.before; rw [if_pos (by decide)]; rfl

/-- The body obligation: the staging buffers, the scratch and the invariant taken apart, the run applied, its post put back. -/
theorem body_obligationC (c : Dev nD) : BodyObligation (datC V c) (defs₀ (F := F)) 𝒱₀ () Set.univ := fun t => by
  obtain rfl := fin_N2 t
  rw [bigSep_W2, bigSep_W2]
  simp only [owns_whole_eq]
  rw [show (datC V c).Φ t2_0.castSucc = ΦC V c from rfl, show (datC V c).Φ t2_0.succ = ΦC V c from rfl]
  unfold ΦC Dat.owesAt Pipeline.owesWithin
  rw [scopedRest2_eq, show (datC V c).owed t2_0.castSucc = 0 from rfl, show (datC V c).owed t2_0.succ = 0 from rfl]
  iintro ⟨⟨Hx, Hd, Hr1, Hr2, Hr3, Hr4, Hr5, Hr6, Hr7, Hr8, Hr9, Hr10, Hr11, ⟨%f7, H7⟩, ⟨%f8, H8⟩, ⟨%f9, H9⟩, Hr12⟩, ⟨%W, %hW, HO⟩, ⟨%d0, %f0, %hf0, H0⟩, ⟨%d1, %f1, %hf1, H1⟩, ⟨%d2, %f2, %hf2, H2⟩, ⟨%d3, %f3, %hf3, H3⟩, ⟨%d5, %f5, -, H5⟩, ⟨%d6, %f6, -, H6⟩⟩
  rw [beforeC_0] at hf0
  rw [beforeC_1] at hf1
  rw [beforeC_2] at hf2
  rw [beforeC_3] at hf3
  subst hf0 hf1 hf2 hf3
  iapply (combineOut_run V c f5 f6 f7 f8 f9 W _)
  isplitl [H0]; · iexact H0
  isplitl [H1]; · iexact H1
  isplitl [H2]; · iexact H2
  isplitl [H3]; · iexact H3
  isplitl [Hx]; · iexact Hx
  isplitl [H5]; · iexact H5
  isplitl [H6]; · iexact H6
  isplitl [H7]; · iexact H7
  isplitl [H8]; · iexact H8
  isplitl [H9]; · iexact H9
  isplitl [Hd]; · iexact Hd
  isplitl [HO]; · iexact HO
  iintro ⟨H0, H1, H2, H3, Hx, H5, H6, H7, H8, H9, Hd, ⟨%W', HO⟩⟩
  isplitl [Hx Hd Hr1 Hr2 Hr3 Hr4 Hr5 Hr6 Hr7 Hr8 Hr9 Hr10 Hr11 H7 H8 H9 Hr12]
  · isplitl [Hx]; · iexact Hx
    isplitl [Hd]; · iexact Hd
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [H7]; · iexact H7
    isplitl [H8]; · iexact H8
    isplitl [H9]; · iexact H9
    iexact Hr12
  isplitl [HO]
  · iexists W'; isplitr; · ipureintro; exact fun _ _ => Or.inl trivial
    iexact HO
  isplitl [H0]; · iexists _; isplitr; swap; (· iexact H0); ipureintro; dsimp only [datC]
  isplitl [H1]; · iexists _; isplitr; swap; (· iexact H1); ipureintro; dsimp only [datC]
  isplitl [H2]; · iexists _; isplitr; swap; (· iexact H2); ipureintro; dsimp only [datC]
  isplitl [H3]; · iexists _; isplitr; swap; (· iexact H3); ipureintro; dsimp only [datC]
  isplitl [H5]; · iexists _; isplitr; swap; (· iexact H5); ipureintro; dsimp only [datC]
  iexists _; isplitr; swap; (· iexact H6); ipureintro; dsimp only [datC]

/-- The two results' arrays after the region. -/
def lossArr (c : Dev nD) : Buf (Elt F) ((c : Thread nD τ).loc main_v3_0) := (datC V c).arrAt 4 cfg2.N
@[inherit_doc lossArr]
def lseArr (c : Dev nD) : Buf (Elt F) ((c : Thread nD τ).loc main_v3_1) := (datC V c).arrAt 5 cfg2.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the two results' arrays at the run's results and
    agrees with `V` off them. -/
def regC (Vp : Entry (F := F)) (hp : ∀ c, pdats 2 c = datC V c) (hl : ∀ c, Vp c main_v3_0 = lossArr V c) (hs : ∀ c, Vp c main_v3_1 = lseArr V c)
    (hne : ∀ c (b : Ref sig .tc), b ≠ main_v3_0 → b ≠ main_v3_1 → Vp c b = V c b) :
    Pipeline.RegionSeg (pcfgs (F := F)) adm pdats () defs₀ 𝒱₀ L lv 2 where
  win := (launch2).win.to₀
  block_pos := (launch2).block_pos
  stage_whole := (launch2).stage_whole
  K := Fin 1
  osem := osem
  ho := ownSemFacts
  hbody c := by rw [hp c]; exact (body_obligationC V c).loose
  hwaits := Pipeline.hwaits_of_owed_zero _ _ _ _ L lv 2 fun c _ => by rw [hp c]; rfl
  pre c := iprop(unscopedBufs c (V c) ∗ Rides c)
  post c := iprop(unscopedBufs c (Vp c) ∗ Rides c)
  X c := iprop((((c : Thread nD τ).loc main_arg0) ↦{fullShare} V c main_arg0) ∗ semVal ((c : Thread nD τ), .dma 13) 0)
  Y c := ((c : Thread nD τ).loc main_arg0) ↦{fullShare} V c main_arg0
  Z c := iprop((((c : Thread nD τ).loc main_arg2) ↦{fullShare} V c main_arg2) ∗ (((c : Thread nD τ).loc main_v1) ↦{fullShare} V c main_v1))
  hentry c := by
    rw [ownSems0_eq]
    have hsplit := (Pipeline.arrays_of_unscopedBufs (p := 2) (pcfgs (F := F)) adm pdats (launch2).win (launch2).arr_whole c
      ((pdats 2 c).share_full fun _ => by rw [hp c]; rfl) (V c) fun _ => by rw [hp c]; rfl).trans (sep_mono .rfl (Entails.of_eq (unscopedRest2_eq c (V c))))
    iintro ⟨⟨Hub, HO⟩, Hos, -⟩
    ihave H := hsplit $$ Hub
    icases H with ⟨Ha, Hx, Hz⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitl [Hx Hos]
    · isplitl [Hx]; · iexact Hx
      iexact Hos
    iexact Hz
  hin c := by
    rw [hp c, show (datC V c).Φ 0 = ΦC V c from rfl]
    unfold ΦC
    iintro ⟨⟨Hx, Hos⟩, -, Hr⟩
    isplitl [Hx]; · iexact Hx
    isplitl [Hos] <;> iassumption
  hout c := by
    rw [ownSems0_eq, hp c]
    change ΦC V c ⊢ _
    unfold ΦC
    iintro ⟨Hx, Hos, Hr⟩
    isplitl [Hx]; · iexact Hx
    isplitl [Hos] <;> iassumption
  hexit c := by
    have hjoin := (sep_mono .rfl (Entails.of_eq (unscopedRest2_eq c (V c)).symm)).trans (Pipeline.unscopedBufs_of_arrays (p := 2) (pcfgs (F := F)) adm (Ix := Unit) (Name := ℕ) (U := UU) (Lvl := ℕ) (launch2).win (launch2).arr_whole c
      pdats ((pdats 2 c).share_full fun _ => by rw [hp c]; rfl) (V c) (Vp c) ((pdats 2 c).arrAt · cfg2.N)
      (fun w => by
        rw [hp c]
        fin_cases w
        · exact ((datC V c).arrAt_in 0 rfl _).trans (hne c main_arg1 (by decide) (by decide)).symm
        · exact ((datC V c).arrAt_in 1 rfl _).trans (hne c main_v0 (by decide) (by decide)).symm
        · exact ((datC V c).arrAt_in 2 rfl _).trans (hne c main_v2_0 (by decide) (by decide)).symm
        · exact ((datC V c).arrAt_in 3 rfl _).trans (hne c main_v2_1 (by decide) (by decide)).symm
        · exact (hl c).symm
        · exact (hs c).symm)
      (fun b hb => hne c b (fun h => hb (h ▸ Finset.mem_image.mpr ⟨4, Finset.mem_univ _, rfl⟩)) (fun h => hb (h ▸ Finset.mem_image.mpr ⟨5, Finset.mem_univ _, rfl⟩))))
    iintro ⟨Ha, HO, Hx, Hz⟩
    imodintro
    isplitl [Ha Hx Hz]
    · iapply hjoin
      isplitl [Ha]; · iexact Ha
      isplitl [Hx]; · iexact Hx
      iexact Hz
    rw [hp c]
    unfold Pipeline.Dat.owesAt Pipeline.owesWithin
    icases HO with ⟨%W, -, HO⟩; iexists W; iexact HO

end Cert.Proof.Kernel
-- ==== Proof.Kernel.PosLoop.lean ====
/-
  The loops of the positives kernel (`cc1_positives`). One trip of the first loop takes 512 positions of both views: it lays their
  embeddings out transposed, adds them to their classes' sums and adds the positions to their classes' counts. One trip of the second
  loop gathers the classes' sums back to 512 positions and stores the two views' positive sums and counts.
-/
module

public import proofs.«01_k».proof.Proof.Kernel.SumsLoop

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The stores of the trips before trip `k`, newest first, of a loop whose trip `t` makes the stores `Ls t`. -/
def storesOf {α : Type*} {n : ℕ} (Ls : Fin n → List α) : ℕ → List α
  | 0 => []
  | k + 1 => if h : k < n then Ls ⟨k, h⟩ ++ storesOf Ls k else storesOf Ls k

theorem storesOf_succ {α : Type*} {n : ℕ} (Ls : Fin n → List α) (k : Fin n) : storesOf Ls (k.val + 1) = Ls k ++ storesOf Ls k.val := by
  rw [storesOf.eq_2]; exact dif_pos k.isLt

/-- Exactly the stores that some trip before `k` makes. -/
theorem mem_storesOf {α : Type*} {n : ℕ} (Ls : Fin n → List α) (p : α) :
    ∀ k, k ≤ n → (p ∈ storesOf Ls k ↔ ∃ t : Fin n, t.val < k ∧ p ∈ Ls t) := by
  intro k
  induction k with
  | zero => exact fun _ => ⟨fun h => absurd h List.not_mem_nil, fun ⟨_, h, _⟩ => absurd h (Nat.not_lt_zero _)⟩
  | succ k ih =>
    intro hk
    have e := storesOf_succ Ls ⟨k, hk⟩
    dsimp only at e
    rw [e, List.mem_append, ih (Nat.le_of_succ_le hk)]
    constructor
    · rintro (h | ⟨t, ht, h⟩)
      · exact ⟨⟨k, hk⟩, Nat.lt_succ_self k, h⟩
      · exact ⟨t, Nat.lt_succ_of_lt ht, h⟩
    · rintro ⟨t, ht, h⟩
      rcases Nat.lt_succ_iff_lt_or_eq.mp ht with ht | ht
      · exact Or.inr ⟨t, ht, h⟩
      · obtain rfl : t = ⟨k, hk⟩ := Fin.ext ht
        exact Or.inl h

/-- What `k` trips make of `g` when trip `t` makes `step t f` of `f`. -/
def runTrips {α : Type*} {n : ℕ} (step : Fin n → α → α) (g : α) : ℕ → α
  | 0 => g
  | k + 1 => if h : k < n then step ⟨k, h⟩ (runTrips step g k) else runTrips step g k

theorem runTrips_succ {α : Type*} {n : ℕ} (step : Fin n → α → α) (g : α) (k : Fin n) :
    runTrips step g (k.val + 1) = step k (runTrips step g k.val) := by
  rw [runTrips.eq_2]; exact dif_pos k.isLt

variable {F : FTy → Type} [FloatOps F]

/-- The propositions of the runs. -/
local notation "𝕄G" => MT nD τ sig Unit (Elt F) ℕ UU ℕ

variable (𝒱 : Variants) (c : Dev nD) (bd : Option 𝒱.V)
  (arg0 : Memref sig .tc .vmem S1x8192 .i32) (harg0 : arg0.IsWhole)
  (arg1 : Memref sig .tc .vmem S16384x128 .bf16) (harg1 : arg1.IsWhole)
  (arg2 : Memref sig .tc .vmem S2x8192 .f32) (harg2 : arg2.IsWhole)
  (arg3 : Memref sig .tc .vmem S2x8192 .i32) (harg3 : arg3.IsWhole)
  (arg4 : Memref sig .tc .vmem S256x8192 .bf16) (harg4 : arg4.IsWhole)
  (arg5 : Memref sig .tc .vmem S256x1024 .f32) (harg5 : arg5.IsWhole)
  (arg6 : Memref sig .tc .vmem S512x1024 .bf16) (harg6 : arg6.IsWhole)
  (arg7 : Memref sig .tc .vmem S1024x128 .f32) (harg7 : arg7.IsWhole)
  (X0 : BufTy.Contents (Elt F) arg0.view.ty) (X1 : BufTy.Contents (Elt F) arg1.view.ty)

/-! ## The first loop -/

/-- What a trip of the first loop touches: the labels and the embeddings; the transposed embeddings at `f4`, the classes' sums at `f5`,
    their counts at `f7`. -/
abbrev TripP (f4 : BufTy.Contents (Elt F) arg4.view.ty) (f5 : BufTy.Contents (Elt F) arg5.view.ty) (f7 : BufTy.Contents (Elt F) arg7.view.ty) : sProp 𝕄G :=
  iprop((arg0.view.loc (c : Thread nD τ) ↦[arg0.view.set]{fullShare} X0) ∗ (arg1.view.loc (c : Thread nD τ) ↦[arg1.view.set]{fullShare} X1)
    ∗ (arg4.view.loc (c : Thread nD τ) ↦[arg4.view.set]{fullShare} f4) ∗ (arg5.view.loc (c : Thread nD τ) ↦[arg5.view.set]{fullShare} f5)
    ∗ (arg7.view.loc (c : Thread nD τ) ↦[arg7.view.set]{fullShare} f7))

/-- One trip of the first loop: the pieces it writes. -/
@[irreducible] def tripP (k : Fin k1_t1_loop.trips) :
    Σ' (L4 : List (View.Piece (Elt F) S256x8192 .bf16))
      (L5 : BufTy.Contents (Elt F) arg5.view.ty → List (View.Piece (Elt F) S256x1024 .f32))
      (L7 : BufTy.Contents (Elt F) arg7.view.ty → List (View.Piece (Elt F) S1024x128 .f32)),
      ∀ (E : Set ℕ) (f4 : BufTy.Contents (Elt F) arg4.view.ty) (f5 : BufTy.Contents (Elt F) arg5.view.ty) (f7 : BufTy.Contents (Elt F) arg7.view.ty),
        TripP (F := F) c arg0 arg1 arg4 arg5 arg7 X0 X1 f4 f5 f7
        ⊢ wp frame (wpE (defs₀ (F := F)) 𝒱 (c : Thread nD τ) bd) E
            (k1_t1_body (F := F) arg0 harg0 arg1 harg1 arg2 harg2 arg3 harg3 arg4 harg4 arg5 harg5 arg6 harg6 arg7 harg7 k ())
            (fun _ => TripP (F := F) c arg0 arg1 arg4 arg5 arg7 X0 X1 (arg4.view.writes (Elt F) f4 L4) (arg5.view.writes (Elt F) f5 (L5 f5))
              (arg7.view.writes (Elt F) f7 (L7 f7))) := by
  refine ⟨?_, ?_, ?_, fun E f4 f5 f7 => ?run⟩
  case run =>
    unfold k1_t1_body
    iintro ⟨H0, H1, H4, H5, H7⟩
    sl_exec_parts
    sl_step
    sl_close

/-- The transposed embeddings' pieces before trip `k`. -/
abbrev pb4 (k : ℕ) : List (View.Piece (Elt F) S256x8192 .bf16) :=
  storesOf (fun t => (tripP (F := F) 𝒱 c bd arg0 harg0 arg1 harg1 arg2 harg2 arg3 harg3 arg4 harg4 arg5 harg5 arg6 harg6 arg7 harg7 X0 X1 t).1) k
/-- The classes' sums before trip `k`, from `G` at the loop's start. -/
abbrev st5 (G : BufTy.Contents (Elt F) arg5.view.ty) (k : ℕ) : BufTy.Contents (Elt F) arg5.view.ty :=
  runTrips (fun t f => arg5.view.writes (Elt F) f ((tripP (F := F) 𝒱 c bd arg0 harg0 arg1 harg1 arg2 harg2 arg3 harg3 arg4 harg4 arg5 harg5 arg6 harg6 arg7 harg7 X0 X1 t).2.1 f)) G k
/-- The classes' counts before trip `k`, from `G` at the loop's start. -/
abbrev st7 (G : BufTy.Contents (Elt F) arg7.view.ty) (k : ℕ) : BufTy.Contents (Elt F) arg7.view.ty :=
  runTrips (fun t f => arg7.view.writes (Elt F) f ((tripP (F := F) 𝒱 c bd arg0 harg0 arg1 harg1 arg2 harg2 arg3 harg3 arg4 harg4 arg5 harg5 arg6 harg6 arg7 harg7 X0 X1 t).2.2.1 f)) G k

/-- Before trip `k` the three buffers hold what the trips before left there. -/
abbrev invP (G4 : BufTy.Contents (Elt F) arg4.view.ty) (G5 : BufTy.Contents (Elt F) arg5.view.ty) (G7 : BufTy.Contents (Elt F) arg7.view.ty) (k : ℕ) (_acc : Unit) : sProp 𝕄G :=
  iprop((arg0.view.loc (c : Thread nD τ) ↦[arg0.view.set]{fullShare} X0) ∗ (arg1.view.loc (c : Thread nD τ) ↦[arg1.view.set]{fullShare} X1)
    ∗ (∃ f, (arg4.view.loc (c : Thread nD τ) ↦[arg4.view.set]{fullShare} f) ∗ ⌜f = arg4.view.writes (Elt F) G4 (pb4 (F := F) 𝒱 c bd arg0 harg0 arg1 harg1 arg2 harg2 arg3 harg3 arg4 harg4 arg5 harg5 arg6 harg6 arg7 harg7 X0 X1 k)⌝)
    ∗ (∃ f, (arg5.view.loc (c : Thread nD τ) ↦[arg5.view.set]{fullShare} f) ∗ ⌜f = st5 (F := F) 𝒱 c bd arg0 harg0 arg1 harg1 arg2 harg2 arg3 harg3 arg4 harg4 arg5 harg5 arg6 harg6 arg7 harg7 X0 X1 G5 k⌝)
    ∗ (∃ f, (arg7.view.loc (c : Thread nD τ) ↦[arg7.view.set]{fullShare} f) ∗ ⌜f = st7 (F := F) 𝒱 c bd arg0 harg0 arg1 harg1 arg2 harg2 arg3 harg3 arg4 harg4 arg5 harg5 arg6 harg6 arg7 harg7 X0 X1 G7 k⌝))

set_option warn.classDefReducibility false in
/-- The first loop by its invariant. -/
@[sl_loop] def loopInvP (E : Set ℕ) (G4 : BufTy.Contents (Elt F) arg4.view.ty) (G5 : BufTy.Contents (Elt F) arg5.view.ty) (G7 : BufTy.Contents (Elt F) arg7.view.ty) :
    LoopInvTy_k1_t1 (F := F) Unit ℕ UU ℕ 𝒱 c bd E arg0 harg0 arg1 harg1 arg2 harg2 arg3 harg3 arg4 harg4 arg5 harg5 arg6 harg6 arg7 harg7 where
  inv := invP (F := F) 𝒱 c bd arg0 harg0 arg1 harg1 arg2 harg2 arg3 harg3 arg4 harg4 arg5 harg5 arg6 harg6 arg7 harg7 X0 X1 G4 G5 G7
  step k acc := by
    iintro ⟨H0, H1, ⟨%f4, H4, %h4⟩, ⟨%f5, H5, %h5⟩, ⟨%f7, H7, %h7⟩⟩
    iapply (wp_wand_r Idealize.ShloMosaic.frame (wpE (defs₀ (F := F)) 𝒱 (c : Thread nD τ) bd) E)
    isplitl [H0 H1 H4 H5 H7]
    · iapply ((tripP (F := F) 𝒱 c bd arg0 harg0 arg1 harg1 arg2 harg2 arg3 harg3 arg4 harg4 arg5 harg5 arg6 harg6 arg7 harg7 X0 X1 k).2.2.2 E f4 f5 f7)
      isplitl [H0]; · iexact H0
      isplitl [H1]; · iexact H1
      isplitl [H4]; · iexact H4
      isplitl [H5]; · iexact H5
      iexact H7
    · iintro %yld ⟨H0, H1, H4, H5, H7⟩
      isplitl [H0]; · iexact H0
      isplitl [H1]; · iexact H1
      isplitl [H4]
      · iexists _; isplitl [H4]; · iexact H4
        ipureintro; unfold pb4; rw [storesOf_succ, h4, ← View.writes_append]
      isplitl [H5]
      · iexists _; isplitl [H5]; · iexact H5
        ipureintro; unfold st5; rw [runTrips_succ, h5]
      iexists _; isplitl [H7]; · iexact H7
      ipureintro; unfold st7; rw [runTrips_succ, h7]

/-! ## The second loop -/

variable (X4 : BufTy.Contents (Elt F) arg4.view.ty) (X6 : BufTy.Contents (Elt F) arg6.view.ty)

/-- What a trip of the second loop touches: the labels, the transposed embeddings and the classes' sums and counts; the positive sums at
    `f2`, the positive counts at `f3`. -/
abbrev TripQ (f2 : BufTy.Contents (Elt F) arg2.view.ty) (f3 : BufTy.Contents (Elt F) arg3.view.ty) : sProp 𝕄G :=
  iprop((arg0.view.loc (c : Thread nD τ) ↦[arg0.view.set]{fullShare} X0) ∗ (arg4.view.loc (c : Thread nD τ) ↦[arg4.view.set]{fullShare} X4)
    ∗ (arg6.view.loc (c : Thread nD τ) ↦[arg6.view.set]{fullShare} X6)
    ∗ (arg2.view.loc (c : Thread nD τ) ↦[arg2.view.set]{fullShare} f2) ∗ (arg3.view.loc (c : Thread nD τ) ↦[arg3.view.set]{fullShare} f3))

/-- One trip of the second loop: the pieces it writes. -/
@[irreducible] def tripQ (k : Fin k1_t2_loop.trips) :
    Σ' (L2 : List (View.Piece (Elt F) S2x8192 .f32)) (L3 : List (View.Piece (Elt F) S2x8192 .i32)),
      ∀ (E : Set ℕ) (f2 : BufTy.Contents (Elt F) arg2.view.ty) (f3 : BufTy.Contents (Elt F) arg3.view.ty),
        TripQ (F := F) c arg0 arg2 arg3 arg4 arg6 X0 X4 X6 f2 f3
        ⊢ wp frame (wpE (defs₀ (F := F)) 𝒱 (c : Thread nD τ) bd) E
            (k1_t2_body (F := F) arg0 harg0 arg1 harg1 arg2 harg2 arg3 harg3 arg4 harg4 arg5 harg5 arg6 harg6 arg7 harg7 k ())
            (fun _ => TripQ (F := F) c arg0 arg2 arg3 arg4 arg6 X0 X4 X6 (arg2.view.writes (Elt F) f2 L2) (arg3.view.writes (Elt F) f3 L3)) := by
  refine ⟨?_, ?_, fun E f2 f3 => ?run⟩
  case run =>
    unfold k1_t2_body
    iintro ⟨H0, H4, H6, H2, H3⟩
    sl_exec_parts
    sl_step
    sl_close

/-- The positive sums' pieces before trip `k`. -/
abbrev pb2 (k : ℕ) : List (View.Piece (Elt F) S2x8192 .f32) :=
  storesOf (fun t => (tripQ (F := F) 𝒱 c bd arg0 harg0 arg1 harg1 arg2 harg2 arg3 harg3 arg4 harg4 arg5 harg5 arg6 harg6 arg7 harg7 X0 X4 X6 t).1) k
/-- The positive counts' pieces before trip `k`. -/
abbrev pb3 (k : ℕ) : List (View.Piece (Elt F) S2x8192 .i32) :=
  storesOf (fun t => (tripQ (F := F) 𝒱 c bd arg0 harg0 arg1 harg1 arg2 harg2 arg3 harg3 arg4 harg4 arg5 harg5 arg6 harg6 arg7 harg7 X0 X4 X6 t).2.1) k

/-- Before trip `k` the two results hold the pieces of the trips before. -/
abbrev invQ (G2 : BufTy.Contents (Elt F) arg2.view.ty) (G3 : BufTy.Contents (Elt F) arg3.view.ty) (k : ℕ) (_acc : Unit) : sProp 𝕄G :=
  iprop((arg0.view.loc (c : Thread nD τ) ↦[arg0.view.set]{fullShare} X0) ∗ (arg4.view.loc (c : Thread nD τ) ↦[arg4.view.set]{fullShare} X4)
    ∗ (arg6.view.loc (c : Thread nD τ) ↦[arg6.view.set]{fullShare} X6)
    ∗ (∃ f, (arg2.view.loc (c : Thread nD τ) ↦[arg2.view.set]{fullShare} f) ∗ ⌜f = arg2.view.writes (Elt F) G2 (pb2 (F := F) 𝒱 c bd arg0 harg0 arg1 harg1 arg2 harg2 arg3 harg3 arg4 harg4 arg5 harg5 arg6 harg6 arg7 harg7 X0 X4 X6 k)⌝)
    ∗ (∃ f, (arg3.view.loc (c : Thread nD τ) ↦[arg3.view.set]{fullShare} f) ∗ ⌜f = arg3.view.writes (Elt F) G3 (pb3 (F := F) 𝒱 c bd arg0 harg0 arg1 harg1 arg2 harg2 arg3 harg3 arg4 harg4 arg5 harg5 arg6 harg6 arg7 harg7 X0 X4 X6 k)⌝))

set_option warn.classDefReducibility false in
/-- The second loop by its invariant. -/
@[sl_loop] def loopInvQ (E : Set ℕ) (G2 : BufTy.Contents (Elt F) arg2.view.ty) (G3 : BufTy.Contents (Elt F) arg3.view.ty) :
    LoopInvTy_k1_t2 (F := F) Unit ℕ UU ℕ 𝒱 c bd E arg0 harg0 arg1 harg1 arg2 harg2 arg3 harg3 arg4 harg4 arg5 harg5 arg6 harg6 arg7 harg7 where
  inv := invQ (F := F) 𝒱 c bd arg0 harg0 arg1 harg1 arg2 harg2 arg3 harg3 arg4 harg4 arg5 harg5 arg6 harg6 arg7 harg7 X0 X4 X6 G2 G3
  step k acc := by
    iintro ⟨H0, H4, H6, ⟨%f2, H2, %h2⟩, ⟨%f3, H3, %h3⟩⟩
    iapply (wp_wand_r Idealize.ShloMosaic.frame (wpE (defs₀ (F := F)) 𝒱 (c : Thread nD τ) bd) E)
    isplitl [H0 H4 H6 H2 H3]
    · iapply ((tripQ (F := F) 𝒱 c bd arg0 harg0 arg1 harg1 arg2 harg2 arg3 harg3 arg4 harg4 arg5 harg5 arg6 harg6 arg7 harg7 X0 X4 X6 k).2.2 E f2 f3)
      isplitl [H0]; · iexact H0
      isplitl [H4]; · iexact H4
      isplitl [H6]; · iexact H6
      isplitl [H2]; · iexact H2
      iexact H3
    · iintro %yld ⟨H0, H4, H6, H2, H3⟩
      isplitl [H0]; · iexact H0
      isplitl [H4]; · iexact H4
      isplitl [H6]; · iexact H6
      isplitl [H2]
      · iexists _; isplitl [H2]; · iexact H2
        ipureintro; unfold pb2; rw [storesOf_succ, h2, ← View.writes_append]
      iexists _; isplitl [H3]; · iexact H3
      ipureintro; unfold pb3; rw [storesOf_succ, h3, ← View.writes_append]

end Cert.Proof.Kernel
-- ==== Proof.Kernel.PosRun.lean ====
/-
  The positives kernel (`cc1_positives`) run once at symbolic operands: from the staged labels and embeddings it leaves the positive
  sums and the positive counts, here still stated over what the results and the transposed embeddings held before.
-/
module

public import proofs.«01_k».proof.Proof.Kernel.PosLoop
public import proofs.«01_k».proof.Proof.Kernel.SumsRun
public import proofs.«01_k».proof.Proof.Gen.Kernel.Launch
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the runs. -/
local notation "𝕄G" => MT nD τ sig Unit (Elt F) ℕ UU ℕ

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := F) c M0) (f1 : Bf (F := F) c M1)

/-- What the kernel leaves in the two results, with the run that leaves it there. -/
@[irreducible] def posRun :
    Σ' (W2 : Bf (F := F) c M4 → Bf (F := F) c M2 → Bf (F := F) c M2) (W3 : Bf (F := F) c M4 → Bf (F := F) c M3 → Bf (F := F) c M3),
      ∀ (f2 : Bf (F := F) c M2) (f3 : Bf (F := F) c M3) (f4 : Bf (F := F) c M4) (f5 : Bf (F := F) c M5) (f6 : Bf (F := F) c M6)
        (f7 : Bf (F := F) c M7) (E : Set ℕ) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7
            ∗ (iprop(pt c M0 f0 ∗ pt c M1 f1 ∗ pt c M2 (W2 f4 f2) ∗ pt c M3 (W3 f4 f3) ∗ (∃ f, pt c M4 f) ∗ (∃ f, pt c M5 f)
                ∗ (∃ f, pt c M6 f) ∗ (∃ f, pt c M7 f)) -∗ Q ⟨⟩))
          ⊢ wp frame (wpE (defs₀ (F := F)) Variants.none (c : Thread nD τ) none) E (cc1_positives (F := F) M0 h0 M1 h1 M2 h2 M3 h3 M4 h4 M5 h5 M6 h6 M7 h7) Q := by
  refine ⟨?_, ?_, fun f2 f3 f4 f5 f6 f7 E Q => ?run⟩
  case run =>
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    sl_close

end Cert.Proof.Kernel
-- ==== Proof.Kernel.PosCover.lean ====
/-
  The positives kernel's stores cover what it leaves: its two results are the same whatever they and the transposed embeddings held
  before.
-/
module

public import proofs.«01_k».proof.Proof.Kernel.PosRun
public import proofs.«01_k».proof.Proof.Kernel.SumsRun
public import proofs.«01_k».proof.Proof.Gen.Kernel.Launch
public import Idealize.ShloMosaic.Lib.Tactic
public import Idealize.ShloMosaic.Lib.VecWindow
public import Idealize.ShloMosaic.Lib.Pointwise

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions of the runs. -/
local notation "𝕄G" => MT nD τ sig Unit (Elt F) ℕ UU ℕ

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := F) c M0) (f1 : Bf (F := F) c M1)

variable (𝒱 : Variants) (bd : Option 𝒱.V)

theorem trips_p1 : k1_t1_loop.trips = 16 := by decide
theorem trips_p2 : k1_t2_loop.trips = 16 := by decide

/-- The rows that a trip of the first loop transposes: of the first view, of the second. -/
abbrev viewA (t : Fin k1_t1_loop.trips) : Vec F S512x128 .bf16 :=
  View.readAt (Elt F) M1.view (Rect.unit (s := S16384x128) (k1_off1 t 0#32) S512x128.size (k1_off1_inb t 0)).toLoadRect f1
@[inherit_doc viewA]
abbrev viewB (t : Fin k1_t1_loop.trips) : Vec F S512x128 .bf16 :=
  View.readAt (Elt F) M1.view (Rect.unit (s := S16384x128) (k1_off1 t 8192#32) S512x128.size (k1_off1_inb t 1)).toLoadRect f1
/-- The labels that a trip of the first loop reads. -/
abbrev labsA (t : Fin k1_t1_loop.trips) : Vec F S1x512 .i32 :=
  View.readAt (Elt F) M0.view (Rect.unit (s := S1x8192) (k1_off4 t) S1x512.size (k1_off4_inb t)).toLoadRect f0

/-- The stores of a trip of the first loop into the transposed embeddings. -/
theorem tripP_pieces (t : Fin k1_t1_loop.trips) :
    (tripP (F := F) 𝒱 c bd M0 h0 M1 h1 M2 h2 M3 h3 M4 h4 M5 h5 M6 h6 M7 h7 f0 f1 t).1
      = [⟨Rect.unit (s := S256x8192) (k1_off3 t) S128x512.size (k1_off3_inb t), k1_pay5 (viewB c M1 f1 t)⟩,
         ⟨Rect.unit (s := S256x8192) (k1_off2 t) S128x512.size (k1_off2_inb t), k1_pay4 (viewA c M1 f1 t)⟩] := by
  unfold tripP
  dsimp only
  sl_unfold_run_names
  rfl

variable (X4 : Bf (F := F) c M4) (X6 : Bf (F := F) c M6)

/-- The labels that a trip of the second loop reads. -/
abbrev labsQ (t : Fin k1_t2_loop.trips) : Vec F S1x512 .i32 :=
  View.readAt (Elt F) M0.view (Rect.unit (s := S1x8192) (k1_off6 t) S1x512.size (k1_off6_inb t)).toLoadRect f0
/-- The transposed embeddings that a trip of the second loop reads: of the first view, of the second. -/
abbrev slabA (t : Fin k1_t2_loop.trips) : Vec F S128x512 .bf16 :=
  View.readAt (Elt F) M4.view (Rect.unit (s := S256x8192) (k1_off7 t) S128x512.size (k1_off7_inb t)).toLoadRect X4
@[inherit_doc slabA]
abbrev slabB (t : Fin k1_t2_loop.trips) : Vec F S128x512 .bf16 :=
  View.readAt (Elt F) M4.view (Rect.unit (s := S256x8192) (k1_off9 t) S128x512.size (k1_off9_inb t)).toLoadRect X4
/-- The classes' sums and counts as a trip of the second loop reads them. -/
abbrev table : Vec F S512x1024 .bf16 :=
  View.readAt (Elt F) M6.view (Rect.unit (s := S512x1024) ![0, 0] S512x1024.size inb_S512x1024_S512x1024_0_0).toLoadRect X6

/-- The positive sums a trip of the second loop stores: of the first view, of the second. -/
def sumsA (t : Fin k1_t2_loop.trips) : Vec F S1x512 .f32 :=
  k1_pay2 (k1_pay15 (labsQ c M0 f0 t) (table c M6 X6)) (k1_pay16 (labsQ c M0 f0 t) (table c M6 X6) (slabA c M4 X4 t)) (Scalar.ofBits .f32 0x00000000#32)
@[inherit_doc sumsA]
def sumsB (t : Fin k1_t2_loop.trips) : Vec F S1x512 .f32 :=
  k1_pay3 (k1_pay12 (labsQ c M0 f0 t) (table c M6 X6)) (k1_pay13 (labsQ c M0 f0 t) (table c M6 X6)) (slabB c M4 X4 t)
/-- The positive counts it stores, the same for both views. -/
def cntsQ (t : Fin k1_t2_loop.trips) : Vec F S1x512 .i32 := k1_pay14 (labsQ c M0 f0 t) (table c M6 X6)

/-- The stores of a trip of the second loop into the positive sums; -/
theorem tripQ_pieces2 (t : Fin k1_t2_loop.trips) :
    (tripQ (F := F) 𝒱 c bd M0 h0 M1 h1 M2 h2 M3 h3 M4 h4 M5 h5 M6 h6 M7 h7 f0 X4 X6 t).1
      = [⟨Rect.unit (s := S2x8192) (k1_off10 t) S1x512.size (k1_off10_inb t), sumsB c M0 M4 M6 f0 X4 X6 t⟩,
         ⟨Rect.unit (s := S2x8192) (k1_off8 t) S1x512.size (k1_off8_inb t), sumsA c M0 M4 M6 f0 X4 X6 t⟩] := by
  unfold tripQ
  dsimp only
  sl_unfold_run_names
  rfl

/-- into the positive counts. -/
theorem tripQ_pieces3 (t : Fin k1_t2_loop.trips) :
    (tripQ (F := F) 𝒱 c bd M0 h0 M1 h1 M2 h2 M3 h3 M4 h4 M5 h5 M6 h6 M7 h7 f0 X4 X6 t).2.1
      = [⟨Rect.unit (s := S2x8192) (k1_off10 t) S1x512.size (k1_off10_inb t), cntsQ c M0 M6 f0 X6 t⟩,
         ⟨Rect.unit (s := S2x8192) (k1_off8 t) S1x512.size (k1_off8_inb t), cntsQ c M0 M6 f0 X6 t⟩] := by
  unfold tripQ
  dsimp only
  sl_unfold_run_names
  rfl

/-- Block `n` of 512 columns, of the 16. -/
def blk1 (n : Fin 8192) : Fin k1_t1_loop.trips := ⟨n.val / 512, by have := n.isLt; rw [trips_p1]; omega⟩
@[inherit_doc blk1]
def blk2 (n : Fin 8192) : Fin k1_t2_loop.trips := ⟨n.val / 512, by have := n.isLt; rw [trips_p2]; omega⟩
/-- The place of column `n` in its block. -/
def colIn (n : Fin 8192) : Fin 512 := ⟨n.val % 512, by omega⟩

/-- The transposed embeddings, the first loop over. -/
def xtG (y : S256x8192.Idx) : F .bf16 :=
  if h : (y 0).val < 128 then k1_pay4 (viewA c M1 f1 (blk1 (y 1))) (ix2 ⟨(y 0).val, h⟩ (colIn (y 1)))
  else k1_pay5 (viewB c M1 f1 (blk1 (y 1))) (ix2 ⟨(y 0).val - 128, by have : (y 0).val < 256 := (y 0).isLt; omega⟩ (colIn (y 1)))

theorem xtG_A (t : Fin k1_t1_loop.trips) (y : S256x8192.Idx) (z : S128x512.Idx) (e0 : (y 0).val = (z 0).val) (e1 : (y 1).val = 512 * t.val + (z 1).val) :
    xtG c M1 f1 y = k1_pay4 (viewA c M1 f1 t) z := by
  have z0 : (z 0).val < 128 := (z 0).isLt
  have z1 : (z 1).val < 512 := (z 1).isLt
  have hb : blk1 (y 1) = t := Fin.ext (by show (y 1).val / 512 = t.val; omega)
  have hz : ix2 (⟨(y 0).val, by omega⟩ : Fin 128) (colIn (y 1)) = z := funext fun i => match i with
    | 0 => Fin.ext e0
    | 1 => Fin.ext (by show (y 1).val % 512 = (z 1).val; omega)
  unfold xtG
  rw [dif_pos (by omega), hb, hz]

theorem xtG_B (t : Fin k1_t1_loop.trips) (y : S256x8192.Idx) (z : S128x512.Idx) (e0 : (y 0).val = 128 + (z 0).val) (e1 : (y 1).val = 512 * t.val + (z 1).val) :
    xtG c M1 f1 y = k1_pay5 (viewB c M1 f1 t) z := by
  have z0 : (z 0).val < 128 := (z 0).isLt
  have z1 : (z 1).val < 512 := (z 1).isLt
  have hb : blk1 (y 1) = t := Fin.ext (by show (y 1).val / 512 = t.val; omega)
  have hz : ix2 (⟨(y 0).val - 128, by omega⟩ : Fin 128) (colIn (y 1)) = z := funext fun i => match i with
    | 0 => Fin.ext (by show (y 0).val - 128 = (z 0).val; omega)
    | 1 => Fin.ext (by show (y 1).val % 512 = (z 1).val; omega)
  unfold xtG
  rw [dif_neg (by omega), hb, hz]

/-- The first loop leaves the transposed embeddings. -/
theorem read_xt (f4 : Bf (F := F) c M4) (y : S256x8192.Idx) :
    M4.view.read (Elt F) (M4.view.writes (Elt F) f4 (pb4 (F := F) 𝒱 c bd M0 h0 M1 h1 M2 h2 M3 h3 M4 h4 M5 h5 M6 h6 M7 h7 f0 f1 k1_t1_loop.trips)) y = xtG c M1 f1 y := by
  have y0 : (y 0).val < 256 := (y 0).isLt
  have y1 : (y 1).val < 8192 := (y 1).isLt
  refine View.read_writes_apply_of_pieces M4.view f4 (xtG c M1 f1) _ ?_ y ?_
  · intro p hp z
    obtain ⟨t, -, hp⟩ := (mem_storesOf _ p _ (Nat.le_refl _)).mp hp
    rw [tripP_pieces] at hp
    rcases List.mem_cons.mp hp with rfl | hp
    · have o := k1_off3_eq t
      refine (xtG_B c M1 f1 t _ z ?_ ?_).symm
      · show k1_off3 t 0 + 1 * (z 0).val = _
        rw [show k1_off3 t 0 = 128 from congrFun o 0, one_mul]
      · show k1_off3 t 1 + 1 * (z 1).val = _
        rw [show k1_off3 t 1 = 512 * t.val from congrFun o 1, one_mul]
    · obtain rfl := List.mem_singleton.mp hp
      have o := k1_off2_eq t
      refine (xtG_A c M1 f1 t _ z ?_ ?_).symm
      · show k1_off2 t 0 + 1 * (z 0).val = _
        rw [show k1_off2 t 0 = 0 from congrFun o 0, one_mul, zero_add]
      · show k1_off2 t 1 + 1 * (z 1).val = _
        rw [show k1_off2 t 1 = 512 * t.val from congrFun o 1, one_mul]
  · have hb : (blk1 (y 1)).val = (y 1).val / 512 := rfl
    by_cases hy : (y 0).val < 128
    · refine ⟨_, (mem_storesOf _ _ _ (Nat.le_refl _)).mpr ⟨blk1 (y 1), Fin.isLt _, by rw [tripP_pieces]; exact List.mem_cons_of_mem _ (List.mem_singleton_self _)⟩, ?_⟩
      refine (Rect.mem_set_unit (inb := k1_off2_inb _)).mpr fun i => ?_
      rw [k1_off2_eq]
      match i with
      | 0 => exact ⟨Nat.zero_le _, by show (y 0).val < 0 + 128; omega⟩
      | 1 => show 512 * (blk1 (y 1)).val ≤ (y 1).val ∧ (y 1).val < 512 * (blk1 (y 1)).val + 512; omega
    · refine ⟨_, (mem_storesOf _ _ _ (Nat.le_refl _)).mpr ⟨blk1 (y 1), Fin.isLt _, by rw [tripP_pieces]; exact List.mem_cons_self⟩, ?_⟩
      refine (Rect.mem_set_unit (inb := k1_off3_inb _)).mpr fun i => ?_
      rw [k1_off3_eq]
      match i with
      | 0 => show 128 ≤ (y 0).val ∧ (y 0).val < 128 + 128; omega
      | 1 => show 512 * (blk1 (y 1)).val ≤ (y 1).val ∧ (y 1).val < 512 * (blk1 (y 1)).val + 512; omega

/-- What a trip of the second loop reads of the transposed embeddings, the first loop over: the rows that the first loop's trip of the
    same number transposed. -/
theorem slabA_eq (f4 : Bf (F := F) c M4) (t : Fin k1_t2_loop.trips) :
    slabA c M4 (M4.view.writes (Elt F) f4 (pb4 (F := F) 𝒱 c bd M0 h0 M1 h1 M2 h2 M3 h3 M4 h4 M5 h5 M6 h6 M7 h7 f0 f1 k1_t1_loop.trips)) t
      = k1_pay4 (viewA c M1 f1 ⟨t.val, t.isLt⟩) := by
  funext z
  refine (read_xt c M0 h0 M1 h1 M2 h2 M3 h3 M4 h4 M5 h5 M6 h6 M7 h7 f0 f1 𝒱 bd f4 _).trans (xtG_A c M1 f1 _ _ z ?_ ?_)
  · show k1_off7 t 0 + 1 * (z 0).val = _
    rw [show k1_off7 t 0 = 0 from congrFun (k1_off7_eq t) 0, one_mul, zero_add]
  · show k1_off7 t 1 + 1 * (z 1).val = _
    rw [show k1_off7 t 1 = 512 * t.val from congrFun (k1_off7_eq t) 1, one_mul]
theorem slabB_eq (f4 : Bf (F := F) c M4) (t : Fin k1_t2_loop.trips) :
    slabB c M4 (M4.view.writes (Elt F) f4 (pb4 (F := F) 𝒱 c bd M0 h0 M1 h1 M2 h2 M3 h3 M4 h4 M5 h5 M6 h6 M7 h7 f0 f1 k1_t1_loop.trips)) t
      = k1_pay5 (viewB c M1 f1 ⟨t.val, t.isLt⟩) := by
  funext z
  refine (read_xt c M0 h0 M1 h1 M2 h2 M3 h3 M4 h4 M5 h5 M6 h6 M7 h7 f0 f1 𝒱 bd f4 _).trans (xtG_B c M1 f1 _ _ z ?_ ?_)
  · show k1_off9 t 0 + 1 * (z 0).val = _
    rw [show k1_off9 t 0 = 128 from congrFun (k1_off9_eq t) 0, one_mul]
  · show k1_off9 t 1 + 1 * (z 1).val = _
    rw [show k1_off9 t 1 = 512 * t.val from congrFun (k1_off9_eq t) 1, one_mul]

/-- Two stores per block of columns, one per row, of a trip of the second loop: what they leave. -/
theorem read_rows {e : EltTy} (v : View sig .tc .vmem S2x8192 e) (f : v.ty.Contents (Elt F)) (A B : Fin k1_t2_loop.trips → S1x512.Idx → Elt F e) (y : S2x8192.Idx) :
    v.read (Elt F) (v.writes (Elt F) f (storesOf (fun t : Fin k1_t2_loop.trips =>
        [(⟨Rect.unit (s := S2x8192) (k1_off10 t) S1x512.size (k1_off10_inb t), B t⟩ : View.Piece (Elt F) S2x8192 e),
         ⟨Rect.unit (s := S2x8192) (k1_off8 t) S1x512.size (k1_off8_inb t), A t⟩]) k1_t2_loop.trips)) y
      = if (y 0).val = 0 then A (blk2 (y 1)) (ix2 0 (colIn (y 1))) else B (blk2 (y 1)) (ix2 0 (colIn (y 1))) := by
  have y0 : (y 0).val < 2 := (y 0).isLt
  have y1 : (y 1).val < 8192 := (y 1).isLt
  have key : ∀ (t : Fin k1_t2_loop.trips) (z : S1x512.Idx) (n : Fin 8192), n.val = 512 * t.val + (z 1).val → blk2 n = t ∧ ix2 (0 : Fin 1) (colIn n) = z := by
    intro t z n hn
    have z0 : (z 0).val < 1 := (z 0).isLt
    have z1 : (z 1).val < 512 := (z 1).isLt
    exact ⟨Fin.ext (by show n.val / 512 = t.val; omega), funext fun i => match i with
      | 0 => Fin.ext (by show 0 = (z 0).val; omega)
      | 1 => Fin.ext (by show n.val % 512 = (z 1).val; omega)⟩
  refine View.read_writes_apply_of_pieces v f
    (fun y => if (y 0).val = 0 then A (blk2 (y 1)) (ix2 0 (colIn (y 1))) else B (blk2 (y 1)) (ix2 0 (colIn (y 1)))) _ ?_ y ?_
  · intro p hp z
    obtain ⟨t, -, hp⟩ := (mem_storesOf _ p _ (Nat.le_refl _)).mp hp
    rcases List.mem_cons.mp hp with rfl | hp
    · have z0 : (z 0).val < 1 := (z 0).isLt
      have e0 : (((Rect.unit (s := S2x8192) (k1_off10 t) S1x512.size (k1_off10_inb t)).emb z) 0).val = 1 := by
        show k1_off10 t 0 + 1 * (z 0).val = _
        rw [show k1_off10 t 0 = 1 from congrFun (k1_off10_eq t) 0]; omega
      have e1 : (((Rect.unit (s := S2x8192) (k1_off10 t) S1x512.size (k1_off10_inb t)).emb z) 1).val = 512 * t.val + (z 1).val := by
        show k1_off10 t 1 + 1 * (z 1).val = _
        rw [show k1_off10 t 1 = 512 * t.val from congrFun (k1_off10_eq t) 1, one_mul]
      obtain ⟨k1, k2⟩ := key t z _ e1
      have e0n : ¬ (((Rect.unit (s := S2x8192) (k1_off10 t) S1x512.size (k1_off10_inb t)).emb z) 0).val = 0 := by rw [e0]; exact one_ne_zero
      refine Eq.trans ?_ (if_neg e0n).symm
      show B t z = _
      rw [k1, k2]
    · obtain rfl := List.mem_singleton.mp hp
      have z0 : (z 0).val < 1 := (z 0).isLt
      have e0 : (((Rect.unit (s := S2x8192) (k1_off8 t) S1x512.size (k1_off8_inb t)).emb z) 0).val = 0 := by
        show k1_off8 t 0 + 1 * (z 0).val = _
        rw [show k1_off8 t 0 = 0 from congrFun (k1_off8_eq t) 0]; omega
      have e1 : (((Rect.unit (s := S2x8192) (k1_off8 t) S1x512.size (k1_off8_inb t)).emb z) 1).val = 512 * t.val + (z 1).val := by
        show k1_off8 t 1 + 1 * (z 1).val = _
        rw [show k1_off8 t 1 = 512 * t.val from congrFun (k1_off8_eq t) 1, one_mul]
      obtain ⟨k1, k2⟩ := key t z _ e1
      refine Eq.trans ?_ (if_pos e0).symm
      show A t z = _
      rw [k1, k2]
  · have hb : (blk2 (y 1)).val = (y 1).val / 512 := rfl
    by_cases hy : (y 0).val = 0
    · refine ⟨_, (mem_storesOf _ _ _ (Nat.le_refl _)).mpr ⟨blk2 (y 1), Fin.isLt _, List.mem_cons_of_mem _ (List.mem_singleton_self _)⟩, ?_⟩
      refine (Rect.mem_set_unit (inb := k1_off8_inb _)).mpr fun i => ?_
      rw [k1_off8_eq]
      match i with
      | 0 => exact ⟨Nat.zero_le _, by show (y 0).val < 0 + 1; omega⟩
      | 1 => show 512 * (blk2 (y 1)).val ≤ (y 1).val ∧ (y 1).val < 512 * (blk2 (y 1)).val + 512; omega
    · refine ⟨_, (mem_storesOf _ _ _ (Nat.le_refl _)).mpr ⟨blk2 (y 1), Fin.isLt _, List.mem_cons_self⟩, ?_⟩
      refine (Rect.mem_set_unit (inb := k1_off10_inb _)).mpr fun i => ?_
      rw [k1_off10_eq]
      match i with
      | 0 => show 1 ≤ (y 0).val ∧ (y 0).val < 1 + 1; omega
      | 1 => show 512 * (blk2 (y 1)).val ≤ (y 1).val ∧ (y 1).val < 512 * (blk2 (y 1)).val + 512; omega

/-- The classes' sums and counts, once the first loop is over. -/
def tableP : Vec F S512x1024 .bf16 :=
  table c M6 (M6.view.writes (Elt F) M6.view.junk (posRun.sl.H6_4 (F := F) c M0 h0 M1 h1 M2 h2 M3 h3 M4 h4 M5 h5 M6 h6 M7 h7 f0 f1))

/-- The positive sums of a block of 512 positions: of the first view, of the second. -/
def posA (t : Fin k1_t2_loop.trips) : Vec F S1x512 .f32 :=
  k1_pay2 (k1_pay15 (labsQ c M0 f0 t) (tableP c M0 h0 M1 h1 M2 h2 M3 h3 M4 h4 M5 h5 M6 h6 M7 h7 f0 f1)) (k1_pay16 (labsQ c M0 f0 t) (tableP c M0 h0 M1 h1 M2 h2 M3 h3 M4 h4 M5 h5 M6 h6 M7 h7 f0 f1) (k1_pay4 (viewA c M1 f1 ⟨t.val, t.isLt⟩)))
    (Scalar.ofBits .f32 0x00000000#32)
@[inherit_doc posA]
def posB (t : Fin k1_t2_loop.trips) : Vec F S1x512 .f32 :=
  k1_pay3 (k1_pay12 (labsQ c M0 f0 t) (tableP c M0 h0 M1 h1 M2 h2 M3 h3 M4 h4 M5 h5 M6 h6 M7 h7 f0 f1)) (k1_pay13 (labsQ c M0 f0 t) (tableP c M0 h0 M1 h1 M2 h2 M3 h3 M4 h4 M5 h5 M6 h6 M7 h7 f0 f1)) (k1_pay5 (viewB c M1 f1 ⟨t.val, t.isLt⟩))
/-- The positive counts of a block of 512 positions. -/
def cntP (t : Fin k1_t2_loop.trips) : Vec F S1x512 .i32 := k1_pay14 (labsQ c M0 f0 t) (tableP c M0 h0 M1 h1 M2 h2 M3 h3 M4 h4 M5 h5 M6 h6 M7 h7 f0 f1)

/-- The positive sums the kernel leaves. -/
theorem read_pos (f4 : Bf (F := F) c M4) (f2 : Bf (F := F) c M2) (y : S2x8192.Idx) :
    M2.view.read (Elt F) ((posRun (F := F) c M0 h0 M1 h1 M2 h2 M3 h3 M4 h4 M5 h5 M6 h6 M7 h7 f0 f1).1 f4 f2) y
      = if (y 0).val = 0 then posA c M0 h0 M1 h1 M2 h2 M3 h3 M4 h4 M5 h5 M6 h6 M7 h7 f0 f1 (blk2 (y 1)) (ix2 0 (colIn (y 1))) else posB c M0 h0 M1 h1 M2 h2 M3 h3 M4 h4 M5 h5 M6 h6 M7 h7 f0 f1 (blk2 (y 1)) (ix2 0 (colIn (y 1))) := by
  unfold posRun
  dsimp only
  refine Eq.trans ?_ (read_rows (F := F) M2.view f2 (posA c M0 h0 M1 h1 M2 h2 M3 h3 M4 h4 M5 h5 M6 h6 M7 h7 f0 f1) (posB c M0 h0 M1 h1 M2 h2 M3 h3 M4 h4 M5 h5 M6 h6 M7 h7 f0 f1) y)
  refine congrArg (fun L => M2.view.read (Elt F) (M2.view.writes (Elt F) f2 L) y) ?_
  refine congrArg (fun L => storesOf L k1_t2_loop.trips) (funext fun t => ?_)
  refine (tripQ_pieces2 c M0 h0 M1 h1 M2 h2 M3 h3 M4 h4 M5 h5 M6 h6 M7 h7 f0 _ _ _ _ t).trans ?_
  unfold sumsA sumsB posA posB tableP
  rw [show Scf.trips (0#32) (Scalar.addi 0#32 16#32) 1#32 = k1_t1_loop.trips from rfl, slabA_eq, slabB_eq]

/-- The positive counts the kernel leaves. -/
theorem read_cnt (f4 : Bf (F := F) c M4) (f3 : Bf (F := F) c M3) (y : S2x8192.Idx) :
    M3.view.read (Elt F) ((posRun (F := F) c M0 h0 M1 h1 M2 h2 M3 h3 M4 h4 M5 h5 M6 h6 M7 h7 f0 f1).2.1 f4 f3) y = cntP c M0 h0 M1 h1 M2 h2 M3 h3 M4 h4 M5 h5 M6 h6 M7 h7 f0 f1 (blk2 (y 1)) (ix2 0 (colIn (y 1))) := by
  unfold posRun
  dsimp only
  refine Eq.trans ?_ ((read_rows (F := F) M3.view f3 (cntP c M0 h0 M1 h1 M2 h2 M3 h3 M4 h4 M5 h5 M6 h6 M7 h7 f0 f1) (cntP c M0 h0 M1 h1 M2 h2 M3 h3 M4 h4 M5 h5 M6 h6 M7 h7 f0 f1) y).trans (ite_self _))
  refine congrArg (fun L => M3.view.read (Elt F) (M3.view.writes (Elt F) f3 L) y) ?_
  refine congrArg (fun L => storesOf L k1_t2_loop.trips) (funext fun t => ?_)
  exact tripQ_pieces3 c M0 h0 M1 h1 M2 h2 M3 h3 M4 h4 M5 h5 M6 h6 M7 h7 f0 _ _ _ _ t

end Cert.Proof.Kernel
-- ==== Proof.Kernel.PosRegion.lean ====
/-
  The positives call as a region of the whole program: entered from every unscoped buffer, left with the two results' arrays replaced.
-/
module

public import proofs.«01_k».proof.Proof.Kernel.PosCover
public import proofs.«01_k».proof.Proof.Kernel.SumsRegion
public import Idealize.ShloMosaic.Lib.Pipeline.RegionsLoop
public import proofs.«01_k».proof.Proof.Gen.Kernel.Regions
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The propositions of the runs. -/
local notation "𝕄G" => MT nD τ sig Unit (Elt F) ℕ UU ℕ

variable (V : Entry (F := F))

/-- The labels and the embeddings as the fetches stage them. -/
abbrev stgP0 (c : Dev nD) : (cfg1.win 0).block.Idx → Elt F (cfg1.win 0).elt :=
  ((cfg1.win 0).blk t1_0).view.read (Elt F) (V c main_v1)
@[inherit_doc stgP0]
abbrev stgP1 (c : Dev nD) : (cfg1.win 1).block.Idx → Elt F (cfg1.win 1).elt :=
  ((cfg1.win 1).blk t1_0).view.read (Elt F) (V c main_arg0)

/-- What the positives kernel leaves in the positive sums and in the positive counts, from the staged labels and embeddings. -/
def posOut (c : Dev nD) : Buf (Elt F) ((c : Thread nD τ).loc cc1_stg2_0) :=
  (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).1 (Memref.whole cc1_scratch0).view.junk (Memref.whole cc1_stg2_0).view.junk
@[inherit_doc posOut]
def cntOut (c : Dev nD) : Buf (Elt F) ((c : Thread nD τ).loc cc1_stg3_0) :=
  (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.1 (Memref.whole cc1_scratch0).view.junk (Memref.whole cc1_stg3_0).view.junk

/-- Whatever was there before, the same is left. -/
theorem posOut_any (c : Dev nD) (f4) (f2) : (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).1 f4 f2 = posOut V c := by
  funext y
  exact (read_pos c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) f4 f2 y).trans
    (read_pos c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) (Memref.whole cc1_scratch0).view.junk (Memref.whole cc1_stg2_0).view.junk y).symm
theorem cntOut_any (c : Dev nD) (f4) (f3) : (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.1 f4 f3 = cntOut V c := by
  funext y
  exact (read_cnt c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) f4 f3 y).trans
    (read_cnt c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) (Memref.whole cc1_scratch0).view.junk (Memref.whole cc1_stg3_0).view.junk y).symm

/-- The run, over the memrefs. -/
theorem posOut_pt (c : Dev nD) (f2 : Buf (Elt F) ((c : Thread nD τ).loc cc1_stg2_0)) (f3 : Buf (Elt F) ((c : Thread nD τ).loc cc1_stg3_0)) (f4 : Buf (Elt F) ((c : Thread nD τ).loc cc1_scratch0)) (f5 : Buf (Elt F) ((c : Thread nD τ).loc cc1_scratch1)) (f6 : Buf (Elt F) ((c : Thread nD τ).loc cc1_scratch2)) (f7 : Buf (Elt F) ((c : Thread nD τ).loc cc1_scratch3))
    (Q : PUnit → sProp 𝕄G) (Wp Wc) (hp : Wp = posOut V c) (hc : Wc = cntOut V c) :
    iprop(pt c (Memref.whole cc1_stg0_0) (stgP0 V c) ∗ pt c (Memref.whole cc1_stg1_0) (stgP1 V c) ∗ pt c (Memref.whole cc1_stg2_0) f2 ∗ pt c (Memref.whole cc1_stg3_0) f3 ∗ pt c (Memref.whole cc1_scratch0) f4 ∗ pt c (Memref.whole cc1_scratch1) f5 ∗ pt c (Memref.whole cc1_scratch2) f6 ∗ pt c (Memref.whole cc1_scratch3) f7
        ∗ (iprop(pt c (Memref.whole cc1_stg0_0) (stgP0 V c) ∗ pt c (Memref.whole cc1_stg1_0) (stgP1 V c) ∗ pt c (Memref.whole cc1_stg2_0) Wp ∗ pt c (Memref.whole cc1_stg3_0) Wc ∗ (∃ f, pt c (Memref.whole cc1_scratch0) f) ∗ (∃ f, pt c (Memref.whole cc1_scratch1) f) ∗ (∃ f, pt c (Memref.whole cc1_scratch2) f) ∗ (∃ f, pt c (Memref.whole cc1_scratch3) f)) -∗ Q ⟨⟩))
      ⊢ wp frame (wpE (defs₀ (F := F)) Variants.none (c : Thread nD τ) none) Set.univ
          (cc1_positives (F := F) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)) Q := by
  have h := (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.2 f2 f3 f4 f5 f6 f7 Set.univ Q
  rw [posOut_any, cntOut_any, ← hp, ← hc] at h
  exact h

/-- The run, over the buffers themselves. -/
theorem posOut_run (c : Dev nD) (f2 : Buf (Elt F) ((c : Thread nD τ).loc cc1_stg2_0)) (f3 : Buf (Elt F) ((c : Thread nD τ).loc cc1_stg3_0)) (f4 : Buf (Elt F) ((c : Thread nD τ).loc cc1_scratch0)) (f5 : Buf (Elt F) ((c : Thread nD τ).loc cc1_scratch1)) (f6 : Buf (Elt F) ((c : Thread nD τ).loc cc1_scratch2)) (f7 : Buf (Elt F) ((c : Thread nD τ).loc cc1_scratch3)) (Q : PUnit → sProp 𝕄G) :
    iprop((((c : Thread nD τ).loc cc1_stg0_0) ↦{fullShare} (stgP0 V c)) ∗ (((c : Thread nD τ).loc cc1_stg1_0) ↦{fullShare} (stgP1 V c)) ∗ (((c : Thread nD τ).loc cc1_stg2_0) ↦{fullShare} f2) ∗ (((c : Thread nD τ).loc cc1_stg3_0) ↦{fullShare} f3) ∗ (((c : Thread nD τ).loc cc1_scratch0) ↦{fullShare} f4) ∗ (((c : Thread nD τ).loc cc1_scratch1) ↦{fullShare} f5) ∗ (((c : Thread nD τ).loc cc1_scratch2) ↦{fullShare} f6) ∗ (((c : Thread nD τ).loc cc1_scratch3) ↦{fullShare} f7)
        ∗ (iprop((((c : Thread nD τ).loc cc1_stg0_0) ↦{fullShare} (stgP0 V c)) ∗ (((c : Thread nD τ).loc cc1_stg1_0) ↦{fullShare} (stgP1 V c)) ∗ (((c : Thread nD τ).loc cc1_stg2_0) ↦{fullShare} (posOut V c)) ∗ (((c : Thread nD τ).loc cc1_stg3_0) ↦{fullShare} (cntOut V c)) ∗ (∃ f, ((c : Thread nD τ).loc cc1_scratch0) ↦{fullShare} f) ∗ (∃ f, ((c : Thread nD τ).loc cc1_scratch1) ↦{fullShare} f) ∗ (∃ f, ((c : Thread nD τ).loc cc1_scratch2) ↦{fullShare} f) ∗ (∃ f, ((c : Thread nD τ).loc cc1_scratch3) ↦{fullShare} f)) -∗ Q ⟨⟩))
      ⊢ wp frame (wpE (defs₀ (F := F)) Variants.none (c : Thread nD τ) none) Set.univ
          (cc1_positives (F := F) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)) Q := by
  have h := posOut_pt V c f2 f3 f4 f5 f6 f7 Q _ _ rfl rfl
  generalize posOut V c = Wp at h ⊢
  generalize cntOut V c = Wc at h ⊢
  rw [pt_whole, pt_whole, pt_whole, pt_whole, pt_whole, pt_whole, pt_whole, pt_whole, pt_whole, pt_whole, pt_whole_ex, pt_whole_ex, pt_whole_ex, pt_whole_ex] at h
  exact h

/-- The invariant between the region's ends: the scoped buffers that the pipeline does not stage, at something. -/
abbrev ΦP (c : Dev nD) : sProp 𝕄G := Pipeline.scopedRest (Ix := Unit) (Name := ℕ) (U := UU) (Lvl := ℕ) (Val := Elt F) spec1 c

/-- The region's proof data, entered at `V`: the arrays at `V`; after the body the inputs as fetched and the two results at the run's. -/
def datP (c : Dev nD) : Dat τ (Elt F) Unit ℕ UU ℕ cfg1 c where
  A w := V c (Pipeline.arrRef spec1 w)
  after w _ := match w with
    | ⟨0, _⟩ => stgP0 V c
    | ⟨1, _⟩ => stgP1 V c
    | ⟨2, _⟩ => posOut V c
    | ⟨3, _⟩ => cntOut V c
  Φ _ := ΦP c
  q _ := fullShare
  owed _ := 0

theorem beforeP_0 (c : Dev nD) (d) : (datP V c).before 0 t1_0 d = stgP0 V c := by unfold Dat.before; rw [if_pos (by decide)]; rfl
theorem beforeP_1 (c : Dev nD) (d) : (datP V c).before 1 t1_0 d = stgP1 V c := by unfold Dat.before; rw [if_pos (by decide)]; rfl

/-- The body obligation: the staging buffers and the scratch taken apart, the run applied, its post put back. -/
theorem body_obligationP (c : Dev nD) : BodyObligation (datP V c) (defs₀ (F := F)) 𝒱₀ () Set.univ := fun t => by
  obtain rfl := fin_N1 t
  rw [bigSep_W1, bigSep_W1]
  simp only [owns_whole_eq]
  rw [show (datP V c).Φ t1_0.castSucc = ΦP c from rfl, show (datP V c).Φ t1_0.succ = ΦP c from rfl,
    show (datP V c).owesAt () t1_0.succ = (datP V c).owesAt () t1_0.castSucc from rfl]
  unfold ΦP
  rw [scopedRest1_eq]
  iintro ⟨⟨Hr1, Hr2, Hr3, ⟨%f4, H4⟩, ⟨%f5, H5⟩, ⟨%f6, H6⟩, ⟨%f7, H7⟩, Hrest⟩, Howes, ⟨%d0, %f0, %hf0, H0⟩, ⟨%d1, %f1, %hf1, H1⟩, ⟨%d2, %f2, -, H2⟩, ⟨%d3, %f3, -, H3⟩⟩
  rw [beforeP_0] at hf0
  rw [beforeP_1] at hf1
  subst hf0 hf1
  iapply (posOut_run V c f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [Hr1 Hr2 Hr3 H4 H5 H6 H7 Hrest]
  · isplitl [Hr1]; · iexact Hr1
    isplitl [Hr2]; · iexact Hr2
    isplitl [Hr3]; · iexact Hr3
    isplitl [H4]; · iexact H4
    isplitl [H5]; · iexact H5
    isplitl [H6]; · iexact H6
    isplitl [H7]; · iexact H7
    iexact Hrest
  isplitl [Howes]; · iexact Howes
  isplitl [H0]; · iexists _; isplitr; swap; (· iexact H0); ipureintro; dsimp only [datP]
  isplitl [H1]; · iexists _; isplitr; swap; (· iexact H1); ipureintro; dsimp only [datP]
  isplitl [H2]; · iexists _; isplitr; swap; (· iexact H2); ipureintro; dsimp only [datP]
  iexists _; isplitr; swap; (· iexact H3); ipureintro; dsimp only [datP]

/-- The two results' arrays after the region. -/
def posArr (c : Dev nD) : Buf (Elt F) ((c : Thread nD τ).loc main_v2_0) := (datP V c).arrAt 2 cfg1.N
@[inherit_doc posArr]
def cntArr (c : Dev nD) : Buf (Elt F) ((c : Thread nD τ).loc main_v2_1) := (datP V c).arrAt 3 cfg1.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the two results' arrays at the run's results and
    agrees with `V` off them. -/
def regP (Vp : Entry (F := F)) (hp : ∀ c, pdats 1 c = datP V c) (hout : ∀ c, Vp c main_v2_0 = posArr V c) (hcnt : ∀ c, Vp c main_v2_1 = cntArr V c)
    (hne : ∀ c (b : Ref sig .tc), b ≠ main_v2_0 → b ≠ main_v2_1 → Vp c b = V c b) :
    Pipeline.RegionSeg (pcfgs (F := F)) adm pdats () defs₀ 𝒱₀ L lv 1 where
  win := (launch1).win.to₀
  block_pos := (launch1).block_pos
  stage_whole := (launch1).stage_whole
  K := PEmpty
  osem k := k.elim
  ho := Pipeline.OwnSemFacts.none _
  hbody c := by rw [hp c]; exact (body_obligationP V c).loose
  hwaits := Pipeline.hwaits_of_owed_zero _ _ _ _ L lv 1 fun c _ => by rw [hp c]; rfl
  pre c := iprop(unscopedBufs c (V c) ∗ Rides c)
  post c := iprop(unscopedBufs c (Vp c) ∗ Rides c)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm pdats (launch1).win (launch1).arr_whole c
      ((pdats 1 c).share_full fun _ => by rw [hp c]; rfl) (V c) fun _ => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (datP V c).Φ 0 = ΦP c from rfl]
    iintro ⟨-, -, Hr⟩; iexact Hr
  hout c := by
    rw [Pipeline.ownSems0_none, hp c]
    change ΦP c ⊢ _
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1).win (launch1).arr_whole c
      pdats ((pdats 1 c).share_full fun _ => by rw [hp c]; rfl) (V c) (Vp c) ((pdats 1 c).arrAt · cfg1.N)
      (fun w => by
        rw [hp c]
        fin_cases w
        · exact ((datP V c).arrAt_in 0 rfl _).trans (hne c main_v1 (by decide) (by decide)).symm
        · exact ((datP V c).arrAt_in 1 rfl _).trans (hne c main_arg0 (by decide) (by decide)).symm
        · exact (hout c).symm
        · exact (hcnt c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.Kernel
-- ==== Proof.Kernel.Frame.lean ====
/-
  The whole program run: the sums call, the positives call and the combine call in turn, from the launch contents to the results. Every
  argument ends as launched, every semaphore counter at zero, and the three results at what the calls' runs leave.
-/
module

public import proofs.«01_k».proof.Proof.Kernel.CombineRegion
public import proofs.«01_k».proof.Proof.Kernel.PosRegion
public import Idealize.ShloMosaic.Lib.Pipeline.RegionsLoop
public import Idealize.ShloMosaic.Lib.Pipeline.Frame
public import Idealize.ShloMosaic.Lib.Pipeline.Regions
public import proofs.«01_k».proof.Proof.Gen.Kernel.Regions
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The propositions of the runs. -/
local notation "𝕄G" => MT nD τ sig Unit (Elt F) ℕ UU ℕ

variable (m : (ℓ : Loc nD τ sig) → Buf (Elt F) ℓ) (ρ : Dev nD → PrngReg)

/-! ## What the buffers hold between the calls -/

/-- What the sums call is entered at: the launch contents. -/
abbrev E0 : Entry (F := F) := fun c b => V0 m c b
/-- A core's buffers after the sums call. -/
def U1 (c : Dev nD) : Valuation τ sig (Elt F) := Function.update (V0 m c) main_v0 (accArr (E0 m) c)
/-- A core's buffers after the labels have been laid out as a row. -/
def U2 (c : Dev nD) : Valuation τ sig (Elt F) := StableHlo.after hostOps1 (U1 m c)
/-- What the sums call leaves. -/
abbrev E1 : Entry (F := F) := fun c b => U1 m c b
/-- What the positives call is entered at. -/
abbrev E2 : Entry (F := F) := fun c b => U2 m c b
/-- A core's buffers after the positives call. -/
def U3 (c : Dev nD) : Valuation τ sig (Elt F) :=
  Function.update (Function.update (U2 m c) main_v2_0 (posArr (E2 m) c)) main_v2_1 (cntArr (E2 m) c)
/-- What the combine call is entered at. -/
abbrev E3 : Entry (F := F) := fun c b => U3 m c b
/-- A core's buffers after the combine call. -/
def U4 (c : Dev nD) : Valuation τ sig (Elt F) :=
  Function.update (Function.update (U3 m c) main_v3_0 (lossArr (E3 m) c)) main_v3_1 (lseArr (E3 m) c)
@[inherit_doc U4]
abbrev E4 : Entry (F := F) := fun c b => U4 m c b

theorem U1_acc (c : Dev nD) : U1 m c main_v0 = accArr (E0 m) c := by unfold U1; exact Function.update_self ..
theorem U1_of (c : Dev nD) (r : Ref sig .tc) (h : r ≠ main_v0) : U1 m c r = m ((c : Thread nD τ).loc r) := by
  unfold U1; exact Function.update_of_ne (StableHlo.devRef_ne_of_ne h) ..
theorem U2_of (c : Dev nD) (r : Ref sig .tc) (h : r ∉ hostOps1_W) : U2 m c r = U1 m c r :=
  StableHlo.after_of_writes_sub hostOps1 _ hostOps1_writes h
theorem U3_cnt (c : Dev nD) : U3 m c main_v2_1 = cntArr (E2 m) c := by unfold U3; exact Function.update_self ..
theorem U3_pos (c : Dev nD) : U3 m c main_v2_0 = posArr (E2 m) c := by
  unfold U3
  rw [Function.update_of_ne (StableHlo.devRef_ne_of_ne (by decide : main_v2_0 ≠ main_v2_1))]
  exact Function.update_self ..
theorem U3_eq (c : Dev nD) (r : Ref sig .tc) (h : r ≠ main_v2_0) (h' : r ≠ main_v2_1) : U3 m c r = U2 m c r := by
  unfold U3
  rw [Function.update_of_ne (StableHlo.devRef_ne_of_ne h'), Function.update_of_ne (StableHlo.devRef_ne_of_ne h)]
theorem U4_lse (c : Dev nD) : U4 m c main_v3_1 = lseArr (E3 m) c := by unfold U4; exact Function.update_self ..
theorem U4_loss (c : Dev nD) : U4 m c main_v3_0 = lossArr (E3 m) c := by
  unfold U4
  rw [Function.update_of_ne (StableHlo.devRef_ne_of_ne (by decide : main_v3_0 ≠ main_v3_1))]
  exact Function.update_self ..
theorem U4_eq (c : Dev nD) (r : Ref sig .tc) (h : r ≠ main_v3_0) (h' : r ≠ main_v3_1) : U4 m c r = U3 m c r := by
  unfold U4
  rw [Function.update_of_ne (StableHlo.devRef_ne_of_ne h'), Function.update_of_ne (StableHlo.devRef_ne_of_ne h)]
theorem U4_cnt (c : Dev nD) : U4 m c main_v2_1 = cntArr (E2 m) c :=
  (U4_eq m c main_v2_1 (by decide) (by decide)).trans (U3_cnt m c)
/-- A buffer that nothing writes before the positives call holds there what it held at launch. -/
theorem U2_arg (c : Dev nD) (r : Ref sig .tc) (h : r ≠ main_v0) (h₁ : r ∉ hostOps1_W) :
    U2 m c r = m ((c : Thread nD τ).loc r) := (U2_of m c r h₁).trans (U1_of m c r h)
/-- A buffer that nothing writes before the combine call holds there what it held at launch. -/
theorem U3_arg (c : Dev nD) (r : Ref sig .tc) (h : r ≠ main_v0) (h₁ : r ∉ hostOps1_W) (h₂ : r ≠ main_v2_0) (h₃ : r ≠ main_v2_1) :
    U3 m c r = m ((c : Thread nD τ).loc r) := (U3_eq m c r h₂ h₃).trans (U2_arg m c r h h₁)
/-- A buffer that nothing writes ends as launched. -/
theorem U4_arg (c : Dev nD) (r : Ref sig .tc) (h : r ≠ main_v0) (h₁ : r ∉ hostOps1_W) (h₂ : r ≠ main_v2_0) (h₃ : r ≠ main_v2_1)
    (h₄ : r ≠ main_v3_0) (h₅ : r ≠ main_v3_1) :
    U4 m c r = m ((c : Thread nD τ).loc r) := (U4_eq m c r h₄ h₅).trans (U3_arg m c r h h₁ h₂ h₃)

/-! ## The items between launch and end -/

/-- The proof data of the three calls. -/
def pdats : (p : Fin 3) → (c : Dev nD) → Dat τ (Elt F) Unit ℕ UU ℕ (cfgs p) c
  | ⟨0, _⟩ => fun c => datS (E0 m) c
  | ⟨1, _⟩ => fun c => datP (E2 m) c
  | ⟨2, _⟩ => fun c => datC (E3 m) c

/-- The sums call's region, entered at the launch contents. -/
def reg0 : RegionSeg (pcfgs (F := F)) adm (pdats m) () defs₀ 𝒱₀ L lv 0 :=
  regS (E0 m) (pdats m) (E1 m) (fun _ => rfl) (U1_acc m) fun c b h => U1_of m c b h
/-- The positives call's region, entered with the labels laid out. -/
def reg1 : RegionSeg (pcfgs (F := F)) adm (pdats m) () defs₀ 𝒱₀ L lv 1 :=
  regP (E2 m) (pdats m) (E3 m) (fun _ => rfl) (U3_pos m) (U3_cnt m) fun c b h h' => U3_eq m c b h h'
/-- The combine call's region, entered at what the positives call left. -/
def reg2 : RegionSeg (pcfgs (F := F)) adm (pdats m) () defs₀ 𝒱₀ L lv 2 :=
  regC (E3 m) (pdats m) (E4 m) (fun _ => rfl) (U4_loss m) (U4_lse m) fun c b h h' => U4_eq m c b h h'
/-- The host stretch between the sums call and the positives call, over the unscoped buffers. -/
def hseg : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) (fun c => Rides c)
/-- The program's items on a core. -/
abbrev items (_c : Dev nD) : List (Seg (pcfgs (F := F)) adm (pdats m) () defs₀ 𝒱₀ L lv) :=
  [.region (reg0 m), .host (hseg m), .region (reg1 m), .region (reg2 m)]

theorem pre0 (c : Dev nD) : iprop(StableHlo.held (c : Thread nD τ) (Pipeline.ucRefs τ sig) (V0 m c) ∗ Rides c) ⊢ (reg0 m).pre c := by
  rw [← Pipeline.unscopedBufs_held (Ix := Unit) (Name := ℕ) (U := UU) (Lvl := ℕ) c (V0 m c)]; exact BI.Entails.refl _
theorem post0 (c : Dev nD) : (reg0 m).post c ⊢ iprop(StableHlo.held (c : Thread nD τ) (Pipeline.ucRefs τ sig) (U1 m c) ∗ Rides c) := by
  rw [← Pipeline.unscopedBufs_held (Ix := Unit) (Name := ℕ) (U := UU) (Lvl := ℕ) c (U1 m c)]; exact BI.Entails.refl _
theorem pre1 (c : Dev nD) : iprop(StableHlo.held (c : Thread nD τ) (Pipeline.ucRefs τ sig) (U2 m c) ∗ Rides c) ⊢ (reg1 m).pre c := by
  rw [← Pipeline.unscopedBufs_held (Ix := Unit) (Name := ℕ) (U := UU) (Lvl := ℕ) c (U2 m c)]; exact BI.Entails.refl _
theorem pre2 (c : Dev nD) : (reg1 m).post c ⊢ (reg2 m).pre c := BI.Entails.refl _
theorem post2 (c : Dev nD) : (reg2 m).post c ⊢ iprop(StableHlo.held (c : Thread nD τ) (Pipeline.ucRefs τ sig) (U4 m c) ∗ Rides c) := by
  rw [← Pipeline.unscopedBufs_held (Ix := Unit) (Name := ℕ) (U := UU) (Lvl := ℕ) c (U4 m c)]; exact BI.Entails.refl _

/-! ## The launch -/

/-- The pipeline library's part of the launch resources. -/
abbrev EP : Emb (UR sig nD τ) (MT nD τ sig Unit (Elt F) ℕ UU ℕ) := embL

/-- The launch element: the pipeline library's at the staging cells and the transfers; no counter yet. -/
def u₀ : UU := (initOf (Pipeline.cells cfgs cellOf_inj) (Pipeline.launchToks cfgs cellOf_inj), 1)

theorem hu₀ : (ownU u₀ : sProp 𝕄G) ⊢ |={Set.univ}=> iprop(BI.own ((EP (F := F)) (initOf (Pipeline.cells cfgs cellOf_inj) (Pipeline.launchToks cfgs cellOf_inj)))
    ∗ bigSep Finset.univ fun _ : Dev nD => (iprop(emp) : sProp 𝕄G)) := by
  unfold u₀
  iintro Hu
  ihave H := (ownU_pair _ _) $$ Hu
  icases H with ⟨HP, -⟩
  imodintro
  isplitl [HP]; · iexact HP
  iapply (show (BI.emp : sProp 𝕄G) ⊢ bigSep Finset.univ (fun _ : Dev nD => (BI.emp : sProp 𝕄G)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred 0 c ∗ prngReg c (ρ c) ∗ iprop(emp))) ∗ levAts L lv)
    ⊢ (|={Set.univ}=> bigSep Finset.univ (fun c : Dev nD => Rides (F := F) c) : sProp 𝕄G) := by
  have h : (bigSep Finset.univ fun c : Dev nD => iprop(unscopedSems0 c ∗ owes (c : Thread nD τ) ((0 : Dev nD → CellTallies nD τ sig Unit) c) ∅
      ∗ Pipeline.launchCred 0 c ∗ prngReg c (ρ c) ∗ iprop(emp))) ⊢ (bigSep Finset.univ (fun c : Dev nD => Rides (F := F) c) : sProp 𝕄G) :=
    bigSep_mono fun c _ => by
      show iprop(unscopedSems0 c ∗ owes (c : Thread nD τ) ((0 : Dev nD → CellTallies nD τ sig Unit) c) ∅
        ∗ Pipeline.launchCred 0 c ∗ prngReg c (ρ c) ∗ iprop(emp)) ⊢ (Rides (F := F) c : sProp 𝕄G)
      iintro ⟨-, HO, -⟩
      iexists ∅
      iexact HO
  iintro ⟨H, -⟩
  imodintro
  iapply h
  iexact H

-- the kit's implicit arguments are found by unifying its conclusion with this one, which takes unfolding plain definitions
set_option backward.isDefEq.respectTransparency.types false in
/-- From any memory with zero counters every weakly fair execution of the program terminates, with the three results at the
    run's values, every argument as launched and every semaphore counter at zero. -/
theorem run_main : θ_run defs (onTc (τ := τ) (main (F := F))) ⟨m, fun _ => 0, ρ⟩ (fun r => (∀ c : Dev nD,
      r.2.mem ((c.tc : Thread nD τ).loc main_v3_0) = lossArr (E3 m) c
      ∧ r.2.mem ((c.tc : Thread nD τ).loc main_v3_1) = lseArr (E3 m) c
      ∧ r.2.mem ((c.tc : Thread nD τ).loc main_v2_1) = cntArr (E2 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [items, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ Rides c))
    (Tₙ := fun c => StableHlo.held (c : Thread nD τ) (Pipeline.ucRefs τ sig) (U4 m c))
    (hch := fun c => ⟨pre0 m c, post0 m c, pre1 m c, pre2 m c, post2 m c⟩)
    (hinit := ?_) (QY := fun c s => s.mem ((c.tc : Thread nD τ).loc main_v3_0) = lossArr (E3 m) c ∧ s.mem ((c.tc : Thread nD τ).loc main_v3_1) = lseArr (E3 m) c ∧ s.mem ((c.tc : Thread nD τ).loc main_v2_1) = cntArr (E2 m) c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp (MT nD τ sig Unit (Elt F) ℕ UU ℕ)) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact ⟨(h (Proc.devRef .tc main_v3_0) (Finset.mem_filter.mpr ⟨StableHlo.devRef_mem_tcRefs main_v3_0, by decide⟩)).trans (U4_loss m c),
        (h (Proc.devRef .tc main_v3_1) (Finset.mem_filter.mpr ⟨StableHlo.devRef_mem_tcRefs main_v3_1, by decide⟩)).trans (U4_lse m c),
        (h (Proc.devRef .tc main_v2_1) (Finset.mem_filter.mpr ⟨StableHlo.devRef_mem_tcRefs main_v2_1, by decide⟩)).trans (U4_cnt m c),
        (h (Proc.devRef .tc main_arg0) (Finset.mem_filter.mpr ⟨StableHlo.devRef_mem_tcRefs main_arg0, by decide⟩)).trans (U4_arg m c main_arg0 (by decide) (by decide) (by decide) (by decide) (by decide) (by decide)),
        (h (Proc.devRef .tc main_arg1) (Finset.mem_filter.mpr ⟨StableHlo.devRef_mem_tcRefs main_arg1, by decide⟩)).trans (U4_arg m c main_arg1 (by decide) (by decide) (by decide) (by decide) (by decide) (by decide)),
        (h (Proc.devRef .tc main_arg2) (Finset.mem_filter.mpr ⟨StableHlo.devRef_mem_tcRefs main_arg2, by decide⟩)).trans (U4_arg m c main_arg2 (by decide) (by decide) (by decide) (by decide) (by decide) (by decide))⟩
    · iexact HSI

end Cert.Proof.Kernel
-- ==== Proof.KernelIdeal.SumsLoop.lean ====
/-
  The loops of the sums kernel (`cc0_sums`): one trip of the outer loop takes row block `i` against the column blocks that the
  symmetric walk gives it, one trip of the inner loop is one such block off the diagonal. A trip's run finds what it writes into the accumulator; the row scratch is overwritten whole at the start of a trip, so
  what a trip writes does not depend on what the scratch held.
-/
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra of the whole program: the pipelines' own, beside the counters that the combine kernel's transfer takes its
    token from. -/
abbrev UU : Type := UR sig nD τ × Counters

/-- The propositions of the runs. -/
local notation "𝕄G" => MT nD τ sig Unit (Elt F) ℕ UU ℕ

variable (𝒱 : Variants) (c : Dev nD) (bd : Option 𝒱.V)
  (arg0 : Memref sig .tc .smem S1x1 .f32) (harg0 : arg0.IsWhole) (arg1 : Memref sig .tc .vmem S16384x128 .bf16) (harg1 : arg1.IsWhole)
  (arg2 : Memref sig .tc .vmem S32x8x512 .f32) (harg2 : arg2.IsWhole) (arg3 : Memref sig .tc .vmem S512x128 .f32) (harg3 : arg3.IsWhole)
  (v0 : Elt F .f32) (X1 : BufTy.Contents (Elt F) arg1.view.ty)

/-! ## The inner loop -/

section inner

variable (v4 : F .f32) (k0_t1 : Fin k0_t1_loop.trips) (arg4 : BitVec 32) (v49 : FVec F S256x512 .f32)

/-- What a trip of the inner loop touches: the embeddings, the accumulator at `f2`, the row scratch at `f3`. -/
abbrev TripT (f2 : BufTy.Contents (Elt F) arg2.view.ty) (f3 : BufTy.Contents (Elt F) arg3.view.ty) : sProp 𝕄G :=
  iprop((arg1.view.loc (c : Thread nD τ) ↦[arg1.view.set]{fullShare} X1) ∗ (arg2.view.loc (c : Thread nD τ) ↦[arg2.view.set]{fullShare} f2)
    ∗ (arg3.view.loc (c : Thread nD τ) ↦[arg3.view.set]{fullShare} f3))

/-- One trip of the inner loop: the pieces it writes into the accumulator and into the row scratch, as functions of what it finds
    there. -/
@[irreducible] def tripT (k : Fin (k0_t2_loop k0_t1).trips) :
    Σ' (L2 : BufTy.Contents (Elt F) arg2.view.ty → BufTy.Contents (Elt F) arg3.view.ty → List (View.Piece (Elt F) S32x8x512 .f32))
      (L3 : BufTy.Contents (Elt F) arg2.view.ty → BufTy.Contents (Elt F) arg3.view.ty → List (View.Piece (Elt F) S512x128 .f32)),
      ∀ (E : Set ℕ) (acc : BitVec 32) (f2 : BufTy.Contents (Elt F) arg2.view.ty) (f3 : BufTy.Contents (Elt F) arg3.view.ty),
        TripT (F := F) c arg1 arg2 arg3 X1 f2 f3
        ⊢ wp frame (wpE (defs₀ (F := F)) 𝒱 (c : Thread nD τ) bd) E
            (k0_t2_body (F := F) arg0 harg0 arg1 harg1 arg2 harg2 arg3 harg3 v4 k0_t1 arg4 v49 k acc)
            (fun _ => TripT (F := F) c arg1 arg2 arg3 X1 (arg2.view.writes (Elt F) f2 (L2 f2 f3)) (arg3.view.writes (Elt F) f3 (L3 f2 f3))) := by
  refine ⟨?_, ?_, fun E acc f2 f3 => ?run⟩
  case run =>
    unfold k0_t2_body
    iintro ⟨HR, HW, HS⟩
    sl_exec_parts
    sl_step
    sl_close

/-- The pieces of the trips before trip `k`, over the contents `G2`, `G3` at the loop's start. -/
def pbT (G2 : BufTy.Contents (Elt F) arg2.view.ty) (G3 : BufTy.Contents (Elt F) arg3.view.ty) :
    ℕ → List (View.Piece (Elt F) S32x8x512 .f32) × List (View.Piece (Elt F) S512x128 .f32)
  | 0 => ([], [])
  | k + 1 => if h : k < (k0_t2_loop k0_t1).trips then
      ((tripT (F := F) 𝒱 c bd arg0 harg0 arg1 harg1 arg2 harg2 arg3 harg3 X1 v4 k0_t1 arg4 v49 ⟨k, h⟩).1
          (arg2.view.writes (Elt F) G2 (pbT G2 G3 k).1) (arg3.view.writes (Elt F) G3 (pbT G2 G3 k).2) ++ (pbT G2 G3 k).1,
        (tripT (F := F) 𝒱 c bd arg0 harg0 arg1 harg1 arg2 harg2 arg3 harg3 X1 v4 k0_t1 arg4 v49 ⟨k, h⟩).2.1
          (arg2.view.writes (Elt F) G2 (pbT G2 G3 k).1) (arg3.view.writes (Elt F) G3 (pbT G2 G3 k).2) ++ (pbT G2 G3 k).2)
    else pbT G2 G3 k

theorem pbT_succ (G2 : BufTy.Contents (Elt F) arg2.view.ty) (G3 : BufTy.Contents (Elt F) arg3.view.ty) (k : Fin (k0_t2_loop k0_t1).trips) :
    pbT (F := F) 𝒱 c bd arg0 harg0 arg1 harg1 arg2 harg2 arg3 harg3 X1 v4 k0_t1 arg4 v49 G2 G3 (k.val + 1)
      = ((tripT (F := F) 𝒱 c bd arg0 harg0 arg1 harg1 arg2 harg2 arg3 harg3 X1 v4 k0_t1 arg4 v49 k).1
          (arg2.view.writes (Elt F) G2 (pbT (F := F) 𝒱 c bd arg0 harg0 arg1 harg1 arg2 harg2 arg3 harg3 X1 v4 k0_t1 arg4 v49 G2 G3 k.val).1)
          (arg3.view.writes (Elt F) G3 (pbT (F := F) 𝒱 c bd arg0 harg0 arg1 harg1 arg2 harg2 arg3 harg3 X1 v4 k0_t1 arg4 v49 G2 G3 k.val).2)
            ++ (pbT (F := F) 𝒱 c bd arg0 harg0 arg1 harg1 arg2 harg2 arg3 harg3 X1 v4 k0_t1 arg4 v49 G2 G3 k.val).1,
        (tripT (F := F) 𝒱 c bd arg0 harg0 arg1 harg1 arg2 harg2 arg3 harg3 X1 v4 k0_t1 arg4 v49 k).2.1
          (arg2.view.writes (Elt F) G2 (pbT (F := F) 𝒱 c bd arg0 harg0 arg1 harg1 arg2 harg2 arg3 harg3 X1 v4 k0_t1 arg4 v49 G2 G3 k.val).1)
          (arg3.view.writes (Elt F) G3 (pbT (F := F) 𝒱 c bd arg0 harg0 arg1 harg1 arg2 harg2 arg3 harg3 X1 v4 k0_t1 arg4 v49 G2 G3 k.val).2)
            ++ (pbT (F := F) 𝒱 c bd arg0 harg0 arg1 harg1 arg2 harg2 arg3 harg3 X1 v4 k0_t1 arg4 v49 G2 G3 k.val).2) := by
  rw [pbT.eq_2]; exact dif_pos k.isLt

/-- Before trip `k` the accumulator and the row scratch hold the pieces of the trips before. -/
abbrev invT (G2 : BufTy.Contents (Elt F) arg2.view.ty) (G3 : BufTy.Contents (Elt F) arg3.view.ty) (k : ℕ) (_acc : BitVec 32) : sProp 𝕄G :=
  iprop((arg1.view.loc (c : Thread nD τ) ↦[arg1.view.set]{fullShare} X1)
    ∗ (∃ f, (arg2.view.loc (c : Thread nD τ) ↦[arg2.view.set]{fullShare} f)
        ∗ ⌜f = arg2.view.writes (Elt F) G2 (pbT (F := F) 𝒱 c bd arg0 harg0 arg1 harg1 arg2 harg2 arg3 harg3 X1 v4 k0_t1 arg4 v49 G2 G3 k).1⌝)
    ∗ (∃ f, (arg3.view.loc (c : Thread nD τ) ↦[arg3.view.set]{fullShare} f)
        ∗ ⌜f = arg3.view.writes (Elt F) G3 (pbT (F := F) 𝒱 c bd arg0 harg0 arg1 harg1 arg2 harg2 arg3 harg3 X1 v4 k0_t1 arg4 v49 G2 G3 k).2⌝))

set_option warn.classDefReducibility false in
/-- The inner loop by its invariant. -/
@[sl_loop] def loopInvT (E : Set ℕ) (G2 : BufTy.Contents (Elt F) arg2.view.ty) (G3 : BufTy.Contents (Elt F) arg3.view.ty) (init : BitVec 32) :
    LoopInvTy_k0_t2 (F := F) Unit ℕ UU ℕ 𝒱 c bd E arg0 harg0 arg1 harg1 arg2 harg2 arg3 harg3 v4 k0_t1 arg4 v49 init where
  inv := invT (F := F) 𝒱 c bd arg0 harg0 arg1 harg1 arg2 harg2 arg3 harg3 X1 v4 k0_t1 arg4 v49 G2 G3
  step k acc := by
    iintro ⟨HR, ⟨%f2, HW, %h2⟩, ⟨%f3, HS, %h3⟩⟩
    iapply (wp_wand_r Idealize.ShloMosaic.frame (wpE (defs₀ (F := F)) 𝒱 (c : Thread nD τ) bd) E)
    isplitl [HR HW HS]
    · iapply ((tripT (F := F) 𝒱 c bd arg0 harg0 arg1 harg1 arg2 harg2 arg3 harg3 X1 v4 k0_t1 arg4 v49 k).2.2 E acc f2 f3)
      isplitl [HR]; · iexact HR
      isplitl [HW]; · iexact HW
      iexact HS
    · iintro %yld ⟨HR, HW, HS⟩
      isplitl [HR]; · iexact HR
      simp only [pbT_succ]
      isplitl [HW]
      · iexists _; isplitl [HW]; · iexact HW
        ipureintro; rw [h2, h3, ← View.writes_append]
      iexists _; isplitl [HS]; · iexact HS
      ipureintro; rw [h2, h3, ← View.writes_append]

set_option warn.classDefReducibility false in
/-- The remainder loop makes no trip: what it touches stays. -/
@[sl_loop] def loopInvR (E : Set ℕ) (v74 : BitVec 32) (init : BitVec 32) :
    LoopInvTy_k0_t3 (F := F) Unit ℕ UU ℕ 𝒱 c bd E arg0 harg0 arg1 harg1 arg2 harg2 arg3 harg3 v4 k0_t1 arg4 v49 v74 init where
  inv _ _ := iprop(emp)
  step k acc := absurd k.isLt (Nat.not_lt.mpr (Nat.le_trans (k0_t3_abs k0_t1).2.1 (Nat.zero_le _)))

end inner

/-! ## The outer loop -/

/-- What one trip touches: the embeddings at their contents, the accumulator at `f2`, the row scratch at any contents. -/
abbrev TripS (f2 : BufTy.Contents (Elt F) arg2.view.ty) : sProp 𝕄G :=
  iprop((arg1.view.loc (c : Thread nD τ) ↦[arg1.view.set]{fullShare} X1) ∗ (arg2.view.loc (c : Thread nD τ) ↦[arg2.view.set]{fullShare} f2)
    ∗ (∃ f3, arg3.view.loc (c : Thread nD τ) ↦[arg3.view.set]{fullShare} f3))

/-- One trip of the outer loop: the pieces it writes into the accumulator, as a function of what it finds there. -/
@[irreducible] def tripS (k : Fin k0_t1_loop.trips) :
    { L : BufTy.Contents (Elt F) arg2.view.ty → List (View.Piece (Elt F) S32x8x512 .f32) //
      ∀ (E : Set ℕ) (f2 : BufTy.Contents (Elt F) arg2.view.ty),
        TripS (F := F) c arg1 arg2 arg3 X1 f2
        ⊢ wp frame (wpE (defs₀ (F := F)) 𝒱 (c : Thread nD τ) bd) E (k0_t1_body (F := F) arg0 harg0 arg1 harg1 arg2 harg2 arg3 harg3 v0 k ())
            (fun _ => TripS (F := F) c arg1 arg2 arg3 X1 (arg2.view.writes (Elt F) f2 (L f2))) } := by
  refine ⟨?_, fun E f2 => ?run⟩
  case run =>
    unfold k0_t1_body
    iintro ⟨HR, HW, ⟨%f3, HS⟩⟩
    sl_exec_parts
    sl_step
    sl_close

/-- The accumulator's pieces before trip `k`, over its contents `G` at the loop's start. -/
def pbS (G : BufTy.Contents (Elt F) arg2.view.ty) : ℕ → List (View.Piece (Elt F) S32x8x512 .f32)
  | 0 => []
  | k + 1 => if h : k < k0_t1_loop.trips then
      (tripS (F := F) 𝒱 c bd arg0 harg0 arg1 harg1 arg2 harg2 arg3 harg3 v0 X1 ⟨k, h⟩).1 (arg2.view.writes (Elt F) G (pbS G k)) ++ pbS G k
    else pbS G k

theorem pbS_succ (G : BufTy.Contents (Elt F) arg2.view.ty) (k : Fin k0_t1_loop.trips) :
    pbS (F := F) 𝒱 c bd arg0 harg0 arg1 harg1 arg2 harg2 arg3 harg3 v0 X1 G (k.val + 1)
      = (tripS (F := F) 𝒱 c bd arg0 harg0 arg1 harg1 arg2 harg2 arg3 harg3 v0 X1 k).1
          (arg2.view.writes (Elt F) G (pbS (F := F) 𝒱 c bd arg0 harg0 arg1 harg1 arg2 harg2 arg3 harg3 v0 X1 G k.val))
        ++ pbS (F := F) 𝒱 c bd arg0 harg0 arg1 harg1 arg2 harg2 arg3 harg3 v0 X1 G k.val := by
  rw [pbS.eq_2]; exact dif_pos k.isLt

/-- Before trip `k` the accumulator holds the pieces of the trips before. -/
abbrev invS (G : BufTy.Contents (Elt F) arg2.view.ty) (k : ℕ) (_acc : Unit) : sProp 𝕄G :=
  iprop((arg1.view.loc (c : Thread nD τ) ↦[arg1.view.set]{fullShare} X1)
    ∗ (∃ f, (arg2.view.loc (c : Thread nD τ) ↦[arg2.view.set]{fullShare} f)
        ∗ ⌜f = arg2.view.writes (Elt F) G (pbS (F := F) 𝒱 c bd arg0 harg0 arg1 harg1 arg2 harg2 arg3 harg3 v0 X1 G k)⌝)
    ∗ (∃ f3, arg3.view.loc (c : Thread nD τ) ↦[arg3.view.set]{fullShare} f3))

set_option warn.classDefReducibility false in
/-- The outer loop by its invariant. -/
@[sl_loop] def loopInv_k0_t1 (E : Set ℕ) (G : BufTy.Contents (Elt F) arg2.view.ty) :
    LoopInvTy_k0_t1 (F := F) Unit ℕ UU ℕ 𝒱 c bd E arg0 harg0 arg1 harg1 arg2 harg2 arg3 harg3 v0 where
  inv := invS (F := F) 𝒱 c bd arg0 harg0 arg1 harg1 arg2 harg2 arg3 harg3 v0 X1 G
  step k acc := by
    iintro ⟨HR, ⟨%f2, HW, %h2⟩, HS⟩
    iapply (wp_wand_r Idealize.ShloMosaic.frame (wpE (defs₀ (F := F)) 𝒱 (c : Thread nD τ) bd) E)
    isplitl [HR HW HS]
    · iapply ((tripS (F := F) 𝒱 c bd arg0 harg0 arg1 harg1 arg2 harg2 arg3 harg3 v0 X1 k).2 E f2)
      isplitl [HR]; · iexact HR
      isplitl [HW]; · iexact HW
      iexact HS
    · iintro %yld ⟨HR, HW, HS⟩
      isplitl [HR]; · iexact HR
      isplitl [HW]
      · iexists _; isplitl [HW]; · iexact HW
        ipureintro; rw [pbS_succ, h2, ← View.writes_append]
      iexact HS

end Cert.Proof.KernelIdeal
-- ==== Proof.KernelIdeal.SumsRun.lean ====
/-
  The sums kernel (`cc0_sums`) run once at symbolic operands: from the staged shift bound and embeddings, whatever the accumulator and
  the row scratch hold, it leaves the accumulator at one function of the two inputs.
-/
module

public import proofs.«01_k».proof.Proof.KernelIdeal.SumsLoop
public import proofs.«01_k».proof.Proof.Gen.KernelIdeal.Launch
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The propositions of the runs. -/
local notation "𝕄G" => MT nD τ sig Unit (Elt F) ℕ UU ℕ

/-- Memref `M`'s buffer on core `c`: its contents type, and the memref held at `f`. -/
abbrev Bf (c : Dev nD) {sp : Space} {S : Shape} {e : EltTy} (M : Memref sig .tc sp S e) : Type := Buf (Elt F) (M.view.loc (c : Thread nD τ))
@[inherit_doc Bf]
abbrev pt (c : Dev nD) {sp : Space} {S : Shape} {e : EltTy} (M : Memref sig .tc sp S e) (f : Bf (F := F) c M) : sProp 𝕄G :=
  M.view.loc (c : Thread nD τ) ↦[M.view.set]{fullShare} f

/-- A whole buffer held through its memref is the buffer held. -/
theorem pt_whole (c : Dev nD) (b : Ref sig .tc) (f : Buf (Elt F) ((c : Thread nD τ).loc b)) :
    pt (F := F) c (Memref.whole b) f = (((c : Thread nD τ).loc b) ↦{fullShare} f : sProp 𝕄G) := by
  show (((c : Thread nD τ).loc b) ↦[(View.whole b).set]{fullShare} f : sProp 𝕄G) = _
  rw [View.set_whole]

/-- The same, at some contents. -/
theorem pt_whole_ex (c : Dev nD) (b : Ref sig .tc) :
    (iprop(∃ f, pt (F := F) c (Memref.whole b) f) : sProp 𝕄G) = iprop(∃ f : Buf (Elt F) ((c : Thread nD τ).loc b), ((c : Thread nD τ).loc b) ↦{fullShare} f) :=
  congrArg _ (funext (pt_whole c b))

/-- What the kernel leaves in the accumulator, with the run that leaves it there. -/
@[irreducible] def sumsRun (c : Dev nD) (M0 : Memref sig .tc .smem S1x1 .f32) (h0 : M0.IsWhole) (M1 : Memref sig .tc .vmem S16384x128 .bf16) (h1 : M1.IsWhole)
    (M2 : Memref sig .tc .vmem S32x8x512 .f32) (h2 : M2.IsWhole) (M3 : Memref sig .tc .vmem S512x128 .f32) (h3 : M3.IsWhole)
    (f0 : Bf (F := F) c M0) (f1 : Bf (F := F) c M1) :
    { W : Bf (F := F) c M2 // ∀ (f2 : Bf (F := F) c M2) (f3 : Bf (F := F) c M3) (E : Set ℕ) (Q : PUnit → sProp 𝕄G),
        iprop(pt c M0 f0 ∗ pt c M1 f1 ∗ pt c M2 f2 ∗ pt c M3 f3
            ∗ (iprop(pt c M0 f0 ∗ pt c M1 f1 ∗ pt c M2 W ∗ (∃ f, pt c M3 f)) -∗ Q ⟨⟩))
          ⊢ wp frame (wpE (defs₀ (F := F)) Variants.none (c : Thread nD τ) none) E (cc0_sums (F := F) M0 h0 M1 h1 M2 h2 M3 h3) Q } := by
  refine ⟨?_, fun f2 f3 E Q => ?run⟩
  case run =>
    iintro ⟨H0, H1, H2, H3, Hk⟩
    sl_exec!
    sl_step
    iapply Hk
    isplitl [H0]; · iexact H0
    isplitl [H1]; · iexact H1
    isplitl [H2]; · iexact H2
    sl_close

end Cert.Proof.KernelIdeal
-- ==== Proof.KernelIdeal.SumsRegion.lean ====
/-
  The sums call as a region of the whole program: what it finds in the arrays, what its body leaves, and the region entered from every
  unscoped buffer at the launch contents and left with the accumulator's array replaced.
-/
module

public import proofs.«01_k».proof.Proof.KernelIdeal.SumsRun
public import Idealize.ShloMosaic.Lib.Pipeline.RegionsLoop
public import proofs.«01_k».proof.Proof.Gen.KernelIdeal.Regions
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The propositions of the runs. -/
local notation "𝕄G" => MT nD τ sig Unit (Elt F) ℕ UU ℕ

/-- Every unscoped buffer's contents when a region is entered, per core. -/
abbrev Entry : Type := (c : Dev nD) → (b : Ref sig .tc) → Buf (Elt F) ((c : Thread nD τ).loc b)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between the calls: the core's `owes`, owing nothing. -/
abbrev Rides (c : Dev nD) : sProp 𝕄G := iprop(∃ W, owes (c : Thread nD τ) (0 : CellTallies nD τ sig Unit) W)

variable (V : Entry (F := F))

/-- The shift bound and the embeddings as the fetches stage them. -/
abbrev stgS0 (c : Dev nD) : (cfg0.win 0).block.Idx → Elt F (cfg0.win 0).elt :=
  ((cfg0.win 0).blk t0_0).view.read (Elt F) (V c main_arg1)
@[inherit_doc stgS0]
abbrev stgS1 (c : Dev nD) : (cfg0.win 1).block.Idx → Elt F (cfg0.win 1).elt :=
  ((cfg0.win 1).blk t0_0).view.read (Elt F) (V c main_arg0)

/-- What the sums kernel leaves in the accumulator, from the staged shift bound and embeddings. -/
def sumsOut (c : Dev nD) : Buf (Elt F) ((c : Thread nD τ).loc cc0_stg2_0) :=
  (sumsRun (F := F) c (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (stgS0 V c) (stgS1 V c)).1

/-- The run, over the buffers themselves. -/
theorem sumsOut_run (c : Dev nD) (f2 : Buf (Elt F) ((c : Thread nD τ).loc cc0_stg2_0)) (f3 : Buf (Elt F) ((c : Thread nD τ).loc cc0_scratch0))
    (Q : PUnit → sProp 𝕄G) :
    iprop((((c : Thread nD τ).loc cc0_stg0_0) ↦{fullShare} stgS0 V c) ∗ (((c : Thread nD τ).loc cc0_stg1_0) ↦{fullShare} stgS1 V c)
        ∗ (((c : Thread nD τ).loc cc0_stg2_0) ↦{fullShare} f2) ∗ (((c : Thread nD τ).loc cc0_scratch0) ↦{fullShare} f3)
        ∗ (iprop((((c : Thread nD τ).loc cc0_stg0_0) ↦{fullShare} stgS0 V c) ∗ (((c : Thread nD τ).loc cc0_stg1_0) ↦{fullShare} stgS1 V c)
            ∗ (((c : Thread nD τ).loc cc0_stg2_0) ↦{fullShare} sumsOut V c) ∗ (∃ f, ((c : Thread nD τ).loc cc0_scratch0) ↦{fullShare} f)) -∗ Q ⟨⟩))
      ⊢ wp frame (wpE (defs₀ (F := F)) Variants.none (c : Thread nD τ) none) Set.univ
          (cc0_sums (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)) Q := by
  have h : ∀ W, W = sumsOut V c → iprop(pt c (Memref.whole cc0_stg0_0) (stgS0 V c) ∗ pt c (Memref.whole cc0_stg1_0) (stgS1 V c)
        ∗ pt c (Memref.whole cc0_stg2_0) f2 ∗ pt c (Memref.whole cc0_scratch0) f3
        ∗ (iprop(pt c (Memref.whole cc0_stg0_0) (stgS0 V c) ∗ pt c (Memref.whole cc0_stg1_0) (stgS1 V c)
            ∗ pt c (Memref.whole cc0_stg2_0) W ∗ (∃ f, pt c (Memref.whole cc0_scratch0) f)) -∗ Q ⟨⟩))
      ⊢ wp frame (wpE (defs₀ (F := F)) Variants.none (c : Thread nD τ) none) Set.univ
          (cc0_sums (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)) Q := by
    intro W hW
    subst hW
    unfold sumsOut
    exact (sumsRun (F := F) c (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (stgS0 V c) (stgS1 V c)).2 f2 f3 Set.univ Q
  have h := h _ rfl
  generalize sumsOut V c = W at h ⊢
  rw [pt_whole, pt_whole, pt_whole, pt_whole, pt_whole, pt_whole_ex] at h
  exact h

/-- The invariant between the region's ends: the scoped buffers that the pipeline does not stage, at something. -/
abbrev ΦS (c : Dev nD) : sProp 𝕄G := Pipeline.scopedRest (Ix := Unit) (Name := ℕ) (U := UU) (Lvl := ℕ) (Val := Elt F) spec0 c

/-- The region's proof data, entered at `V`: the arrays at `V`; after the body the inputs as fetched and the accumulator at the run's
    result. -/
def datS (c : Dev nD) : Dat τ (Elt F) Unit ℕ UU ℕ cfg0 c where
  A w := V c (Pipeline.arrRef spec0 w)
  after w _ := match w with
    | ⟨0, _⟩ => stgS0 V c
    | ⟨1, _⟩ => stgS1 V c
    | ⟨2, _⟩ => sumsOut V c
  Φ _ := ΦS c
  q _ := fullShare
  owed _ := 0

theorem beforeS_0 (c : Dev nD) (d) : (datS V c).before 0 t0_0 d = stgS0 V c := by unfold Dat.before; rw [if_pos (by decide)]; rfl
theorem beforeS_1 (c : Dev nD) (d) : (datS V c).before 1 t0_0 d = stgS1 V c := by unfold Dat.before; rw [if_pos (by decide)]; rfl

/-- The body obligation: the staging buffers and the scratch taken apart, the run applied, its post put back. -/
theorem body_obligationS (c : Dev nD) : BodyObligation (datS V c) (defs₀ (F := F)) 𝒱₀ () Set.univ := fun t => by
  obtain rfl := fin_N0 t
  rw [bigSep_W0, bigSep_W0]
  simp only [owns_whole_eq]
  rw [show (datS V c).Φ t0_0.castSucc = ΦS c from rfl, show (datS V c).Φ t0_0.succ = ΦS c from rfl,
    show (datS V c).owesAt () t0_0.succ = (datS V c).owesAt () t0_0.castSucc from rfl]
  unfold ΦS
  rw [scopedRest0_eq]
  iintro ⟨⟨⟨%fs, Hs⟩, Hrest⟩, Howes, ⟨%d0, %f0, %hf0, H0⟩, ⟨%d1, %f1, %hf1, H1⟩, ⟨%d2, %f2, -, H2⟩⟩
  rw [beforeS_0] at hf0
  rw [beforeS_1] at hf1
  subst hf0 hf1
  iapply (sumsOut_run V c f2 fs _)
  isplitl [H0]; · iexact H0
  isplitl [H1]; · iexact H1
  isplitl [H2]; · iexact H2
  isplitl [Hs]; · iexact Hs
  iintro ⟨H0, H1, H2, Hs⟩
  isplitl [Hrest Hs]
  · isplitl [Hs]; · iexact Hs
    iexact Hrest
  isplitl [Howes]; · iexact Howes
  isplitl [H0]; · iexists _; isplitr; swap; (· iexact H0); ipureintro; dsimp only [datS]
  isplitl [H1]; · iexists _; isplitr; swap; (· iexact H1); ipureintro; dsimp only [datS]
  iexists _; isplitr; swap; (· iexact H2); ipureintro; dsimp only [datS]

/-- The accumulator's array after the region. -/
def accArr (c : Dev nD) : Buf (Elt F) ((c : Thread nD τ).loc main_v0) := (datS V c).arrAt 2 cfg0.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the accumulator's array at the run's result and agrees
    with `V` off it. -/
def regS (Vp : Entry (F := F)) (hp : ∀ c, pdats 0 c = datS V c) (hout : ∀ c, Vp c main_v0 = accArr V c)
    (hne : ∀ c (b : Ref sig .tc), b ≠ main_v0 → Vp c b = V c b) :
    Pipeline.RegionSeg (pcfgs (F := F)) adm pdats () defs₀ 𝒱₀ L lv 0 where
  win := (launch0).win.to₀
  block_pos := (launch0).block_pos
  stage_whole := (launch0).stage_whole
  K := PEmpty
  osem k := k.elim
  ho := Pipeline.OwnSemFacts.none _
  hbody c := by rw [hp c]; exact (body_obligationS V c).loose
  hwaits := Pipeline.hwaits_of_owed_zero _ _ _ _ L lv 0 fun c _ => by rw [hp c]; rfl
  pre c := iprop(unscopedBufs c (V c) ∗ Rides c)
  post c := iprop(unscopedBufs c (Vp c) ∗ Rides c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm pdats (launch0).win (launch0).arr_whole c
      ((pdats 0 c).share_full fun _ => by rw [hp c]; rfl) (V c) fun _ => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (datS V c).Φ 0 = ΦS c from rfl]
    iintro ⟨-, -, Hr⟩; iexact Hr
  hout c := by
    rw [Pipeline.ownSems0_none, hp c]
    change ΦS c ⊢ _
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      pdats ((pdats 0 c).share_full fun _ => by rw [hp c]; rfl) (V c) (Vp c) ((pdats 0 c).arrAt · cfg0.N)
      (fun w => by
        rw [hp c]
        fin_cases w
        · exact ((datS V c).arrAt_in 0 rfl _).trans (hne c main_arg1 (by decide)).symm
        · exact ((datS V c).arrAt_in 1 rfl _).trans (hne c main_arg0 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.KernelIdeal
-- ==== Proof.KernelIdeal.CombineLoop.lean ====
/-
  The loops of the combine kernel's second branch (`cc2_combine`): one trip of the outer loop is one block of 512 columns, one trip
  of the inner loop takes 256 rows into that block's running maximum and running sum. Both start a block anew, so what a trip of the
  outer loop writes does not depend on what they held.
-/
module

public import proofs.«01_k».proof.Proof.KernelIdeal.SumsLoop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The propositions of the runs. -/
local notation "𝕄G" => MT nD τ sig Unit (Elt F) ℕ UU ℕ

variable (𝒱 : Variants) (c : Dev nD) (bd : Option 𝒱.V)
  (arg0 : Memref sig .tc .smem S1x1 .f32) (harg0 : arg0.IsWhole)
  (arg1 : Memref sig .tc .vmem S32x8x512 .f32) (harg1 : arg1.IsWhole)
  (arg2 : Memref sig .tc .vmem S2x8192 .f32) (harg2 : arg2.IsWhole)
  (arg3 : Memref sig .tc .vmem S2x8192 .i32) (harg3 : arg3.IsWhole)
  (arg4 : Memref sig .tc .hbm S16384x128 .bf16) (harg4 : arg4.IsWhole)
  (arg5 : Memref sig .tc .vmem S2x8192 .f32) (harg5 : arg5.IsWhole)
  (arg6 : Memref sig .tc .vmem S2x8192 .f32) (harg6 : arg6.IsWhole)
  (arg7 : Memref sig .tc .vmem S16384x128 .bf16) (harg7 : arg7.IsWhole)
  (arg8 : Memref sig .tc .vmem S1x512 .f32) (harg8 : arg8.IsWhole)
  (arg9 : Memref sig .tc .vmem S1x512 .f32) (harg9 : arg9.IsWhole)
  (arg10 : DmaSems sig S_) (X7 : BufTy.Contents (Elt F) arg7.view.ty)

/-- The first trip of the outer loop. The inner loop's body takes a trip of the outer loop and does not use it: this one stands for
    any. -/
abbrev trip0 : Fin k2_t1_loop.trips := ⟨0, by decide +kernel⟩

/-! ## The inner loop -/

section inner

variable (arg11 : BitVec 32) (v639 : Vec F S512x128 .bf16)

/-- What a trip of the inner loop touches: the embeddings, the running maximum at `f8`, the running sum at `f9`. -/
abbrev TripM (f8 : BufTy.Contents (Elt F) arg8.view.ty) (f9 : BufTy.Contents (Elt F) arg9.view.ty) : sProp 𝕄G :=
  iprop((arg7.view.loc (c : Thread nD τ) ↦[arg7.view.set]{fullShare} X7) ∗ (arg8.view.loc (c : Thread nD τ) ↦[arg8.view.set]{fullShare} f8)
    ∗ (arg9.view.loc (c : Thread nD τ) ↦[arg9.view.set]{fullShare} f9))

/-- One trip of the inner loop: the pieces it writes into the running maximum and the running sum. -/
@[irreducible] def tripM (k : Fin k2_t2_loop.trips) :
    Σ' (L8 : BufTy.Contents (Elt F) arg8.view.ty → BufTy.Contents (Elt F) arg9.view.ty → List (View.Piece (Elt F) S1x512 .f32))
      (L9 : BufTy.Contents (Elt F) arg8.view.ty → BufTy.Contents (Elt F) arg9.view.ty → List (View.Piece (Elt F) S1x512 .f32)),
      ∀ (E : Set ℕ) (f8 : BufTy.Contents (Elt F) arg8.view.ty) (f9 : BufTy.Contents (Elt F) arg9.view.ty),
        TripM (F := F) c arg7 arg8 arg9 X7 f8 f9
        ⊢ wp frame (wpE (defs₀ (F := F)) 𝒱 (c : Thread nD τ) bd) E
            (k2_t2_body (F := F) arg0 harg0 arg1 harg1 arg2 harg2 arg3 harg3 arg4 harg4 arg5 harg5 arg6 harg6 arg7 harg7 arg8 harg8 arg9 harg9 arg10 0#32 1#32 trip0 arg11 v639 k ())
            (fun _ => TripM (F := F) c arg7 arg8 arg9 X7 (arg8.view.writes (Elt F) f8 (L8 f8 f9)) (arg9.view.writes (Elt F) f9 (L9 f8 f9))) := by
  refine ⟨?_, ?_, fun E f8 f9 => ?run⟩
  case run =>
    unfold k2_t2_body
    iintro ⟨HR, HW, HS⟩
    sl_exec_parts
    sl_step
    sl_close

/-- The pieces of the trips before trip `k`, over the contents `G8`, `G9` at the loop's start. -/
def pbM (G8 : BufTy.Contents (Elt F) arg8.view.ty) (G9 : BufTy.Contents (Elt F) arg9.view.ty) :
    ℕ → List (View.Piece (Elt F) S1x512 .f32) × List (View.Piece (Elt F) S1x512 .f32)
  | 0 => ([], [])
  | k + 1 => if h : k < k2_t2_loop.trips then
      ((tripM (F := F) 𝒱 c bd arg0 harg0 arg1 harg1 arg2 harg2 arg3 harg3 arg4 harg4 arg5 harg5 arg6 harg6 arg7 harg7 arg8 harg8 arg9 harg9 arg10 X7 arg11 v639 ⟨k, h⟩).1
          (arg8.view.writes (Elt F) G8 (pbM G8 G9 k).1) (arg9.view.writes (Elt F) G9 (pbM G8 G9 k).2) ++ (pbM G8 G9 k).1,
        (tripM (F := F) 𝒱 c bd arg0 harg0 arg1 harg1 arg2 harg2 arg3 harg3 arg4 harg4 arg5 harg5 arg6 harg6 arg7 harg7 arg8 harg8 arg9 harg9 arg10 X7 arg11 v639 ⟨k, h⟩).2.1
          (arg8.view.writes (Elt F) G8 (pbM G8 G9 k).1) (arg9.view.writes (Elt F) G9 (pbM G8 G9 k).2) ++ (pbM G8 G9 k).2)
    else pbM G8 G9 k

theorem pbM_succ (G8 : BufTy.Contents (Elt F) arg8.view.ty) (G9 : BufTy.Contents (Elt F) arg9.view.ty) (k : Fin k2_t2_loop.trips) :
    pbM (F := F) 𝒱 c bd arg0 harg0 arg1 harg1 arg2 harg2 arg3 harg3 arg4 harg4 arg5 harg5 arg6 harg6 arg7 harg7 arg8 harg8 arg9 harg9 arg10 X7 arg11 v639 G8 G9 (k.val + 1)
      = ((tripM (F := F) 𝒱 c bd arg0 harg0 arg1 harg1 arg2 harg2 arg3 harg3 arg4 harg4 arg5 harg5 arg6 harg6 arg7 harg7 arg8 harg8 arg9 harg9 arg10 X7 arg11 v639 k).1 (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k.val).1) (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k.val).2) ++ (pbM (F := F) 𝒱 c bd arg0 harg0 arg1 harg1 arg2 harg2 arg3 harg3 arg4 harg4 arg5 harg5 arg6 harg6 arg7 harg7 arg8 harg8 arg9 harg9 arg10 X7 arg11 v639 G8 G9 k.val).1,
        (tripM (F := F) 𝒱 c bd arg0 harg0 arg1 harg1 arg2 harg2 arg3 harg3 arg4 harg4 arg5 harg5 arg6 harg6 arg7 harg7 arg8 harg8 arg9 harg9 arg10 X7 arg11 v639 k).2.1 (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k.val).1) (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k.val).2) ++ (pbM (F := F) 𝒱 c bd arg0 harg0 arg1 harg1 arg2 harg2 arg3 harg3 arg4 harg4 arg5 harg5 arg6 harg6 arg7 harg7 arg8 harg8 arg9 harg9 arg10 X7 arg11 v639 G8 G9 k.val).2) := by
  rw [pbM.eq_2]; exact dif_pos k.isLt

/-- Before trip `k` the running maximum and the running sum hold the pieces of the trips before. -/
abbrev invM (G8 : BufTy.Contents (Elt F) arg8.view.ty) (G9 : BufTy.Contents (Elt F) arg9.view.ty) (k : ℕ) (_acc : Unit) : sProp 𝕄G :=
  iprop((arg7.view.loc (c : Thread nD τ) ↦[arg7.view.set]{fullShare} X7)
    ∗ (∃ f, (arg8.view.loc (c : Thread nD τ) ↦[arg8.view.set]{fullShare} f) ∗ ⌜f = (arg8.view.writes (Elt F) G8 (pbM (F := F) 𝒱 c bd arg0 harg0 arg1 harg1 arg2 harg2 arg3 harg3 arg4 harg4 arg5 harg5 arg6 harg6 arg7 harg7 arg8 harg8 arg9 harg9 arg10 X7 arg11 v639 G8 G9 k).1)⌝)
    ∗ (∃ f, (arg9.view.loc (c : Thread nD τ) ↦[arg9.view.set]{fullShare} f) ∗ ⌜f = (arg9.view.writes (Elt F) G9 (pbM (F := F) 𝒱 c bd arg0 harg0 arg1 harg1 arg2 harg2 arg3 harg3 arg4 harg4 arg5 harg5 arg6 harg6 arg7 harg7 arg8 harg8 arg9 harg9 arg10 X7 arg11 v639 G8 G9 k).2)⌝))

set_option warn.classDefReducibility false in
/-- The inner loop by its invariant. -/
@[sl_loop] def loopInvM (E : Set ℕ) (G8 : BufTy.Contents (Elt F) arg8.view.ty) (G9 : BufTy.Contents (Elt F) arg9.view.ty) :
    LoopInvTy_k2_t2 (F := F) Unit ℕ UU ℕ 𝒱 c bd E arg0 harg0 arg1 harg1 arg2 harg2 arg3 harg3 arg4 harg4 arg5 harg5 arg6 harg6 arg7 harg7 arg8 harg8 arg9 harg9 arg10 0#32 1#32 trip0 arg11 v639 where
  inv := invM (F := F) 𝒱 c bd arg0 harg0 arg1 harg1 arg2 harg2 arg3 harg3 arg4 harg4 arg5 harg5 arg6 harg6 arg7 harg7 arg8 harg8 arg9 harg9 arg10 X7 arg11 v639 G8 G9
  step k acc := by
    iintro ⟨HR, ⟨%f8, HW, %h8⟩, ⟨%f9, HS, %h9⟩⟩
    iapply (wp_wand_r Idealize.ShloMosaic.frame (wpE (defs₀ (F := F)) 𝒱 (c : Thread nD τ) bd) E)
    isplitl [HR HW HS]
    · iapply ((tripM (F := F) 𝒱 c bd arg0 harg0 arg1 harg1 arg2 harg2 arg3 harg3 arg4 harg4 arg5 harg5 arg6 harg6 arg7 harg7 arg8 harg8 arg9 harg9 arg10 X7 arg11 v639 k).2.2 E f8 f9)
      isplitl [HR]; · iexact HR
      isplitl [HW]; · iexact HW
      iexact HS
    · iintro %yld ⟨HR, HW, HS⟩
      isplitl [HR]; · iexact HR
      simp only [pbM_succ]
      isplitl [HW]
      · iexists _; isplitl [HW]; · iexact HW
        ipureintro; rw [h8, h9, ← View.writes_append]
      iexists _; isplitl [HS]; · iexact HS
      ipureintro; rw [h8, h9, ← View.writes_append]

end inner

/-! ## The outer loop -/

/-- What a trip of the outer loop touches: the embeddings, the result at `f6`, the running maximum and sum at any contents. -/
abbrev TripB (f6 : BufTy.Contents (Elt F) arg6.view.ty) : sProp 𝕄G :=
  iprop((arg7.view.loc (c : Thread nD τ) ↦[arg7.view.set]{fullShare} X7) ∗ (arg6.view.loc (c : Thread nD τ) ↦[arg6.view.set]{fullShare} f6)
    ∗ (∃ f8, (arg8.view.loc (c : Thread nD τ) ↦[arg8.view.set]{fullShare} f8)) ∗ (∃ f9, (arg9.view.loc (c : Thread nD τ) ↦[arg9.view.set]{fullShare} f9)))

/-- One trip of the outer loop: the pieces it writes into the result. -/
@[irreducible] def tripB (k : Fin k2_t1_loop.trips) :
    { L : BufTy.Contents (Elt F) arg6.view.ty → List (View.Piece (Elt F) S2x8192 .f32) //
      ∀ (E : Set ℕ) (f6 : BufTy.Contents (Elt F) arg6.view.ty),
        TripB (F := F) c arg6 arg7 arg8 arg9 X7 f6
        ⊢ wp frame (wpE (defs₀ (F := F)) 𝒱 (c : Thread nD τ) bd) E (k2_t1_body (F := F) arg0 harg0 arg1 harg1 arg2 harg2 arg3 harg3 arg4 harg4 arg5 harg5 arg6 harg6 arg7 harg7 arg8 harg8 arg9 harg9 arg10 k ())
            (fun _ => TripB (F := F) c arg6 arg7 arg8 arg9 X7 (arg6.view.writes (Elt F) f6 (L f6))) } := by
  refine ⟨?_, fun E f6 => ?run⟩
  case run =>
    unfold k2_t1_body
    iintro ⟨HR, HW, ⟨%f8, H8⟩, ⟨%f9, H9⟩⟩
    sl_exec_parts
    sl_step
    sl_close

/-- The pieces of the trips before trip `k`, over the result's contents `G` at the loop's start. -/
def pbB (G : BufTy.Contents (Elt F) arg6.view.ty) : ℕ → List (View.Piece (Elt F) S2x8192 .f32)
  | 0 => []
  | k + 1 => if h : k < k2_t1_loop.trips then
      (tripB (F := F) 𝒱 c bd arg0 harg0 arg1 harg1 arg2 harg2 arg3 harg3 arg4 harg4 arg5 harg5 arg6 harg6 arg7 harg7 arg8 harg8 arg9 harg9 arg10 X7 ⟨k, h⟩).1 (arg6.view.writes (Elt F) G (pbB G k)) ++ pbB G k
    else pbB G k

theorem pbB_succ (G : BufTy.Contents (Elt F) arg6.view.ty) (k : Fin k2_t1_loop.trips) :
    pbB (F := F) 𝒱 c bd arg0 harg0 arg1 harg1 arg2 harg2 arg3 harg3 arg4 harg4 arg5 harg5 arg6 harg6 arg7 harg7 arg8 harg8 arg9 harg9 arg10 X7 G (k.val + 1)
      = (tripB (F := F) 𝒱 c bd arg0 harg0 arg1 harg1 arg2 harg2 arg3 harg3 arg4 harg4 arg5 harg5 arg6 harg6 arg7 harg7 arg8 harg8 arg9 harg9 arg10 X7 k).1 (arg6.view.writes (Elt F) G (pbB (F := F) 𝒱 c bd arg0 harg0 arg1 harg1 arg2 harg2 arg3 harg3 arg4 harg4 arg5 harg5 arg6 harg6 arg7 harg7 arg8 harg8 arg9 harg9 arg10 X7 G k.val)) ++ pbB (F := F) 𝒱 c bd arg0 harg0 arg1 harg1 arg2 harg2 arg3 harg3 arg4 harg4 arg5 harg5 arg6 harg6 arg7 harg7 arg8 harg8 arg9 harg9 arg10 X7 G k.val := by
  rw [pbB.eq_2]; exact dif_pos k.isLt

/-- Before trip `k` the result holds the pieces of the trips before. -/
abbrev invB (G : BufTy.Contents (Elt F) arg6.view.ty) (k : ℕ) (_acc : Unit) : sProp 𝕄G :=
  iprop((arg7.view.loc (c : Thread nD τ) ↦[arg7.view.set]{fullShare} X7)
    ∗ (∃ f, (arg6.view.loc (c : Thread nD τ) ↦[arg6.view.set]{fullShare} f) ∗ ⌜f = arg6.view.writes (Elt F) G (pbB (F := F) 𝒱 c bd arg0 harg0 arg1 harg1 arg2 harg2 arg3 harg3 arg4 harg4 arg5 harg5 arg6 harg6 arg7 harg7 arg8 harg8 arg9 harg9 arg10 X7 G k)⌝)
    ∗ (∃ f8, (arg8.view.loc (c : Thread nD τ) ↦[arg8.view.set]{fullShare} f8)) ∗ (∃ f9, (arg9.view.loc (c : Thread nD τ) ↦[arg9.view.set]{fullShare} f9)))

set_option warn.classDefReducibility false in
/-- The outer loop by its invariant. -/
@[sl_loop] def loopInvB (E : Set ℕ) (G : BufTy.Contents (Elt F) arg6.view.ty) :
    LoopInvTy_k2_t1 (F := F) Unit ℕ UU ℕ 𝒱 c bd E arg0 harg0 arg1 harg1 arg2 harg2 arg3 harg3 arg4 harg4 arg5 harg5 arg6 harg6 arg7 harg7 arg8 harg8 arg9 harg9 arg10 where
  inv := invB (F := F) 𝒱 c bd arg0 harg0 arg1 harg1 arg2 harg2 arg3 harg3 arg4 harg4 arg5 harg5 arg6 harg6 arg7 harg7 arg8 harg8 arg9 harg9 arg10 X7 G
  step k acc := by
    iintro ⟨HR, ⟨%f6, HW, %h6⟩, H8, H9⟩
    iapply (wp_wand_r Idealize.ShloMosaic.frame (wpE (defs₀ (F := F)) 𝒱 (c : Thread nD τ) bd) E)
    isplitl [HR HW H8 H9]
    · iapply ((tripB (F := F) 𝒱 c bd arg0 harg0 arg1 harg1 arg2 harg2 arg3 harg3 arg4 harg4 arg5 harg5 arg6 harg6 arg7 harg7 arg8 harg8 arg9 harg9 arg10 X7 k).2 E f6)
      isplitl [HR]; · iexact HR
      isplitl [HW]; · iexact HW
      isplitl [H8]; · iexact H8
      iexact H9
    · iintro %yld ⟨HR, HW, H8, H9⟩
      isplitl [HR]; · iexact HR
      isplitl [HW]
      · iexists _; isplitl [HW]; · iexact HW
        ipureintro; rw [pbB_succ, h6, ← View.writes_append]
      isplitl [H8]; · iexact H8
      iexact H9

end Cert.Proof.KernelIdeal
-- ==== Proof.KernelIdeal.CombineRun.lean ====
/-
  The combine kernel (`cc2_combine`) run once at symbolic operands. It stores every block of the row results from the sums; a word
  made of those sums then decides whether the second branch runs, which copies the embeddings on chip and computes every block again.
  One run for each outcome, and one statement over both.
-/
module

public import proofs.«01_k».proof.Proof.KernelIdeal.CombineLoop
public import proofs.«01_k».proof.Proof.KernelIdeal.SumsRun
public import proofs.«01_k».proof.Proof.Gen.KernelIdeal.Launch
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The propositions of the runs. -/
local notation "𝕄G" => MT nD τ sig Unit (Elt F) ℕ UU ℕ

variable (c : Dev nD)
  (M0 : Memref sig .tc .smem S1x1 .f32) (h0 : M0.IsWhole)
  (M1 : Memref sig .tc .vmem S32x8x512 .f32) (h1 : M1.IsWhole)
  (M2 : Memref sig .tc .vmem S2x8192 .f32) (h2 : M2.IsWhole)
  (M3 : Memref sig .tc .vmem S2x8192 .i32) (h3 : M3.IsWhole)
  (M4 : Memref sig .tc .hbm S16384x128 .bf16) (h4 : M4.IsWhole)
  (M5 : Memref sig .tc .vmem S2x8192 .f32) (h5 : M5.IsWhole)
  (M6 : Memref sig .tc .vmem S2x8192 .f32) (h6 : M6.IsWhole)
  (M7 : Memref sig .tc .vmem S16384x128 .bf16) (h7 : M7.IsWhole)
  (M8 : Memref sig .tc .vmem S1x512 .f32) (h8 : M8.IsWhole)
  (M9 : Memref sig .tc .vmem S1x512 .f32) (h9 : M9.IsWhole)
  (f0 : Bf (F := F) c M0) (f1 : Bf (F := F) c M1) (f2 : Bf (F := F) c M2) (f3 : Bf (F := F) c M3) (f4 : Bf (F := F) c M4)

/-- The word that sends the kernel into its second branch: one when some row's sum lies outside the range that the first branch
    trusts. -/
def chk (f1 : Bf (F := F) c M1) : BitVec 1 :=
  let m0 := k2_pay13 (F := F) (View.readAt (Elt F) M1.view (Rect.unit (s := S32x8x512) ![0, 0, 0] S1x8x512.size inb_S32x8x512_S1x8x512_0_0_0).toLoadRect f1) (View.readAt (Elt F) M1.view (Rect.unit (s := S32x8x512) ![1, 0, 0] S1x8x512.size inb_S32x8x512_S1x8x512_1_0_0).toLoadRect f1)
  let m1 := k2_pay20 (F := F) m0 (View.readAt (Elt F) M1.view (Rect.unit (s := S32x8x512) ![2, 0, 0] S1x8x512.size inb_S32x8x512_S1x8x512_2_0_0).toLoadRect f1) (View.readAt (Elt F) M1.view (Rect.unit (s := S32x8x512) ![3, 0, 0] S1x8x512.size inb_S32x8x512_S1x8x512_3_0_0).toLoadRect f1)
  let m2 := k2_pay27 (F := F) m1 (View.readAt (Elt F) M1.view (Rect.unit (s := S32x8x512) ![4, 0, 0] S1x8x512.size inb_S32x8x512_S1x8x512_4_0_0).toLoadRect f1) (View.readAt (Elt F) M1.view (Rect.unit (s := S32x8x512) ![5, 0, 0] S1x8x512.size inb_S32x8x512_S1x8x512_5_0_0).toLoadRect f1)
  let m3 := k2_pay34 (F := F) m2 (View.readAt (Elt F) M1.view (Rect.unit (s := S32x8x512) ![6, 0, 0] S1x8x512.size inb_S32x8x512_S1x8x512_6_0_0).toLoadRect f1) (View.readAt (Elt F) M1.view (Rect.unit (s := S32x8x512) ![7, 0, 0] S1x8x512.size inb_S32x8x512_S1x8x512_7_0_0).toLoadRect f1)
  let m4 := k2_pay41 (F := F) m3 (View.readAt (Elt F) M1.view (Rect.unit (s := S32x8x512) ![8, 0, 0] S1x8x512.size inb_S32x8x512_S1x8x512_8_0_0).toLoadRect f1) (View.readAt (Elt F) M1.view (Rect.unit (s := S32x8x512) ![9, 0, 0] S1x8x512.size inb_S32x8x512_S1x8x512_9_0_0).toLoadRect f1)
  let m5 := k2_pay48 (F := F) m4 (View.readAt (Elt F) M1.view (Rect.unit (s := S32x8x512) ![10, 0, 0] S1x8x512.size inb_S32x8x512_S1x8x512_10_0_0).toLoadRect f1) (View.readAt (Elt F) M1.view (Rect.unit (s := S32x8x512) ![11, 0, 0] S1x8x512.size inb_S32x8x512_S1x8x512_11_0_0).toLoadRect f1)
  let m6 := k2_pay55 (F := F) m5 (View.readAt (Elt F) M1.view (Rect.unit (s := S32x8x512) ![12, 0, 0] S1x8x512.size inb_S32x8x512_S1x8x512_12_0_0).toLoadRect f1) (View.readAt (Elt F) M1.view (Rect.unit (s := S32x8x512) ![13, 0, 0] S1x8x512.size inb_S32x8x512_S1x8x512_13_0_0).toLoadRect f1)
  let m7 := k2_pay62 (F := F) m6 (View.readAt (Elt F) M1.view (Rect.unit (s := S32x8x512) ![14, 0, 0] S1x8x512.size inb_S32x8x512_S1x8x512_14_0_0).toLoadRect f1) (View.readAt (Elt F) M1.view (Rect.unit (s := S32x8x512) ![15, 0, 0] S1x8x512.size inb_S32x8x512_S1x8x512_15_0_0).toLoadRect f1)
  let m8 := k2_pay69 (F := F) m7 (View.readAt (Elt F) M1.view (Rect.unit (s := S32x8x512) ![16, 0, 0] S1x8x512.size inb_S32x8x512_S1x8x512_16_0_0).toLoadRect f1) (View.readAt (Elt F) M1.view (Rect.unit (s := S32x8x512) ![17, 0, 0] S1x8x512.size inb_S32x8x512_S1x8x512_17_0_0).toLoadRect f1)
  let m9 := k2_pay76 (F := F) m8 (View.readAt (Elt F) M1.view (Rect.unit (s := S32x8x512) ![18, 0, 0] S1x8x512.size inb_S32x8x512_S1x8x512_18_0_0).toLoadRect f1) (View.readAt (Elt F) M1.view (Rect.unit (s := S32x8x512) ![19, 0, 0] S1x8x512.size inb_S32x8x512_S1x8x512_19_0_0).toLoadRect f1)
  let m10 := k2_pay83 (F := F) m9 (View.readAt (Elt F) M1.view (Rect.unit (s := S32x8x512) ![20, 0, 0] S1x8x512.size inb_S32x8x512_S1x8x512_20_0_0).toLoadRect f1) (View.readAt (Elt F) M1.view (Rect.unit (s := S32x8x512) ![21, 0, 0] S1x8x512.size inb_S32x8x512_S1x8x512_21_0_0).toLoadRect f1)
  let m11 := k2_pay90 (F := F) m10 (View.readAt (Elt F) M1.view (Rect.unit (s := S32x8x512) ![22, 0, 0] S1x8x512.size inb_S32x8x512_S1x8x512_22_0_0).toLoadRect f1) (View.readAt (Elt F) M1.view (Rect.unit (s := S32x8x512) ![23, 0, 0] S1x8x512.size inb_S32x8x512_S1x8x512_23_0_0).toLoadRect f1)
  let m12 := k2_pay97 (F := F) m11 (View.readAt (Elt F) M1.view (Rect.unit (s := S32x8x512) ![24, 0, 0] S1x8x512.size inb_S32x8x512_S1x8x512_24_0_0).toLoadRect f1) (View.readAt (Elt F) M1.view (Rect.unit (s := S32x8x512) ![25, 0, 0] S1x8x512.size inb_S32x8x512_S1x8x512_25_0_0).toLoadRect f1)
  let m13 := k2_pay104 (F := F) m12 (View.readAt (Elt F) M1.view (Rect.unit (s := S32x8x512) ![26, 0, 0] S1x8x512.size inb_S32x8x512_S1x8x512_26_0_0).toLoadRect f1) (View.readAt (Elt F) M1.view (Rect.unit (s := S32x8x512) ![27, 0, 0] S1x8x512.size inb_S32x8x512_S1x8x512_27_0_0).toLoadRect f1)
  let m14 := k2_pay111 (F := F) m13 (View.readAt (Elt F) M1.view (Rect.unit (s := S32x8x512) ![28, 0, 0] S1x8x512.size inb_S32x8x512_S1x8x512_28_0_0).toLoadRect f1) (View.readAt (Elt F) M1.view (Rect.unit (s := S32x8x512) ![29, 0, 0] S1x8x512.size inb_S32x8x512_S1x8x512_29_0_0).toLoadRect f1)
  let m15 := k2_pay118 (F := F) m14 (View.readAt (Elt F) M1.view (Rect.unit (s := S32x8x512) ![30, 0, 0] S1x8x512.size inb_S32x8x512_S1x8x512_30_0_0).toLoadRect f1) (View.readAt (Elt F) M1.view (Rect.unit (s := S32x8x512) ![31, 0, 0] S1x8x512.size inb_S32x8x512_S1x8x512_31_0_0).toLoadRect f1)
  Scalar.cmpi .ne (Scalar.extui (Scalar.cmpi .eq (extractAt ![0, 0, 0] (k2_pay122 m15) inpos_S1x1x1_p0_0_0) 0#32)) 0#32

/-- The run that takes the second branch: what it leaves in the loss and in the row results. -/
@[irreducible] def combineRunB (hv : chk (F := F) c M1 f1 = 1#1) :
    Σ' (W5 : Bf (F := F) c M5) (W6 : Bf (F := F) c M6),
      ∀ (f5 : Bf (F := F) c M5) (f6 : Bf (F := F) c M6) (f7 : Bf (F := F) c M7) (f8 : Bf (F := F) c M8) (f9 : Bf (F := F) c M9)
        (W : Waits sig Unit) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
            ∗ semVal ((c : Thread nD τ), .dma 13) 0 ∗ owes (c : Thread nD τ) 0 W
            ∗ (iprop(pt c M0 f0 ∗ pt c M1 f1 ∗ pt c M2 f2 ∗ pt c M3 f3 ∗ pt c M4 f4 ∗ pt c M5 W5 ∗ pt c M6 W6 ∗ (∃ f, pt c M7 f) ∗ (∃ f, pt c M8 f)
                ∗ (∃ f, pt c M9 f) ∗ semVal ((c : Thread nD τ), .dma 13) 0 ∗ ∃ W, owes (c : Thread nD τ) 0 W) -∗ Q ⟨⟩))
          ⊢ wp frame (wpE (defs₀ (F := F)) Variants.none (c : Thread nD τ) none) Set.univ
              (cc2_combine (F := F) M0 h0 M1 h1 M2 h2 M3 h3 M4 h4 M5 h5 M6 h6 M7 h7 M8 h8 M9 h9 cc2_scratch3) Q := by
  refine ⟨?_, ?_, fun f5 f6 f7 f8 f9 W Q => ?run⟩
  case run =>
    iintro ⟨H0, H1, H2, H3, H4, H5, H6, H7, H8, H9, Hd, HO, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    sl_close

/-- The run that passes the second branch by. -/
@[irreducible] def combineRunA (hv : ¬ chk (F := F) c M1 f1 = 1#1) :
    Σ' (W5 : Bf (F := F) c M5) (W6 : Bf (F := F) c M6),
      ∀ (f5 : Bf (F := F) c M5) (f6 : Bf (F := F) c M6) (f7 : Bf (F := F) c M7) (f8 : Bf (F := F) c M8) (f9 : Bf (F := F) c M9)
        (W : Waits sig Unit) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
            ∗ semVal ((c : Thread nD τ), .dma 13) 0 ∗ owes (c : Thread nD τ) 0 W
            ∗ (iprop(pt c M0 f0 ∗ pt c M1 f1 ∗ pt c M2 f2 ∗ pt c M3 f3 ∗ pt c M4 f4 ∗ pt c M5 W5 ∗ pt c M6 W6 ∗ (∃ f, pt c M7 f) ∗ (∃ f, pt c M8 f)
                ∗ (∃ f, pt c M9 f) ∗ semVal ((c : Thread nD τ), .dma 13) 0 ∗ ∃ W, owes (c : Thread nD τ) 0 W) -∗ Q ⟨⟩))
          ⊢ wp frame (wpE (defs₀ (F := F)) Variants.none (c : Thread nD τ) none) Set.univ
              (cc2_combine (F := F) M0 h0 M1 h1 M2 h2 M3 h3 M4 h4 M5 h5 M6 h6 M7 h7 M8 h8 M9 h9 cc2_scratch3) Q := by
  refine ⟨?_, ?_, fun f5 f6 f7 f8 f9 W Q => ?run⟩
  case run =>
    iintro ⟨H0, H1, H2, H3, H4, H5, H6, H7, H8, H9, Hd, HO, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    sl_close

end Cert.Proof.KernelIdeal
-- ==== Proof.KernelIdeal.CombineRegion.lean ====
/-
  The combine call as a region of the whole program: what it finds in the arrays, what its body leaves, and the region entered from every
  unscoped buffer and left with the arrays of the loss and of the row results replaced. The copy that the second branch makes has a
  semaphore of its own, which the region's invariant holds at zero.
-/
module

public import proofs.«01_k».proof.Proof.KernelIdeal.SumsRegion
public import proofs.«01_k».proof.Proof.KernelIdeal.CombineRun
public import Idealize.ShloMosaic.Lib.Pipeline.RegionsLoop
public import proofs.«01_k».proof.Proof.Gen.KernelIdeal.Regions
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The propositions of the runs. -/
local notation "𝕄G" => MT nD τ sig Unit (Elt F) ℕ UU ℕ

variable (V : Entry (F := F))

/-- Window 0 as its fetch stages it. -/
abbrev stgC0 (c : Dev nD) : (cfg2.win 0).block.Idx → Elt F (cfg2.win 0).elt :=
  ((cfg2.win 0).blk t2_0).view.read (Elt F) (V c main_arg1)
/-- Window 1 as its fetch stages it. -/
abbrev stgC1 (c : Dev nD) : (cfg2.win 1).block.Idx → Elt F (cfg2.win 1).elt :=
  ((cfg2.win 1).blk t2_0).view.read (Elt F) (V c main_v0)
/-- Window 2 as its fetch stages it. -/
abbrev stgC2 (c : Dev nD) : (cfg2.win 2).block.Idx → Elt F (cfg2.win 2).elt :=
  ((cfg2.win 2).blk t2_0).view.read (Elt F) (V c main_v2_0)
/-- Window 3 as its fetch stages it. -/
abbrev stgC3 (c : Dev nD) : (cfg2.win 3).block.Idx → Elt F (cfg2.win 3).elt :=
  ((cfg2.win 3).blk t2_0).view.read (Elt F) (V c main_v2_1)

/-- The word that decides the second branch, from the staged sums. -/
abbrev chkC (c : Dev nD) : Prop := chk (F := F) c (Memref.whole cc2_stg1_0) (stgC1 V c) = 1#1

/-- What the combine kernel leaves in the loss, from the staged operands. -/
def lossOut (c : Dev nD) : Buf (Elt F) ((c : Thread nD τ).loc cc2_stg4_0) :=
  if hv : chkC V c then (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).1
  else (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).1
/-- What the combine kernel leaves in the row results, from the staged operands. -/
def lseOut (c : Dev nD) : Buf (Elt F) ((c : Thread nD τ).loc cc2_stg5_0) :=
  if hv : chkC V c then (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.1
  else (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.1

/-- The run, over the memrefs. -/
theorem combineOut_pt (c : Dev nD)
    (f5 : Buf (Elt F) ((c : Thread nD τ).loc cc2_stg4_0)) (f6 : Buf (Elt F) ((c : Thread nD τ).loc cc2_stg5_0)) (f7 : Buf (Elt F) ((c : Thread nD τ).loc cc2_scratch0)) (f8 : Buf (Elt F) ((c : Thread nD τ).loc cc2_scratch1)) (f9 : Buf (Elt F) ((c : Thread nD τ).loc cc2_scratch2))
    (W : Waits sig Unit) (Q : PUnit → sProp 𝕄G) (Wl Ws) (hl : Wl = lossOut V c) (hs : Ws = lseOut V c) :
    iprop(pt c (Memref.whole cc2_stg0_0) (stgC0 V c) ∗ pt c (Memref.whole cc2_stg1_0) (stgC1 V c) ∗ pt c (Memref.whole cc2_stg2_0) (stgC2 V c) ∗ pt c (Memref.whole cc2_stg3_0) (stgC3 V c) ∗ pt c (Memref.whole main_arg0) (V c main_arg0)
        ∗ pt c (Memref.whole cc2_stg4_0) f5 ∗ pt c (Memref.whole cc2_stg5_0) f6 ∗ pt c (Memref.whole cc2_scratch0) f7 ∗ pt c (Memref.whole cc2_scratch1) f8 ∗ pt c (Memref.whole cc2_scratch2) f9
        ∗ semVal ((c : Thread nD τ), .dma 13) 0 ∗ owes (c : Thread nD τ) 0 W
        ∗ (iprop(pt c (Memref.whole cc2_stg0_0) (stgC0 V c) ∗ pt c (Memref.whole cc2_stg1_0) (stgC1 V c) ∗ pt c (Memref.whole cc2_stg2_0) (stgC2 V c) ∗ pt c (Memref.whole cc2_stg3_0) (stgC3 V c) ∗ pt c (Memref.whole main_arg0) (V c main_arg0)
            ∗ pt c (Memref.whole cc2_stg4_0) Wl ∗ pt c (Memref.whole cc2_stg5_0) Ws ∗ (∃ f, pt c (Memref.whole cc2_scratch0) f) ∗ (∃ f, pt c (Memref.whole cc2_scratch1) f) ∗ (∃ f, pt c (Memref.whole cc2_scratch2) f)
            ∗ semVal ((c : Thread nD τ), .dma 13) 0 ∗ ∃ W, owes (c : Thread nD τ) 0 W) -∗ Q ⟨⟩))
      ⊢ wp frame (wpE (defs₀ (F := F)) Variants.none (c : Thread nD τ) none) Set.univ
          (cc2_combine (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _) cc2_scratch3) Q := by
  subst hl hs
  by_cases hv : chkC V c
  · unfold lossOut lseOut
    rw [dif_pos hv, dif_pos hv]
    exact (combineRunB (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.2 f5 f6 f7 f8 f9 W Q
  · unfold lossOut lseOut
    rw [dif_neg hv, dif_neg hv]
    exact (combineRunA (F := F) c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 V c) (stgC1 V c) (stgC2 V c) (stgC3 V c) (V c main_arg0) hv).2.2 f5 f6 f7 f8 f9 W Q

/-- The run, over the buffers themselves. -/
theorem combineOut_run (c : Dev nD)
    (f5 : Buf (Elt F) ((c : Thread nD τ).loc cc2_stg4_0)) (f6 : Buf (Elt F) ((c : Thread nD τ).loc cc2_stg5_0)) (f7 : Buf (Elt F) ((c : Thread nD τ).loc cc2_scratch0)) (f8 : Buf (Elt F) ((c : Thread nD τ).loc cc2_scratch1)) (f9 : Buf (Elt F) ((c : Thread nD τ).loc cc2_scratch2))
    (W : Waits sig Unit) (Q : PUnit → sProp 𝕄G) :
    iprop((((c : Thread nD τ).loc cc2_stg0_0) ↦{fullShare} (stgC0 V c)) ∗ (((c : Thread nD τ).loc cc2_stg1_0) ↦{fullShare} (stgC1 V c)) ∗ (((c : Thread nD τ).loc cc2_stg2_0) ↦{fullShare} (stgC2 V c)) ∗ (((c : Thread nD τ).loc cc2_stg3_0) ↦{fullShare} (stgC3 V c)) ∗ (((c : Thread nD τ).loc main_arg0) ↦{fullShare} (V c main_arg0))
        ∗ (((c : Thread nD τ).loc cc2_stg4_0) ↦{fullShare} f5) ∗ (((c : Thread nD τ).loc cc2_stg5_0) ↦{fullShare} f6) ∗ (((c : Thread nD τ).loc cc2_scratch0) ↦{fullShare} f7) ∗ (((c : Thread nD τ).loc cc2_scratch1) ↦{fullShare} f8) ∗ (((c : Thread nD τ).loc cc2_scratch2) ↦{fullShare} f9)
        ∗ semVal ((c : Thread nD τ), .dma 13) 0 ∗ owes (c : Thread nD τ) 0 W
        ∗ (iprop((((c : Thread nD τ).loc cc2_stg0_0) ↦{fullShare} (stgC0 V c)) ∗ (((c : Thread nD τ).loc cc2_stg1_0) ↦{fullShare} (stgC1 V c)) ∗ (((c : Thread nD τ).loc cc2_stg2_0) ↦{fullShare} (stgC2 V c)) ∗ (((c : Thread nD τ).loc cc2_stg3_0) ↦{fullShare} (stgC3 V c)) ∗ (((c : Thread nD τ).loc main_arg0) ↦{fullShare} (V c main_arg0))
            ∗ (((c : Thread nD τ).loc cc2_stg4_0) ↦{fullShare} lossOut V c) ∗ (((c : Thread nD τ).loc cc2_stg5_0) ↦{fullShare} lseOut V c) ∗ (∃ f, ((c : Thread nD τ).loc cc2_scratch0) ↦{fullShare} f) ∗ (∃ f, ((c : Thread nD τ).loc cc2_scratch1) ↦{fullShare} f) ∗ (∃ f, ((c : Thread nD τ).loc cc2_scratch2) ↦{fullShare} f)
            ∗ semVal ((c : Thread nD τ), .dma 13) 0 ∗ ∃ W, owes (c : Thread nD τ) 0 W) -∗ Q ⟨⟩))
      ⊢ wp frame (wpE (defs₀ (F := F)) Variants.none (c : Thread nD τ) none) Set.univ
          (cc2_combine (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _) cc2_scratch3) Q := by
  have h := combineOut_pt V c f5 f6 f7 f8 f9 W Q _ _ rfl rfl
  generalize lossOut V c = Wl at h ⊢
  generalize lseOut V c = Ws at h ⊢
  rw [pt_whole, pt_whole, pt_whole, pt_whole, pt_whole, pt_whole, pt_whole, pt_whole, pt_whole, pt_whole, pt_whole, pt_whole, pt_whole_ex, pt_whole_ex, pt_whole_ex] at h
  exact h

/-- The semaphore of the kernel's own copy. -/
abbrev osem : Fin 1 → SemLoc sig := fun _ => .dma 13
theorem ownSemFacts : Pipeline.OwnSemFacts spec2 osem := by decide
theorem ownSems0_eq (c : Dev nD) :
    (Pipeline.ownSems0 (Ix := Unit) (Name := ℕ) (U := UU) (Lvl := ℕ) (Val := Elt F) (τ := τ) osem c : sProp 𝕄G)
      = semVal ((c : Thread nD τ), .dma 13) 0 :=
  Pipeline.ownSems0_eq_of_list c osem [0] (by decide) (by decide)

/-- The invariant between the region's ends: the embeddings where the copy reads them, the copy's semaphore at zero, and the scoped
    buffers that the pipeline does not stage at something. -/
def ΦC (c : Dev nD) : sProp 𝕄G :=
  iprop((((c : Thread nD τ).loc main_arg0) ↦{fullShare} V c main_arg0) ∗ semVal ((c : Thread nD τ), .dma 13) 0
    ∗ Pipeline.scopedRest (Ix := Unit) (Name := ℕ) (U := UU) (Lvl := ℕ) (Val := Elt F) spec2 c)

/-- The region's proof data, entered at `V`: the arrays at `V`; after the body the inputs as fetched and the two results at the run's. -/
def datC (c : Dev nD) : Dat τ (Elt F) Unit ℕ UU ℕ cfg2 c where
  A w := V c (Pipeline.arrRef spec2 w)
  after w _ := match w with
    | ⟨0, _⟩ => stgC0 V c
    | ⟨1, _⟩ => stgC1 V c
    | ⟨2, _⟩ => stgC2 V c
    | ⟨3, _⟩ => stgC3 V c
    | ⟨4, _⟩ => lossOut V c
    | ⟨5, _⟩ => lseOut V c
  Φ _ := ΦC V c
  q _ := fullShare
  owed _ := 0

theorem beforeC_0 (c : Dev nD) (d) : (datC V c).before 0 t2_0 d = stgC0 V c := by unfold Dat.before; rw [if_pos (by decide)]; rfl
theorem beforeC_1 (c : Dev nD) (d) : (datC V c).before 1 t2_0 d = stgC1 V c := by unfold Dat.before; rw [if_pos (by decide)]; rfl
theorem beforeC_2 (c : Dev nD) (d) : (datC V c).before 2 t2_0 d = stgC2 V c := by unfold Dat.before; rw [if_pos (by decide)]; rfl
theorem beforeC_3 (c : Dev nD) (d) : (datC V c).before 3 t2_0 d = stgC3 V c := by unfold Dat.before; rw [if_pos (by decide)]; rfl

/-- The body obligation: the staging buffers, the scratch and the invariant taken apart, the run applied, its post put back. -/
theorem body_obligationC (c : Dev nD) : BodyObligation (datC V c) (defs₀ (F := F)) 𝒱₀ () Set.univ := fun t => by
  obtain rfl := fin_N2 t
  rw [bigSep_W2, bigSep_W2]
  simp only [owns_whole_eq]
  rw [show (datC V c).Φ t2_0.castSucc = ΦC V c from rfl, show (datC V c).Φ t2_0.succ = ΦC V c from rfl]
  unfold ΦC Dat.owesAt Pipeline.owesWithin
  rw [scopedRest2_eq, show (datC V c).owed t2_0.castSucc = 0 from rfl, show (datC V c).owed t2_0.succ = 0 from rfl]
  iintro ⟨⟨Hx, Hd, Hr1, Hr2, Hr3, Hr4, Hr5, Hr6, Hr7, Hr8, Hr9, Hr10, Hr11, ⟨%f7, H7⟩, ⟨%f8, H8⟩, ⟨%f9, H9⟩, Hr12⟩, ⟨%W, %hW, HO⟩, ⟨%d0, %f0, %hf0, H0⟩, ⟨%d1, %f1, %hf1, H1⟩, ⟨%d2, %f2, %hf2, H2⟩, ⟨%d3, %f3, %hf3, H3⟩, ⟨%d5, %f5, -, H5⟩, ⟨%d6, %f6, -, H6⟩⟩
  rw [beforeC_0] at hf0
  rw [beforeC_1] at hf1
  rw [beforeC_2] at hf2
  rw [beforeC_3] at hf3
  subst hf0 hf1 hf2 hf3
  iapply (combineOut_run V c f5 f6 f7 f8 f9 W _)
  isplitl [H0]; · iexact H0
  isplitl [H1]; · iexact H1
  isplitl [H2]; · iexact H2
  isplitl [H3]; · iexact H3
  isplitl [Hx]; · iexact Hx
  isplitl [H5]; · iexact H5
  isplitl [H6]; · iexact H6
  isplitl [H7]; · iexact H7
  isplitl [H8]; · iexact H8
  isplitl [H9]; · iexact H9
  isplitl [Hd]; · iexact Hd
  isplitl [HO]; · iexact HO
  iintro ⟨H0, H1, H2, H3, Hx, H5, H6, H7, H8, H9, Hd, ⟨%W', HO⟩⟩
  isplitl [Hx Hd Hr1 Hr2 Hr3 Hr4 Hr5 Hr6 Hr7 Hr8 Hr9 Hr10 Hr11 H7 H8 H9 Hr12]
  · isplitl [Hx]; · iexact Hx
    isplitl [Hd]; · iexact Hd
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [H7]; · iexact H7
    isplitl [H8]; · iexact H8
    isplitl [H9]; · iexact H9
    iexact Hr12
  isplitl [HO]
  · iexists W'; isplitr; · ipureintro; exact fun _ _ => Or.inl trivial
    iexact HO
  isplitl [H0]; · iexists _; isplitr; swap; (· iexact H0); ipureintro; dsimp only [datC]
  isplitl [H1]; · iexists _; isplitr; swap; (· iexact H1); ipureintro; dsimp only [datC]
  isplitl [H2]; · iexists _; isplitr; swap; (· iexact H2); ipureintro; dsimp only [datC]
  isplitl [H3]; · iexists _; isplitr; swap; (· iexact H3); ipureintro; dsimp only [datC]
  isplitl [H5]; · iexists _; isplitr; swap; (· iexact H5); ipureintro; dsimp only [datC]
  iexists _; isplitr; swap; (· iexact H6); ipureintro; dsimp only [datC]

/-- The two results' arrays after the region. -/
def lossArr (c : Dev nD) : Buf (Elt F) ((c : Thread nD τ).loc main_v3_0) := (datC V c).arrAt 4 cfg2.N
@[inherit_doc lossArr]
def lseArr (c : Dev nD) : Buf (Elt F) ((c : Thread nD τ).loc main_v3_1) := (datC V c).arrAt 5 cfg2.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the two results' arrays at the run's results and
    agrees with `V` off them. -/
def regC (Vp : Entry (F := F)) (hp : ∀ c, pdats 2 c = datC V c) (hl : ∀ c, Vp c main_v3_0 = lossArr V c) (hs : ∀ c, Vp c main_v3_1 = lseArr V c)
    (hne : ∀ c (b : Ref sig .tc), b ≠ main_v3_0 → b ≠ main_v3_1 → Vp c b = V c b) :
    Pipeline.RegionSeg (pcfgs (F := F)) adm pdats () defs₀ 𝒱₀ L lv 2 where
  win := (launch2).win.to₀
  block_pos := (launch2).block_pos
  stage_whole := (launch2).stage_whole
  K := Fin 1
  osem := osem
  ho := ownSemFacts
  hbody c := by rw [hp c]; exact (body_obligationC V c).loose
  hwaits := Pipeline.hwaits_of_owed_zero _ _ _ _ L lv 2 fun c _ => by rw [hp c]; rfl
  pre c := iprop(unscopedBufs c (V c) ∗ Rides c)
  post c := iprop(unscopedBufs c (Vp c) ∗ Rides c)
  X c := iprop((((c : Thread nD τ).loc main_arg0) ↦{fullShare} V c main_arg0) ∗ semVal ((c : Thread nD τ), .dma 13) 0)
  Y c := ((c : Thread nD τ).loc main_arg0) ↦{fullShare} V c main_arg0
  Z c := iprop((((c : Thread nD τ).loc main_arg2) ↦{fullShare} V c main_arg2) ∗ (((c : Thread nD τ).loc main_v1) ↦{fullShare} V c main_v1))
  hentry c := by
    rw [ownSems0_eq]
    have hsplit := (Pipeline.arrays_of_unscopedBufs (p := 2) (pcfgs (F := F)) adm pdats (launch2).win (launch2).arr_whole c
      ((pdats 2 c).share_full fun _ => by rw [hp c]; rfl) (V c) fun _ => by rw [hp c]; rfl).trans (sep_mono .rfl (Entails.of_eq (unscopedRest2_eq c (V c))))
    iintro ⟨⟨Hub, HO⟩, Hos, -⟩
    ihave H := hsplit $$ Hub
    icases H with ⟨Ha, Hx, Hz⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitl [Hx Hos]
    · isplitl [Hx]; · iexact Hx
      iexact Hos
    iexact Hz
  hin c := by
    rw [hp c, show (datC V c).Φ 0 = ΦC V c from rfl]
    unfold ΦC
    iintro ⟨⟨Hx, Hos⟩, -, Hr⟩
    isplitl [Hx]; · iexact Hx
    isplitl [Hos] <;> iassumption
  hout c := by
    rw [ownSems0_eq, hp c]
    change ΦC V c ⊢ _
    unfold ΦC
    iintro ⟨Hx, Hos, Hr⟩
    isplitl [Hx]; · iexact Hx
    isplitl [Hos] <;> iassumption
  hexit c := by
    have hjoin := (sep_mono .rfl (Entails.of_eq (unscopedRest2_eq c (V c)).symm)).trans (Pipeline.unscopedBufs_of_arrays (p := 2) (pcfgs (F := F)) adm (Ix := Unit) (Name := ℕ) (U := UU) (Lvl := ℕ) (launch2).win (launch2).arr_whole c
      pdats ((pdats 2 c).share_full fun _ => by rw [hp c]; rfl) (V c) (Vp c) ((pdats 2 c).arrAt · cfg2.N)
      (fun w => by
        rw [hp c]
        fin_cases w
        · exact ((datC V c).arrAt_in 0 rfl _).trans (hne c main_arg1 (by decide) (by decide)).symm
        · exact ((datC V c).arrAt_in 1 rfl _).trans (hne c main_v0 (by decide) (by decide)).symm
        · exact ((datC V c).arrAt_in 2 rfl _).trans (hne c main_v2_0 (by decide) (by decide)).symm
        · exact ((datC V c).arrAt_in 3 rfl _).trans (hne c main_v2_1 (by decide) (by decide)).symm
        · exact (hl c).symm
        · exact (hs c).symm)
      (fun b hb => hne c b (fun h => hb (h ▸ Finset.mem_image.mpr ⟨4, Finset.mem_univ _, rfl⟩)) (fun h => hb (h ▸ Finset.mem_image.mpr ⟨5, Finset.mem_univ _, rfl⟩))))
    iintro ⟨Ha, HO, Hx, Hz⟩
    imodintro
    isplitl [Ha Hx Hz]
    · iapply hjoin
      isplitl [Ha]; · iexact Ha
      isplitl [Hx]; · iexact Hx
      iexact Hz
    rw [hp c]
    unfold Pipeline.Dat.owesAt Pipeline.owesWithin
    icases HO with ⟨%W, -, HO⟩; iexists W; iexact HO

end Cert.Proof.KernelIdeal
-- ==== Proof.KernelIdeal.PosLoop.lean ====
/-
  The loops of the positives kernel (`cc1_positives`). One trip of the first loop takes 512 positions of both views: it lays their
  embeddings out transposed, adds them to their classes' sums and adds the positions to their classes' counts. One trip of the second
  loop gathers the classes' sums back to 512 positions and stores the two views' positive sums and counts.
-/
module

public import proofs.«01_k».proof.Proof.KernelIdeal.SumsLoop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The stores of the trips before trip `k`, newest first, of a loop whose trip `t` makes the stores `Ls t`. -/
def storesOf {α : Type*} {n : ℕ} (Ls : Fin n → List α) : ℕ → List α
  | 0 => []
  | k + 1 => if h : k < n then Ls ⟨k, h⟩ ++ storesOf Ls k else storesOf Ls k

theorem storesOf_succ {α : Type*} {n : ℕ} (Ls : Fin n → List α) (k : Fin n) : storesOf Ls (k.val + 1) = Ls k ++ storesOf Ls k.val := by
  rw [storesOf.eq_2]; exact dif_pos k.isLt

/-- Exactly the stores that some trip before `k` makes. -/
theorem mem_storesOf {α : Type*} {n : ℕ} (Ls : Fin n → List α) (p : α) :
    ∀ k, k ≤ n → (p ∈ storesOf Ls k ↔ ∃ t : Fin n, t.val < k ∧ p ∈ Ls t) := by
  intro k
  induction k with
  | zero => exact fun _ => ⟨fun h => absurd h List.not_mem_nil, fun ⟨_, h, _⟩ => absurd h (Nat.not_lt_zero _)⟩
  | succ k ih =>
    intro hk
    have e := storesOf_succ Ls ⟨k, hk⟩
    dsimp only at e
    rw [e, List.mem_append, ih (Nat.le_of_succ_le hk)]
    constructor
    · rintro (h | ⟨t, ht, h⟩)
      · exact ⟨⟨k, hk⟩, Nat.lt_succ_self k, h⟩
      · exact ⟨t, Nat.lt_succ_of_lt ht, h⟩
    · rintro ⟨t, ht, h⟩
      rcases Nat.lt_succ_iff_lt_or_eq.mp ht with ht | ht
      · exact Or.inr ⟨t, ht, h⟩
      · obtain rfl : t = ⟨k, hk⟩ := Fin.ext ht
        exact Or.inl h

/-- What `k` trips make of `g` when trip `t` makes `step t f` of `f`. -/
def runTrips {α : Type*} {n : ℕ} (step : Fin n → α → α) (g : α) : ℕ → α
  | 0 => g
  | k + 1 => if h : k < n then step ⟨k, h⟩ (runTrips step g k) else runTrips step g k

theorem runTrips_succ {α : Type*} {n : ℕ} (step : Fin n → α → α) (g : α) (k : Fin n) :
    runTrips step g (k.val + 1) = step k (runTrips step g k.val) := by
  rw [runTrips.eq_2]; exact dif_pos k.isLt

variable {F : FTy → Type} [FloatOps F] [Named F]

/-- The propositions of the runs. -/
local notation "𝕄G" => MT nD τ sig Unit (Elt F) ℕ UU ℕ

variable (𝒱 : Variants) (c : Dev nD) (bd : Option 𝒱.V)
  (arg0 : Memref sig .tc .vmem S1x8192 .i32) (harg0 : arg0.IsWhole)
  (arg1 : Memref sig .tc .vmem S16384x128 .bf16) (harg1 : arg1.IsWhole)
  (arg2 : Memref sig .tc .vmem S2x8192 .f32) (harg2 : arg2.IsWhole)
  (arg3 : Memref sig .tc .vmem S2x8192 .i32) (harg3 : arg3.IsWhole)
  (arg4 : Memref sig .tc .vmem S256x8192 .bf16) (harg4 : arg4.IsWhole)
  (arg5 : Memref sig .tc .vmem S256x1024 .f32) (harg5 : arg5.IsWhole)
  (arg6 : Memref sig .tc .vmem S512x1024 .bf16) (harg6 : arg6.IsWhole)
  (arg7 : Memref sig .tc .vmem S1024x128 .f32) (harg7 : arg7.IsWhole)
  (X0 : BufTy.Contents (Elt F) arg0.view.ty) (X1 : BufTy.Contents (Elt F) arg1.view.ty)

/-! ## The first loop -/

/-- What a trip of the first loop touches: the labels and the embeddings; the transposed embeddings at `f4`, the classes' sums at `f5`,
    their counts at `f7`. -/
abbrev TripP (f4 : BufTy.Contents (Elt F) arg4.view.ty) (f5 : BufTy.Contents (Elt F) arg5.view.ty) (f7 : BufTy.Contents (Elt F) arg7.view.ty) : sProp 𝕄G :=
  iprop((arg0.view.loc (c : Thread nD τ) ↦[arg0.view.set]{fullShare} X0) ∗ (arg1.view.loc (c : Thread nD τ) ↦[arg1.view.set]{fullShare} X1)
    ∗ (arg4.view.loc (c : Thread nD τ) ↦[arg4.view.set]{fullShare} f4) ∗ (arg5.view.loc (c : Thread nD τ) ↦[arg5.view.set]{fullShare} f5)
    ∗ (arg7.view.loc (c : Thread nD τ) ↦[arg7.view.set]{fullShare} f7))

/-- One trip of the first loop: the pieces it writes. -/
@[irreducible] def tripP (k : Fin k1_t1_loop.trips) :
    Σ' (L4 : List (View.Piece (Elt F) S256x8192 .bf16))
      (L5 : BufTy.Contents (Elt F) arg5.view.ty → List (View.Piece (Elt F) S256x1024 .f32))
      (L7 : BufTy.Contents (Elt F) arg7.view.ty → List (View.Piece (Elt F) S1024x128 .f32)),
      ∀ (E : Set ℕ) (f4 : BufTy.Contents (Elt F) arg4.view.ty) (f5 : BufTy.Contents (Elt F) arg5.view.ty) (f7 : BufTy.Contents (Elt F) arg7.view.ty),
        TripP (F := F) c arg0 arg1 arg4 arg5 arg7 X0 X1 f4 f5 f7
        ⊢ wp frame (wpE (defs₀ (F := F)) 𝒱 (c : Thread nD τ) bd) E
            (k1_t1_body (F := F) arg0 harg0 arg1 harg1 arg2 harg2 arg3 harg3 arg4 harg4 arg5 harg5 arg6 harg6 arg7 harg7 k ())
            (fun _ => TripP (F := F) c arg0 arg1 arg4 arg5 arg7 X0 X1 (arg4.view.writes (Elt F) f4 L4) (arg5.view.writes (Elt F) f5 (L5 f5))
              (arg7.view.writes (Elt F) f7 (L7 f7))) := by
  refine ⟨?_, ?_, ?_, fun E f4 f5 f7 => ?run⟩
  case run =>
    unfold k1_t1_body
    iintro ⟨H0, H1, H4, H5, H7⟩
    sl_exec_parts
    sl_step
    sl_close

/-- The transposed embeddings' pieces before trip `k`. -/
abbrev pb4 (k : ℕ) : List (View.Piece (Elt F) S256x8192 .bf16) :=
  storesOf (fun t => (tripP (F := F) 𝒱 c bd arg0 harg0 arg1 harg1 arg2 harg2 arg3 harg3 arg4 harg4 arg5 harg5 arg6 harg6 arg7 harg7 X0 X1 t).1) k
/-- The classes' sums before trip `k`, from `G` at the loop's start. -/
abbrev st5 (G : BufTy.Contents (Elt F) arg5.view.ty) (k : ℕ) : BufTy.Contents (Elt F) arg5.view.ty :=
  runTrips (fun t f => arg5.view.writes (Elt F) f ((tripP (F := F) 𝒱 c bd arg0 harg0 arg1 harg1 arg2 harg2 arg3 harg3 arg4 harg4 arg5 harg5 arg6 harg6 arg7 harg7 X0 X1 t).2.1 f)) G k
/-- The classes' counts before trip `k`, from `G` at the loop's start. -/
abbrev st7 (G : BufTy.Contents (Elt F) arg7.view.ty) (k : ℕ) : BufTy.Contents (Elt F) arg7.view.ty :=
  runTrips (fun t f => arg7.view.writes (Elt F) f ((tripP (F := F) 𝒱 c bd arg0 harg0 arg1 harg1 arg2 harg2 arg3 harg3 arg4 harg4 arg5 harg5 arg6 harg6 arg7 harg7 X0 X1 t).2.2.1 f)) G k

/-- Before trip `k` the three buffers hold what the trips before left there. -/
abbrev invP (G4 : BufTy.Contents (Elt F) arg4.view.ty) (G5 : BufTy.Contents (Elt F) arg5.view.ty) (G7 : BufTy.Contents (Elt F) arg7.view.ty) (k : ℕ) (_acc : Unit) : sProp 𝕄G :=
  iprop((arg0.view.loc (c : Thread nD τ) ↦[arg0.view.set]{fullShare} X0) ∗ (arg1.view.loc (c : Thread nD τ) ↦[arg1.view.set]{fullShare} X1)
    ∗ (∃ f, (arg4.view.loc (c : Thread nD τ) ↦[arg4.view.set]{fullShare} f) ∗ ⌜f = arg4.view.writes (Elt F) G4 (pb4 (F := F) 𝒱 c bd arg0 harg0 arg1 harg1 arg2 harg2 arg3 harg3 arg4 harg4 arg5 harg5 arg6 harg6 arg7 harg7 X0 X1 k)⌝)
    ∗ (∃ f, (arg5.view.loc (c : Thread nD τ) ↦[arg5.view.set]{fullShare} f) ∗ ⌜f = st5 (F := F) 𝒱 c bd arg0 harg0 arg1 harg1 arg2 harg2 arg3 harg3 arg4 harg4 arg5 harg5 arg6 harg6 arg7 harg7 X0 X1 G5 k⌝)
    ∗ (∃ f, (arg7.view.loc (c : Thread nD τ) ↦[arg7.view.set]{fullShare} f) ∗ ⌜f = st7 (F := F) 𝒱 c bd arg0 harg0 arg1 harg1 arg2 harg2 arg3 harg3 arg4 harg4 arg5 harg5 arg6 harg6 arg7 harg7 X0 X1 G7 k⌝))

set_option warn.classDefReducibility false in
/-- The first loop by its invariant. -/
@[sl_loop] def loopInvP (E : Set ℕ) (G4 : BufTy.Contents (Elt F) arg4.view.ty) (G5 : BufTy.Contents (Elt F) arg5.view.ty) (G7 : BufTy.Contents (Elt F) arg7.view.ty) :
    LoopInvTy_k1_t1 (F := F) Unit ℕ UU ℕ 𝒱 c bd E arg0 harg0 arg1 harg1 arg2 harg2 arg3 harg3 arg4 harg4 arg5 harg5 arg6 harg6 arg7 harg7 where
  inv := invP (F := F) 𝒱 c bd arg0 harg0 arg1 harg1 arg2 harg2 arg3 harg3 arg4 harg4 arg5 harg5 arg6 harg6 arg7 harg7 X0 X1 G4 G5 G7
  step k acc := by
    iintro ⟨H0, H1, ⟨%f4, H4, %h4⟩, ⟨%f5, H5, %h5⟩, ⟨%f7, H7, %h7⟩⟩
    iapply (wp_wand_r Idealize.ShloMosaic.frame (wpE (defs₀ (F := F)) 𝒱 (c : Thread nD τ) bd) E)
    isplitl [H0 H1 H4 H5 H7]
    · iapply ((tripP (F := F) 𝒱 c bd arg0 harg0 arg1 harg1 arg2 harg2 arg3 harg3 arg4 harg4 arg5 harg5 arg6 harg6 arg7 harg7 X0 X1 k).2.2.2 E f4 f5 f7)
      isplitl [H0]; · iexact H0
      isplitl [H1]; · iexact H1
      isplitl [H4]; · iexact H4
      isplitl [H5]; · iexact H5
      iexact H7
    · iintro %yld ⟨H0, H1, H4, H5, H7⟩
      isplitl [H0]; · iexact H0
      isplitl [H1]; · iexact H1
      isplitl [H4]
      · iexists _; isplitl [H4]; · iexact H4
        ipureintro; unfold pb4; rw [storesOf_succ, h4, ← View.writes_append]
      isplitl [H5]
      · iexists _; isplitl [H5]; · iexact H5
        ipureintro; unfold st5; rw [runTrips_succ, h5]
      iexists _; isplitl [H7]; · iexact H7
      ipureintro; unfold st7; rw [runTrips_succ, h7]

/-! ## The second loop -/

variable (X4 : BufTy.Contents (Elt F) arg4.view.ty) (X6 : BufTy.Contents (Elt F) arg6.view.ty)

/-- What a trip of the second loop touches: the labels, the transposed embeddings and the classes' sums and counts; the positive sums at
    `f2`, the positive counts at `f3`. -/
abbrev TripQ (f2 : BufTy.Contents (Elt F) arg2.view.ty) (f3 : BufTy.Contents (Elt F) arg3.view.ty) : sProp 𝕄G :=
  iprop((arg0.view.loc (c : Thread nD τ) ↦[arg0.view.set]{fullShare} X0) ∗ (arg4.view.loc (c : Thread nD τ) ↦[arg4.view.set]{fullShare} X4)
    ∗ (arg6.view.loc (c : Thread nD τ) ↦[arg6.view.set]{fullShare} X6)
    ∗ (arg2.view.loc (c : Thread nD τ) ↦[arg2.view.set]{fullShare} f2) ∗ (arg3.view.loc (c : Thread nD τ) ↦[arg3.view.set]{fullShare} f3))

/-- One trip of the second loop: the pieces it writes. -/
@[irreducible] def tripQ (k : Fin k1_t2_loop.trips) :
    Σ' (L2 : List (View.Piece (Elt F) S2x8192 .f32)) (L3 : List (View.Piece (Elt F) S2x8192 .i32)),
      ∀ (E : Set ℕ) (f2 : BufTy.Contents (Elt F) arg2.view.ty) (f3 : BufTy.Contents (Elt F) arg3.view.ty),
        TripQ (F := F) c arg0 arg2 arg3 arg4 arg6 X0 X4 X6 f2 f3
        ⊢ wp frame (wpE (defs₀ (F := F)) 𝒱 (c : Thread nD τ) bd) E
            (k1_t2_body (F := F) arg0 harg0 arg1 harg1 arg2 harg2 arg3 harg3 arg4 harg4 arg5 harg5 arg6 harg6 arg7 harg7 k ())
            (fun _ => TripQ (F := F) c arg0 arg2 arg3 arg4 arg6 X0 X4 X6 (arg2.view.writes (Elt F) f2 L2) (arg3.view.writes (Elt F) f3 L3)) := by
  refine ⟨?_, ?_, fun E f2 f3 => ?run⟩
  case run =>
    unfold k1_t2_body
    iintro ⟨H0, H4, H6, H2, H3⟩
    sl_exec_parts
    sl_step
    sl_close

/-- The positive sums' pieces before trip `k`. -/
abbrev pb2 (k : ℕ) : List (View.Piece (Elt F) S2x8192 .f32) :=
  storesOf (fun t => (tripQ (F := F) 𝒱 c bd arg0 harg0 arg1 harg1 arg2 harg2 arg3 harg3 arg4 harg4 arg5 harg5 arg6 harg6 arg7 harg7 X0 X4 X6 t).1) k
/-- The positive counts' pieces before trip `k`. -/
abbrev pb3 (k : ℕ) : List (View.Piece (Elt F) S2x8192 .i32) :=
  storesOf (fun t => (tripQ (F := F) 𝒱 c bd arg0 harg0 arg1 harg1 arg2 harg2 arg3 harg3 arg4 harg4 arg5 harg5 arg6 harg6 arg7 harg7 X0 X4 X6 t).2.1) k

/-- Before trip `k` the two results hold the pieces of the trips before. -/
abbrev invQ (G2 : BufTy.Contents (Elt F) arg2.view.ty) (G3 : BufTy.Contents (Elt F) arg3.view.ty) (k : ℕ) (_acc : Unit) : sProp 𝕄G :=
  iprop((arg0.view.loc (c : Thread nD τ) ↦[arg0.view.set]{fullShare} X0) ∗ (arg4.view.loc (c : Thread nD τ) ↦[arg4.view.set]{fullShare} X4)
    ∗ (arg6.view.loc (c : Thread nD τ) ↦[arg6.view.set]{fullShare} X6)
    ∗ (∃ f, (arg2.view.loc (c : Thread nD τ) ↦[arg2.view.set]{fullShare} f) ∗ ⌜f = arg2.view.writes (Elt F) G2 (pb2 (F := F) 𝒱 c bd arg0 harg0 arg1 harg1 arg2 harg2 arg3 harg3 arg4 harg4 arg5 harg5 arg6 harg6 arg7 harg7 X0 X4 X6 k)⌝)
    ∗ (∃ f, (arg3.view.loc (c : Thread nD τ) ↦[arg3.view.set]{fullShare} f) ∗ ⌜f = arg3.view.writes (Elt F) G3 (pb3 (F := F) 𝒱 c bd arg0 harg0 arg1 harg1 arg2 harg2 arg3 harg3 arg4 harg4 arg5 harg5 arg6 harg6 arg7 harg7 X0 X4 X6 k)⌝))

set_option warn.classDefReducibility false in
/-- The second loop by its invariant. -/
@[sl_loop] def loopInvQ (E : Set ℕ) (G2 : BufTy.Contents (Elt F) arg2.view.ty) (G3 : BufTy.Contents (Elt F) arg3.view.ty) :
    LoopInvTy_k1_t2 (F := F) Unit ℕ UU ℕ 𝒱 c bd E arg0 harg0 arg1 harg1 arg2 harg2 arg3 harg3 arg4 harg4 arg5 harg5 arg6 harg6 arg7 harg7 where
  inv := invQ (F := F) 𝒱 c bd arg0 harg0 arg1 harg1 arg2 harg2 arg3 harg3 arg4 harg4 arg5 harg5 arg6 harg6 arg7 harg7 X0 X4 X6 G2 G3
  step k acc := by
    iintro ⟨H0, H4, H6, ⟨%f2, H2, %h2⟩, ⟨%f3, H3, %h3⟩⟩
    iapply (wp_wand_r Idealize.ShloMosaic.frame (wpE (defs₀ (F := F)) 𝒱 (c : Thread nD τ) bd) E)
    isplitl [H0 H4 H6 H2 H3]
    · iapply ((tripQ (F := F) 𝒱 c bd arg0 harg0 arg1 harg1 arg2 harg2 arg3 harg3 arg4 harg4 arg5 harg5 arg6 harg6 arg7 harg7 X0 X4 X6 k).2.2 E f2 f3)
      isplitl [H0]; · iexact H0
      isplitl [H4]; · iexact H4
      isplitl [H6]; · iexact H6
      isplitl [H2]; · iexact H2
      iexact H3
    · iintro %yld ⟨H0, H4, H6, H2, H3⟩
      isplitl [H0]; · iexact H0
      isplitl [H4]; · iexact H4
      isplitl [H6]; · iexact H6
      isplitl [H2]
      · iexists _; isplitl [H2]; · iexact H2
        ipureintro; unfold pb2; rw [storesOf_succ, h2, ← View.writes_append]
      iexists _; isplitl [H3]; · iexact H3
      ipureintro; unfold pb3; rw [storesOf_succ, h3, ← View.writes_append]

end Cert.Proof.KernelIdeal
-- ==== Proof.KernelIdeal.PosRun.lean ====
/-
  The positives kernel (`cc1_positives`) run once at symbolic operands: from the staged labels and embeddings it leaves the positive
  sums and the positive counts, here still stated over what the results and the transposed embeddings held before.
-/
module

public import proofs.«01_k».proof.Proof.KernelIdeal.PosLoop
public import proofs.«01_k».proof.Proof.KernelIdeal.SumsRun
public import proofs.«01_k».proof.Proof.Gen.KernelIdeal.Launch
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The propositions of the runs. -/
local notation "𝕄G" => MT nD τ sig Unit (Elt F) ℕ UU ℕ

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := F) c M0) (f1 : Bf (F := F) c M1)

/-- What the kernel leaves in the two results, with the run that leaves it there. -/
@[irreducible] def posRun :
    Σ' (W2 : Bf (F := F) c M4 → Bf (F := F) c M2 → Bf (F := F) c M2) (W3 : Bf (F := F) c M4 → Bf (F := F) c M3 → Bf (F := F) c M3),
      ∀ (f2 : Bf (F := F) c M2) (f3 : Bf (F := F) c M3) (f4 : Bf (F := F) c M4) (f5 : Bf (F := F) c M5) (f6 : Bf (F := F) c M6)
        (f7 : Bf (F := F) c M7) (E : Set ℕ) (Q : PUnit → sProp 𝕄G),
        iprop(pt c M0 f0 ∗ pt c M1 f1 ∗ pt c M2 f2 ∗ pt c M3 f3 ∗ pt c M4 f4 ∗ pt c M5 f5 ∗ pt c M6 f6 ∗ pt c M7 f7
            ∗ (iprop(pt c M0 f0 ∗ pt c M1 f1 ∗ pt c M2 (W2 f4 f2) ∗ pt c M3 (W3 f4 f3) ∗ (∃ f, pt c M4 f) ∗ (∃ f, pt c M5 f)
                ∗ (∃ f, pt c M6 f) ∗ (∃ f, pt c M7 f)) -∗ Q ⟨⟩))
          ⊢ wp frame (wpE (defs₀ (F := F)) Variants.none (c : Thread nD τ) none) E (cc1_positives (F := F) M0 h0 M1 h1 M2 h2 M3 h3 M4 h4 M5 h5 M6 h6 M7 h7) Q := by
  refine ⟨?_, ?_, fun f2 f3 f4 f5 f6 f7 E Q => ?run⟩
  case run =>
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    sl_close

end Cert.Proof.KernelIdeal
-- ==== Proof.KernelIdeal.PosCover.lean ====
/-
  The positives kernel's stores cover what it leaves: its two results are the same whatever they and the transposed embeddings held
  before.
-/
module

public import proofs.«01_k».proof.Proof.KernelIdeal.PosRun
public import proofs.«01_k».proof.Proof.KernelIdeal.SumsRun
public import proofs.«01_k».proof.Proof.Gen.KernelIdeal.Launch
public import Idealize.ShloMosaic.Lib.Tactic
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The propositions of the runs. -/
local notation "𝕄G" => MT nD τ sig Unit (Elt F) ℕ UU ℕ

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := F) c M0) (f1 : Bf (F := F) c M1)

variable (𝒱 : Variants) (bd : Option 𝒱.V)

theorem trips_p1 : k1_t1_loop.trips = 16 := by decide
theorem trips_p2 : k1_t2_loop.trips = 16 := by decide

/-- The rows that a trip of the first loop transposes: of the first view, of the second. -/
abbrev viewA (t : Fin k1_t1_loop.trips) : Vec F S512x128 .bf16 :=
  View.readAt (Elt F) M1.view (Rect.unit (s := S16384x128) (k1_off1 t 0#32) S512x128.size (k1_off1_inb t 0)).toLoadRect f1
@[inherit_doc viewA]
abbrev viewB (t : Fin k1_t1_loop.trips) : Vec F S512x128 .bf16 :=
  View.readAt (Elt F) M1.view (Rect.unit (s := S16384x128) (k1_off1 t 8192#32) S512x128.size (k1_off1_inb t 1)).toLoadRect f1
/-- The labels that a trip of the first loop reads. -/
abbrev labsA (t : Fin k1_t1_loop.trips) : Vec F S1x512 .i32 :=
  View.readAt (Elt F) M0.view (Rect.unit (s := S1x8192) (k1_off4 t) S1x512.size (k1_off4_inb t)).toLoadRect f0

/-- The stores of a trip of the first loop into the transposed embeddings. -/
theorem tripP_pieces (t : Fin k1_t1_loop.trips) :
    (tripP (F := F) 𝒱 c bd M0 h0 M1 h1 M2 h2 M3 h3 M4 h4 M5 h5 M6 h6 M7 h7 f0 f1 t).1
      = [⟨Rect.unit (s := S256x8192) (k1_off3 t) S128x512.size (k1_off3_inb t), k1_pay5 (viewB c M1 f1 t)⟩,
         ⟨Rect.unit (s := S256x8192) (k1_off2 t) S128x512.size (k1_off2_inb t), k1_pay4 (viewA c M1 f1 t)⟩] := by
  unfold tripP
  dsimp only
  sl_unfold_run_names
  rfl

variable (X4 : Bf (F := F) c M4) (X6 : Bf (F := F) c M6)

/-- The labels that a trip of the second loop reads. -/
abbrev labsQ (t : Fin k1_t2_loop.trips) : Vec F S1x512 .i32 :=
  View.readAt (Elt F) M0.view (Rect.unit (s := S1x8192) (k1_off6 t) S1x512.size (k1_off6_inb t)).toLoadRect f0
/-- The transposed embeddings that a trip of the second loop reads: of the first view, of the second. -/
abbrev slabA (t : Fin k1_t2_loop.trips) : Vec F S128x512 .bf16 :=
  View.readAt (Elt F) M4.view (Rect.unit (s := S256x8192) (k1_off7 t) S128x512.size (k1_off7_inb t)).toLoadRect X4
@[inherit_doc slabA]
abbrev slabB (t : Fin k1_t2_loop.trips) : Vec F S128x512 .bf16 :=
  View.readAt (Elt F) M4.view (Rect.unit (s := S256x8192) (k1_off9 t) S128x512.size (k1_off9_inb t)).toLoadRect X4
/-- The classes' sums and counts as a trip of the second loop reads them. -/
abbrev table : Vec F S512x1024 .bf16 :=
  View.readAt (Elt F) M6.view (Rect.unit (s := S512x1024) ![0, 0] S512x1024.size inb_S512x1024_S512x1024_0_0).toLoadRect X6

/-- The positive sums a trip of the second loop stores: of the first view, of the second. -/
def sumsA (t : Fin k1_t2_loop.trips) : Vec F S1x512 .f32 :=
  k1_pay2 (k1_pay15 (labsQ c M0 f0 t) (table c M6 X6)) (k1_pay16 (labsQ c M0 f0 t) (table c M6 X6) (slabA c M4 X4 t)) (Scalar.ofBits .f32 0x00000000#32)
@[inherit_doc sumsA]
def sumsB (t : Fin k1_t2_loop.trips) : Vec F S1x512 .f32 :=
  k1_pay3 (k1_pay12 (labsQ c M0 f0 t) (table c M6 X6)) (k1_pay13 (labsQ c M0 f0 t) (table c M6 X6)) (slabB c M4 X4 t)
/-- The positive counts it stores, the same for both views. -/
def cntsQ (t : Fin k1_t2_loop.trips) : Vec F S1x512 .i32 := k1_pay14 (labsQ c M0 f0 t) (table c M6 X6)

/-- The stores of a trip of the second loop into the positive sums; -/
theorem tripQ_pieces2 (t : Fin k1_t2_loop.trips) :
    (tripQ (F := F) 𝒱 c bd M0 h0 M1 h1 M2 h2 M3 h3 M4 h4 M5 h5 M6 h6 M7 h7 f0 X4 X6 t).1
      = [⟨Rect.unit (s := S2x8192) (k1_off10 t) S1x512.size (k1_off10_inb t), sumsB c M0 M4 M6 f0 X4 X6 t⟩,
         ⟨Rect.unit (s := S2x8192) (k1_off8 t) S1x512.size (k1_off8_inb t), sumsA c M0 M4 M6 f0 X4 X6 t⟩] := by
  unfold tripQ
  dsimp only
  sl_unfold_run_names
  rfl

/-- into the positive counts. -/
theorem tripQ_pieces3 (t : Fin k1_t2_loop.trips) :
    (tripQ (F := F) 𝒱 c bd M0 h0 M1 h1 M2 h2 M3 h3 M4 h4 M5 h5 M6 h6 M7 h7 f0 X4 X6 t).2.1
      = [⟨Rect.unit (s := S2x8192) (k1_off10 t) S1x512.size (k1_off10_inb t), cntsQ c M0 M6 f0 X6 t⟩,
         ⟨Rect.unit (s := S2x8192) (k1_off8 t) S1x512.size (k1_off8_inb t), cntsQ c M0 M6 f0 X6 t⟩] := by
  unfold tripQ
  dsimp only
  sl_unfold_run_names
  rfl

/-- Block `n` of 512 columns, of the 16. -/
def blk1 (n : Fin 8192) : Fin k1_t1_loop.trips := ⟨n.val / 512, by have := n.isLt; rw [trips_p1]; omega⟩
@[inherit_doc blk1]
def blk2 (n : Fin 8192) : Fin k1_t2_loop.trips := ⟨n.val / 512, by have := n.isLt; rw [trips_p2]; omega⟩
/-- The place of column `n` in its block. -/
def colIn (n : Fin 8192) : Fin 512 := ⟨n.val % 512, by omega⟩

/-- The transposed embeddings, the first loop over. -/
def xtG (y : S256x8192.Idx) : F .bf16 :=
  if h : (y 0).val < 128 then k1_pay4 (viewA c M1 f1 (blk1 (y 1))) (ix2 ⟨(y 0).val, h⟩ (colIn (y 1)))
  else k1_pay5 (viewB c M1 f1 (blk1 (y 1))) (ix2 ⟨(y 0).val - 128, by have : (y 0).val < 256 := (y 0).isLt; omega⟩ (colIn (y 1)))

theorem xtG_A (t : Fin k1_t1_loop.trips) (y : S256x8192.Idx) (z : S128x512.Idx) (e0 : (y 0).val = (z 0).val) (e1 : (y 1).val = 512 * t.val + (z 1).val) :
    xtG c M1 f1 y = k1_pay4 (viewA c M1 f1 t) z := by
  have z0 : (z 0).val < 128 := (z 0).isLt
  have z1 : (z 1).val < 512 := (z 1).isLt
  have hb : blk1 (y 1) = t := Fin.ext (by show (y 1).val / 512 = t.val; omega)
  have hz : ix2 (⟨(y 0).val, by omega⟩ : Fin 128) (colIn (y 1)) = z := funext fun i => match i with
    | 0 => Fin.ext e0
    | 1 => Fin.ext (by show (y 1).val % 512 = (z 1).val; omega)
  unfold xtG
  rw [dif_pos (by omega), hb, hz]

theorem xtG_B (t : Fin k1_t1_loop.trips) (y : S256x8192.Idx) (z : S128x512.Idx) (e0 : (y 0).val = 128 + (z 0).val) (e1 : (y 1).val = 512 * t.val + (z 1).val) :
    xtG c M1 f1 y = k1_pay5 (viewB c M1 f1 t) z := by
  have z0 : (z 0).val < 128 := (z 0).isLt
  have z1 : (z 1).val < 512 := (z 1).isLt
  have hb : blk1 (y 1) = t := Fin.ext (by show (y 1).val / 512 = t.val; omega)
  have hz : ix2 (⟨(y 0).val - 128, by omega⟩ : Fin 128) (colIn (y 1)) = z := funext fun i => match i with
    | 0 => Fin.ext (by show (y 0).val - 128 = (z 0).val; omega)
    | 1 => Fin.ext (by show (y 1).val % 512 = (z 1).val; omega)
  unfold xtG
  rw [dif_neg (by omega), hb, hz]

/-- The first loop leaves the transposed embeddings. -/
theorem read_xt (f4 : Bf (F := F) c M4) (y : S256x8192.Idx) :
    M4.view.read (Elt F) (M4.view.writes (Elt F) f4 (pb4 (F := F) 𝒱 c bd M0 h0 M1 h1 M2 h2 M3 h3 M4 h4 M5 h5 M6 h6 M7 h7 f0 f1 k1_t1_loop.trips)) y = xtG c M1 f1 y := by
  have y0 : (y 0).val < 256 := (y 0).isLt
  have y1 : (y 1).val < 8192 := (y 1).isLt
  refine View.read_writes_apply_of_pieces M4.view f4 (xtG c M1 f1) _ ?_ y ?_
  · intro p hp z
    obtain ⟨t, -, hp⟩ := (mem_storesOf _ p _ (Nat.le_refl _)).mp hp
    rw [tripP_pieces] at hp
    rcases List.mem_cons.mp hp with rfl | hp
    · have o := k1_off3_eq t
      refine (xtG_B c M1 f1 t _ z ?_ ?_).symm
      · show k1_off3 t 0 + 1 * (z 0).val = _
        rw [show k1_off3 t 0 = 128 from congrFun o 0, one_mul]
      · show k1_off3 t 1 + 1 * (z 1).val = _
        rw [show k1_off3 t 1 = 512 * t.val from congrFun o 1, one_mul]
    · obtain rfl := List.mem_singleton.mp hp
      have o := k1_off2_eq t
      refine (xtG_A c M1 f1 t _ z ?_ ?_).symm
      · show k1_off2 t 0 + 1 * (z 0).val = _
        rw [show k1_off2 t 0 = 0 from congrFun o 0, one_mul, zero_add]
      · show k1_off2 t 1 + 1 * (z 1).val = _
        rw [show k1_off2 t 1 = 512 * t.val from congrFun o 1, one_mul]
  · have hb : (blk1 (y 1)).val = (y 1).val / 512 := rfl
    by_cases hy : (y 0).val < 128
    · refine ⟨_, (mem_storesOf _ _ _ (Nat.le_refl _)).mpr ⟨blk1 (y 1), Fin.isLt _, by rw [tripP_pieces]; exact List.mem_cons_of_mem _ (List.mem_singleton_self _)⟩, ?_⟩
      refine (Rect.mem_set_unit (inb := k1_off2_inb _)).mpr fun i => ?_
      rw [k1_off2_eq]
      match i with
      | 0 => exact ⟨Nat.zero_le _, by show (y 0).val < 0 + 128; omega⟩
      | 1 => show 512 * (blk1 (y 1)).val ≤ (y 1).val ∧ (y 1).val < 512 * (blk1 (y 1)).val + 512; omega
    · refine ⟨_, (mem_storesOf _ _ _ (Nat.le_refl _)).mpr ⟨blk1 (y 1), Fin.isLt _, by rw [tripP_pieces]; exact List.mem_cons_self⟩, ?_⟩
      refine (Rect.mem_set_unit (inb := k1_off3_inb _)).mpr fun i => ?_
      rw [k1_off3_eq]
      match i with
      | 0 => show 128 ≤ (y 0).val ∧ (y 0).val < 128 + 128; omega
      | 1 => show 512 * (blk1 (y 1)).val ≤ (y 1).val ∧ (y 1).val < 512 * (blk1 (y 1)).val + 512; omega

/-- What a trip of the second loop reads of the transposed embeddings, the first loop over: the rows that the first loop's trip of the
    same number transposed. -/
theorem slabA_eq (f4 : Bf (F := F) c M4) (t : Fin k1_t2_loop.trips) :
    slabA c M4 (M4.view.writes (Elt F) f4 (pb4 (F := F) 𝒱 c bd M0 h0 M1 h1 M2 h2 M3 h3 M4 h4 M5 h5 M6 h6 M7 h7 f0 f1 k1_t1_loop.trips)) t
      = k1_pay4 (viewA c M1 f1 ⟨t.val, t.isLt⟩) := by
  funext z
  refine (read_xt c M0 h0 M1 h1 M2 h2 M3 h3 M4 h4 M5 h5 M6 h6 M7 h7 f0 f1 𝒱 bd f4 _).trans (xtG_A c M1 f1 _ _ z ?_ ?_)
  · show k1_off7 t 0 + 1 * (z 0).val = _
    rw [show k1_off7 t 0 = 0 from congrFun (k1_off7_eq t) 0, one_mul, zero_add]
  · show k1_off7 t 1 + 1 * (z 1).val = _
    rw [show k1_off7 t 1 = 512 * t.val from congrFun (k1_off7_eq t) 1, one_mul]
theorem slabB_eq (f4 : Bf (F := F) c M4) (t : Fin k1_t2_loop.trips) :
    slabB c M4 (M4.view.writes (Elt F) f4 (pb4 (F := F) 𝒱 c bd M0 h0 M1 h1 M2 h2 M3 h3 M4 h4 M5 h5 M6 h6 M7 h7 f0 f1 k1_t1_loop.trips)) t
      = k1_pay5 (viewB c M1 f1 ⟨t.val, t.isLt⟩) := by
  funext z
  refine (read_xt c M0 h0 M1 h1 M2 h2 M3 h3 M4 h4 M5 h5 M6 h6 M7 h7 f0 f1 𝒱 bd f4 _).trans (xtG_B c M1 f1 _ _ z ?_ ?_)
  · show k1_off9 t 0 + 1 * (z 0).val = _
    rw [show k1_off9 t 0 = 128 from congrFun (k1_off9_eq t) 0, one_mul]
  · show k1_off9 t 1 + 1 * (z 1).val = _
    rw [show k1_off9 t 1 = 512 * t.val from congrFun (k1_off9_eq t) 1, one_mul]

/-- Two stores per block of columns, one per row, of a trip of the second loop: what they leave. -/
theorem read_rows {e : EltTy} (v : View sig .tc .vmem S2x8192 e) (f : v.ty.Contents (Elt F)) (A B : Fin k1_t2_loop.trips → S1x512.Idx → Elt F e) (y : S2x8192.Idx) :
    v.read (Elt F) (v.writes (Elt F) f (storesOf (fun t : Fin k1_t2_loop.trips =>
        [(⟨Rect.unit (s := S2x8192) (k1_off10 t) S1x512.size (k1_off10_inb t), B t⟩ : View.Piece (Elt F) S2x8192 e),
         ⟨Rect.unit (s := S2x8192) (k1_off8 t) S1x512.size (k1_off8_inb t), A t⟩]) k1_t2_loop.trips)) y
      = if (y 0).val = 0 then A (blk2 (y 1)) (ix2 0 (colIn (y 1))) else B (blk2 (y 1)) (ix2 0 (colIn (y 1))) := by
  have y0 : (y 0).val < 2 := (y 0).isLt
  have y1 : (y 1).val < 8192 := (y 1).isLt
  have key : ∀ (t : Fin k1_t2_loop.trips) (z : S1x512.Idx) (n : Fin 8192), n.val = 512 * t.val + (z 1).val → blk2 n = t ∧ ix2 (0 : Fin 1) (colIn n) = z := by
    intro t z n hn
    have z0 : (z 0).val < 1 := (z 0).isLt
    have z1 : (z 1).val < 512 := (z 1).isLt
    exact ⟨Fin.ext (by show n.val / 512 = t.val; omega), funext fun i => match i with
      | 0 => Fin.ext (by show 0 = (z 0).val; omega)
      | 1 => Fin.ext (by show n.val % 512 = (z 1).val; omega)⟩
  refine View.read_writes_apply_of_pieces v f
    (fun y => if (y 0).val = 0 then A (blk2 (y 1)) (ix2 0 (colIn (y 1))) else B (blk2 (y 1)) (ix2 0 (colIn (y 1)))) _ ?_ y ?_
  · intro p hp z
    obtain ⟨t, -, hp⟩ := (mem_storesOf _ p _ (Nat.le_refl _)).mp hp
    rcases List.mem_cons.mp hp with rfl | hp
    · have z0 : (z 0).val < 1 := (z 0).isLt
      have e0 : (((Rect.unit (s := S2x8192) (k1_off10 t) S1x512.size (k1_off10_inb t)).emb z) 0).val = 1 := by
        show k1_off10 t 0 + 1 * (z 0).val = _
        rw [show k1_off10 t 0 = 1 from congrFun (k1_off10_eq t) 0]; omega
      have e1 : (((Rect.unit (s := S2x8192) (k1_off10 t) S1x512.size (k1_off10_inb t)).emb z) 1).val = 512 * t.val + (z 1).val := by
        show k1_off10 t 1 + 1 * (z 1).val = _
        rw [show k1_off10 t 1 = 512 * t.val from congrFun (k1_off10_eq t) 1, one_mul]
      obtain ⟨k1, k2⟩ := key t z _ e1
      have e0n : ¬ (((Rect.unit (s := S2x8192) (k1_off10 t) S1x512.size (k1_off10_inb t)).emb z) 0).val = 0 := by rw [e0]; exact one_ne_zero
      refine Eq.trans ?_ (if_neg e0n).symm
      show B t z = _
      rw [k1, k2]
    · obtain rfl := List.mem_singleton.mp hp
      have z0 : (z 0).val < 1 := (z 0).isLt
      have e0 : (((Rect.unit (s := S2x8192) (k1_off8 t) S1x512.size (k1_off8_inb t)).emb z) 0).val = 0 := by
        show k1_off8 t 0 + 1 * (z 0).val = _
        rw [show k1_off8 t 0 = 0 from congrFun (k1_off8_eq t) 0]; omega
      have e1 : (((Rect.unit (s := S2x8192) (k1_off8 t) S1x512.size (k1_off8_inb t)).emb z) 1).val = 512 * t.val + (z 1).val := by
        show k1_off8 t 1 + 1 * (z 1).val = _
        rw [show k1_off8 t 1 = 512 * t.val from congrFun (k1_off8_eq t) 1, one_mul]
      obtain ⟨k1, k2⟩ := key t z _ e1
      refine Eq.trans ?_ (if_pos e0).symm
      show A t z = _
      rw [k1, k2]
  · have hb : (blk2 (y 1)).val = (y 1).val / 512 := rfl
    by_cases hy : (y 0).val = 0
    · refine ⟨_, (mem_storesOf _ _ _ (Nat.le_refl _)).mpr ⟨blk2 (y 1), Fin.isLt _, List.mem_cons_of_mem _ (List.mem_singleton_self _)⟩, ?_⟩
      refine (Rect.mem_set_unit (inb := k1_off8_inb _)).mpr fun i => ?_
      rw [k1_off8_eq]
      match i with
      | 0 => exact ⟨Nat.zero_le _, by show (y 0).val < 0 + 1; omega⟩
      | 1 => show 512 * (blk2 (y 1)).val ≤ (y 1).val ∧ (y 1).val < 512 * (blk2 (y 1)).val + 512; omega
    · refine ⟨_, (mem_storesOf _ _ _ (Nat.le_refl _)).mpr ⟨blk2 (y 1), Fin.isLt _, List.mem_cons_self⟩, ?_⟩
      refine (Rect.mem_set_unit (inb := k1_off10_inb _)).mpr fun i => ?_
      rw [k1_off10_eq]
      match i with
      | 0 => show 1 ≤ (y 0).val ∧ (y 0).val < 1 + 1; omega
      | 1 => show 512 * (blk2 (y 1)).val ≤ (y 1).val ∧ (y 1).val < 512 * (blk2 (y 1)).val + 512; omega

/-- The classes' sums and counts, once the first loop is over. -/
def tableP : Vec F S512x1024 .bf16 :=
  table c M6 (M6.view.writes (Elt F) M6.view.junk (posRun.sl.H6_4 (F := F) c M0 h0 M1 h1 M2 h2 M3 h3 M4 h4 M5 h5 M6 h6 M7 h7 f0 f1))

/-- The positive sums of a block of 512 positions: of the first view, of the second. -/
def posA (t : Fin k1_t2_loop.trips) : Vec F S1x512 .f32 :=
  k1_pay2 (k1_pay15 (labsQ c M0 f0 t) (tableP c M0 h0 M1 h1 M2 h2 M3 h3 M4 h4 M5 h5 M6 h6 M7 h7 f0 f1)) (k1_pay16 (labsQ c M0 f0 t) (tableP c M0 h0 M1 h1 M2 h2 M3 h3 M4 h4 M5 h5 M6 h6 M7 h7 f0 f1) (k1_pay4 (viewA c M1 f1 ⟨t.val, t.isLt⟩)))
    (Scalar.ofBits .f32 0x00000000#32)
@[inherit_doc posA]
def posB (t : Fin k1_t2_loop.trips) : Vec F S1x512 .f32 :=
  k1_pay3 (k1_pay12 (labsQ c M0 f0 t) (tableP c M0 h0 M1 h1 M2 h2 M3 h3 M4 h4 M5 h5 M6 h6 M7 h7 f0 f1)) (k1_pay13 (labsQ c M0 f0 t) (tableP c M0 h0 M1 h1 M2 h2 M3 h3 M4 h4 M5 h5 M6 h6 M7 h7 f0 f1)) (k1_pay5 (viewB c M1 f1 ⟨t.val, t.isLt⟩))
/-- The positive counts of a block of 512 positions. -/
def cntP (t : Fin k1_t2_loop.trips) : Vec F S1x512 .i32 := k1_pay14 (labsQ c M0 f0 t) (tableP c M0 h0 M1 h1 M2 h2 M3 h3 M4 h4 M5 h5 M6 h6 M7 h7 f0 f1)

/-- The positive sums the kernel leaves. -/
theorem read_pos (f4 : Bf (F := F) c M4) (f2 : Bf (F := F) c M2) (y : S2x8192.Idx) :
    M2.view.read (Elt F) ((posRun (F := F) c M0 h0 M1 h1 M2 h2 M3 h3 M4 h4 M5 h5 M6 h6 M7 h7 f0 f1).1 f4 f2) y
      = if (y 0).val = 0 then posA c M0 h0 M1 h1 M2 h2 M3 h3 M4 h4 M5 h5 M6 h6 M7 h7 f0 f1 (blk2 (y 1)) (ix2 0 (colIn (y 1))) else posB c M0 h0 M1 h1 M2 h2 M3 h3 M4 h4 M5 h5 M6 h6 M7 h7 f0 f1 (blk2 (y 1)) (ix2 0 (colIn (y 1))) := by
  unfold posRun
  dsimp only
  refine Eq.trans ?_ (read_rows (F := F) M2.view f2 (posA c M0 h0 M1 h1 M2 h2 M3 h3 M4 h4 M5 h5 M6 h6 M7 h7 f0 f1) (posB c M0 h0 M1 h1 M2 h2 M3 h3 M4 h4 M5 h5 M6 h6 M7 h7 f0 f1) y)
  refine congrArg (fun L => M2.view.read (Elt F) (M2.view.writes (Elt F) f2 L) y) ?_
  refine congrArg (fun L => storesOf L k1_t2_loop.trips) (funext fun t => ?_)
  refine (tripQ_pieces2 c M0 h0 M1 h1 M2 h2 M3 h3 M4 h4 M5 h5 M6 h6 M7 h7 f0 _ _ _ _ t).trans ?_
  unfold sumsA sumsB posA posB tableP
  rw [show Scf.trips (0#32) (Scalar.addi 0#32 16#32) 1#32 = k1_t1_loop.trips from rfl, slabA_eq, slabB_eq]

/-- The positive counts the kernel leaves. -/
theorem read_cnt (f4 : Bf (F := F) c M4) (f3 : Bf (F := F) c M3) (y : S2x8192.Idx) :
    M3.view.read (Elt F) ((posRun (F := F) c M0 h0 M1 h1 M2 h2 M3 h3 M4 h4 M5 h5 M6 h6 M7 h7 f0 f1).2.1 f4 f3) y = cntP c M0 h0 M1 h1 M2 h2 M3 h3 M4 h4 M5 h5 M6 h6 M7 h7 f0 f1 (blk2 (y 1)) (ix2 0 (colIn (y 1))) := by
  unfold posRun
  dsimp only
  refine Eq.trans ?_ ((read_rows (F := F) M3.view f3 (cntP c M0 h0 M1 h1 M2 h2 M3 h3 M4 h4 M5 h5 M6 h6 M7 h7 f0 f1) (cntP c M0 h0 M1 h1 M2 h2 M3 h3 M4 h4 M5 h5 M6 h6 M7 h7 f0 f1) y).trans (ite_self _))
  refine congrArg (fun L => M3.view.read (Elt F) (M3.view.writes (Elt F) f3 L) y) ?_
  refine congrArg (fun L => storesOf L k1_t2_loop.trips) (funext fun t => ?_)
  exact tripQ_pieces3 c M0 h0 M1 h1 M2 h2 M3 h3 M4 h4 M5 h5 M6 h6 M7 h7 f0 _ _ _ _ t

end Cert.Proof.KernelIdeal
-- ==== Proof.KernelIdeal.PosRegion.lean ====
/-
  The positives call as a region of the whole program: entered from every unscoped buffer, left with the two results' arrays replaced.
-/
module

public import proofs.«01_k».proof.Proof.KernelIdeal.PosCover
public import proofs.«01_k».proof.Proof.KernelIdeal.SumsRegion
public import Idealize.ShloMosaic.Lib.Pipeline.RegionsLoop
public import proofs.«01_k».proof.Proof.Gen.KernelIdeal.Regions
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The propositions of the runs. -/
local notation "𝕄G" => MT nD τ sig Unit (Elt F) ℕ UU ℕ

variable (V : Entry (F := F))

/-- The labels and the embeddings as the fetches stage them. -/
abbrev stgP0 (c : Dev nD) : (cfg1.win 0).block.Idx → Elt F (cfg1.win 0).elt :=
  ((cfg1.win 0).blk t1_0).view.read (Elt F) (V c main_v1)
@[inherit_doc stgP0]
abbrev stgP1 (c : Dev nD) : (cfg1.win 1).block.Idx → Elt F (cfg1.win 1).elt :=
  ((cfg1.win 1).blk t1_0).view.read (Elt F) (V c main_arg0)

/-- What the positives kernel leaves in the positive sums and in the positive counts, from the staged labels and embeddings. -/
def posOut (c : Dev nD) : Buf (Elt F) ((c : Thread nD τ).loc cc1_stg2_0) :=
  (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).1 (Memref.whole cc1_scratch0).view.junk (Memref.whole cc1_stg2_0).view.junk
@[inherit_doc posOut]
def cntOut (c : Dev nD) : Buf (Elt F) ((c : Thread nD τ).loc cc1_stg3_0) :=
  (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.1 (Memref.whole cc1_scratch0).view.junk (Memref.whole cc1_stg3_0).view.junk

/-- Whatever was there before, the same is left. -/
theorem posOut_any (c : Dev nD) (f4) (f2) : (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).1 f4 f2 = posOut V c := by
  funext y
  exact (read_pos c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) f4 f2 y).trans
    (read_pos c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) (Memref.whole cc1_scratch0).view.junk (Memref.whole cc1_stg2_0).view.junk y).symm
theorem cntOut_any (c : Dev nD) (f4) (f3) : (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.1 f4 f3 = cntOut V c := by
  funext y
  exact (read_cnt c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) f4 f3 y).trans
    (read_cnt c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c) (Memref.whole cc1_scratch0).view.junk (Memref.whole cc1_stg3_0).view.junk y).symm

/-- The run, over the memrefs. -/
theorem posOut_pt (c : Dev nD) (f2 : Buf (Elt F) ((c : Thread nD τ).loc cc1_stg2_0)) (f3 : Buf (Elt F) ((c : Thread nD τ).loc cc1_stg3_0)) (f4 : Buf (Elt F) ((c : Thread nD τ).loc cc1_scratch0)) (f5 : Buf (Elt F) ((c : Thread nD τ).loc cc1_scratch1)) (f6 : Buf (Elt F) ((c : Thread nD τ).loc cc1_scratch2)) (f7 : Buf (Elt F) ((c : Thread nD τ).loc cc1_scratch3))
    (Q : PUnit → sProp 𝕄G) (Wp Wc) (hp : Wp = posOut V c) (hc : Wc = cntOut V c) :
    iprop(pt c (Memref.whole cc1_stg0_0) (stgP0 V c) ∗ pt c (Memref.whole cc1_stg1_0) (stgP1 V c) ∗ pt c (Memref.whole cc1_stg2_0) f2 ∗ pt c (Memref.whole cc1_stg3_0) f3 ∗ pt c (Memref.whole cc1_scratch0) f4 ∗ pt c (Memref.whole cc1_scratch1) f5 ∗ pt c (Memref.whole cc1_scratch2) f6 ∗ pt c (Memref.whole cc1_scratch3) f7
        ∗ (iprop(pt c (Memref.whole cc1_stg0_0) (stgP0 V c) ∗ pt c (Memref.whole cc1_stg1_0) (stgP1 V c) ∗ pt c (Memref.whole cc1_stg2_0) Wp ∗ pt c (Memref.whole cc1_stg3_0) Wc ∗ (∃ f, pt c (Memref.whole cc1_scratch0) f) ∗ (∃ f, pt c (Memref.whole cc1_scratch1) f) ∗ (∃ f, pt c (Memref.whole cc1_scratch2) f) ∗ (∃ f, pt c (Memref.whole cc1_scratch3) f)) -∗ Q ⟨⟩))
      ⊢ wp frame (wpE (defs₀ (F := F)) Variants.none (c : Thread nD τ) none) Set.univ
          (cc1_positives (F := F) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)) Q := by
  have h := (posRun (F := F) c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (stgP0 V c) (stgP1 V c)).2.2 f2 f3 f4 f5 f6 f7 Set.univ Q
  rw [posOut_any, cntOut_any, ← hp, ← hc] at h
  exact h

/-- The run, over the buffers themselves. -/
theorem posOut_run (c : Dev nD) (f2 : Buf (Elt F) ((c : Thread nD τ).loc cc1_stg2_0)) (f3 : Buf (Elt F) ((c : Thread nD τ).loc cc1_stg3_0)) (f4 : Buf (Elt F) ((c : Thread nD τ).loc cc1_scratch0)) (f5 : Buf (Elt F) ((c : Thread nD τ).loc cc1_scratch1)) (f6 : Buf (Elt F) ((c : Thread nD τ).loc cc1_scratch2)) (f7 : Buf (Elt F) ((c : Thread nD τ).loc cc1_scratch3)) (Q : PUnit → sProp 𝕄G) :
    iprop((((c : Thread nD τ).loc cc1_stg0_0) ↦{fullShare} (stgP0 V c)) ∗ (((c : Thread nD τ).loc cc1_stg1_0) ↦{fullShare} (stgP1 V c)) ∗ (((c : Thread nD τ).loc cc1_stg2_0) ↦{fullShare} f2) ∗ (((c : Thread nD τ).loc cc1_stg3_0) ↦{fullShare} f3) ∗ (((c : Thread nD τ).loc cc1_scratch0) ↦{fullShare} f4) ∗ (((c : Thread nD τ).loc cc1_scratch1) ↦{fullShare} f5) ∗ (((c : Thread nD τ).loc cc1_scratch2) ↦{fullShare} f6) ∗ (((c : Thread nD τ).loc cc1_scratch3) ↦{fullShare} f7)
        ∗ (iprop((((c : Thread nD τ).loc cc1_stg0_0) ↦{fullShare} (stgP0 V c)) ∗ (((c : Thread nD τ).loc cc1_stg1_0) ↦{fullShare} (stgP1 V c)) ∗ (((c : Thread nD τ).loc cc1_stg2_0) ↦{fullShare} (posOut V c)) ∗ (((c : Thread nD τ).loc cc1_stg3_0) ↦{fullShare} (cntOut V c)) ∗ (∃ f, ((c : Thread nD τ).loc cc1_scratch0) ↦{fullShare} f) ∗ (∃ f, ((c : Thread nD τ).loc cc1_scratch1) ↦{fullShare} f) ∗ (∃ f, ((c : Thread nD τ).loc cc1_scratch2) ↦{fullShare} f) ∗ (∃ f, ((c : Thread nD τ).loc cc1_scratch3) ↦{fullShare} f)) -∗ Q ⟨⟩))
      ⊢ wp frame (wpE (defs₀ (F := F)) Variants.none (c : Thread nD τ) none) Set.univ
          (cc1_positives (F := F) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)) Q := by
  have h := posOut_pt V c f2 f3 f4 f5 f6 f7 Q _ _ rfl rfl
  generalize posOut V c = Wp at h ⊢
  generalize cntOut V c = Wc at h ⊢
  rw [pt_whole, pt_whole, pt_whole, pt_whole, pt_whole, pt_whole, pt_whole, pt_whole, pt_whole, pt_whole, pt_whole_ex, pt_whole_ex, pt_whole_ex, pt_whole_ex] at h
  exact h

/-- The invariant between the region's ends: the scoped buffers that the pipeline does not stage, at something. -/
abbrev ΦP (c : Dev nD) : sProp 𝕄G := Pipeline.scopedRest (Ix := Unit) (Name := ℕ) (U := UU) (Lvl := ℕ) (Val := Elt F) spec1 c

/-- The region's proof data, entered at `V`: the arrays at `V`; after the body the inputs as fetched and the two results at the run's. -/
def datP (c : Dev nD) : Dat τ (Elt F) Unit ℕ UU ℕ cfg1 c where
  A w := V c (Pipeline.arrRef spec1 w)
  after w _ := match w with
    | ⟨0, _⟩ => stgP0 V c
    | ⟨1, _⟩ => stgP1 V c
    | ⟨2, _⟩ => posOut V c
    | ⟨3, _⟩ => cntOut V c
  Φ _ := ΦP c
  q _ := fullShare
  owed _ := 0

theorem beforeP_0 (c : Dev nD) (d) : (datP V c).before 0 t1_0 d = stgP0 V c := by unfold Dat.before; rw [if_pos (by decide)]; rfl
theorem beforeP_1 (c : Dev nD) (d) : (datP V c).before 1 t1_0 d = stgP1 V c := by unfold Dat.before; rw [if_pos (by decide)]; rfl

/-- The body obligation: the staging buffers and the scratch taken apart, the run applied, its post put back. -/
theorem body_obligationP (c : Dev nD) : BodyObligation (datP V c) (defs₀ (F := F)) 𝒱₀ () Set.univ := fun t => by
  obtain rfl := fin_N1 t
  rw [bigSep_W1, bigSep_W1]
  simp only [owns_whole_eq]
  rw [show (datP V c).Φ t1_0.castSucc = ΦP c from rfl, show (datP V c).Φ t1_0.succ = ΦP c from rfl,
    show (datP V c).owesAt () t1_0.succ = (datP V c).owesAt () t1_0.castSucc from rfl]
  unfold ΦP
  rw [scopedRest1_eq]
  iintro ⟨⟨Hr1, Hr2, Hr3, ⟨%f4, H4⟩, ⟨%f5, H5⟩, ⟨%f6, H6⟩, ⟨%f7, H7⟩, Hrest⟩, Howes, ⟨%d0, %f0, %hf0, H0⟩, ⟨%d1, %f1, %hf1, H1⟩, ⟨%d2, %f2, -, H2⟩, ⟨%d3, %f3, -, H3⟩⟩
  rw [beforeP_0] at hf0
  rw [beforeP_1] at hf1
  subst hf0 hf1
  iapply (posOut_run V c f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [Hr1 Hr2 Hr3 H4 H5 H6 H7 Hrest]
  · isplitl [Hr1]; · iexact Hr1
    isplitl [Hr2]; · iexact Hr2
    isplitl [Hr3]; · iexact Hr3
    isplitl [H4]; · iexact H4
    isplitl [H5]; · iexact H5
    isplitl [H6]; · iexact H6
    isplitl [H7]; · iexact H7
    iexact Hrest
  isplitl [Howes]; · iexact Howes
  isplitl [H0]; · iexists _; isplitr; swap; (· iexact H0); ipureintro; dsimp only [datP]
  isplitl [H1]; · iexists _; isplitr; swap; (· iexact H1); ipureintro; dsimp only [datP]
  isplitl [H2]; · iexists _; isplitr; swap; (· iexact H2); ipureintro; dsimp only [datP]
  iexists _; isplitr; swap; (· iexact H3); ipureintro; dsimp only [datP]

/-- The two results' arrays after the region. -/
def posArr (c : Dev nD) : Buf (Elt F) ((c : Thread nD τ).loc main_v2_0) := (datP V c).arrAt 2 cfg1.N
@[inherit_doc posArr]
def cntArr (c : Dev nD) : Buf (Elt F) ((c : Thread nD τ).loc main_v2_1) := (datP V c).arrAt 3 cfg1.N

variable (pdats : (p : Fin 3) → (c : Dev nD) → Dat τ (Elt F) Unit ℕ UU ℕ (cfgs p) c)

-- the launch lemmas are stated over the pinned configuration, and unify only when plain definitions may be unfolded
set_option backward.isDefEq.respectTransparency.types false in
/-- The region over the unscoped buffers: entered at `V`, left at any `Vp` that has the two results' arrays at the run's results and
    agrees with `V` off them. -/
def regP (Vp : Entry (F := F)) (hp : ∀ c, pdats 1 c = datP V c) (hout : ∀ c, Vp c main_v2_0 = posArr V c) (hcnt : ∀ c, Vp c main_v2_1 = cntArr V c)
    (hne : ∀ c (b : Ref sig .tc), b ≠ main_v2_0 → b ≠ main_v2_1 → Vp c b = V c b) :
    Pipeline.RegionSeg (pcfgs (F := F)) adm pdats () defs₀ 𝒱₀ L lv 1 where
  win := (launch1).win.to₀
  block_pos := (launch1).block_pos
  stage_whole := (launch1).stage_whole
  K := PEmpty
  osem k := k.elim
  ho := Pipeline.OwnSemFacts.none _
  hbody c := by rw [hp c]; exact (body_obligationP V c).loose
  hwaits := Pipeline.hwaits_of_owed_zero _ _ _ _ L lv 1 fun c _ => by rw [hp c]; rfl
  pre c := iprop(unscopedBufs c (V c) ∗ Rides c)
  post c := iprop(unscopedBufs c (Vp c) ∗ Rides c)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm pdats (launch1).win (launch1).arr_whole c
      ((pdats 1 c).share_full fun _ => by rw [hp c]; rfl) (V c) fun _ => by rw [hp c]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hp c]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (datP V c).Φ 0 = ΦP c from rfl]
    iintro ⟨-, -, Hr⟩; iexact Hr
  hout c := by
    rw [Pipeline.ownSems0_none, hp c]
    change ΦP c ⊢ _
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1).win (launch1).arr_whole c
      pdats ((pdats 1 c).share_full fun _ => by rw [hp c]; rfl) (V c) (Vp c) ((pdats 1 c).arrAt · cfg1.N)
      (fun w => by
        rw [hp c]
        fin_cases w
        · exact ((datP V c).arrAt_in 0 rfl _).trans (hne c main_v1 (by decide) (by decide)).symm
        · exact ((datP V c).arrAt_in 1 rfl _).trans (hne c main_arg0 (by decide) (by decide)).symm
        · exact (hout c).symm
        · exact (hcnt c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    rw [hp c]
    unfold Pipeline.Dat.owesAt Pipeline.owesWithin
    icases HO with ⟨%W, -, HO⟩; iexists W; iexact HO

end Cert.Proof.KernelIdeal
-- ==== Proof.KernelIdeal.Frame.lean ====
/-
  The whole program run: the sums call, the positives call and the combine call in turn, from the launch contents to the results. Every
  argument ends as launched, every semaphore counter at zero, and the three results at what the calls' runs leave.
-/
module

public import proofs.«01_k».proof.Proof.KernelIdeal.CombineRegion
public import proofs.«01_k».proof.Proof.KernelIdeal.PosRegion
public import Idealize.ShloMosaic.Lib.Pipeline.RegionsLoop
public import Idealize.ShloMosaic.Lib.Pipeline.Frame
public import Idealize.ShloMosaic.Lib.Pipeline.Regions
public import proofs.«01_k».proof.Proof.Gen.KernelIdeal.Regions
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

/-- The propositions of the runs. -/
local notation "𝕄G" => MT nD τ sig Unit (Elt F) ℕ UU ℕ

variable (m : (ℓ : Loc nD τ sig) → Buf (Elt F) ℓ) (ρ : Dev nD → PrngReg)

/-! ## What the buffers hold between the calls -/

/-- What the sums call is entered at: the launch contents. -/
abbrev E0 : Entry (F := F) := fun c b => V0 m c b
/-- A core's buffers after the sums call. -/
def U1 (c : Dev nD) : Valuation τ sig (Elt F) := Function.update (V0 m c) main_v0 (accArr (E0 m) c)
/-- A core's buffers after the labels have been laid out as a row. -/
def U2 (c : Dev nD) : Valuation τ sig (Elt F) := StableHlo.after hostOps1 (U1 m c)
/-- What the sums call leaves. -/
abbrev E1 : Entry (F := F) := fun c b => U1 m c b
/-- What the positives call is entered at. -/
abbrev E2 : Entry (F := F) := fun c b => U2 m c b
/-- A core's buffers after the positives call. -/
def U3 (c : Dev nD) : Valuation τ sig (Elt F) :=
  Function.update (Function.update (U2 m c) main_v2_0 (posArr (E2 m) c)) main_v2_1 (cntArr (E2 m) c)
/-- What the combine call is entered at. -/
abbrev E3 : Entry (F := F) := fun c b => U3 m c b
/-- A core's buffers after the combine call. -/
def U4 (c : Dev nD) : Valuation τ sig (Elt F) :=
  Function.update (Function.update (U3 m c) main_v3_0 (lossArr (E3 m) c)) main_v3_1 (lseArr (E3 m) c)
@[inherit_doc U4]
abbrev E4 : Entry (F := F) := fun c b => U4 m c b

theorem U1_acc (c : Dev nD) : U1 m c main_v0 = accArr (E0 m) c := by unfold U1; exact Function.update_self ..
theorem U1_of (c : Dev nD) (r : Ref sig .tc) (h : r ≠ main_v0) : U1 m c r = m ((c : Thread nD τ).loc r) := by
  unfold U1; exact Function.update_of_ne (StableHlo.devRef_ne_of_ne h) ..
theorem U2_of (c : Dev nD) (r : Ref sig .tc) (h : r ∉ hostOps1_W) : U2 m c r = U1 m c r :=
  StableHlo.after_of_writes_sub hostOps1 _ hostOps1_writes h
theorem U3_cnt (c : Dev nD) : U3 m c main_v2_1 = cntArr (E2 m) c := by unfold U3; exact Function.update_self ..
theorem U3_pos (c : Dev nD) : U3 m c main_v2_0 = posArr (E2 m) c := by
  unfold U3
  rw [Function.update_of_ne (StableHlo.devRef_ne_of_ne (by decide : main_v2_0 ≠ main_v2_1))]
  exact Function.update_self ..
theorem U3_eq (c : Dev nD) (r : Ref sig .tc) (h : r ≠ main_v2_0) (h' : r ≠ main_v2_1) : U3 m c r = U2 m c r := by
  unfold U3
  rw [Function.update_of_ne (StableHlo.devRef_ne_of_ne h'), Function.update_of_ne (StableHlo.devRef_ne_of_ne h)]
theorem U4_lse (c : Dev nD) : U4 m c main_v3_1 = lseArr (E3 m) c := by unfold U4; exact Function.update_self ..
theorem U4_loss (c : Dev nD) : U4 m c main_v3_0 = lossArr (E3 m) c := by
  unfold U4
  rw [Function.update_of_ne (StableHlo.devRef_ne_of_ne (by decide : main_v3_0 ≠ main_v3_1))]
  exact Function.update_self ..
theorem U4_eq (c : Dev nD) (r : Ref sig .tc) (h : r ≠ main_v3_0) (h' : r ≠ main_v3_1) : U4 m c r = U3 m c r := by
  unfold U4
  rw [Function.update_of_ne (StableHlo.devRef_ne_of_ne h'), Function.update_of_ne (StableHlo.devRef_ne_of_ne h)]
theorem U4_cnt (c : Dev nD) : U4 m c main_v2_1 = cntArr (E2 m) c :=
  (U4_eq m c main_v2_1 (by decide) (by decide)).trans (U3_cnt m c)
/-- A buffer that nothing writes before the positives call holds there what it held at launch. -/
theorem U2_arg (c : Dev nD) (r : Ref sig .tc) (h : r ≠ main_v0) (h₁ : r ∉ hostOps1_W) :
    U2 m c r = m ((c : Thread nD τ).loc r) := (U2_of m c r h₁).trans (U1_of m c r h)
/-- A buffer that nothing writes before the combine call holds there what it held at launch. -/
theorem U3_arg (c : Dev nD) (r : Ref sig .tc) (h : r ≠ main_v0) (h₁ : r ∉ hostOps1_W) (h₂ : r ≠ main_v2_0) (h₃ : r ≠ main_v2_1) :
    U3 m c r = m ((c : Thread nD τ).loc r) := (U3_eq m c r h₂ h₃).trans (U2_arg m c r h h₁)
/-- A buffer that nothing writes ends as launched. -/
theorem U4_arg (c : Dev nD) (r : Ref sig .tc) (h : r ≠ main_v0) (h₁ : r ∉ hostOps1_W) (h₂ : r ≠ main_v2_0) (h₃ : r ≠ main_v2_1)
    (h₄ : r ≠ main_v3_0) (h₅ : r ≠ main_v3_1) :
    U4 m c r = m ((c : Thread nD τ).loc r) := (U4_eq m c r h₄ h₅).trans (U3_arg m c r h h₁ h₂ h₃)

/-! ## The items between launch and end -/

/-- The proof data of the three calls. -/
def pdats : (p : Fin 3) → (c : Dev nD) → Dat τ (Elt F) Unit ℕ UU ℕ (cfgs p) c
  | ⟨0, _⟩ => fun c => datS (E0 m) c
  | ⟨1, _⟩ => fun c => datP (E2 m) c
  | ⟨2, _⟩ => fun c => datC (E3 m) c

/-- The sums call's region, entered at the launch contents. -/
def reg0 : RegionSeg (pcfgs (F := F)) adm (pdats m) () defs₀ 𝒱₀ L lv 0 :=
  regS (E0 m) (pdats m) (E1 m) (fun _ => rfl) (U1_acc m) fun c b h => U1_of m c b h
/-- The positives call's region, entered with the labels laid out. -/
def reg1 : RegionSeg (pcfgs (F := F)) adm (pdats m) () defs₀ 𝒱₀ L lv 1 :=
  regP (E2 m) (pdats m) (E3 m) (fun _ => rfl) (U3_pos m) (U3_cnt m) fun c b h h' => U3_eq m c b h h'
/-- The combine call's region, entered at what the positives call left. -/
def reg2 : RegionSeg (pcfgs (F := F)) adm (pdats m) () defs₀ 𝒱₀ L lv 2 :=
  regC (E3 m) (pdats m) (E4 m) (fun _ => rfl) (U4_loss m) (U4_lse m) fun c b h h' => U4_eq m c b h h'
/-- The host stretch between the sums call and the positives call, over the unscoped buffers. -/
def hseg : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) (fun c => Rides c)
/-- The program's items on a core. -/
abbrev items (_c : Dev nD) : List (Seg (pcfgs (F := F)) adm (pdats m) () defs₀ 𝒱₀ L lv) :=
  [.region (reg0 m), .host (hseg m), .region (reg1 m), .region (reg2 m)]

theorem pre0 (c : Dev nD) : iprop(StableHlo.held (c : Thread nD τ) (Pipeline.ucRefs τ sig) (V0 m c) ∗ Rides c) ⊢ (reg0 m).pre c := by
  rw [← Pipeline.unscopedBufs_held (Ix := Unit) (Name := ℕ) (U := UU) (Lvl := ℕ) c (V0 m c)]; exact BI.Entails.refl _
theorem post0 (c : Dev nD) : (reg0 m).post c ⊢ iprop(StableHlo.held (c : Thread nD τ) (Pipeline.ucRefs τ sig) (U1 m c) ∗ Rides c) := by
  rw [← Pipeline.unscopedBufs_held (Ix := Unit) (Name := ℕ) (U := UU) (Lvl := ℕ) c (U1 m c)]; exact BI.Entails.refl _
theorem pre1 (c : Dev nD) : iprop(StableHlo.held (c : Thread nD τ) (Pipeline.ucRefs τ sig) (U2 m c) ∗ Rides c) ⊢ (reg1 m).pre c := by
  rw [← Pipeline.unscopedBufs_held (Ix := Unit) (Name := ℕ) (U := UU) (Lvl := ℕ) c (U2 m c)]; exact BI.Entails.refl _
theorem pre2 (c : Dev nD) : (reg1 m).post c ⊢ (reg2 m).pre c := BI.Entails.refl _
theorem post2 (c : Dev nD) : (reg2 m).post c ⊢ iprop(StableHlo.held (c : Thread nD τ) (Pipeline.ucRefs τ sig) (U4 m c) ∗ Rides c) := by
  rw [← Pipeline.unscopedBufs_held (Ix := Unit) (Name := ℕ) (U := UU) (Lvl := ℕ) c (U4 m c)]; exact BI.Entails.refl _

/-! ## The launch -/

/-- The pipeline library's part of the launch resources. -/
abbrev EP : Emb (UR sig nD τ) (MT nD τ sig Unit (Elt F) ℕ UU ℕ) := embL

/-- The launch element: the pipeline library's at the staging cells and the transfers; no counter yet. -/
def u₀ : UU := (initOf (Pipeline.cells cfgs cellOf_inj) (Pipeline.launchToks cfgs cellOf_inj), 1)

theorem hu₀ : (ownU u₀ : sProp 𝕄G) ⊢ |={Set.univ}=> iprop(BI.own ((EP (F := F)) (initOf (Pipeline.cells cfgs cellOf_inj) (Pipeline.launchToks cfgs cellOf_inj)))
    ∗ bigSep Finset.univ fun _ : Dev nD => (iprop(emp) : sProp 𝕄G)) := by
  unfold u₀
  iintro Hu
  ihave H := (ownU_pair _ _) $$ Hu
  icases H with ⟨HP, -⟩
  imodintro
  isplitl [HP]; · iexact HP
  iapply (show (BI.emp : sProp 𝕄G) ⊢ bigSep Finset.univ (fun _ : Dev nD => (BI.emp : sProp 𝕄G)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred 0 c ∗ prngReg c (ρ c) ∗ iprop(emp))) ∗ levAts L lv)
    ⊢ (|={Set.univ}=> bigSep Finset.univ (fun c : Dev nD => Rides (F := F) c) : sProp 𝕄G) := by
  have h : (bigSep Finset.univ fun c : Dev nD => iprop(unscopedSems0 c ∗ owes (c : Thread nD τ) ((0 : Dev nD → CellTallies nD τ sig Unit) c) ∅
      ∗ Pipeline.launchCred 0 c ∗ prngReg c (ρ c) ∗ iprop(emp))) ⊢ (bigSep Finset.univ (fun c : Dev nD => Rides (F := F) c) : sProp 𝕄G) :=
    bigSep_mono fun c _ => by
      show iprop(unscopedSems0 c ∗ owes (c : Thread nD τ) ((0 : Dev nD → CellTallies nD τ sig Unit) c) ∅
        ∗ Pipeline.launchCred 0 c ∗ prngReg c (ρ c) ∗ iprop(emp)) ⊢ (Rides (F := F) c : sProp 𝕄G)
      iintro ⟨-, HO, -⟩
      iexists ∅
      iexact HO
  iintro ⟨H, -⟩
  imodintro
  iapply h
  iexact H

-- the kit's implicit arguments are found by unifying its conclusion with this one, which takes unfolding plain definitions
set_option backward.isDefEq.respectTransparency.types false in
/-- From any memory with zero counters every weakly fair execution of the program terminates, with the three results at the
    run's values, every argument as launched and every semaphore counter at zero. -/
theorem run_main : θ_run defs (onTc (τ := τ) (main (F := F))) ⟨m, fun _ => 0, ρ⟩ (fun r => (∀ c : Dev nD,
      r.2.mem ((c.tc : Thread nD τ).loc main_v3_0) = lossArr (E3 m) c
      ∧ r.2.mem ((c.tc : Thread nD τ).loc main_v3_1) = lseArr (E3 m) c
      ∧ r.2.mem ((c.tc : Thread nD τ).loc main_v2_1) = cntArr (E2 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [items, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ Rides c))
    (Tₙ := fun c => StableHlo.held (c : Thread nD τ) (Pipeline.ucRefs τ sig) (U4 m c))
    (hch := fun c => ⟨pre0 m c, post0 m c, pre1 m c, pre2 m c, post2 m c⟩)
    (hinit := ?_) (QY := fun c s => s.mem ((c.tc : Thread nD τ).loc main_v3_0) = lossArr (E3 m) c ∧ s.mem ((c.tc : Thread nD τ).loc main_v3_1) = lseArr (E3 m) c ∧ s.mem ((c.tc : Thread nD τ).loc main_v2_1) = cntArr (E2 m) c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp (MT nD τ sig Unit (Elt F) ℕ UU ℕ)) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact ⟨(h (Proc.devRef .tc main_v3_0) (Finset.mem_filter.mpr ⟨StableHlo.devRef_mem_tcRefs main_v3_0, by decide⟩)).trans (U4_loss m c),
        (h (Proc.devRef .tc main_v3_1) (Finset.mem_filter.mpr ⟨StableHlo.devRef_mem_tcRefs main_v3_1, by decide⟩)).trans (U4_lse m c),
        (h (Proc.devRef .tc main_v2_1) (Finset.mem_filter.mpr ⟨StableHlo.devRef_mem_tcRefs main_v2_1, by decide⟩)).trans (U4_cnt m c),
        (h (Proc.devRef .tc main_arg0) (Finset.mem_filter.mpr ⟨StableHlo.devRef_mem_tcRefs main_arg0, by decide⟩)).trans (U4_arg m c main_arg0 (by decide) (by decide) (by decide) (by decide) (by decide) (by decide)),
        (h (Proc.devRef .tc main_arg1) (Finset.mem_filter.mpr ⟨StableHlo.devRef_mem_tcRefs main_arg1, by decide⟩)).trans (U4_arg m c main_arg1 (by decide) (by decide) (by decide) (by decide) (by decide) (by decide)),
        (h (Proc.devRef .tc main_arg2) (Finset.mem_filter.mpr ⟨StableHlo.devRef_mem_tcRefs main_arg2, by decide⟩)).trans (U4_arg m c main_arg2 (by decide) (by decide) (by decide) (by decide) (by decide) (by decide))⟩
    · iexact HSI

end Cert.Proof.KernelIdeal
-- ==== Proof.KernelIdeal.RegionValue.lean ====
/-
  The arrays after each call: what the kernel's run leaves, element by element, and what it is run on.
-/
module

public import proofs.«01_k».proof.Proof.KernelIdeal.Frame
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat Cfg Window)

variable {F : FTy → Type} [FloatOps F] [Named F]
variable (V : Entry (F := F)) (c : Dev nD)

theorem one0 (t t' : Fin cfg0.N) : t = t' := (fin_N0 t).trans (fin_N0 t').symm
theorem oneP (t t' : Fin cfg1.N) : t = t' := (fin_N1 t).trans (fin_N1 t').symm
theorem one1 (t t' : Fin cfg2.N) : t = t' := (fin_N2 t).trans (fin_N2 t').symm

/-- The sums call's accumulator is what its run leaves. -/
theorem accArr_apply (y : S32x8x512.Idx) : accArr V c y = sumsOut V c y := by
  have h := (datS V c).arrAt_emb_eq_flushed 2 (fun t t' _ _ hne => absurd (one0 t t') hne) t0_0 (by decide) y
  have e : (((cfg0.win 2).blk t0_0).view.emb y) = y := funext fun a => Fin.ext
    ((cfg0.win 2).rect_emb_val_of_index_zero t0_0 a (by revert a; decide) y)
  rw [e] at h
  exact h

theorem stgS0_eq : stgS0 V c = V c main_arg1 := funext fun y => congrArg (V c main_arg1) (funext fun a => Fin.ext
    ((cfg0.win 0).rect_emb_val_of_index_zero t0_0 a (by revert a; decide) y))
theorem stgS1_eq : stgS1 V c = V c main_arg0 := funext fun y => congrArg (V c main_arg0) (funext fun a => Fin.ext
    ((cfg0.win 1).rect_emb_val_of_index_zero t0_0 a (by revert a; decide) y))

attribute [local irreducible] posOut cntOut in
/-- The positives call's sums are what its run leaves. -/
theorem posArr_apply (y : S2x8192.Idx) : posArr V c y = posOut V c y := by
  have h := (datP V c).arrAt_emb_eq_flushed 2 (fun t t' _ _ hne => absurd (oneP t t') hne) t1_0 (by decide) y
  have e : (((cfg1.win 2).blk t1_0).view.emb y) = y := funext fun a => Fin.ext
    ((cfg1.win 2).rect_emb_val_of_index_zero t1_0 a (by revert a; decide) y)
  rw [e] at h
  exact h

attribute [local irreducible] posOut cntOut in
/-- And so are its counts. -/
theorem cntArr_apply (y : S2x8192.Idx) : cntArr V c y = cntOut V c y := by
  have h := (datP V c).arrAt_emb_eq_flushed 3 (fun t t' _ _ hne => absurd (oneP t t') hne) t1_0 (by decide) y
  have e : (((cfg1.win 3).blk t1_0).view.emb y) = y := funext fun a => Fin.ext
    ((cfg1.win 3).rect_emb_val_of_index_zero t1_0 a (by revert a; decide) y)
  rw [e] at h
  exact h

theorem stgP0_eq : stgP0 V c = V c main_v1 := funext fun y => congrArg (V c main_v1) (funext fun a => Fin.ext
    ((cfg1.win 0).rect_emb_val_of_index_zero t1_0 a (by revert a; decide) y))
theorem stgP1_eq : stgP1 V c = V c main_arg0 := funext fun y => congrArg (V c main_arg0) (funext fun a => Fin.ext
    ((cfg1.win 1).rect_emb_val_of_index_zero t1_0 a (by revert a; decide) y))

attribute [local irreducible] lossOut lseOut in
/-- The combine call's losses are what its run leaves. -/
theorem lossArr_apply (y : S2x8192.Idx) : lossArr V c y = lossOut V c y := by
  have h := (datC V c).arrAt_emb_eq_flushed 4 (fun t t' _ _ hne => absurd (one1 t t') hne) t2_0 (by decide) y
  have e : (((cfg2.win 4).blk t2_0).view.emb y) = y := funext fun a => Fin.ext
    ((cfg2.win 4).rect_emb_val_of_index_zero t2_0 a (by revert a; decide) y)
  rw [e] at h
  exact h

attribute [local irreducible] lossOut lseOut in
/-- And so are its row results. -/
theorem lseArr_apply (y : S2x8192.Idx) : lseArr V c y = lseOut V c y := by
  have h := (datC V c).arrAt_emb_eq_flushed 5 (fun t t' _ _ hne => absurd (one1 t t') hne) t2_0 (by decide) y
  have e : (((cfg2.win 5).blk t2_0).view.emb y) = y := funext fun a => Fin.ext
    ((cfg2.win 5).rect_emb_val_of_index_zero t2_0 a (by revert a; decide) y)
  rw [e] at h
  exact h

theorem stgC0_eq : stgC0 V c = V c main_arg1 := funext fun y => congrArg (V c main_arg1) (funext fun a => Fin.ext
    ((cfg2.win 0).rect_emb_val_of_index_zero t2_0 a (by revert a; decide) y))
theorem stgC1_eq : stgC1 V c = V c main_v0 := funext fun y => congrArg (V c main_v0) (funext fun a => Fin.ext
    ((cfg2.win 1).rect_emb_val_of_index_zero t2_0 a (by revert a; decide) y))
theorem stgC2_eq : stgC2 V c = V c main_v2_0 := funext fun y => congrArg (V c main_v2_0) (funext fun a => Fin.ext
    ((cfg2.win 2).rect_emb_val_of_index_zero t2_0 a (by revert a; decide) y))
theorem stgC3_eq : stgC3 V c = V c main_v2_1 := funext fun y => congrArg (V c main_v2_1) (funext fun a => Fin.ext
    ((cfg2.win 3).rect_emb_val_of_index_zero t2_0 a (by revert a; decide) y))

end Cert.Proof.KernelIdeal
-- ==== Proof.KernelIdeal.SumsPay.lean ====
/-
  What the vector expressions of the sums kernel add to a column's total and to a row's total, over the extended reals. A block of the
  accumulator keeps eight partial sums for every column, the row scratch 128 for every row; only their totals matter.
-/
module

public import proofs.«01_k».proof.Proof.KernelIdeal.SumsRun
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## Sums cut into equal parts -/

/-- A sum over `m * n` positions, by remainder and quotient. -/
theorem sum_parts {M : Type} [AddCommMonoid M] {m n N : ℕ} (hN : m * n = N) (f : Fin N → M)
    (h : ∀ (x : Fin m) (s : Fin n), x.val * n + s.val < N) :
    ∑ s : Fin n, ∑ x : Fin m, f ⟨x.val * n + s.val, h x s⟩ = ∑ r : Fin N, f r := by
  subst hN
  rw [Finset.sum_comm, ← Fintype.sum_prod_type' (f := fun x s => f ⟨x.val * n + s.val, h x s⟩)]
  exact Fintype.sum_equiv finProdFinEquiv _ _ fun p => congrArg f (Fin.ext (by simp [finProdFinEquiv, Nat.mul_comm, Nat.add_comm]))

/-- A sum over 512 positions, as four of 128. -/
theorem sum_four {M : Type} [AddCommMonoid M] (f : Fin 512 → M) :
    ∑ q : Fin 512, f q = ∑ l : Fin 128, (f ⟨l.val, by omega⟩ + f ⟨128 + l.val, by omega⟩ + f ⟨256 + l.val, by omega⟩ + f ⟨384 + l.val, by omega⟩) := by
  rw [← sum_parts (m := 4) (n := 128) (N := 512) rfl f (fun x s => by omega)]
  refine Finset.sum_congr rfl fun l _ => ?_
  rw [Fin.sum_univ_four]
  congr 1
  congr 1
  congr 1
  exact congrArg f (Fin.ext (by simp))

/-! ## The entries -/

/-- One entry of a tile: two to the scaled inner product of two rows, less the shift. -/
def ent (v4 : EReal) (a b : Fin 128 → EReal) : EReal :=
  Ideal.exp2 ((∑ k, a k * b k) * ((10 * (Real.log 2)⁻¹ : ℝ) : EReal) - v4)

theorem ent_comm (v4 : EReal) (a b : Fin 128 → EReal) : ent v4 a b = ent v4 b a := by
  unfold ent; congr 3; exact Finset.sum_congr rfl fun k _ => mul_comm _ _

variable (v4 : Ideal .f32) (v94 : Vec Ideal S512x128 .bf16) (v132 : Vec Ideal S256x128 .bf16)

theorem pay3_apply (r : Fin 256) (q : Fin 512) :
    k0_pay3 v4 v94 v132 (ix2 r q) = ent v4 (fun k => v132 (ix2 r k)) (fun k => v94 (ix2 q k)) := by
  pointwise [k0_pay3]
  rfl

theorem pay12_apply (r : Fin 256) (q : Fin 512) :
    k0_pay12 v4 v94 v132 (ix2 r q) = ent v4 (fun k => v132 (ix2 r k)) (fun k => v94 (ix2 q k)) := by
  pointwise [k0_pay12]
  rfl

/-! ## A tile off the diagonal -/

theorem pay4_col (v107 : Vec Ideal S1x8x512 .f32) (q : Fin 512) :
    ∑ s : Fin 8, k0_pay4 v4 v94 v132 v107 (ix3 0 s q)
      = (∑ s : Fin 8, v107 (ix3 0 s q)) + ∑ r : Fin 256, ent v4 (fun k => v132 (ix2 r k)) (fun k => v94 (ix2 q k)) := by
  pointwise [k0_pay4]
  simp only [pay3_apply]
  rw [Finset.sum_add_distrib]
  congr 1
  exact sum_parts (m := 32) (n := 8) (N := 256) rfl (fun r => ent v4 (fun k => v132 (ix2 r k)) (fun k => v94 (ix2 q k))) _

theorem pay13_col (v107 : Vec Ideal S1x8x512 .f32) (q : Fin 512) :
    ∑ s : Fin 8, k0_pay13 v4 v94 v132 v107 (ix3 0 s q)
      = (∑ s : Fin 8, v107 (ix3 0 s q)) + ∑ r : Fin 256, ent v4 (fun k => v132 (ix2 r k)) (fun k => v94 (ix2 q k)) := by
  pointwise [k0_pay13]
  simp only [pay12_apply]
  rw [Finset.sum_add_distrib]
  congr 1
  exact sum_parts (m := 32) (n := 8) (N := 256) rfl (fun r => ent v4 (fun k => v132 (ix2 r k)) (fun k => v94 (ix2 q k))) _

theorem pay5_row (v123 : Vec Ideal S256x128 .f32) (r : Fin 256) :
    ∑ l : Fin 128, k0_pay5 v4 v94 v132 v123 (ix2 r l)
      = (∑ l : Fin 128, v123 (ix2 r l)) + ∑ q : Fin 512, ent v4 (fun k => v132 (ix2 r k)) (fun k => v94 (ix2 q k)) := by
  pointwise [k0_pay5]
  simp only [pay3_apply]
  rw [Finset.sum_add_distrib]
  congr 1
  exact (sum_four fun q => ent v4 (fun k => v132 (ix2 r k)) (fun k => v94 (ix2 q k))).symm

theorem pay14_row (v123 : Vec Ideal S256x128 .f32) (r : Fin 256) :
    ∑ l : Fin 128, k0_pay14 v4 v94 v132 v123 (ix2 r l)
      = (∑ l : Fin 128, v123 (ix2 r l)) + ∑ q : Fin 512, ent v4 (fun k => v132 (ix2 r k)) (fun k => v94 (ix2 q k)) := by
  pointwise [k0_pay14]
  simp only [pay12_apply]
  rw [Finset.sum_add_distrib]
  congr 1
  exact (sum_four fun q => ent v4 (fun k => v132 (ix2 r k)) (fun k => v94 (ix2 q k))).symm

/-! ## The tile on the diagonal -/

/-- A select on the equality of two small naturals' words. -/
theorem select_eq (a b o : ℕ) (ha : a + o < 2 ^ 32) (hb : b < 2 ^ 32) (x y : EReal) :
    Scalar.select (IntOp.cmpi CmpIPredicate.eq (IntOp.addi (BitVec.ofNat 32 a) (BitVec.ofNat 32 o)) (BitVec.ofNat 32 b)) x y
      = if a + o = b then x else y := by
  have h : (IntOp.addi (BitVec.ofNat 32 a) (BitVec.ofNat 32 o) = BitVec.ofNat 32 b) ↔ a + o = b := by
    constructor
    · intro h
      have := congrArg BitVec.toNat h
      simp [IntOp.addi] at this
      omega
    · rintro rfl
      apply BitVec.eq_of_toNat_eq
      simp [IntOp.addi]
  by_cases e : a + o = b
  · rw [if_pos e, h.mpr e]
    simp [Scalar.select, IntOp.cmpi]
  · rw [if_neg e]
    have h' : (IntOp.addi (BitVec.ofNat 32 a) (BitVec.ofNat 32 o) == BitVec.ofNat 32 b) = false := by
      rw [beq_eq_false_iff_ne]; exact fun g => e (h.mp g)
    simp [Scalar.select, IntOp.cmpi, h']

theorem pay9_row (r : Fin 256) :
    ∑ l : Fin 128, k0_pay9 v4 v94 v132 (ix2 r l)
      = ∑ q : Fin 512, if r.val = q.val then 0 else ent v4 (fun k => v132 (ix2 r k)) (fun k => v94 (ix2 q k)) := by
  pointwise [k0_pay9]
  rw [sum_four]
  refine Finset.sum_congr rfl fun l _ => ?_
  rw [select_eq _ _ 0 (by omega) (by omega), select_eq _ _ 0 (by omega) (by omega), select_eq _ _ 0 (by omega) (by omega),
    select_eq _ _ 0 (by omega) (by omega)]
  rfl

theorem pay11_row (r : Fin 256) :
    ∑ l : Fin 128, k0_pay11 (k0_pay10 v4 v94 v132) (ix2 r l)
      = ∑ q : Fin 512, if r.val + 256 = q.val then 0 else ent v4 (fun k => v132 (ix2 r k)) (fun k => v94 (ix2 q k)) := by
  pointwise [k0_pay11, k0_pay10]
  rw [sum_four]
  refine Finset.sum_congr rfl fun l _ => ?_
  rw [select_eq _ _ 256 (by omega) (by omega), select_eq _ _ 256 (by omega) (by omega), select_eq _ _ 256 (by omega) (by omega),
    select_eq _ _ 256 (by omega) (by omega)]
  rfl

/-! ## The rows' totals added to the columns' -/

theorem pay18_col (v78 : Vec Ideal S1x8x512 .f32) (v80 : Vec Ideal S512x128 .f32) (q : Fin 512) :
    ∑ s : Fin 8, k0_pay18 (F := Ideal) v78 v80 (ix3 0 s q) = (∑ s : Fin 8, v78 (ix3 0 s q)) + ∑ l : Fin 128, v80 (ix2 q l) := by
  pointwise [k0_pay18]
  rw [Finset.sum_add_distrib]
  congr 1
  exact sum_parts (m := 16) (n := 8) (N := 128) rfl (fun l => v80 (ix2 q l)) _

end Cert.Proof.KernelIdeal
-- ==== Proof.KernelIdeal.SumsStep.lean ====
/-
  The totals the sums kernel keeps, and what one trip of its inner loop does to them, over the extended reals.
-/
module

public import proofs.«01_k».proof.Proof.KernelIdeal.SumsPay
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- Row `i` of the embeddings. -/
def rowOf (x : S16384x128.Idx → EReal) (i : ℕ) : Fin 128 → EReal := fun k => x (ix2 (Fin.ofNat 16384 i) k)

/-- The entry of rows `i` and `j`. -/
def entry (x : S16384x128.Idx → EReal) (v4 : EReal) (i j : ℕ) : EReal := ent v4 (rowOf x i) (rowOf x j)

theorem entry_comm (x : S16384x128.Idx → EReal) (v4 : EReal) (i j : ℕ) : entry x v4 i j = entry x v4 j i := ent_comm _ _ _

/-- Column `q` of block `b` of the accumulator: its eight partial sums together. -/
def colT (a : S32x8x512.Idx → EReal) (b : Fin 32) (q : Fin 512) : EReal := ∑ s : Fin 8, a (ix3 b s q)

/-- Row `r` of the row scratch: its 128 partial sums together. -/
def rowT (a : S512x128.Idx → EReal) (r : Fin 512) : EReal := ∑ l : Fin 128, a (ix2 r l)

/-- A window of rows of the embeddings. -/
theorem window_rows (x : S16384x128.Idx → EReal) (o n : ℕ) (inb : ∀ a, (![o, 0] : Fin 2 → ℕ) a + (![n, 128] : Fin 2 → ℕ) a ≤ S16384x128.size a)
    (r : Fin n) : (fun k : Fin 128 => VecWindow.window x ![o, 0] ![n, 128] inb (ix2 r k)) = rowOf x (o + r.val) := by
  funext k
  have h0 : o + n ≤ 16384 := inb 0
  refine congrArg x (funext fun a => ?_)
  match a with
  | 0 => exact Fin.ext (by show o + 1 * r.val = (o + r.val) % 16384; rw [Nat.mod_eq_of_lt (by omega)]; omega)
  | 1 => exact Fin.ext (by show 0 + 1 * k.val = k.val; omega)

/-- A block of the accumulator, read. -/
theorem window_block (a : S32x8x512.Idx → EReal) (b : Fin 32)
    (inb : ∀ i, (![b.val, 0, 0] : Fin 3 → ℕ) i + (![1, 8, 512] : Fin 3 → ℕ) i ≤ S32x8x512.size i) (s : Fin 8) (q : Fin 512) :
    VecWindow.window a ![b.val, 0, 0] ![1, 8, 512] inb (ix3 (0 : Fin 1) s q) = a (ix3 b s q) := by
  refine congrArg a (funext fun i => ?_)
  match i with
  | 0 => exact Fin.ext (by show b.val + 1 * 0 = b.val; omega)
  | 1 => exact Fin.ext (by show 0 + 1 * s.val = s.val; omega)
  | 2 => exact Fin.ext (by show 0 + 1 * q.val = q.val; omega)

/-- A window of rows of the row scratch. -/
theorem window_scratch (a : S512x128.Idx → EReal) (o n : ℕ) (inb : ∀ i, (![o, 0] : Fin 2 → ℕ) i + (![n, 128] : Fin 2 → ℕ) i ≤ S512x128.size i)
    (r : Fin n) (l : Fin 128) (r' : Fin 512) (h : r'.val = o + r.val) :
    VecWindow.window a ![o, 0] ![n, 128] inb (ix2 r l) = a (ix2 r' l) := by
  refine congrArg a (funext fun i => ?_)
  match i with
  | 0 => exact Fin.ext (by show o + 1 * r.val = r'.val; omega)
  | 1 => exact Fin.ext (by show 0 + 1 * l.val = l.val; omega)

/-- The totals after a block is stored: the block's columns have the payload's, the others are unchanged. -/
theorem colT_put (a : S32x8x512.Idx → EReal) (j : Fin 32) (w : S1x8x512.Idx → EReal) (b : Fin 32) (q : Fin 512) :
    colT (VecWindow.put a ![j.val, 0, 0] ![1, 8, 512] w) b q = if b = j then ∑ s : Fin 8, w (ix3 0 s q) else colT a b q := by
  unfold colT
  split
  · rename_i h
    subst h
    refine Finset.sum_congr rfl fun s _ => ?_
    unfold VecWindow.put
    rw [dif_pos (fun i => by
      match i with
      | 0 => exact ⟨Nat.le_refl _, Nat.lt_succ_self _⟩
      | 1 => exact ⟨Nat.zero_le _, by show s.val < 0 + 8; omega⟩
      | 2 => exact ⟨Nat.zero_le _, by show q.val < 0 + 512; omega⟩)]
    refine congrArg w (funext fun i => ?_)
    match i with
    | 0 => exact Fin.ext (by show b.val - b.val = 0; omega)
    | 1 => exact Fin.ext (by show s.val - 0 = s.val; omega)
    | 2 => exact Fin.ext (by show q.val - 0 = q.val; omega)
  · rename_i h
    refine Finset.sum_congr rfl fun s _ => ?_
    unfold VecWindow.put
    rw [dif_neg (fun hh => h (Fin.ext (by
      have h0 := hh 0
      have h1 : j.val ≤ b.val ∧ b.val < j.val + 1 := h0
      omega)))]

/-- The totals after a window of rows of the scratch is stored. -/
theorem rowT_put (a : S512x128.Idx → EReal) (o : ℕ) (w : S256x128.Idx → EReal) (r : Fin 512) :
    rowT (VecWindow.put a ![o, 0] ![256, 128] w) r
      = if h : o ≤ r.val ∧ r.val < o + 256 then ∑ l : Fin 128, w (ix2 ⟨r.val - o, by omega⟩ l) else rowT a r := by
  unfold rowT
  split
  · rename_i h
    refine Finset.sum_congr rfl fun l _ => ?_
    unfold VecWindow.put
    rw [dif_pos (fun i => by
      match i with
      | 0 => exact h
      | 1 => exact ⟨Nat.zero_le _, by show l.val < 0 + 128; omega⟩)]
    refine congrArg w (funext fun i => ?_)
    match i with
    | 0 => exact Fin.ext rfl
    | 1 => exact Fin.ext (by show l.val - 0 = l.val; omega)
  · rename_i h
    refine Finset.sum_congr rfl fun l _ => ?_
    unfold VecWindow.put
    rw [dif_neg (fun hh => h (hh 0))]

/-- A sum over 512 positions, as two of 256. -/
theorem sum_halves (f : ℕ → EReal) : ∑ r : Fin 512, f r.val = (∑ r : Fin 256, f r.val) + ∑ r : Fin 256, f (256 + r.val) := by
  rw [← Finset.sum_range f, ← Finset.sum_range f, ← Finset.sum_range (fun r => f (256 + r))]
  exact Finset.sum_range_add f 256 256

variable (𝒱 : Variants) (c : Dev nD) (bd : Option 𝒱.V)
  (arg0 : Memref sig .tc .smem S1x1 .f32) (harg0 : arg0.IsWhole) (arg1 : Memref sig .tc .vmem S16384x128 .bf16) (harg1 : arg1.IsWhole)
  (arg2 : Memref sig .tc .vmem S32x8x512 .f32) (harg2 : arg2.IsWhole) (arg3 : Memref sig .tc .vmem S512x128 .f32) (harg3 : arg3.IsWhole)
  (X1 : BufTy.Contents (Elt Ideal) arg1.view.ty)
  (v4 : Ideal .f32) (k0_t1 : Fin k0_t1_loop.trips) (arg4 : BitVec 32) (v49 : FVec Ideal S256x512 .f32)

/-- The number of the block that a trip of the inner loop pairs with block `i`. -/
def mate (i d : ℕ) : Fin 32 := Fin.ofNat 32 (i + d + 1)

/-- A tile's rows and columns, as the loads give them. -/
theorem tile_entry (o1 o2 n : ℕ) (inb1) (inb2) (r : Fin n) (q : Fin 512) (x : S16384x128.Idx → EReal) :
    ent v4 (fun k => VecWindow.window x ![o1, 0] ![n, 128] inb1 (ix2 r k)) (fun k => VecWindow.window x ![o2, 0] ![512, 128] inb2 (ix2 q k))
      = entry x v4 (o1 + r.val) (o2 + q.val) := by
  rw [window_rows x o1 n inb1 r, window_rows x o2 512 inb2 q]; rfl

section trip

variable (k : Fin (k0_t2_loop k0_t1).trips) (f2 : BufTy.Contents (Elt Ideal) arg2.view.ty) (f3 : BufTy.Contents (Elt Ideal) arg3.view.ty)

theorem t1_lt : k0_t1.val < 32 := Nat.lt_of_lt_of_le k0_t1.isLt k0_t1_abs.2.1

theorem off4_0 : k0_off4 k0_t1 0#32 = ![512 * k0_t1.val + 256 * 0, 0] := k0_off4_eq k0_t1 0

theorem off4_1 : k0_off4 k0_t1 256#32 = ![512 * k0_t1.val + 256 * 1, 0] := k0_off4_eq k0_t1 1

/-- One trip of the inner loop adds, to every column of the block it is at, that column's entries with the 512 rows of block `k0_t1`. -/
theorem tripT_col (b : Fin 32) (q : Fin 512) :
    colT (arg2.view.read (Elt Ideal) (arg2.view.writes (Elt Ideal) f2
        ((tripT (F := Ideal) 𝒱 c bd arg0 harg0 arg1 harg1 arg2 harg2 arg3 harg3 X1 v4 k0_t1 arg4 v49 k).1 f2 f3))) b q
      = colT (arg2.view.read (Elt Ideal) f2) b q
        + if b = mate k0_t1 k then
            ∑ r : Fin 512, entry (arg1.view.read (Elt Ideal) X1) v4 (512 * k0_t1.val + r.val) (512 * (mate k0_t1 k).val + q.val)
          else 0 := by
  have ht := t1_lt k0_t1
  unfold tripT
  dsimp only
  sl_unfold_run_names
  rw [View.read_writes_cons_put _ _ _ _ _ (k0_off5_eq k0_t1 k), View.read_writes_cons_put _ _ _ _ _ (k0_off5_eq k0_t1 k), View.writes_nil,
    View.readCov_cons_toLoadRect,
    View.readAt_unit arg2.view _ _ (k0_off5_eq k0_t1 k) (k0_off5_eq k0_t1 k ▸ k0_off5_inb k0_t1 k),
    View.readAt_unit arg1.view _ _ (k0_off3_eq k0_t1 k) (k0_off3_eq k0_t1 k ▸ k0_off3_inb k0_t1 k),
    View.readAt_unit arg1.view _ _ (off4_0 k0_t1) (k0_off4_eq k0_t1 0 ▸ k0_off4_inb k0_t1 0),
    View.readAt_unit arg1.view _ _ (off4_1 k0_t1) (k0_off4_eq k0_t1 1 ▸ k0_off4_inb k0_t1 1)]
  generalize arg1.view.read (Elt Ideal) X1 = x
  generalize arg2.view.read (Elt Ideal) f2 = a
  refine (colT_put _ (mate k0_t1 k) _ b q).trans ?_
  split
  · rename_i h
    subst h
    refine (pay13_col _ _ _ _ q).trans ?_
    rw [pay4_col, sum_halves (fun r => entry x v4 (512 * k0_t1.val + r) (512 * (mate k0_t1 k).val + q.val)), ← add_assoc]
    congr 1
    · congr 1
      · exact Finset.sum_congr rfl fun s _ => window_block _ (mate k0_t1 k) _ s q
      · exact Finset.sum_congr rfl fun r _ => tile_entry v4 _ _ 256 _ _ r q x
    · refine Finset.sum_congr rfl fun r _ => (tile_entry v4 _ _ 256 _ _ r q x).trans ?_
      congr 1
      omega
  · rename_i h
    rw [add_zero]
    exact (colT_put _ (mate k0_t1 k) _ b q).trans (if_neg h)

/-- One trip of the inner loop adds, to every row of block `k0_t1`, that row's entries with the 512 columns of the block it is at. -/
theorem tripT_row (r : Fin 512) :
    rowT (arg3.view.read (Elt Ideal) (arg3.view.writes (Elt Ideal) f3
        ((tripT (F := Ideal) 𝒱 c bd arg0 harg0 arg1 harg1 arg2 harg2 arg3 harg3 X1 v4 k0_t1 arg4 v49 k).2.1 f2 f3))) r
      = rowT (arg3.view.read (Elt Ideal) f3) r
        + ∑ q : Fin 512, entry (arg1.view.read (Elt Ideal) X1) v4 (512 * k0_t1.val + r.val) (512 * (mate k0_t1 k).val + q.val) := by
  unfold tripT
  dsimp only
  sl_unfold_run_names
  rw [View.read_writes_cons_put _ _ _ _ _ rfl, View.read_writes_cons_put _ _ _ _ _ rfl, View.writes_nil,
    View.readAt_unit arg1.view _ _ (k0_off3_eq k0_t1 k) (k0_off3_eq k0_t1 k ▸ k0_off3_inb k0_t1 k),
    View.readAt_unit arg1.view _ _ (off4_0 k0_t1) (k0_off4_eq k0_t1 0 ▸ k0_off4_inb k0_t1 0),
    View.readAt_unit arg1.view _ _ (off4_1 k0_t1) (k0_off4_eq k0_t1 1 ▸ k0_off4_inb k0_t1 1),
    View.readAt_unit arg3.view _ _ rfl inb_S512x128_S256x128_0_0, View.readAt_unit arg3.view _ _ rfl inb_S512x128_S256x128_256_0]
  generalize arg1.view.read (Elt Ideal) X1 = x
  generalize arg3.view.read (Elt Ideal) f3 = a
  refine (rowT_put _ 256 _ r).trans ?_
  split
  · rename_i h
    refine (pay14_row _ _ _ _ _).trans ?_
    congr 1
    · exact Finset.sum_congr rfl fun l _ => window_scratch a 256 256 _ _ l r (by show r.val = 256 + (r.val - 256); omega)
    · refine Finset.sum_congr rfl fun q _ => (tile_entry v4 _ _ 256 _ _ _ q x).trans ?_
      congr 1
      show 512 * k0_t1.val + 256 * 1 + (r.val - 256) = 512 * k0_t1.val + r.val
      omega
  · rename_i h
    refine (rowT_put _ 0 _ r).trans ?_
    rw [dif_pos ⟨Nat.zero_le _, by omega⟩]
    refine (pay5_row _ _ _ _ _).trans ?_
    congr 1
    · exact Finset.sum_congr rfl fun l _ => window_scratch a 0 256 _ _ l r (by show r.val = 0 + (r.val - 0); omega)
    · exact Finset.sum_congr rfl fun q _ => tile_entry v4 _ _ 256 _ _ _ q x

end trip

end Cert.Proof.KernelIdeal
-- ==== Proof.KernelIdeal.SumsValue.lean ====
/-
  The totals of the accumulator after the sums kernel, over the extended reals: for every row the sum of its entries with all the other
  rows.
-/
module

public import proofs.«01_k».proof.Proof.KernelIdeal.SumsStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The sum of the entries of row `q` of block `j` with the 512 rows of block `i`. -/
def tileSum (x : S16384x128.Idx → EReal) (v4 : EReal) (i j : ℕ) (q : ℕ) : EReal := ∑ r : Fin 512, entry x v4 (512 * i + r.val) (512 * j + q)

/-- The same within block `j`, the row's entry with itself left out. -/
def diagSum (x : S16384x128.Idx → EReal) (v4 : EReal) (j : ℕ) (q : ℕ) : EReal :=
  ∑ r : Fin 512, if q = r.val then 0 else entry x v4 (512 * j + q) (512 * j + r.val)

/-- The number of trips of the inner loop. -/
def mates (i : ℕ) : ℕ := if i < 16 then 16 else 15

theorem t2_trips : ∀ k0_t1 : Fin k0_t1_loop.trips, (k0_t2_loop k0_t1).trips = mates k0_t1.val := by decide +kernel

variable (𝒱 : Variants) (c : Dev nD) (bd : Option 𝒱.V)
  (arg0 : Memref sig .tc .smem S1x1 .f32) (harg0 : arg0.IsWhole) (arg1 : Memref sig .tc .vmem S16384x128 .bf16) (harg1 : arg1.IsWhole)
  (arg2 : Memref sig .tc .vmem S32x8x512 .f32) (harg2 : arg2.IsWhole) (arg3 : Memref sig .tc .vmem S512x128 .f32) (harg3 : arg3.IsWhole)
  (X1 : BufTy.Contents (Elt Ideal) arg1.view.ty)

section inner

variable (v4 : Ideal .f32) (k0_t1 : Fin k0_t1_loop.trips) (arg4 : BitVec 32) (v49 : FVec Ideal S256x512 .f32)
  (G2 : BufTy.Contents (Elt Ideal) arg2.view.ty) (G3 : BufTy.Contents (Elt Ideal) arg3.view.ty)

/-- The columns' totals after `k` trips of the inner loop. -/
theorem pbT_col (k : ℕ) (hk : k ≤ (k0_t2_loop k0_t1).trips) (b : Fin 32) (q : Fin 512) :
    colT (arg2.view.read (Elt Ideal) (arg2.view.writes (Elt Ideal) G2
        (pbT (F := Ideal) 𝒱 c bd arg0 harg0 arg1 harg1 arg2 harg2 arg3 harg3 X1 v4 k0_t1 arg4 v49 G2 G3 k).1)) b q
      = colT (arg2.view.read (Elt Ideal) G2) b q
        + ∑ d ∈ Finset.range k, if b = mate k0_t1 d then tileSum (arg1.view.read (Elt Ideal) X1) v4 k0_t1.val b.val q.val else 0 := by
  induction k with
  | zero => rw [Finset.sum_range_zero, add_zero]; rfl
  | succ k ih =>
    have e := pbT_succ (F := Ideal) 𝒱 c bd arg0 harg0 arg1 harg1 arg2 harg2 arg3 harg3 X1 v4 k0_t1 arg4 v49 G2 G3 ⟨k, Nat.lt_of_succ_le hk⟩
    dsimp only at e
    rw [e]
    dsimp only
    rw [View.writes_append, tripT_col, ih (Nat.le_of_succ_le hk), Finset.sum_range_succ, add_assoc]
    refine congrArg₂ (· + ·) rfl (congrArg₂ (· + ·) rfl ?_)
    split
    · rename_i h; rw [h]; rfl
    · rfl

/-- The rows' totals after `k` trips of the inner loop. -/
theorem pbT_row (k : ℕ) (hk : k ≤ (k0_t2_loop k0_t1).trips) (r : Fin 512) :
    rowT (arg3.view.read (Elt Ideal) (arg3.view.writes (Elt Ideal) G3
        (pbT (F := Ideal) 𝒱 c bd arg0 harg0 arg1 harg1 arg2 harg2 arg3 harg3 X1 v4 k0_t1 arg4 v49 G2 G3 k).2)) r
      = rowT (arg3.view.read (Elt Ideal) G3) r
        + ∑ d ∈ Finset.range k, tileSum (arg1.view.read (Elt Ideal) X1) v4 (mate k0_t1 d).val k0_t1.val r.val := by
  induction k with
  | zero => rw [Finset.sum_range_zero, add_zero]; rfl
  | succ k ih =>
    have e := pbT_succ (F := Ideal) 𝒱 c bd arg0 harg0 arg1 harg1 arg2 harg2 arg3 harg3 X1 v4 k0_t1 arg4 v49 G2 G3 ⟨k, Nat.lt_of_succ_le hk⟩
    dsimp only at e
    rw [e]
    dsimp only
    rw [View.writes_append, tripT_row, ih (Nat.le_of_succ_le hk), Finset.sum_range_succ, add_assoc]
    refine congrArg₂ (· + ·) rfl (congrArg₂ (· + ·) rfl ?_)
    exact Finset.sum_congr rfl fun q _ => entry_comm _ _ _ _

end inner

variable (v0 : Elt Ideal .f32)

theorem off2_0 (k0_t1 : Fin k0_t1_loop.trips) : k0_off2 k0_t1 0#32 = ![512 * k0_t1.val + 256 * 0, 0] := k0_off2_eq k0_t1 0

theorem off2_1 (k0_t1 : Fin k0_t1_loop.trips) : k0_off2 k0_t1 256#32 = ![512 * k0_t1.val + 256 * 1, 0] := k0_off2_eq k0_t1 1

/-- The number of trips, as the run spells it. -/
theorem trips_word (k : Fin k0_t1_loop.trips) :
    Scf.trips (1#32) (Scalar.addi (1#32) (Scalar.muli (Scalar.divsi (Scalar.subi
        (Scalar.select (Scalar.cmpi CmpIPredicate.slt (Scf.iv 0#32 1#32 k.val) 16#32) 17#32 16#32) 1#32) 1#32) 1#32)) 1#32
      = (k0_t2_loop k).trips := rfl

/-- The row scratch after the tile on the diagonal. -/
theorem diag_rows (k : Fin k0_t1_loop.trips) (x : S16384x128.Idx → EReal) (v4 : EReal) (f3 : BufTy.Contents (Elt Ideal) arg3.view.ty) (inb1) (inb2)
    (inbA) (inbB) (inbC) (r : Fin 512) :
    rowT (arg3.view.read (Elt Ideal) (arg3.view.writes (Elt Ideal) f3
      [⟨Rect.unit ![256, 0] S256x128.size inb1, k0_pay11 (F := Ideal) (k0_pay10 (F := Ideal) v4
          (VecWindow.window x ![512 * k.val, 0] ![512, 128] inbA) (VecWindow.window x ![512 * k.val + 256 * 1, 0] ![256, 128] inbB))⟩,
        ⟨Rect.unit ![0, 0] S256x128.size inb2, k0_pay9 (F := Ideal) v4
          (VecWindow.window x ![512 * k.val, 0] ![512, 128] inbA) (VecWindow.window x ![512 * k.val + 256 * 0, 0] ![256, 128] inbC)⟩])) r
      = diagSum x v4 k.val r.val := by
  rw [View.read_writes_cons_put _ _ _ _ _ rfl, View.read_writes_cons_put _ _ _ _ _ rfl, View.writes_nil]
  generalize arg3.view.read (Elt Ideal) f3 = a
  refine (rowT_put _ 256 _ r).trans ?_
  unfold diagSum
  split
  · rename_i h
    refine (pay11_row _ _ _ _).trans (Finset.sum_congr rfl fun q _ => ?_)
    rw [tile_entry v4 _ _ 256 _ _ _ q x]
    show (if r.val - 256 + 256 = q.val then (0 : EReal) else entry x v4 (512 * k.val + 256 * 1 + (r.val - 256)) _) = _
    rw [show r.val - 256 + 256 = r.val by omega, show 512 * k.val + 256 * 1 + (r.val - 256) = 512 * k.val + r.val by omega]
  · rename_i h
    refine (rowT_put _ 0 _ r).trans ?_
    rw [dif_pos ⟨Nat.zero_le _, by omega⟩]
    refine (pay9_row _ _ _ _).trans (Finset.sum_congr rfl fun q _ => ?_)
    rw [tile_entry v4 _ _ 256 _ _ _ q x]
    rfl

/-- One trip of the outer loop. -/
theorem tripS_col (k : Fin k0_t1_loop.trips) (f2 : BufTy.Contents (Elt Ideal) arg2.view.ty) (b : Fin 32) (q : Fin 512) :
    colT (arg2.view.read (Elt Ideal) (arg2.view.writes (Elt Ideal) f2
        ((tripS (F := Ideal) 𝒱 c bd arg0 harg0 arg1 harg1 arg2 harg2 arg3 harg3 v0 X1 k).1 f2))) b q
      = colT (arg2.view.read (Elt Ideal) f2) b q
        + (∑ d ∈ Finset.range (mates k), if b = mate k d then tileSum (arg1.view.read (Elt Ideal) X1) (k0_pay1 v0) k.val b.val q.val else 0)
        + (if b.val = k.val then diagSum (arg1.view.read (Elt Ideal) X1) (k0_pay1 v0) b.val q.val
            + ∑ d ∈ Finset.range (mates k), tileSum (arg1.view.read (Elt Ideal) X1) (k0_pay1 v0) (mate k d).val b.val q.val
          else 0) := by
  unfold tripS
  dsimp only
  sl_unfold_run_names
  have hr := pbT_row 𝒱 c bd arg0 harg0 arg1 harg1 arg2 harg2 arg3 harg3 X1 (k0_pay1 v0) k
  have hc := pbT_col 𝒱 c bd arg0 harg0 arg1 harg1 arg2 harg2 arg3 harg3 X1 (k0_pay1 v0) k
  rw [trips_word, View.read_writes_cons_put _ _ _ _ _ (k0_off9_eq k), View.writes_append,
    View.readAt_unit arg2.view _ _ (k0_off9_eq k) (k0_off9_eq k ▸ k0_off9_inb k),
    View.readAt_unit arg3.view _ _ rfl inb_S512x128_S512x128_0_0,
    View.readAt_unit arg1.view _ _ (k0_off1_eq k) (k0_off1_eq k ▸ k0_off1_inb k),
    View.readAt_unit arg1.view _ _ (off2_0 k) (k0_off2_eq k 0 ▸ k0_off2_inb k 0),
    View.readAt_unit arg1.view _ _ (off2_1 k) (k0_off2_eq k 1 ▸ k0_off2_inb k 1)]
  by_cases h : b.val = k.val
  · have hb : b = ⟨k.val, t1_lt k⟩ := Fin.ext h
    refine ((colT_put _ ⟨k.val, t1_lt k⟩ _ b q).trans (if_pos hb)).trans (Eq.trans ?_ (congrArg _ (if_pos h).symm))
    refine (pay18_col _ _ q).trans ?_
    congr 1
    · refine (Finset.sum_congr rfl fun s _ => window_block _ ⟨k.val, t1_lt k⟩ _ s q).trans ?_
      rw [← t2_trips, hb]
      exact hc _ _ _ _ _ (Nat.le_refl _) _ q
    · refine (Finset.sum_congr rfl fun l _ => window_scratch _ 0 512 _ q l q (by omega)).trans ?_
      rw [← t2_trips, h]
      refine (hr _ _ _ _ _ (Nat.le_refl _) q).trans ?_
      congr 1
      exact diag_rows arg3 k _ _ _ _ _ _ _ _ q
  · refine ((colT_put _ ⟨k.val, t1_lt k⟩ _ b q).trans (if_neg fun hb => h (congrArg Fin.val hb))).trans
      (Eq.trans ?_ ((congrArg _ (if_neg h)).trans (add_zero _)).symm)
    rw [← t2_trips]
    exact hc _ _ _ _ _ (Nat.le_refl _) b q

/-- The columns' totals after `k` trips of the outer loop. -/
theorem pbS_col (G : BufTy.Contents (Elt Ideal) arg2.view.ty) (k : ℕ) (hk : k ≤ k0_t1_loop.trips) (b : Fin 32) (q : Fin 512) :
    colT (arg2.view.read (Elt Ideal) (arg2.view.writes (Elt Ideal) G
        (pbS (F := Ideal) 𝒱 c bd arg0 harg0 arg1 harg1 arg2 harg2 arg3 harg3 v0 X1 G k))) b q
      = colT (arg2.view.read (Elt Ideal) G) b q
        + ∑ i ∈ Finset.range k,
          ((∑ d ∈ Finset.range (mates i), if b = mate i d then tileSum (arg1.view.read (Elt Ideal) X1) (k0_pay1 v0) i b.val q.val else 0)
            + (if b.val = i then diagSum (arg1.view.read (Elt Ideal) X1) (k0_pay1 v0) b.val q.val
                + ∑ d ∈ Finset.range (mates i), tileSum (arg1.view.read (Elt Ideal) X1) (k0_pay1 v0) (mate i d).val b.val q.val
              else 0)) := by
  induction k with
  | zero => rw [Finset.sum_range_zero, add_zero]; rfl
  | succ k ih =>
    rw [pbS_succ (F := Ideal) 𝒱 c bd arg0 harg0 arg1 harg1 arg2 harg2 arg3 harg3 v0 X1 G ⟨k, hk⟩, View.writes_append, tripS_col,
      ih (Nat.le_of_succ_le hk), Finset.sum_range_succ, add_assoc, add_assoc]

/-! ## Every other block is met exactly once -/

/-- Block `j` adds block `i`'s columns as often as the schedule says, and the two ways together once. -/
theorem meet_once : ∀ b j : Fin 32,
    ((Finset.range (mates j.val)).filter (fun d => b = mate j.val d)).card
        + ((Finset.range (mates b.val)).filter (fun d => j = mate b.val d)).card
      = if j = b then 0 else 1 := by decide +kernel

/-- What the 32 trips add to a column of block `b`, for any table `T` of tile sums. -/
theorem schedule_sum (b : Fin 32) (T : ℕ → EReal) (D : EReal) :
    (∑ i ∈ Finset.range 32,
        ((∑ d ∈ Finset.range (mates i), if b = mate i d then T i else 0)
          + (if b.val = i then D + ∑ d ∈ Finset.range (mates i), T (mate i d).val else 0)))
      = ∑ j : Fin 32, if j = b then D else T j.val := by
  have e1 : ∀ j : Fin 32, (∑ d ∈ Finset.range (mates b.val), if j = mate b.val d then T j.val else 0)
      = ((Finset.range (mates b.val)).filter (fun d => j = mate b.val d)).card • T j.val := fun j => by
    rw [← Finset.sum_filter, Finset.sum_const]
  have e2 : ∀ j : Fin 32, (∑ d ∈ Finset.range (mates j.val), if b = mate j.val d then T j.val else 0)
      = ((Finset.range (mates j.val)).filter (fun d => b = mate j.val d)).card • T j.val := fun j => by
    rw [← Finset.sum_filter, Finset.sum_const]
  have e3 : (∑ d ∈ Finset.range (mates b.val), T (mate b.val d).val)
      = ∑ j : Fin 32, ((Finset.range (mates b.val)).filter (fun d => j = mate b.val d)).card • T j.val := by
    rw [← Finset.sum_congr rfl fun j _ => e1 j, Finset.sum_comm]
    refine Finset.sum_congr rfl fun d _ => ?_
    rw [Finset.sum_ite_eq' Finset.univ (mate b.val d) (fun j => T j.val), if_pos (Finset.mem_univ _)]
  rw [Finset.sum_add_distrib, Finset.sum_ite_eq (Finset.range 32) b.val, if_pos (Finset.mem_range.mpr b.isLt), e3, Finset.sum_range]
  rw [Finset.sum_congr rfl fun j _ => e2 j, add_left_comm, ← Finset.sum_add_distrib]
  have e4 : ∀ j : Fin 32, ((Finset.range (mates j.val)).filter (fun d => b = mate j.val d)).card • T j.val
      + ((Finset.range (mates b.val)).filter (fun d => j = mate b.val d)).card • T j.val = if j = b then 0 else T j.val := fun j => by
    rw [← add_nsmul, meet_once b j]
    split
    · exact zero_nsmul _
    · exact one_nsmul _
  rw [Finset.sum_congr rfl fun j _ => e4 j]
  have e5 : ∀ j : Fin 32, (if j = b then D else T j.val) = (if j = b then D else 0) + (if j = b then 0 else T j.val) := fun j => by
    split
    · rw [add_zero]
    · rw [zero_add]
  rw [Finset.sum_congr rfl fun j _ => e5 j, Finset.sum_add_distrib, Finset.sum_ite_eq' Finset.univ b, if_pos (Finset.mem_univ _)]

/-- The sum of the entries of row `i` with all the other rows. -/
def rowSum (x : S16384x128.Idx → EReal) (v4 : EReal) (i : ℕ) : EReal := ∑ j : Fin 16384, if j.val = i then 0 else entry x v4 i j.val

/-- The blocks' sums are the row's. -/
theorem blocks_sum (x : S16384x128.Idx → EReal) (v4 : EReal) (b : Fin 32) (q : Fin 512) :
    (∑ j : Fin 32, if j = b then diagSum x v4 b.val q.val else tileSum x v4 j.val b.val q.val) = rowSum x v4 (512 * b.val + q.val) := by
  unfold rowSum
  rw [← sum_parts (m := 32) (n := 512) (N := 16384) rfl
    (fun j : Fin 16384 => if j.val = 512 * b.val + q.val then (0 : EReal) else entry x v4 (512 * b.val + q.val) j.val) (fun x s => by omega),
    Finset.sum_comm]
  refine Finset.sum_congr rfl fun j _ => ?_
  dsimp only
  split
  · rename_i h
    subst h
    unfold diagSum
    refine Finset.sum_congr rfl fun r _ => ?_
    by_cases e : q.val = r.val
    · rw [if_pos e, if_pos (by omega)]
    · rw [if_neg e, if_neg (by omega)]
      exact congrArg _ (by omega)
  · rename_i h
    unfold tileSum
    refine Finset.sum_congr rfl fun r _ => ?_
    have hv : j.val ≠ b.val := fun e => h (Fin.ext e)
    rw [if_neg (by omega), entry_comm]
    exact congrArg _ (by omega)

/-- The accumulator starts at zero. -/
theorem zero_init (y : S32x8x512.Idx) : k0_pay2 (F := Ideal) y = (0 : EReal) := by
  pointwise [k0_pay2]

/-- The accumulator after the sums kernel: column `q` of block `b` holds, in eight parts, the sum of row `512 b + q`'s entries with all the
    other rows. -/
theorem sums_col (M0 : Memref sig .tc .smem S1x1 .f32) (h0 : M0.IsWhole) (M1 : Memref sig .tc .vmem S16384x128 .bf16) (h1 : M1.IsWhole)
    (M2 : Memref sig .tc .vmem S32x8x512 .f32) (h2 : M2.IsWhole) (M3 : Memref sig .tc .vmem S512x128 .f32) (h3 : M3.IsWhole)
    (f0 : Bf (F := Ideal) c M0) (f1 : Bf (F := Ideal) c M1) (b : Fin 32) (q : Fin 512) :
    colT (M2.view.read (Elt Ideal) (sumsRun (F := Ideal) c M0 h0 M1 h1 M2 h2 M3 h3 f0 f1).1) b q
      = rowSum (M1.view.read (Elt Ideal) f1) (k0_pay1 (F := Ideal) (M0.view.read (Elt Ideal) f0 (ix2 0 0))) (512 * b.val + q.val) := by
  unfold sumsRun
  dsimp only
  sl_unfold_run_names
  rw [View.writes_append, View.readAt_full]
  refine (pbS_col Variants.none c none M0 h0 M1 h1 M2 h2 M3 h3 f1 _ _ 32 (Nat.le_refl _) b q).trans ?_
  rw [View.read_writes_full, schedule_sum b (fun j => tileSum _ _ j b.val q.val), blocks_sum]
  rw [show colT (k0_pay2 (F := Ideal)) b q = 0 from Finset.sum_eq_zero fun s _ => zero_init _, zero_add]
  congr 2
  exact congrArg _ (funext fun a => match a with | 0 => rfl | 1 => rfl)

end Cert.Proof.KernelIdeal
-- ==== Proof.KernelIdeal.PosPay.lean ====
/-
  What the vector expressions of the positives kernel compute, entry by entry, over the extended reals.
-/
module

public import proofs.«01_k».proof.Proof.KernelIdeal.PosCover
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- One where a label is class `q`, zero elsewhere. -/
def hotE (a : BitVec 32) (q : ℕ) : EReal := if a = BitVec.ofNat 32 q then 1 else 0

theorem hot_eq (a : BitVec 32) (q : ℕ) :
    FloatOps.sitofp (F := Ideal) FTy.f32 (BitVec.setWidth 32 (IntOp.cmpi CmpIPredicate.eq a (BitVec.ofNat 32 q))) = hotE a q := by
  unfold hotE
  by_cases h : a = BitVec.ofNat 32 q
  · rw [if_pos h, show IntOp.cmpi CmpIPredicate.eq a (BitVec.ofNat 32 q) = 1#1 by simp [IntOp.cmpi, h]]
    show (((BitVec.setWidth 32 1#1).toInt : ℝ) : EReal) = 1
    norm_num
  · rw [if_neg h, show IntOp.cmpi CmpIPredicate.eq a (BitVec.ofNat 32 q) = 0#1 from congrArg BitVec.ofBool (beq_eq_false_iff_ne.mpr h)]
    show (((BitVec.setWidth 32 0#1).toInt : ℝ) : EReal) = 0
    norm_num

/-! ## The first loop -/

/-- Both views' rows are transposed. -/
theorem posPay4_apply (v : Vec Ideal S512x128 .bf16) (d : Fin 128) (j : Fin 512) : k1_pay4 v (ix2 d j) = v (ix2 j d) := by
  pointwise [k1_pay4]
@[inherit_doc posPay4_apply]
theorem posPay5_apply (v : Vec Ideal S512x128 .bf16) (d : Fin 128) (j : Fin 512) : k1_pay5 v (ix2 d j) = v (ix2 j d) := by
  pointwise [k1_pay5]

/-- Which label is which class. -/
theorem posPay8_apply (v : Vec Ideal S1x512 .i32) (q : Fin 1024) (j : Fin 512) : k1_pay8 (F := Ideal) v (ix2 q j) = hotE (v (ix2 0 j)) q.val := by
  pointwise [k1_pay8, k1_pay6]
  simp only [hot_eq]

/-- The embeddings are added to their classes' sums. -/
theorem posPay7_apply (v : Vec Ideal S1x512 .i32) (a : Vec Ideal S256x1024 .f32) (s : Vec Ideal S256x512 .bf16) (r : Fin 256) (q : Fin 1024) :
    k1_pay7 (F := Ideal) v a s (ix2 r q) = a (ix2 r q) + ∑ j : Fin 512, s (ix2 r j) * hotE (v (ix2 0 j)) q.val := by
  pointwise [k1_pay7, k1_pay6]
  simp only [hot_eq]

/-- The positions are added to their classes' counts, spread over 128 lanes. -/
theorem posPay19_apply (v : Vec Ideal S1x512 .i32) (a : Vec Ideal S1024x128 .f32) (q : Fin 1024) (k : Fin 128) :
    k1_pay19 (F := Ideal) (k1_pay8 v) a (k1_pay9 v) (k1_pay10 v) (ix2 q k)
      = a (ix2 q k) + (hotE (v (ix2 0 ⟨k.val, by omega⟩)) q.val + hotE (v (ix2 0 ⟨128 + k.val, by omega⟩)) q.val
          + hotE (v (ix2 0 ⟨256 + k.val, by omega⟩)) q.val + hotE (v (ix2 0 ⟨384 + k.val, by omega⟩)) q.val) := by
  pointwise [k1_pay19, k1_pay9, k1_pay10]
  simp only [posPay8_apply]

/-! ## Between the loops: the table -/

theorem posPay27_apply (v : Vec Ideal S1024x128 .f32) (q : Fin 1024) : k1_pay27 (F := Ideal) v (ix1 q) = ∑ k : Fin 128, v (ix2 q k) := by
  pointwise [k1_pay27]

theorem posPay24_apply (v w : Vec Ideal S128x1024 .f32) (d : Fin 128) (q : Fin 1024) : k1_pay24 (F := Ideal) v w (ix2 d q) = v (ix2 d q) + w (ix2 d q) := by
  pointwise [k1_pay24, k1_pay21, k1_pay20]
theorem posPay25_apply (v w : Vec Ideal S128x1024 .f32) (d : Fin 128) (q : Fin 1024) : k1_pay25 (F := Ideal) v w (ix2 d q) = v (ix2 d q) + w (ix2 d q) - (v (ix2 d q) + w (ix2 d q)) := by
  pointwise [k1_pay25, k1_pay23, k1_pay22, k1_pay21, k1_pay20]
theorem posPay26_apply (v w : Vec Ideal S128x1024 .f32) (d : Fin 128) (q : Fin 1024) : k1_pay26 (F := Ideal) v w (ix2 d q) = v (ix2 d q) + w (ix2 d q) - (v (ix2 d q) + w (ix2 d q)) - (v (ix2 d q) + w (ix2 d q) - (v (ix2 d q) + w (ix2 d q))) := by
  pointwise [k1_pay26, k1_pay23, k1_pay22, k1_pay21, k1_pay20]

/-- The higher part of a class's count. -/
theorem posPay1_zero (v : FVec Ideal S1024 .f32) (q : Fin 1024) :
    k1_pay1 (F := Ideal) v (ix2 0 q) = Ideal.liftRound Int.floor (v (ix1 q) * Ideal.ofBits .f32 1006632960#32) := by
  pointwise [k1_pay1]
/-- The rest of it. -/
theorem posPay1_one (v : FVec Ideal S1024 .f32) (q : Fin 1024) :
    k1_pay1 (F := Ideal) v (ix2 1 q)
      = v (ix1 q) - Ideal.liftRound Int.floor (v (ix1 q) * Ideal.ofBits .f32 1006632960#32) * Ideal.ofBits .f32 1124073472#32 := by
  pointwise [k1_pay1]
  rfl

/-! ## The second loop -/

/-- A position gathers its class's column of the table. -/
theorem posPay11_apply (v : Vec Ideal S1x512 .i32) (T : Vec Ideal S512x1024 .bf16) (r : Fin 512) (j : Fin 512) :
    k1_pay11 (F := Ideal) v T (ix2 r j) = ∑ q : Fin 1024, T (ix2 r q) * hotE (v (ix2 0 j)) q.val := by
  pointwise [k1_pay11]
  simp only [hot_eq]

theorem posPay12_apply (v : Vec Ideal S1x512 .i32) (T : Vec Ideal S512x1024 .bf16) (d : Fin 128) (j : Fin 512) :
    k1_pay12 (F := Ideal) v T (ix2 d j)
      = k1_pay11 v T (ix2 ⟨256 + d.val, by omega⟩ j) + k1_pay11 v T (ix2 ⟨128 + d.val, by omega⟩ j) + k1_pay11 v T (ix2 ⟨d.val, by omega⟩ j) := by
  pointwise [k1_pay12]
theorem posPay13_apply (v : Vec Ideal S1x512 .i32) (T : Vec Ideal S512x1024 .bf16) (j : Fin 512) :
    k1_pay13 (F := Ideal) v T (ix2 0 j)
      = k1_pay11 v T (ix2 384 j) * Ideal.ofBits .f32 1124073472#32 + k1_pay11 v T (ix2 385 j) := by
  pointwise [k1_pay13]
theorem posPay14_apply (v : Vec Ideal S1x512 .i32) (T : Vec Ideal S512x1024 .bf16) (j : Fin 512) :
    k1_pay14 (F := Ideal) v T (ix2 0 j)
      = Ideal.fptosi 32 (if 0 < k1_pay13 (F := Ideal) v T (ix2 0 j)
          then k1_pay13 (F := Ideal) v T (ix2 0 j) * Ideal.ofBits .f32 1073741824#32 - 1 else 0) := by
  pointwise [k1_pay14]
  rfl
theorem posPay2_apply (v : Vec Ideal S1x512 .i32) (T : Vec Ideal S512x1024 .bf16) (x : Vec Ideal S128x512 .bf16) (j : Fin 512) :
    k1_pay2 (F := Ideal) (k1_pay15 v T) (k1_pay16 v T x) (Scalar.ofBits .f32 0x00000000#32) (ix2 0 j)
      = (if 0 < k1_pay13 (F := Ideal) v T (ix2 0 j)
          then ∑ d : Fin 128, x (ix2 d j) * k1_pay12 (F := Ideal) v T (ix2 d j) - ∑ d : Fin 128, x (ix2 d j) * x (ix2 d j) else 0)
        * Ideal.ofBits .f32 1092616192#32 := by
  pointwise [k1_pay2, k1_pay15, k1_pay16]
theorem posPay3_apply (v : Vec Ideal S1x512 .i32) (T : Vec Ideal S512x1024 .bf16) (x : Vec Ideal S128x512 .bf16) (j : Fin 512) :
    k1_pay3 (F := Ideal) (k1_pay12 v T) (k1_pay13 v T) x (ix2 0 j)
      = (if 0 < k1_pay13 (F := Ideal) v T (ix2 0 j)
          then ∑ d : Fin 128, x (ix2 d j) * k1_pay12 (F := Ideal) v T (ix2 d j) - ∑ d : Fin 128, x (ix2 d j) * x (ix2 d j) else 0)
        * Ideal.ofBits .f32 1092616192#32 := by
  pointwise [k1_pay3]

end Cert.Proof.KernelIdeal
-- ==== Proof.KernelIdeal.LseMath.lean ====
/-
  The log-sum-exp that the kernel computes in two ways and the reference in a third, over the extended reals: all three are one real
  number when the embeddings are real.
-/
module

public import proofs.«01_k».proof.Proof.KernelIdeal.SumsValue

@[expose] public section

noncomputable section

namespace Cert.Proof.KernelIdeal

open Cert.KernelIdeal Cert.KernelIdeal.Gen
open Idealize.ShloMosaic Idealize.ShloMosaic.TcCoe

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Every embedding is a real number. -/
def Fin' (x : S16384x128.Idx → EReal) : Prop := ∀ y, x y ≠ ⊤ ∧ x y ≠ ⊥

/-- The inner product of rows `i` and `j`, as a real. -/
def gramR (x : S16384x128.Idx → EReal) (i j : ℕ) : ℝ := ∑ k : Fin 128, (rowOf x i k).toReal * (rowOf x j k).toReal

theorem gram_coe {x : S16384x128.Idx → EReal} (hx : Fin' x) (i j : ℕ) : (∑ k : Fin 128, rowOf x i k * rowOf x j k) = (gramR x i j : EReal) := by
  unfold gramR
  rw [coe_sum]
  refine Finset.sum_congr rfl fun k _ => ?_
  have h : ∀ i, ((rowOf x i k).toReal : EReal) = rowOf x i k := fun i => EReal.coe_toReal (hx _).1 (hx _).2
  rw [EReal.coe_mul, h, h]

theorem gramR_comm (x : S16384x128.Idx → EReal) (i j : ℕ) : gramR x i j = gramR x j i :=
  Finset.sum_congr rfl fun k _ => mul_comm _ _

/-- The sum, over the rows other than `i`, of the exponential of ten times the inner product less `M`. -/
def expSum (x : S16384x128.Idx → EReal) (M : ℝ) (i : ℕ) : ℝ := ∑ j : Fin 16384, if j.val = i then 0 else Real.exp (10 * gramR x i j.val - M)

/-- The log-sum-exp of row `i`. -/
def lseR (x : S16384x128.Idx → EReal) (i : ℕ) : ℝ := Real.log (expSum x 0 i)

theorem expSum_pos (x : S16384x128.Idx → EReal) (M : ℝ) (i : ℕ) : 0 < expSum x M i := by
  refine Finset.sum_pos' (fun j _ => ?_) ?_
  · split
    · exact le_refl _
    · exact (Real.exp_pos _).le
  · by_cases h : i = 0
    · refine ⟨⟨1, by omega⟩, Finset.mem_univ _, ?_⟩
      rw [if_neg (by subst h; exact Nat.one_ne_zero)]; exact Real.exp_pos _
    · refine ⟨⟨0, by omega⟩, Finset.mem_univ _, ?_⟩
      rw [if_neg (fun e => h e.symm)]; exact Real.exp_pos _

theorem expSum_shift (x : S16384x128.Idx → EReal) (M : ℝ) (i : ℕ) : expSum x M i = Real.exp (-M) * expSum x 0 i := by
  unfold expSum
  rw [Finset.mul_sum]
  refine Finset.sum_congr rfl fun j _ => ?_
  split
  · rw [mul_zero]
  · rw [← Real.exp_add]; congr 1; ring

/-- The logarithm of the sum taken at any real shift, plus the shift. -/
theorem log_expSum (x : S16384x128.Idx → EReal) (M : ℝ) (i : ℕ) : Ideal.log (expSum x M i : EReal) + (M : EReal) = (lseR x i : EReal) := by
  rw [Ideal.log_coe, if_neg (not_le.mpr (expSum_pos x M i)), expSum_shift, Real.log_mul (Real.exp_pos _).ne' (expSum_pos x 0 i).ne', Real.log_exp,
    ← EReal.coe_add]
  unfold lseR
  congr 1
  ring

/-- An entry is the exponential at the shift times the logarithm of two. -/
theorem entry_coe {x : S16384x128.Idx → EReal} (hx : Fin' x) (v : ℝ) (i j : ℕ) :
    entry x (v : EReal) i j = (Real.exp (10 * gramR x i j - v * Real.log 2) : EReal) := by
  unfold entry ent
  rw [gram_coe hx, ← EReal.coe_mul, ← EReal.coe_sub, Ideal.exp2_coe]
  congr 1
  show (2 : ℝ) ^ (_ : ℝ) = _
  rw [Real.rpow_def_of_pos (by norm_num)]
  congr 1
  have h2 : Real.log 2 ≠ 0 := (Real.log_pos (by norm_num)).ne'
  field_simp

theorem rowSum_coe {x : S16384x128.Idx → EReal} (hx : Fin' x) (v : ℝ) (i : ℕ) :
    rowSum x (v : EReal) i = (expSum x (v * Real.log 2) i : EReal) := by
  unfold rowSum expSum
  rw [coe_sum]
  refine Finset.sum_congr rfl fun j _ => ?_
  split
  · rfl
  · exact entry_coe hx v i j.val

/-- The first branch's value. -/
theorem lse_first {x : S16384x128.Idx → EReal} (hx : Fin' x) (v : ℝ) (i : ℕ) :
    (Ideal.div (Ideal.log (rowSum x (v : EReal) i)) ((Real.log 2 : ℝ) : EReal) + (v : EReal)) * ((Real.log 2 : ℝ) : EReal) = (lseR x i : EReal) := by
  have h2 : Real.log 2 ≠ 0 := (Real.log_pos (by norm_num)).ne'
  rw [rowSum_coe hx, ← log_expSum x (v * Real.log 2) i, Ideal.log_coe, if_neg (not_le.mpr (expSum_pos x _ i)), Ideal.div_coe h2, ← EReal.coe_mul,
    ← EReal.coe_add, ← EReal.coe_mul, ← EReal.coe_add]
  congr 1
  field_simp

end Cert.Proof.KernelIdeal
-- ==== Proof.KernelIdeal.PosTable.lean ====
/-
  The classes' sums and counts that the positives kernel's first loop leaves, and the table it makes of them, over the extended reals.
-/
module

public import proofs.«01_k».proof.Proof.KernelIdeal.PosPay
public import proofs.«01_k».proof.Proof.KernelIdeal.LseMath

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic

/-- The label of position `n`. -/
abbrev labAt (L : S1x8192.Idx → BitVec 32) (n : ℕ) : BitVec 32 := L (ix2 0 (Fin.ofNat 8192 n))

/-- Row `r` of the transposed embeddings at position `n`: the first view's 128 components, then the second view's. -/
def slabE (x : S16384x128.Idx → EReal) (n r : ℕ) : EReal :=
  if r < 128 then rowOf x n (Fin.ofNat 128 r) else rowOf x (8192 + n) (Fin.ofNat 128 (r - 128))

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := Ideal) c M0) (f1 : Bf (F := Ideal) c M1)

variable (𝒱 : Variants) (bd : Option 𝒱.V)

/-- The labels as the kernel reads them. -/
abbrev labV : S1x8192.Idx → BitVec 32 := M0.view.read (Elt Ideal) f0
/-- The embeddings as the kernel reads them. -/
abbrev embV : S16384x128.Idx → EReal := M1.view.read (Elt Ideal) f1

theorem viewA_apply (t : Fin k1_t1_loop.trips) (j : Fin 512) (d : Fin 128) :
    viewA c M1 f1 t (ix2 j d) = rowOf (embV c M1 f1) (512 * t.val + j.val) d := by
  have ht : t.val < 16 := lt_of_lt_of_eq t.isLt trips_p1
  refine congrArg (M1.view.read (Elt Ideal) f1) (funext fun i => match i with | 0 => Fin.ext ?_ | 1 => Fin.ext ?_)
  · show k1_off1 t 0#32 0 + 1 * j.val = (512 * t.val + j.val) % 16384
    rw [show k1_off1 t 0#32 0 = 512 * t.val from congrFun (k1_off1_eq t 0) 0 |>.trans (by simp)]
    omega
  · show k1_off1 t 0#32 1 + 1 * d.val = d.val
    rw [show k1_off1 t 0#32 1 = 0 from congrFun (k1_off1_eq t 0) 1]
    omega
theorem viewB_apply (t : Fin k1_t1_loop.trips) (j : Fin 512) (d : Fin 128) :
    viewB c M1 f1 t (ix2 j d) = rowOf (embV c M1 f1) (8192 + (512 * t.val + j.val)) d := by
  have ht : t.val < 16 := lt_of_lt_of_eq t.isLt trips_p1
  refine congrArg (M1.view.read (Elt Ideal) f1) (funext fun i => match i with | 0 => Fin.ext ?_ | 1 => Fin.ext ?_)
  · show k1_off1 t 8192#32 0 + 1 * j.val = (8192 + (512 * t.val + j.val)) % 16384
    rw [show k1_off1 t 8192#32 0 = 8192 + 512 * t.val from congrFun (k1_off1_eq t 1) 0 |>.trans (by simp)]
    omega
  · show k1_off1 t 8192#32 1 + 1 * d.val = d.val
    rw [show k1_off1 t 8192#32 1 = 0 from congrFun (k1_off1_eq t 1) 1]
    omega
theorem labsA_apply (t : Fin k1_t1_loop.trips) (j : Fin 512) :
    labsA (F := Ideal) c M0 f0 t (ix2 0 j) = labAt (labV c M0 f0) (512 * t.val + j.val) := by
  have ht : t.val < 16 := lt_of_lt_of_eq t.isLt trips_p1
  refine congrArg (M0.view.read (Elt Ideal) f0) (funext fun i => match i with | 0 => Fin.ext ?_ | 1 => Fin.ext ?_)
  · show k1_off4 t 0 + 1 * 0 = 0
    rw [show k1_off4 t 0 = 0 from congrFun (k1_off4_eq t) 0]
  · show k1_off4 t 1 + 1 * j.val = (512 * t.val + j.val) % 8192
    rw [show k1_off4 t 1 = 512 * t.val from congrFun (k1_off4_eq t) 1]
    omega
theorem labsQ_apply (t : Fin k1_t2_loop.trips) (j : Fin 512) :
    labsQ (F := Ideal) c M0 f0 t (ix2 0 j) = labAt (labV c M0 f0) (512 * t.val + j.val) := by
  have ht : t.val < 16 := lt_of_lt_of_eq t.isLt trips_p2
  refine congrArg (M0.view.read (Elt Ideal) f0) (funext fun i => match i with | 0 => Fin.ext ?_ | 1 => Fin.ext ?_)
  · show k1_off6 t 0 + 1 * 0 = 0
    rw [show k1_off6 t 0 = 0 from congrFun (k1_off6_eq t) 0]
  · show k1_off6 t 1 + 1 * j.val = (512 * t.val + j.val) % 8192
    rw [show k1_off6 t 1 = 512 * t.val from congrFun (k1_off6_eq t) 1]
    omega

/-- The two views' rows of 512 positions that a trip of the first loop adds up, transposed. -/
def slabs (t : Fin k1_t1_loop.trips) : Vec Ideal S256x512 .bf16 :=
  M4.view.readCov
    [⟨Rect.unit (s := S256x8192) (k1_off3 t) S128x512.size (k1_off3_inb t), k1_pay5 (viewB c M1 f1 t)⟩,
     ⟨Rect.unit (s := S256x8192) (k1_off2 t) S128x512.size (k1_off2_inb t), k1_pay4 (viewA c M1 f1 t)⟩]
    (Rect.unit (s := S256x8192) (k1_off5 t) S256x512.size (k1_off5_inb t)).toLoadRect

theorem slabs_apply (t : Fin k1_t1_loop.trips) (r : Fin 256) (j : Fin 512) :
    slabs c M1 M4 f1 t (ix2 r j) = slabE (embV c M1 f1) (512 * t.val + j.val) r.val := by
  have e : slabs c M1 M4 f1 t (ix2 r j) = xtG c M1 f1 ((Rect.unit (s := S256x8192) (k1_off5 t) S256x512.size (k1_off5_inb t)).toLoadRect.idx (ix2 r j)) := by
    refine View.read_writes_apply_of_pieces (Val := Elt Ideal) M4.view M4.view.junk (xtG c M1 f1) _ ?_ _ ?_
    · intro p hp z
      rcases List.mem_cons.mp hp with rfl | hp
      · have o := k1_off3_eq t
        refine (xtG_B c M1 f1 t _ z ?_ ?_).symm
        · show k1_off3 t 0 + 1 * (z 0).val = _
          rw [show k1_off3 t 0 = 128 from congrFun o 0, one_mul]
        · show k1_off3 t 1 + 1 * (z 1).val = _
          rw [show k1_off3 t 1 = 512 * t.val from congrFun o 1, one_mul]
      · obtain rfl := List.mem_singleton.mp hp
        have o := k1_off2_eq t
        refine (xtG_A c M1 f1 t _ z ?_ ?_).symm
        · show k1_off2 t 0 + 1 * (z 0).val = _
          rw [show k1_off2 t 0 = 0 from congrFun o 0, one_mul, zero_add]
        · show k1_off2 t 1 + 1 * (z 1).val = _
          rw [show k1_off2 t 1 = 512 * t.val from congrFun o 1, one_mul]
    · have o0 : k1_off5 t 0 = 0 := congrFun (k1_off5_eq t) 0
      have o1 : k1_off5 t 1 = 512 * t.val := congrFun (k1_off5_eq t) 1
      by_cases hy : r.val < 128
      · refine ⟨_, List.mem_cons_of_mem _ (List.mem_singleton_self _), ?_⟩
        refine (Rect.mem_set_unit (inb := k1_off2_inb _)).mpr fun i => ?_
        rw [k1_off2_eq]
        match i with
        | 0 => show 0 ≤ k1_off5 t 0 + 1 * r.val ∧ k1_off5 t 0 + 1 * r.val < 0 + 128; omega
        | 1 => show 512 * t.val ≤ k1_off5 t 1 + 1 * j.val ∧ k1_off5 t 1 + 1 * j.val < 512 * t.val + 512; omega
      · refine ⟨_, List.mem_cons_self, ?_⟩
        refine (Rect.mem_set_unit (inb := k1_off3_inb _)).mpr fun i => ?_
        rw [k1_off3_eq]
        match i with
        | 0 => show 128 ≤ k1_off5 t 0 + 1 * r.val ∧ k1_off5 t 0 + 1 * r.val < 128 + 128; omega
        | 1 => show 512 * t.val ≤ k1_off5 t 1 + 1 * j.val ∧ k1_off5 t 1 + 1 * j.val < 512 * t.val + 512; omega
  rw [e]
  have o0 : k1_off5 t 0 = 0 := congrFun (k1_off5_eq t) 0
  have o1 : k1_off5 t 1 = 512 * t.val := congrFun (k1_off5_eq t) 1
  unfold slabE
  by_cases hy : r.val < 128
  · rw [if_pos hy]
    refine (xtG_A c M1 f1 t _ (ix2 ⟨r.val, hy⟩ j) ?_ ?_).trans ((posPay4_apply _ _ _).trans ((viewA_apply c M1 f1 t j _).trans ?_))
    · show k1_off5 t 0 + 1 * r.val = r.val; omega
    · show k1_off5 t 1 + 1 * j.val = 512 * t.val + j.val; omega
    · exact congrArg (rowOf _ _) (Fin.ext (Nat.mod_eq_of_lt hy).symm)
  · rw [if_neg hy]
    refine (xtG_B c M1 f1 t _ (ix2 ⟨r.val - 128, by omega⟩ j) ?_ ?_).trans ((posPay5_apply _ _ _).trans ((viewB_apply c M1 f1 t j _).trans ?_))
    · show k1_off5 t 0 + 1 * r.val = 128 + (r.val - 128); omega
    · show k1_off5 t 1 + 1 * j.val = 512 * t.val + j.val; omega
    · exact congrArg (rowOf _ _) (Fin.ext (Nat.mod_eq_of_lt (by omega)).symm)

/-- A trip's store into the classes' sums; -/
theorem tripP_pieces5 (t : Fin k1_t1_loop.trips) (f5 : Bf (F := Ideal) c M5) :
    (tripP (F := Ideal) 𝒱 c bd M0 h0 M1 h1 M2 h2 M3 h3 M4 h4 M5 h5 M6 h6 M7 h7 f0 f1 t).2.1 f5
      = [⟨Rect.unit (s := S256x1024) ![0, 0] S256x1024.size inb_S256x1024_S256x1024_0_0,
          k1_pay7 (labsA (F := Ideal) c M0 f0 t)
            (View.readAt (Elt Ideal) M5.view (Rect.unit (s := S256x1024) ![0, 0] S256x1024.size inb_S256x1024_S256x1024_0_0).toLoadRect f5)
            (slabs c M1 M4 f1 t)⟩] := by
  unfold tripP
  dsimp only
  sl_unfold_run_names
  rfl
/-- and into their counts. -/
theorem tripP_pieces7 (t : Fin k1_t1_loop.trips) (f7 : Bf (F := Ideal) c M7) :
    (tripP (F := Ideal) 𝒱 c bd M0 h0 M1 h1 M2 h2 M3 h3 M4 h4 M5 h5 M6 h6 M7 h7 f0 f1 t).2.2.1 f7
      = [⟨Rect.unit (s := S1024x128) ![0, 0] S1024x128.size inb_S1024x128_S1024x128_0_0,
          k1_pay19 (k1_pay8 (labsA (F := Ideal) c M0 f0 t))
            (View.readAt (Elt Ideal) M7.view (Rect.unit (s := S1024x128) ![0, 0] S1024x128.size inb_S1024x128_S1024x128_0_0).toLoadRect f7)
            (k1_pay9 (labsA (F := Ideal) c M0 f0 t)) (k1_pay10 (labsA (F := Ideal) c M0 f0 t))⟩] := by
  unfold tripP
  dsimp only
  sl_unfold_run_names
  rfl

/-- The classes' sums after `k` trips. -/
theorem st5_apply (G : Bf (F := Ideal) c M5) (r : Fin 256) (q : Fin 1024) (k : ℕ) (hk : k ≤ k1_t1_loop.trips) :
    M5.view.read (Elt Ideal) (st5 (F := Ideal) 𝒱 c bd M0 h0 M1 h1 M2 h2 M3 h3 M4 h4 M5 h5 M6 h6 M7 h7 f0 f1 G k) (ix2 r q)
      = M5.view.read (Elt Ideal) G (ix2 r q)
        + ∑ t ∈ Finset.range k, ∑ j : Fin 512, slabE (embV c M1 f1) (512 * t + j.val) r.val * hotE (labAt (labV c M0 f0) (512 * t + j.val)) q.val := by
  induction k with
  | zero => rw [Finset.sum_range_zero, add_zero]; rfl
  | succ k ih =>
    have e := runTrips_succ (fun t f => M5.view.writes (Elt Ideal) f ((tripP (F := Ideal) 𝒱 c bd M0 h0 M1 h1 M2 h2 M3 h3 M4 h4 M5 h5 M6 h6 M7 h7 f0 f1 t).2.1 f)) G ⟨k, Nat.lt_of_succ_le hk⟩
    dsimp only at e
    unfold st5 at ih ⊢
    rw [e, tripP_pieces5, Finset.sum_range_succ, ← add_assoc, ← ih (Nat.le_of_succ_le hk)]
    refine (congrFun (View.read_writes_full M5.view _ inb_S256x1024_S256x1024_0_0 _ []) (ix2 r q)).trans ((posPay7_apply _ _ _ r q).trans ?_)
    refine congrArg₂ (· + ·) (congrFun (View.readAt_full M5.view _ inb_S256x1024_S256x1024_0_0) (ix2 r q)) (Finset.sum_congr rfl fun j _ => ?_)
    exact congrArg₂ (fun a b => a * hotE b q.val) (slabs_apply c M1 M4 f1 _ r j) (labsA_apply c M0 f0 _ j)

/-- The classes' counts after `k` trips, lane by lane. -/
theorem st7_apply (G : Bf (F := Ideal) c M7) (q : Fin 1024) (l : Fin 128) (k : ℕ) (hk : k ≤ k1_t1_loop.trips) :
    M7.view.read (Elt Ideal) (st7 (F := Ideal) 𝒱 c bd M0 h0 M1 h1 M2 h2 M3 h3 M4 h4 M5 h5 M6 h6 M7 h7 f0 f1 G k) (ix2 q l)
      = M7.view.read (Elt Ideal) G (ix2 q l)
        + ∑ t ∈ Finset.range k, (hotE (labAt (labV c M0 f0) (512 * t + l.val)) q.val + hotE (labAt (labV c M0 f0) (512 * t + (128 + l.val))) q.val
          + hotE (labAt (labV c M0 f0) (512 * t + (256 + l.val))) q.val + hotE (labAt (labV c M0 f0) (512 * t + (384 + l.val))) q.val) := by
  induction k with
  | zero => rw [Finset.sum_range_zero, add_zero]; rfl
  | succ k ih =>
    have e := runTrips_succ (fun t f => M7.view.writes (Elt Ideal) f ((tripP (F := Ideal) 𝒱 c bd M0 h0 M1 h1 M2 h2 M3 h3 M4 h4 M5 h5 M6 h6 M7 h7 f0 f1 t).2.2.1 f)) G ⟨k, Nat.lt_of_succ_le hk⟩
    dsimp only at e
    unfold st7 at ih ⊢
    rw [e, tripP_pieces7, Finset.sum_range_succ, ← add_assoc, ← ih (Nat.le_of_succ_le hk)]
    refine (congrFun (View.read_writes_full M7.view _ inb_S1024x128_S1024x128_0_0 _ []) (ix2 q l)).trans ((posPay19_apply _ _ q l).trans ?_)
    rw [labsA_apply, labsA_apply, labsA_apply, labsA_apply]
    exact congrArg (· + _) (congrFun (View.readAt_full M7.view _ inb_S1024x128_S1024x128_0_0) (ix2 q l))

end Cert.Proof.KernelIdeal
-- ==== Proof.KernelIdeal.PosTableValue.lean ====
/-
  The table that the positives kernel gathers from, over the extended reals: a class's summed embeddings in its first 128 rows, nothing in
  the next 256, and the class's count in two parts in the two rows after them.
-/
module
public import proofs.«01_k».proof.Proof.KernelIdeal.PosTable
@[expose] public section
set_option maxRecDepth 16384
set_option maxHeartbeats 1000000
noncomputable section
namespace Cert.Proof.KernelIdeal
open Cert.KernelIdeal Cert.KernelIdeal.Gen
open Idealize.ShloMosaic Idealize.ShloMosaic.TcCoe Idealize.ShloMosaic.Tactic

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := Ideal) c M0) (f1 : Bf (F := Ideal) c M1)

/-- The classes' sums once the first loop is over, from zero. -/
def sumsP : Bf (F := Ideal) c M5 :=
  st5 (F := Ideal) Variants.none c none M0 h0 M1 h1 M2 h2 M3 h3 M4 h4 M5 h5 M6 h6 M7 h7 f0 f1
    (M5.view.writes (Elt Ideal) M5.view.junk [⟨Rect.unit (s := S256x1024) ![0, 0] S256x1024.size inb_S256x1024_S256x1024_0_0, k1_pay17 (F := Ideal)⟩]) k1_t1_loop.trips
/-- The classes' counts once the first loop is over, from zero. -/
def lanesP : Bf (F := Ideal) c M7 :=
  st7 (F := Ideal) Variants.none c none M0 h0 M1 h1 M2 h2 M3 h3 M4 h4 M5 h5 M6 h6 M7 h7 f0 f1
    (M7.view.writes (Elt Ideal) M7.view.junk [⟨Rect.unit (s := S1024x128) ![0, 0] S1024x128.size inb_S1024x128_S1024x128_0_0, k1_pay18 (F := Ideal)⟩]) k1_t1_loop.trips
/-- The first view's sums, the second's, and the counts, as the kernel reads them for its table. -/
def topP : Vec Ideal S128x1024 .f32 :=
  View.readAt (Elt Ideal) M5.view (Rect.unit (s := S256x1024) ![0, 0] S128x1024.size inb_S256x1024_S128x1024_0_0).toLoadRect (sumsP c M0 h0 M1 h1 M2 h2 M3 h3 M4 h4 M5 h5 M6 h6 M7 h7 f0 f1)
@[inherit_doc topP]
def botP : Vec Ideal S128x1024 .f32 :=
  View.readAt (Elt Ideal) M5.view (Rect.unit (s := S256x1024) ![128, 0] S128x1024.size inb_S256x1024_S128x1024_128_0).toLoadRect (sumsP c M0 h0 M1 h1 M2 h2 M3 h3 M4 h4 M5 h5 M6 h6 M7 h7 f0 f1)
@[inherit_doc topP]
def totP : FVec Ideal S1024 .f32 :=
  k1_pay27 (View.readAt (Elt Ideal) M7.view (Rect.unit (s := S1024x128) ![0, 0] S1024x128.size inb_S1024x128_S1024x128_0_0).toLoadRect (lanesP c M0 h0 M1 h1 M2 h2 M3 h3 M4 h4 M5 h5 M6 h6 M7 h7 f0 f1))

/-- The table's four pieces. -/
theorem table_pieces : posRun.sl.H6_4 (F := Ideal) c M0 h0 M1 h1 M2 h2 M3 h3 M4 h4 M5 h5 M6 h6 M7 h7 f0 f1
    = [⟨Rect.unit (s := S512x1024) ![384, 0] S128x1024.size inb_S512x1024_S128x1024_384_0, k1_pay1 (totP c M0 h0 M1 h1 M2 h2 M3 h3 M4 h4 M5 h5 M6 h6 M7 h7 f0 f1)⟩,
       ⟨Rect.unit (s := S512x1024) ![256, 0] S128x1024.size inb_S512x1024_S128x1024_256_0, k1_pay26 (topP c M0 h0 M1 h1 M2 h2 M3 h3 M4 h4 M5 h5 M6 h6 M7 h7 f0 f1) (botP c M0 h0 M1 h1 M2 h2 M3 h3 M4 h4 M5 h5 M6 h6 M7 h7 f0 f1)⟩,
       ⟨Rect.unit (s := S512x1024) ![128, 0] S128x1024.size inb_S512x1024_S128x1024_128_0, k1_pay25 (topP c M0 h0 M1 h1 M2 h2 M3 h3 M4 h4 M5 h5 M6 h6 M7 h7 f0 f1) (botP c M0 h0 M1 h1 M2 h2 M3 h3 M4 h4 M5 h5 M6 h6 M7 h7 f0 f1)⟩,
       ⟨Rect.unit (s := S512x1024) ![0, 0] S128x1024.size inb_S512x1024_S128x1024_0_0, k1_pay24 (topP c M0 h0 M1 h1 M2 h2 M3 h3 M4 h4 M5 h5 M6 h6 M7 h7 f0 f1) (botP c M0 h0 M1 h1 M2 h2 M3 h3 M4 h4 M5 h5 M6 h6 M7 h7 f0 f1)⟩] := by
  unfold totP topP botP sumsP lanesP
  sl_unfold_run_names
  rfl

/-! ## What the pieces hold -/

/-- A sum over 16 blocks of 512 positions. -/
theorem sum_blocks {M : Type} [AddCommMonoid M] (f : ℕ → M) :
    ∑ t ∈ Finset.range 16, ∑ j : Fin 512, f (512 * t + j.val) = ∑ n : Fin 8192, f n.val := by
  rw [Finset.sum_range, Finset.sum_comm, ← sum_parts (m := 16) (n := 512) (N := 8192) rfl (fun n => f n.val) (fun x s => by omega)]
  refine Finset.sum_congr rfl fun j _ => Finset.sum_congr rfl fun t _ => ?_
  rw [mul_comm]

theorem zero17 (y) : k1_pay17 (F := Ideal) y = 0 := by
  obtain ⟨r, q, rfl⟩ : ∃ (r : Fin 256) (q : Fin 1024), y = ix2 r q := ⟨y 0, y 1, funext fun i => match i with | 0 => rfl | 1 => rfl⟩
  pointwise [k1_pay17]
theorem zero18 (y) : k1_pay18 (F := Ideal) y = 0 := by
  obtain ⟨r, q, rfl⟩ : ∃ (r : Fin 1024) (q : Fin 128), y = ix2 r q := ⟨y 0, y 1, funext fun i => match i with | 0 => rfl | 1 => rfl⟩
  pointwise [k1_pay18]

/-- The sum of component `d` over the positions of class `q`, in the view that starts at row `o`. -/
def clsSum (x : S16384x128.Idx → EReal) (L : S1x8192.Idx → BitVec 32) (o : ℕ) (d : Fin 128) (q : ℕ) : EReal :=
  ∑ n : Fin 8192, rowOf x (o + n.val) d * hotE (labAt L n.val) q

theorem sumsP_apply (r : Fin 256) (q : Fin 1024) :
    M5.view.read (Elt Ideal) (sumsP c M0 h0 M1 h1 M2 h2 M3 h3 M4 h4 M5 h5 M6 h6 M7 h7 f0 f1) (ix2 r q)
      = ∑ n : Fin 8192, slabE (embV c M1 f1) n.val r.val * hotE (labAt (labV c M0 f0) n.val) q.val := by
  unfold sumsP
  rw [st5_apply (hk := le_refl _), trips_p1, sum_blocks (fun n => slabE (embV c M1 f1) n r.val * hotE (labAt (labV c M0 f0) n) q.val)]
  refine (congrArg (· + _) ((congrFun (View.read_writes_full M5.view _ inb_S256x1024_S256x1024_0_0 _ []) (ix2 r q)).trans (zero17 _))).trans (zero_add _)

theorem topP_apply (d : Fin 128) (q : Fin 1024) : topP c M0 h0 M1 h1 M2 h2 M3 h3 M4 h4 M5 h5 M6 h6 M7 h7 f0 f1 (ix2 d q) = clsSum (embV c M1 f1) (labV c M0 f0) 0 d q.val := by
  refine (show _ = M5.view.read (Elt Ideal) (sumsP c M0 h0 M1 h1 M2 h2 M3 h3 M4 h4 M5 h5 M6 h6 M7 h7 f0 f1) (ix2 ⟨d.val, by omega⟩ q) from
    congrArg (M5.view.read (Elt Ideal) _) (funext fun i => match i with | 0 => Fin.ext (by show 0 + 1 * d.val = d.val; omega) | 1 => Fin.ext (by show 0 + 1 * q.val = q.val; omega))).trans ?_
  rw [sumsP_apply]
  refine Finset.sum_congr rfl fun n _ => ?_
  unfold slabE
  rw [if_pos d.isLt, zero_add]
  exact congrArg (fun k => rowOf (embV c M1 f1) n.val k * _) (Fin.ext (Nat.mod_eq_of_lt d.isLt))
theorem botP_apply (d : Fin 128) (q : Fin 1024) : botP c M0 h0 M1 h1 M2 h2 M3 h3 M4 h4 M5 h5 M6 h6 M7 h7 f0 f1 (ix2 d q) = clsSum (embV c M1 f1) (labV c M0 f0) 8192 d q.val := by
  refine (show _ = M5.view.read (Elt Ideal) (sumsP c M0 h0 M1 h1 M2 h2 M3 h3 M4 h4 M5 h5 M6 h6 M7 h7 f0 f1) (ix2 ⟨128 + d.val, by omega⟩ q) from
    congrArg (M5.view.read (Elt Ideal) _) (funext fun i => match i with | 0 => Fin.ext (by show 128 + 1 * d.val = 128 + d.val; omega) | 1 => Fin.ext (by show 0 + 1 * q.val = q.val; omega))).trans ?_
  rw [sumsP_apply]
  refine Finset.sum_congr rfl fun n _ => ?_
  unfold slabE
  rw [if_neg (by show ¬ 128 + d.val < 128; omega)]
  exact congrArg (fun k => rowOf (embV c M1 f1) (8192 + n.val) k * _) (Fin.ext (by show (128 + d.val - 128) % 128 = d.val; omega))

theorem totP_apply (q : Fin 1024) : totP c M0 h0 M1 h1 M2 h2 M3 h3 M4 h4 M5 h5 M6 h6 M7 h7 f0 f1 (ix1 q) = ∑ n : Fin 8192, hotE (labAt (labV c M0 f0) n.val) q.val := by
  unfold totP
  rw [posPay27_apply]
  have e : ∀ l : Fin 128, View.readAt (Elt Ideal) M7.view (Rect.unit (s := S1024x128) ![0, 0] S1024x128.size inb_S1024x128_S1024x128_0_0).toLoadRect (lanesP c M0 h0 M1 h1 M2 h2 M3 h3 M4 h4 M5 h5 M6 h6 M7 h7 f0 f1) (ix2 q l)
      = ∑ t ∈ Finset.range 16, (hotE (labAt (labV c M0 f0) (512 * t + l.val)) q.val + hotE (labAt (labV c M0 f0) (512 * t + (128 + l.val))) q.val
          + hotE (labAt (labV c M0 f0) (512 * t + (256 + l.val))) q.val + hotE (labAt (labV c M0 f0) (512 * t + (384 + l.val))) q.val) := fun l => by
    refine (congrFun (View.readAt_full M7.view _ inb_S1024x128_S1024x128_0_0) (ix2 q l)).trans ?_
    unfold lanesP
    rw [st7_apply (hk := le_refl _), trips_p1]
    refine (congrArg (· + _) ((congrFun (View.read_writes_full M7.view _ inb_S1024x128_S1024x128_0_0 _ []) (ix2 q l)).trans (zero18 _))).trans (zero_add _)
  rw [Finset.sum_congr rfl fun l _ => e l, Finset.sum_comm, ← sum_blocks (fun n => hotE (labAt (labV c M0 f0) n) q.val)]
  refine Finset.sum_congr rfl fun t _ => ?_
  exact (sum_four (fun j => hotE (labAt (labV c M0 f0) (512 * t + j.val)) q.val)).symm

/-! ## The table's rows -/

/-- Where row `r` of the table was stored. -/
theorem read_four (P0 P1 P2 P3 : FVec Ideal S128x1024 .bf16) (r : Fin 512) (q : Fin 1024) :
    table (F := Ideal) c M6 (M6.view.writes (Elt Ideal) M6.view.junk
      [⟨Rect.unit (s := S512x1024) ![384, 0] S128x1024.size inb_S512x1024_S128x1024_384_0, P3⟩,
       ⟨Rect.unit (s := S512x1024) ![256, 0] S128x1024.size inb_S512x1024_S128x1024_256_0, P2⟩,
       ⟨Rect.unit (s := S512x1024) ![128, 0] S128x1024.size inb_S512x1024_S128x1024_128_0, P1⟩,
       ⟨Rect.unit (s := S512x1024) ![0, 0] S128x1024.size inb_S512x1024_S128x1024_0_0, P0⟩]) (ix2 r q)
      = (if r.val < 128 then P0 else if r.val < 256 then P1 else if r.val < 384 then P2 else P3) (ix2 (Fin.ofNat 128 r.val) q) := by
  refine (congrFun (View.readAt_full M6.view _ inb_S512x1024_S512x1024_0_0) (ix2 r q)).trans ?_
  refine View.read_writes_apply_of_pieces (Val := Elt Ideal) M6.view M6.view.junk
    (fun y : S512x1024.Idx => (if (y 0).val < 128 then P0 else if (y 0).val < 256 then P1 else if (y 0).val < 384 then P2 else P3) (ix2 (Fin.ofNat 128 (y 0).val) (y 1))) _ ?_ _ ?_
  · have key : ∀ (o : ℕ) (ho : o % 128 = 0) (inb : ∀ a, (![o, 0] : Fin 2 → Nat) a + S128x1024.size a ≤ S512x1024.size a) (z : S128x1024.Idx),
        ix2 (Fin.ofNat 128 (o + 1 * (z 0).val)) ((Rect.unit (s := S512x1024) ![o, 0] S128x1024.size inb).emb z 1) = z := fun o ho inb z => by
      have z0 : (z 0).val < 128 := (z 0).isLt
      exact funext fun i => match i with
        | 0 => Fin.ext (by show (o + 1 * (z 0).val) % 128 = (z 0).val; omega)
        | 1 => Fin.ext (by show 0 + 1 * (z 1).val = (z 1).val; omega)
    intro p hp z
    rcases List.mem_cons.mp hp with rfl | hp
    · have z0 : (z 0).val < 128 := (z 0).isLt
      show P3 z = (if 384 + 1 * (z 0).val < 128 then P0 else if 384 + 1 * (z 0).val < 256 then P1 else if 384 + 1 * (z 0).val < 384 then P2 else P3) _
      rw [if_neg (by omega), if_neg (by omega), if_neg (by omega)]
      exact congrArg P3 (key 384 rfl inb_S512x1024_S128x1024_384_0 z).symm
    rcases List.mem_cons.mp hp with rfl | hp
    · have z0 : (z 0).val < 128 := (z 0).isLt
      show P2 z = (if 256 + 1 * (z 0).val < 128 then P0 else if 256 + 1 * (z 0).val < 256 then P1 else if 256 + 1 * (z 0).val < 384 then P2 else P3) _
      rw [if_neg (by omega), if_neg (by omega), if_pos (by omega)]
      exact congrArg P2 (key 256 rfl inb_S512x1024_S128x1024_256_0 z).symm
    rcases List.mem_cons.mp hp with rfl | hp
    · have z0 : (z 0).val < 128 := (z 0).isLt
      show P1 z = (if 128 + 1 * (z 0).val < 128 then P0 else if 128 + 1 * (z 0).val < 256 then P1 else if 128 + 1 * (z 0).val < 384 then P2 else P3) _
      rw [if_neg (by omega), if_pos (by omega)]
      exact congrArg P1 (key 128 rfl inb_S512x1024_S128x1024_128_0 z).symm
    obtain rfl := List.mem_singleton.mp hp
    have z0 : (z 0).val < 128 := (z 0).isLt
    show P0 z = (if 0 + 1 * (z 0).val < 128 then P0 else if 0 + 1 * (z 0).val < 256 then P1 else if 0 + 1 * (z 0).val < 384 then P2 else P3) _
    rw [if_pos (by omega)]
    exact congrArg P0 (key 0 rfl inb_S512x1024_S128x1024_0_0 z).symm
  · have hr := r.isLt
    have hq := q.isLt
    by_cases e1 : r.val < 128
    · refine ⟨_, List.mem_cons_of_mem _ (List.mem_cons_of_mem _ (List.mem_cons_of_mem _ (List.mem_singleton_self _))), (Rect.mem_set_unit (inb := inb_S512x1024_S128x1024_0_0)).mpr fun i => ?_⟩
      match i with
      | 0 => show 0 ≤ r.val ∧ r.val < 0 + 128; omega
      | 1 => show 0 ≤ q.val ∧ q.val < 0 + 1024; omega
    by_cases e2 : r.val < 256
    · refine ⟨_, List.mem_cons_of_mem _ (List.mem_cons_of_mem _ List.mem_cons_self), (Rect.mem_set_unit (inb := inb_S512x1024_S128x1024_128_0)).mpr fun i => ?_⟩
      match i with
      | 0 => show 128 ≤ r.val ∧ r.val < 128 + 128; omega
      | 1 => show 0 ≤ q.val ∧ q.val < 0 + 1024; omega
    by_cases e3 : r.val < 384
    · refine ⟨_, List.mem_cons_of_mem _ List.mem_cons_self, (Rect.mem_set_unit (inb := inb_S512x1024_S128x1024_256_0)).mpr fun i => ?_⟩
      match i with
      | 0 => show 256 ≤ r.val ∧ r.val < 256 + 128; omega
      | 1 => show 0 ≤ q.val ∧ q.val < 0 + 1024; omega
    refine ⟨_, List.mem_cons_self, (Rect.mem_set_unit (inb := inb_S512x1024_S128x1024_384_0)).mpr fun i => ?_⟩
    match i with
    | 0 => show 384 ≤ r.val ∧ r.val < 384 + 128; omega
    | 1 => show 0 ≤ q.val ∧ q.val < 0 + 1024; omega

theorem table_row (r : Fin 512) (q : Fin 1024) :
    tableP (F := Ideal) c M0 h0 M1 h1 M2 h2 M3 h3 M4 h4 M5 h5 M6 h6 M7 h7 f0 f1 (ix2 r q)
      = (if r.val < 128 then k1_pay24 (topP c M0 h0 M1 h1 M2 h2 M3 h3 M4 h4 M5 h5 M6 h6 M7 h7 f0 f1) (botP c M0 h0 M1 h1 M2 h2 M3 h3 M4 h4 M5 h5 M6 h6 M7 h7 f0 f1) else if r.val < 256 then k1_pay25 (topP c M0 h0 M1 h1 M2 h2 M3 h3 M4 h4 M5 h5 M6 h6 M7 h7 f0 f1) (botP c M0 h0 M1 h1 M2 h2 M3 h3 M4 h4 M5 h5 M6 h6 M7 h7 f0 f1)
          else if r.val < 384 then k1_pay26 (topP c M0 h0 M1 h1 M2 h2 M3 h3 M4 h4 M5 h5 M6 h6 M7 h7 f0 f1) (botP c M0 h0 M1 h1 M2 h2 M3 h3 M4 h4 M5 h5 M6 h6 M7 h7 f0 f1) else k1_pay1 (totP c M0 h0 M1 h1 M2 h2 M3 h3 M4 h4 M5 h5 M6 h6 M7 h7 f0 f1)) (ix2 (Fin.ofNat 128 r.val) q) := by
  unfold tableP
  rw [table_pieces]
  exact read_four c M6 _ _ _ _ r q

end Cert.Proof.KernelIdeal
-- ==== Proof.KernelIdeal.PosMath.lean ====
/-
  The positives of a row, as a count and as a sum of reals, and the two ways to both: over all the other rows, and through the totals of the
  row's class.
-/
module

public import proofs.«01_k».proof.Proof.KernelIdeal.PosTable

@[expose] public section

noncomputable section

namespace Cert.Proof.KernelIdeal

open Cert.KernelIdeal Cert.KernelIdeal.Gen
open Idealize.ShloMosaic Idealize.ShloMosaic.TcCoe

/-- Row `j` is a positive of row `i`: another row of the same class, unless that is unlabelled. -/
abbrev isPos (L : S1x8192.Idx → BitVec 32) (i j : ℕ) : Prop := labAt L j = labAt L i ∧ 0 ≤ (labAt L i).toInt ∧ j ≠ i

/-- How many positives row `i` has. -/
def cntR (L : S1x8192.Idx → BitVec 32) (i : ℕ) : ℕ := ∑ j : Fin 16384, if isPos L i j.val then 1 else 0
/-- The sum of row `i`'s logits at its positives. -/
def posR (x : S16384x128.Idx → EReal) (L : S1x8192.Idx → BitVec 32) (i : ℕ) : ℝ :=
  ∑ j : Fin 16384, if isPos L i j.val then 10 * gramR x i j.val else 0

/-- The number of positions of class `a`. -/
def clsN (L : S1x8192.Idx → BitVec 32) (a : BitVec 32) : ℕ := ∑ n : Fin 8192, if labAt L n.val = a then 1 else 0

theorem labAt_half (L : S1x8192.Idx → BitVec 32) (n : ℕ) : labAt L (8192 + n) = labAt L n :=
  congrArg L (congrArg (ix2 0) (Fin.ext (by show (8192 + n) % 8192 = n % 8192; omega)))
theorem labAt_mod (L : S1x8192.Idx → BitVec 32) (n : ℕ) : labAt L (n % 8192) = labAt L n :=
  congrArg L (congrArg (ix2 0) (Fin.ext (by show n % 8192 % 8192 = n % 8192; omega)))

/-- A sum over the rows of both views. -/
theorem sum_views {M : Type} [AddCommMonoid M] (f : ℕ → M) : ∑ j : Fin 16384, f j.val = ∑ n : Fin 8192, (f n.val + f (8192 + n.val)) := by
  rw [Fin.sum_univ_eq_sum_range f, show 16384 = 8192 + 8192 from rfl, Finset.sum_range_add, Finset.sum_add_distrib,
    Fin.sum_univ_eq_sum_range f, Fin.sum_univ_eq_sum_range (fun n => f (8192 + n))]

/-- A sum with one row left out, and that row. -/
theorem sum_but {M : Type} [AddCommMonoid M] (P : ℕ → Prop) [DecidablePred P] (f : ℕ → M) (i : ℕ) (hi : i < 16384) (hP : P i) :
    (∑ j : Fin 16384, if P j.val ∧ j.val ≠ i then f j.val else 0) + f i = ∑ j : Fin 16384, if P j.val then f j.val else 0 := by
  have e : f i = ∑ j : Fin 16384, if j = ⟨i, hi⟩ then f j.val else 0 := by rw [Finset.sum_ite_eq' Finset.univ, if_pos (Finset.mem_univ _)]
  conv_lhs => rw [e]
  rw [← Finset.sum_add_distrib]
  refine Finset.sum_congr rfl fun j _ => ?_
  by_cases hj : j.val = i
  · subst hj
    rw [if_neg (fun h => h.2 rfl), if_pos rfl, if_pos hP, zero_add]
  · rw [if_neg (c := j = ⟨i, hi⟩) (fun h => hj (congrArg Fin.val h)), add_zero]
    by_cases h : P j.val
    · rw [if_pos ⟨h, hj⟩, if_pos h]
    · rw [if_neg (fun h' => h h'.1), if_neg h]

/-- A class in the table is a label that is not negative. -/
theorem nonneg_of_lt (a : BitVec 32) (h : a.toNat < 1024) : 0 ≤ a.toInt := by
  rw [BitVec.toInt_eq_toNat_of_lt (by omega)]; exact Int.natCast_nonneg _
theorem lt_of_nonneg (a : BitVec 32) (h : 0 ≤ a.toInt) (h' : a.toInt < 1024) : a.toNat < 1024 := by
  have : (a.toNat : ℤ) = a.toInt := by
    rw [BitVec.toInt_eq_toNat_cond] at h ⊢
    split at h
    · rename_i hc; rw [if_pos hc]
    · have := a.isLt; omega
  omega

variable (x : S16384x128.Idx → EReal) (L : S1x8192.Idx → BitVec 32) (i : ℕ)

theorem clsN_pos (i : ℕ) : 0 < clsN L (labAt L i) := by
  refine Finset.sum_pos' (fun _ _ => Nat.zero_le _) ⟨⟨i % 8192, Nat.mod_lt _ (by omega)⟩, Finset.mem_univ _, ?_⟩
  rw [if_pos (labAt_mod L i)]; exact Nat.one_pos

/-- Without a class there is no positive. -/
theorem cntR_neg (h : (labAt L i).toInt < 0) : cntR L i = 0 :=
  Finset.sum_eq_zero fun j _ => if_neg fun hp => absurd hp.2.1 (not_le.mpr h)
theorem posR_neg (h : (labAt L i).toInt < 0) : posR x L i = 0 :=
  Finset.sum_eq_zero fun j _ => if_neg fun hp => absurd hp.2.1 (not_le.mpr h)

/-- The positives are the class's positions, once for each view, but for the row itself. -/
theorem cntR_cls (hi : i < 16384) (h : 0 ≤ (labAt L i).toInt) : cntR L i + 1 = 2 * clsN L (labAt L i) := by
  have e := sum_but (M := ℕ) (fun j => labAt L j = labAt L i) (fun _ => 1) i hi rfl
  have e2 := sum_views (fun j => if labAt L j = labAt L i then 1 else 0)
  unfold cntR clsN
  rw [Finset.sum_congr rfl fun (j : Fin 16384) _ => if_congr (show isPos L i j.val ↔ labAt L j.val = labAt L i ∧ j.val ≠ i from ⟨fun p => ⟨p.1, p.2.2⟩, fun p => ⟨p.1, h, p.2⟩⟩) rfl rfl,
    e, e2, Finset.mul_sum]
  refine Finset.sum_congr rfl fun n _ => ?_
  rw [labAt_half, two_mul]

/-- The row's inner product with the sum of its class's embeddings, less that with itself. -/
theorem posR_cls (hi : i < 16384) (h : 0 ≤ (labAt L i).toInt) :
    posR x L i = ((∑ d : Fin 128, (rowOf x i d).toReal
        * ((∑ n : Fin 8192, if labAt L n.val = labAt L i then (rowOf x n.val d).toReal else 0)
          + ∑ n : Fin 8192, if labAt L n.val = labAt L i then (rowOf x (8192 + n.val) d).toReal else 0))
      - ∑ d : Fin 128, (rowOf x i d).toReal * (rowOf x i d).toReal) * 10 := by
  have e := sum_but (M := ℝ) (fun j => labAt L j = labAt L i) (fun j => 10 * gramR x i j) i hi rfl
  have e2 := sum_views (fun j => if labAt L j = labAt L i then 10 * gramR x i j else 0)
  unfold posR
  rw [Finset.sum_congr rfl fun (j : Fin 16384) _ => if_congr (show isPos L i j.val ↔ labAt L j.val = labAt L i ∧ j.val ≠ i from ⟨fun p => ⟨p.1, p.2.2⟩, fun p => ⟨p.1, h, p.2⟩⟩) rfl rfl,
    eq_sub_of_add_eq e, e2, sub_mul]
  refine congrArg₂ (· - ·) ?_ (by unfold gramR; rw [mul_comm])
  have hd : ∀ d : Fin 128, (rowOf x i d).toReal
        * ((∑ n : Fin 8192, if labAt L n.val = labAt L i then (rowOf x n.val d).toReal else 0)
          + ∑ n : Fin 8192, if labAt L n.val = labAt L i then (rowOf x (8192 + n.val) d).toReal else 0)
      = ∑ n : Fin 8192, if labAt L n.val = labAt L i then (rowOf x i d).toReal * (rowOf x n.val d).toReal + (rowOf x i d).toReal * (rowOf x (8192 + n.val) d).toReal else 0 := fun d => by
    rw [← Finset.sum_add_distrib, Finset.mul_sum]
    refine Finset.sum_congr rfl fun n _ => ?_
    split
    · rw [mul_add]
    · rw [add_zero, mul_zero]
  rw [Finset.sum_congr rfl fun d _ => hd d, Finset.sum_comm, Finset.sum_mul]
  refine Finset.sum_congr rfl fun n _ => ?_
  rw [labAt_half]
  by_cases hc : labAt L n.val = labAt L i
  · simp only [if_pos hc]
    unfold gramR
    rw [Finset.sum_add_distrib]
    ring
  · simp only [if_neg hc, Finset.sum_const_zero, add_zero, zero_mul]

end Cert.Proof.KernelIdeal
-- ==== Proof.KernelIdeal.PosValue.lean ====
/-
  The positives kernel's two results over the extended reals: every row's count of positives, and the sum of its logits at them.
-/
module

public import proofs.«01_k».proof.Proof.KernelIdeal.PosTableValue
public import proofs.«01_k».proof.Proof.KernelIdeal.PosMath

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic

/-! ## Constants -/

theorem bits_128th : Ideal.ofBits .f32 1006632960#32 = ((1 / 128 : ℝ) : EReal) := by
  simp [Ideal.ofBits, Ideal.ieee]
  rw [← EReal.coe_mul]
  norm_num
theorem bits_128 : Ideal.ofBits .f32 1124073472#32 = ((128 : ℝ) : EReal) := by
  simp [Ideal.ofBits, Ideal.ieee]
  rw [← EReal.coe_mul]
  norm_num
theorem bits_two : Ideal.ofBits .f32 1073741824#32 = ((2 : ℝ) : EReal) := by
  simp [Ideal.ofBits, Ideal.ieee]
  rw [← EReal.coe_mul]
  norm_num
theorem bits_ten : Ideal.ofBits .f32 1092616192#32 = ((10 : ℝ) : EReal) := by
  simp [Ideal.ofBits, Ideal.ieee]
  rw [← EReal.coe_mul]
  norm_num

/-- The whole number that a small count is turned into. -/
theorem fptosi_nat (n : ℕ) (h : n < 2 ^ 31) : Ideal.fptosi 32 (((n : ℕ) : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

/-! ## The classes' totals as reals -/

section totals
variable {x : S16384x128.Idx → EReal} (hx : Fin' x) (L : S1x8192.Idx → BitVec 32)

/-- Component `d` of the sum of class `a`'s embeddings in the view that starts at row `o`. -/
def clsSumR (x : S16384x128.Idx → EReal) (L : S1x8192.Idx → BitVec 32) (o : ℕ) (d : Fin 128) (a : BitVec 32) : ℝ :=
  ∑ n : Fin 8192, if labAt L n.val = a then (rowOf x (o + n.val) d).toReal else 0

include hx in
theorem clsSum_coe (o : ℕ) (d : Fin 128) (q : ℕ) : clsSum x L o d q = (clsSumR x L o d (BitVec.ofNat 32 q) : EReal) := by
  unfold clsSum clsSumR
  rw [coe_sum]
  refine Finset.sum_congr rfl fun n _ => ?_
  unfold hotE
  split
  · rw [mul_one]; exact (EReal.coe_toReal (hx _).1 (hx _).2).symm
  · rw [mul_zero]; rfl
theorem hot_sum (q : ℕ) : (∑ n : Fin 8192, hotE (labAt L n.val) q) = (((clsN L (BitVec.ofNat 32 q) : ℕ) : ℝ) : EReal) := by
  unfold clsN
  rw [Nat.cast_sum, coe_sum]
  refine Finset.sum_congr rfl fun n _ => ?_
  unfold hotE
  split <;> simp

end totals

/-- A position gathers its class's column of the table, or nothing. -/
theorem gather_apply (v : Vec Ideal S1x512 .i32) (T : Vec Ideal S512x1024 .bf16) (r : Fin 512) (j : Fin 512) :
    k1_pay11 (F := Ideal) v T (ix2 r j) = if h : (v (ix2 0 j)).toNat < 1024 then T (ix2 r ⟨(v (ix2 0 j)).toNat, h⟩) else 0 := by
  rw [posPay11_apply]
  have hq : ∀ q : Fin 1024, v (ix2 0 j) = BitVec.ofNat 32 q.val ↔ (v (ix2 0 j)).toNat = q.val := fun q => by
    rw [← BitVec.toNat_inj, BitVec.toNat_ofNat, Nat.mod_eq_of_lt (show q.val < 2 ^ 32 by omega)]
  unfold hotE
  split
  · rename_i h
    rw [Finset.sum_eq_single (⟨(v (ix2 0 j)).toNat, h⟩ : Fin 1024)]
    · rw [if_pos ((hq _).mpr rfl), mul_one]
    · intro q _ hne
      rw [if_neg fun e => hne (Fin.ext ((hq q).mp e).symm), mul_zero]
    · exact fun h => absurd (Finset.mem_univ _) h
  · rename_i h
    refine Finset.sum_eq_zero fun q _ => ?_
    rw [if_neg fun e => h (lt_of_eq_of_lt ((hq q).mp e) q.isLt), mul_zero]

variable (c : Dev nD)
  (M0 : Memref sig .tc .vmem S1x8192 .i32) (h0 : M0.IsWhole)
  (M1 : Memref sig .tc .vmem S16384x128 .bf16) (h1 : M1.IsWhole)
  (M2 : Memref sig .tc .vmem S2x8192 .f32) (h2 : M2.IsWhole)
  (M3 : Memref sig .tc .vmem S2x8192 .i32) (h3 : M3.IsWhole)
  (M4 : Memref sig .tc .vmem S256x8192 .bf16) (h4 : M4.IsWhole)
  (M5 : Memref sig .tc .vmem S256x1024 .f32) (h5 : M5.IsWhole)
  (M6 : Memref sig .tc .vmem S512x1024 .bf16) (h6 : M6.IsWhole)
  (M7 : Memref sig .tc .vmem S1024x128 .f32) (h7 : M7.IsWhole)
  (f0 : Bf (F := Ideal) c M0) (f1 : Bf (F := Ideal) c M1)

section table
variable (q : Fin 1024)

/-- The class's summed embeddings. -/
theorem table_sum (hx : Fin' (embV c M1 f1)) (d : Fin 128) :
    tableP (F := Ideal) c M0 h0 M1 h1 M2 h2 M3 h3 M4 h4 M5 h5 M6 h6 M7 h7 f0 f1 (ix2 ⟨d.val, by omega⟩ q)
      = ((clsSumR (embV c M1 f1) (labV c M0 f0) 0 d (BitVec.ofNat 32 q.val) + clsSumR (embV c M1 f1) (labV c M0 f0) 8192 d (BitVec.ofNat 32 q.val) : ℝ) : EReal) := by
  rw [table_row, if_pos d.isLt, show (Fin.ofNat 128 d.val) = d from Fin.ext (Nat.mod_eq_of_lt d.isLt), posPay24_apply, topP_apply, botP_apply, clsSum_coe hx, clsSum_coe hx, EReal.coe_add]
/-- The rounding's remainders are nothing. -/
theorem table_mid (hx : Fin' (embV c M1 f1)) (d : Fin 128) : tableP (F := Ideal) c M0 h0 M1 h1 M2 h2 M3 h3 M4 h4 M5 h5 M6 h6 M7 h7 f0 f1 (ix2 ⟨128 + d.val, by omega⟩ q) = 0 := by
  rw [table_row, if_neg (by show ¬ 128 + d.val < 128; omega), if_pos (by show 128 + d.val < 256; omega), posPay25_apply, topP_apply, botP_apply, clsSum_coe hx, clsSum_coe hx,
    ← EReal.coe_add, ← EReal.coe_sub, sub_self, EReal.coe_zero]
@[inherit_doc table_mid]
theorem table_low (hx : Fin' (embV c M1 f1)) (d : Fin 128) : tableP (F := Ideal) c M0 h0 M1 h1 M2 h2 M3 h3 M4 h4 M5 h5 M6 h6 M7 h7 f0 f1 (ix2 ⟨256 + d.val, by omega⟩ q) = 0 := by
  rw [table_row, if_neg (by show ¬ 256 + d.val < 128; omega), if_neg (by show ¬ 256 + d.val < 256; omega), if_pos (by show 256 + d.val < 384; omega), posPay26_apply, topP_apply, botP_apply, clsSum_coe hx, clsSum_coe hx,
    ← EReal.coe_add, ← EReal.coe_sub, sub_self, ← EReal.coe_sub, sub_self, EReal.coe_zero]
/-- The class's count, its two parts put together. -/
theorem table_cnt :
    tableP (F := Ideal) c M0 h0 M1 h1 M2 h2 M3 h3 M4 h4 M5 h5 M6 h6 M7 h7 f0 f1 (ix2 384 q) * Ideal.ofBits .f32 1124073472#32 + tableP (F := Ideal) c M0 h0 M1 h1 M2 h2 M3 h3 M4 h4 M5 h5 M6 h6 M7 h7 f0 f1 (ix2 385 q)
      = (((clsN (labV c M0 f0) (BitVec.ofNat 32 q.val) : ℕ) : ℝ) : EReal) := by
  rw [table_row, table_row, if_neg (by decide), if_neg (by decide), if_neg (by decide), if_neg (by decide), if_neg (by decide), if_neg (by decide),
    show (Fin.ofNat 128 (384 : Fin 512).val) = (0 : Fin 128) from by decide, show (Fin.ofNat 128 (385 : Fin 512).val) = (1 : Fin 128) from by decide,
    posPay1_zero, posPay1_one, totP_apply, hot_sum, bits_128th, bits_128, ← EReal.coe_mul]
  show ((_ : ℝ) : EReal) * _ + (_ - ((_ : ℝ) : EReal) * _) = _
  rw [← EReal.coe_mul, ← EReal.coe_sub, ← EReal.coe_add, add_sub_cancel]

end table

/-! ## A block's results -/

section block
variable (hx : Fin' (embV c M1 f1)) (t : Fin k1_t2_loop.trips) (j : Fin 512)

theorem members_cls (h : (labAt (labV c M0 f0) (512 * t.val + j.val)).toNat < 1024) :
    k1_pay13 (F := Ideal) (labsQ c M0 f0 t) (tableP c M0 h0 M1 h1 M2 h2 M3 h3 M4 h4 M5 h5 M6 h6 M7 h7 f0 f1) (ix2 0 j)
      = (((clsN (labV c M0 f0) (labAt (labV c M0 f0) (512 * t.val + j.val)) : ℕ) : ℝ) : EReal) := by
  rw [← labsQ_apply] at h ⊢
  rw [posPay13_apply, gather_apply, gather_apply, dif_pos h, dif_pos h, table_cnt, BitVec.ofNat_toNat, BitVec.setWidth_eq]
theorem members_none (h : ¬ (labAt (labV c M0 f0) (512 * t.val + j.val)).toNat < 1024) :
    k1_pay13 (F := Ideal) (labsQ c M0 f0 t) (tableP c M0 h0 M1 h1 M2 h2 M3 h3 M4 h4 M5 h5 M6 h6 M7 h7 f0 f1) (ix2 0 j) = 0 := by
  rw [← labsQ_apply] at h
  rw [posPay13_apply, gather_apply, gather_apply, dif_neg h, dif_neg h, zero_mul, add_zero]
include hx in
theorem csum_cls (h : (labAt (labV c M0 f0) (512 * t.val + j.val)).toNat < 1024) (d : Fin 128) :
    k1_pay12 (F := Ideal) (labsQ c M0 f0 t) (tableP c M0 h0 M1 h1 M2 h2 M3 h3 M4 h4 M5 h5 M6 h6 M7 h7 f0 f1) (ix2 d j)
      = ((clsSumR (embV c M1 f1) (labV c M0 f0) 0 d (labAt (labV c M0 f0) (512 * t.val + j.val))
          + clsSumR (embV c M1 f1) (labV c M0 f0) 8192 d (labAt (labV c M0 f0) (512 * t.val + j.val)) : ℝ) : EReal) := by
  rw [← labsQ_apply] at h ⊢
  rw [posPay12_apply, gather_apply, gather_apply, gather_apply, dif_pos h, dif_pos h, dif_pos h, table_low _ _ _ _ _ _ _ _ _ _ _ _ _ _ _ _ _ _ _ _ hx,
    table_mid _ _ _ _ _ _ _ _ _ _ _ _ _ _ _ _ _ _ _ _ hx, table_sum _ _ _ _ _ _ _ _ _ _ _ _ _ _ _ _ _ _ _ _ hx, zero_add, zero_add, BitVec.ofNat_toNat, BitVec.setWidth_eq]

variable (hL : ∀ n, (labAt (labV c M0 f0) n).toInt < 1024)

include hL in
/-- The counts, for the row of either view. -/
theorem cntP_apply (i : ℕ) (hi : i < 16384) (he : labAt (labV c M0 f0) i = labAt (labV c M0 f0) (512 * t.val + j.val)) :
    cntP (F := Ideal) c M0 h0 M1 h1 M2 h2 M3 h3 M4 h4 M5 h5 M6 h6 M7 h7 f0 f1 t (ix2 0 j) = BitVec.ofNat 32 (cntR (labV c M0 f0) i) := by
  unfold cntP
  rw [posPay14_apply]
  by_cases h : 0 ≤ (labAt (labV c M0 f0) i).toInt
  · have hc := cntR_cls (labV c M0 f0) i hi h
    have hp := clsN_pos (labV c M0 f0) i
    have hb : cntR (labV c M0 f0) i ≤ 16384 := by
      unfold cntR
      refine (Finset.sum_le_card_nsmul Finset.univ _ 1 fun j _ => by split <;> omega).trans ?_
      simp
    rw [members_cls (h := he ▸ lt_of_nonneg _ h (hL i)), ← he, if_pos (by exact_mod_cast hp), bits_two, ← EReal.coe_mul]
    have hv : (((clsN (labV c M0 f0) (labAt (labV c M0 f0) i) : ℕ) : ℝ) * 2 : ℝ) = (cntR (labV c M0 f0) i : ℝ) + 1 := by
      have : ((cntR (labV c M0 f0) i + 1 : ℕ) : ℝ) = ((2 * clsN (labV c M0 f0) (labAt (labV c M0 f0) i) : ℕ) : ℝ) := congrArg _ hc
      push_cast at this
      linarith
    rw [hv, ← EReal.coe_one, ← EReal.coe_sub, add_sub_cancel_right, fptosi_nat _ (by omega)]
  · have hn : ¬ (labAt (labV c M0 f0) (512 * t.val + j.val)).toNat < 1024 := fun h' => h (he ▸ nonneg_of_lt _ h')
    rw [members_none (h := hn), if_neg (lt_irrefl _), cntR_neg _ _ (not_le.mp h)]
    have e := fptosi_nat 0 (by omega)
    rw [Nat.cast_zero, EReal.coe_zero] at e
    exact e

include hx hL in
/-- The sums, for a row that the kernel holds in column `j` of `w`. -/
theorem pos_apply (i : ℕ) (hi : i < 16384) (he : labAt (labV c M0 f0) i = labAt (labV c M0 f0) (512 * t.val + j.val))
    (w : Vec Ideal S128x512 .bf16) (hw : ∀ d : Fin 128, w (ix2 d j) = rowOf (embV c M1 f1) i d) :
    (if 0 < k1_pay13 (F := Ideal) (labsQ c M0 f0 t) (tableP c M0 h0 M1 h1 M2 h2 M3 h3 M4 h4 M5 h5 M6 h6 M7 h7 f0 f1) (ix2 0 j)
          then ∑ d : Fin 128, w (ix2 d j) * k1_pay12 (F := Ideal) (labsQ c M0 f0 t) (tableP c M0 h0 M1 h1 M2 h2 M3 h3 M4 h4 M5 h5 M6 h6 M7 h7 f0 f1) (ix2 d j) - ∑ d : Fin 128, w (ix2 d j) * w (ix2 d j) else 0)
        * Ideal.ofBits .f32 1092616192#32
      = (posR (embV c M1 f1) (labV c M0 f0) i : EReal) := by
  by_cases h : 0 ≤ (labAt (labV c M0 f0) i).toInt
  · have hp := clsN_pos (labV c M0 f0) i
    have hc : (labAt (labV c M0 f0) (512 * t.val + j.val)).toNat < 1024 := he ▸ lt_of_nonneg _ h (hL i)
    have hr : ∀ d, ((rowOf (embV c M1 f1) i d).toReal : EReal) = rowOf (embV c M1 f1) i d := fun d => EReal.coe_toReal (hx _).1 (hx _).2
    rw [members_cls (h := hc), ← he, if_pos (by exact_mod_cast hp), posR_cls _ _ _ hi h, bits_ten, EReal.coe_mul, EReal.coe_sub, coe_sum, coe_sum]
    refine congrArg (· * _) (congrArg₂ (· - ·) (Finset.sum_congr rfl fun d _ => ?_) (Finset.sum_congr rfl fun d _ => ?_))
    · rw [csum_cls (hx := hx) (h := hc), ← he, hw, EReal.coe_mul, hr]
      unfold clsSumR
      simp only [zero_add]
    · rw [hw, EReal.coe_mul, hr]
  · have hn : ¬ (labAt (labV c M0 f0) (512 * t.val + j.val)).toNat < 1024 := fun h' => h (he ▸ nonneg_of_lt _ h')
    rw [members_none (h := hn), if_neg (lt_irrefl _), posR_neg _ _ _ (not_le.mp h), zero_mul, EReal.coe_zero]

include hx hL in
theorem posA_apply : posA (F := Ideal) c M0 h0 M1 h1 M2 h2 M3 h3 M4 h4 M5 h5 M6 h6 M7 h7 f0 f1 t (ix2 0 j) = (posR (embV c M1 f1) (labV c M0 f0) (512 * t.val + j.val) : EReal) := by
  have ht : t.val < 16 := lt_of_lt_of_eq t.isLt trips_p2
  unfold posA
  rw [posPay2_apply]
  exact pos_apply (hx := hx) (hL := hL) (i := 512 * t.val + j.val) (hi := by omega) (he := rfl)
    (hw := fun d => (posPay4_apply _ d j).trans (viewA_apply c M1 f1 ⟨t.val, t.isLt⟩ j d)) ..
include hx hL in
theorem posB_apply : posB (F := Ideal) c M0 h0 M1 h1 M2 h2 M3 h3 M4 h4 M5 h5 M6 h6 M7 h7 f0 f1 t (ix2 0 j) = (posR (embV c M1 f1) (labV c M0 f0) (8192 + (512 * t.val + j.val)) : EReal) := by
  have ht : t.val < 16 := lt_of_lt_of_eq t.isLt trips_p2
  unfold posB
  rw [posPay3_apply]
  exact pos_apply (hx := hx) (hL := hL) (i := 8192 + (512 * t.val + j.val)) (hi := by omega) (he := labAt_half _ _)
    (hw := fun d => (posPay5_apply _ d j).trans (viewB_apply c M1 f1 ⟨t.val, t.isLt⟩ j d)) ..

include hx hL in
/-- The sums of logits that the kernel leaves. -/
theorem pos_left (f4 : Bf (F := Ideal) c M4) (f2 : Bf (F := Ideal) c M2) (y : S2x8192.Idx) :
    M2.view.read (Elt Ideal) ((posRun (F := Ideal) c M0 h0 M1 h1 M2 h2 M3 h3 M4 h4 M5 h5 M6 h6 M7 h7 f0 f1).1 f4 f2) y
      = (posR (embV c M1 f1) (labV c M0 f0) (8192 * (y 0).val + (y 1).val) : EReal) := by
  have y0 : (y 0).val < 2 := (y 0).isLt
  have e : 512 * (blk2 (y 1)).val + (colIn (y 1)).val = (y 1).val := by show 512 * ((y 1).val / 512) + (y 1).val % 512 = _; omega
  rw [read_pos]
  split
  · rename_i h
    rw [posA_apply (hx := hx) (hL := hL), e, h, mul_zero, zero_add]
  · rename_i h
    rw [posB_apply (hx := hx) (hL := hL), e, show (y 0).val = 1 by omega, mul_one]
include hL in
/-- The counts that it leaves. -/
theorem cnt_left (f4 : Bf (F := Ideal) c M4) (f3 : Bf (F := Ideal) c M3) (y : S2x8192.Idx) :
    M3.view.read (Elt Ideal) ((posRun (F := Ideal) c M0 h0 M1 h1 M2 h2 M3 h3 M4 h4 M5 h5 M6 h6 M7 h7 f0 f1).2.1 f4 f3) y
      = BitVec.ofNat 32 (cntR (labV c M0 f0) (8192 * (y 0).val + (y 1).val)) := by
  have y0 : (y 0).val < 2 := (y 0).isLt
  have y1 : (y 1).val < 8192 := (y 1).isLt
  have e : 512 * (blk2 (y 1)).val + (colIn (y 1)).val = (y 1).val := by show 512 * ((y 1).val / 512) + (y 1).val % 512 = _; omega
  rw [read_cnt]
  refine cntP_apply (hL := hL) (i := 8192 * (y 0).val + (y 1).val) (hi := by omega) (he := ?_) ..
  rw [e]
  rcases (by omega : (y 0).val = 0 ∨ (y 0).val = 1) with h | h
  · rw [h, mul_zero, zero_add]
  · rw [h, mul_one, labAt_half]

end block

end Cert.Proof.KernelIdeal
-- ==== Proof.KernelIdeal.CombineFast.lean ====
/-
  The combine kernel's first branch, over the extended reals: what it leaves in each row's result, from the row's total in the accumulator.
-/
module

public import proofs.«01_k».proof.Proof.KernelIdeal.CombineRun
public import proofs.«01_k».proof.Proof.KernelIdeal.LseMath

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The block of the accumulator that row result `y` reads, and the column in it. -/
def blk (y : S2x8192.Idx) : Fin 32 := ⟨(y 0).val * 16 + (y 1).val / 512, by
  have h0 : (y 0).val < 2 := (y 0).isLt
  have h1 : (y 1).val < 8192 := (y 1).isLt
  omega⟩
@[inherit_doc blk] def col (y : S2x8192.Idx) : Fin 512 := ⟨(y 1).val % 512, Nat.mod_lt _ (by omega)⟩

/-- The row of the embeddings that result `y` belongs to. -/
theorem blk_col (y : S2x8192.Idx) : 512 * (blk y).val + (col y).val = 8192 * (y 0).val + (y 1).val := by
  show 512 * ((y 0).val * 16 + (y 1).val / 512) + (y 1).val % 512 = _
  omega

/-- The first branch's row result from a total. -/
def lseFast (v4 tot : EReal) : EReal :=
  (Ideal.div (Ideal.log tot) ((Real.log 2 : ℝ) : EReal) + v4) * ((Real.log 2 : ℝ) : EReal)

theorem pay18_apply (v4 : Ideal .f32) (v5 : Vec Ideal S1x8x512 .f32) (q : Fin 512) :
    k2_pay18 v4 v5 (ix2 0 q) = lseFast v4 (∑ s : Fin 8, v5 (ix3 0 s q)) := by
  pointwise [k2_pay18, k2_pay17]
  rfl

theorem fast_inb (b : Fin 32) : ∀ i, (![b.val / 16, 512 * (b.val % 16)] : Fin 2 → ℕ) i + (![1, 512] : Fin 2 → ℕ) i ≤ S2x8192.size i := by
  intro i
  match i with
  | 0 => show b.val / 16 + 1 ≤ 2; omega
  | 1 => show 512 * (b.val % 16) + 512 ≤ 8192; omega

theorem block_inb (b : Fin 32) : ∀ i, (![b.val, 0, 0] : Fin 3 → ℕ) i + (![1, 8, 512] : Fin 3 → ℕ) i ≤ S32x8x512.size i := by
  intro i
  match i with
  | 0 => show b.val + 1 ≤ 32; omega
  | 1 => exact Nat.le_refl _
  | 2 => exact Nat.le_refl _

/-- The store of block `b`'s row results. -/
def fastPiece (v4 : Ideal .f32) (a : Vec Ideal S32x8x512 .f32) (b : Fin 32) : View.Piece (Elt Ideal) S2x8192 .f32 :=
  ⟨Rect.unit ![b.val / 16, 512 * (b.val % 16)] ![1, 512] (fast_inb b),
    k2_pay18 v4 (VecWindow.window a ![b.val, 0, 0] ![1, 8, 512] (block_inb b))⟩

/-- All the stores, the last one first. -/
def fastPieces (v4 : Ideal .f32) (a : Vec Ideal S32x8x512 .f32) : List (View.Piece (Elt Ideal) S2x8192 .f32) :=
  [fastPiece v4 a 31, fastPiece v4 a 30, fastPiece v4 a 29, fastPiece v4 a 28, fastPiece v4 a 27, fastPiece v4 a 26, fastPiece v4 a 25, fastPiece v4 a 24, fastPiece v4 a 23, fastPiece v4 a 22, fastPiece v4 a 21, fastPiece v4 a 20, fastPiece v4 a 19, fastPiece v4 a 18, fastPiece v4 a 17, fastPiece v4 a 16, fastPiece v4 a 15, fastPiece v4 a 14, fastPiece v4 a 13, fastPiece v4 a 12, fastPiece v4 a 11, fastPiece v4 a 10, fastPiece v4 a 9, fastPiece v4 a 8, fastPiece v4 a 7, fastPiece v4 a 6, fastPiece v4 a 5, fastPiece v4 a 4, fastPiece v4 a 3, fastPiece v4 a 2, fastPiece v4 a 1, fastPiece v4 a 0]

theorem fastPieces_eq (v4 : Ideal .f32) (a : Vec Ideal S32x8x512 .f32) :
    fastPieces v4 a = (List.finRange 32).reverse.map (fastPiece v4 a) := rfl

/-- What the stores leave. -/
theorem read_fast {sp : Space} (M : Memref sig .tc sp S2x8192 .f32) (f : BufTy.Contents (Elt Ideal) M.view.ty)
    (v4 : Ideal .f32) (a : Vec Ideal S32x8x512 .f32) (y : S2x8192.Idx) :
    M.view.read (Elt Ideal) (M.view.writes (Elt Ideal) f (fastPieces v4 a)) y = lseFast v4 (colT a (blk y) (col y)) := by
  refine View.read_writes_apply_of_pieces M.view f (fun y => lseFast v4 (colT a (blk y) (col y))) _ ?_ y ?_
  · rw [fastPieces_eq]
    intro p hp x
    obtain ⟨b, -, rfl⟩ := List.mem_map.mp hp
    have h0 : (x 0).val < 1 := (x 0).isLt
    have h1 : (x 1).val < 512 := (x 1).isLt
    have hx : x = ix2 (0 : Fin 1) (⟨(x 1).val, h1⟩ : Fin 512) := funext fun i => match i with
      | 0 => Fin.ext (by show (x 0).val = 0; omega)
      | 1 => rfl
    have hb : blk ((fastPiece v4 a b).1.emb x) = b := Fin.ext (by
      show (b.val / 16 + 1 * (x 0).val) * 16 + (512 * (b.val % 16) + 1 * (x 1).val) / 512 = b.val
      omega)
    have hc : col ((fastPiece v4 a b).1.emb x) = ⟨(x 1).val, h1⟩ := Fin.ext (by
      show (512 * (b.val % 16) + 1 * (x 1).val) % 512 = (x 1).val
      omega)
    rw [hb, hc]
    refine (congrArg (fastPiece v4 a b).2 hx).trans ((pay18_apply _ _ _).trans ?_)
    exact congrArg _ (Finset.sum_congr rfl fun s _ => window_block a b _ s _)
  · refine ⟨fastPiece v4 a (blk y), ?_, ?_⟩
    · rw [fastPieces_eq]
      exact List.mem_map_of_mem (List.mem_reverse.mpr (List.mem_finRange _))
    · refine (Rect.mem_set_unit (inb := fast_inb (blk y))).mpr fun i => ?_
      have h0 : (y 0).val < 2 := (y 0).isLt
      have h1 : (y 1).val < 8192 := (y 1).isLt
      match i with
      | 0 =>
        show ((y 0).val * 16 + (y 1).val / 512) / 16 ≤ (y 0).val ∧ (y 0).val < ((y 0).val * 16 + (y 1).val / 512) / 16 + 1
        omega
      | 1 =>
        show 512 * (((y 0).val * 16 + (y 1).val / 512) % 16) ≤ (y 1).val ∧ (y 1).val < 512 * (((y 0).val * 16 + (y 1).val / 512) % 16) + 512
        omega

variable (c : Dev nD)
  (M0 : Memref sig .tc .smem S1x1 .f32) (h0 : M0.IsWhole)
  (M1 : Memref sig .tc .vmem S32x8x512 .f32) (h1 : M1.IsWhole)
  (M2 : Memref sig .tc .vmem S2x8192 .f32) (h2 : M2.IsWhole)
  (M3 : Memref sig .tc .vmem S2x8192 .i32) (h3 : M3.IsWhole)
  (M4 : Memref sig .tc .hbm S16384x128 .bf16) (h4 : M4.IsWhole)
  (M5 : Memref sig .tc .vmem S2x8192 .f32) (h5 : M5.IsWhole)
  (M6 : Memref sig .tc .vmem S2x8192 .f32) (h6 : M6.IsWhole)
  (M7 : Memref sig .tc .vmem S16384x128 .bf16) (h7 : M7.IsWhole)
  (M8 : Memref sig .tc .vmem S1x512 .f32) (h8 : M8.IsWhole)
  (M9 : Memref sig .tc .vmem S1x512 .f32) (h9 : M9.IsWhole)
  (f0 : Bf (F := Ideal) c M0) (f1 : Bf (F := Ideal) c M1) (f2 : Bf (F := Ideal) c M2) (f3 : Bf (F := Ideal) c M3) (f4 : Bf (F := Ideal) c M4)

/-- The stores the first branch's run makes into the row results are the ones above. -/
theorem fastA (hv : ¬ chk (F := Ideal) c M1 f1 = 1#1) :
    (combineRunA (F := Ideal) c M0 h0 M1 h1 M2 h2 M3 h3 M4 h4 M5 h5 M6 h6 M7 h7 M8 h8 M9 h9 f0 f1 f2 f3 f4 hv).2.1
      = M6.view.writes (Elt Ideal) M6.view.junk (fastPieces (k2_pay9 (F := Ideal) (M0.view.read (Elt Ideal) f0 (ix2 0 0))) (M1.view.read (Elt Ideal) f1)) := by
  have e : M0.view.read (Elt Ideal) f0 (ix2 0 0) = combineRunA.sl.r (F := Ideal) c M0 f0 := by
    sl_unfold_run_names
    rw [View.readAt_full]
    exact congrArg _ (funext fun a => match a with | 0 => rfl | 1 => rfl)
  rw [e]
  unfold combineRunA
  dsimp only
  rfl

end Cert.Proof.KernelIdeal
-- ==== Proof.KernelIdeal.LseStep.lean ====
/-
  The running maximum and the running sum of exponentials: one step of the second branch's inner loop over the extended reals.
-/
module

public import proofs.«01_k».proof.Proof.KernelIdeal.LseMath

@[expose] public section

set_option maxRecDepth 16384

noncomputable section

namespace Cert.Proof.KernelIdeal

open Cert.KernelIdeal Cert.KernelIdeal.Gen
open Idealize.ShloMosaic Idealize.ShloMosaic.TcCoe

variable (x : Vec Ideal S16384x128 .bf16) (i : ℕ)

/-- The scaled inner product of rows `i` and `r`, minus infinity on the diagonal. -/
def logitE (r : ℕ) : EReal := if r = i then ⊥ else ((10 * gramR x i r : ℝ) : EReal)

/-- What the running maximum `m` and the running sum `s` say after the first `n` rows: either nothing was read yet, or the maximum is a
    real number and the sum is that of the exponentials shifted by it. -/
def Online (n : ℕ) (m s : EReal) : Prop :=
  (m = ⊥ ∧ n = 0 ∧ s = 0)
    ∨ ∃ M : ℝ, m = (M : EReal) ∧ s = ((∑ r ∈ Finset.range n, if r = i then 0 else Real.exp (10 * gramR x i r - M) : ℝ) : EReal)

/-- A maximum the step may subtract: the maximum itself when it is finite, else zero. -/
def safe (m : EReal) : EReal :=
  if FloatOps.absf (F := Ideal) (φ := .f32) m < Ideal.ofBits FTy.f32 2139095040#32 then m else 0

theorem inf_bits : Ideal.ofBits FTy.f32 2139095040#32 = (⊤ : EReal) := by
  simp [Ideal.ofBits, Ideal.ieee]

theorem ninf_bits : Ideal.ofBits FTy.f32 4286578688#32 = (⊥ : EReal) := by
  simp [Ideal.ofBits, Ideal.ieee]

theorem safe_coe (M : ℝ) : safe (M : EReal) = (M : EReal) := by
  refine if_pos ?_
  rw [inf_bits]
  show max (M : EReal) (-(M : EReal)) < ⊤
  rw [max_lt_iff]
  exact ⟨EReal.coe_lt_top M, by rw [← EReal.coe_neg]; exact EReal.coe_lt_top _⟩

/-- The maximum of a chunk of 256 rows. -/
def chunkMax (n : ℕ) : EReal := Finset.fold max ⊥ (fun y : Fin 256 => logitE x i (n + y.val)) Finset.univ

theorem logitE_lt_top (r : ℕ) : logitE x i r < ⊤ := by
  unfold logitE
  split
  · exact bot_lt_top
  · exact EReal.coe_lt_top _

theorem chunkMax_lt_top (n : ℕ) : chunkMax x i n < ⊤ :=
  (Finset.fold_max_lt _).mpr ⟨bot_lt_top, fun _ _ => logitE_lt_top x i _⟩

theorem bot_lt_chunkMax (n : ℕ) : ⊥ < chunkMax x i n := by
  refine (Finset.lt_fold_max _).mpr (Or.inr ?_)
  by_cases h : n = i
  · refine ⟨1, Finset.mem_univ _, ?_⟩
    have : n + (1 : Fin 256).val ≠ i := by subst h; show n + 1 ≠ n; omega
    unfold logitE
    rw [if_neg this]
    exact EReal.bot_lt_coe _
  · refine ⟨0, Finset.mem_univ _, ?_⟩
    have : n + (0 : Fin 256).val ≠ i := h
    unfold logitE
    rw [if_neg this]
    exact EReal.bot_lt_coe _

theorem exp_logitE (M : ℝ) (r : ℕ) :
    Ideal.exp (logitE x i r - (M : EReal)) = ((if r = i then 0 else Real.exp (10 * gramR x i r - M) : ℝ) : EReal) := by
  unfold logitE
  split
  · rw [show (⊥ : EReal) - (M : EReal) = ⊥ from EReal.bot_sub _]
    rfl
  · rw [← EReal.coe_sub, Ideal.exp_coe]

/-- One step: read 256 more rows. -/
theorem online_step (n : ℕ) (m s : EReal) (h : Online x i n m s) :
    Online x i (n + 256) (max m (chunkMax x i n))
      (s * Ideal.exp (m - safe (max m (chunkMax x i n)))
        + ∑ y : Fin 256, Ideal.exp (logitE x i (n + y.val) - safe (max m (chunkMax x i n)))) := by
  have hm : m < ⊤ := by
    rcases h with ⟨h, -, -⟩ | ⟨M, h, -⟩
    · rw [h]; exact bot_lt_top
    · rw [h]; exact EReal.coe_lt_top _
  obtain ⟨M', hM'⟩ : ∃ M' : ℝ, max m (chunkMax x i n) = (M' : EReal) :=
    ⟨_, (EReal.coe_toReal (max_lt hm (chunkMax_lt_top x i n)).ne (lt_max_of_lt_right (bot_lt_chunkMax x i n)).ne').symm⟩
  rw [hM', safe_coe]
  refine Or.inr ⟨M', rfl, ?_⟩
  have hs : s * Ideal.exp (m - (M' : EReal))
      = ((∑ r ∈ Finset.range n, if r = i then 0 else Real.exp (10 * gramR x i r - M') : ℝ) : EReal) := by
    rcases h with ⟨h, hn, h0⟩ | ⟨M, h, h0⟩
    · rw [h0, hn, zero_mul]
      rfl
    · rw [h, h0, ← EReal.coe_sub, Ideal.exp_coe, ← EReal.coe_mul, Finset.sum_mul]
      refine congrArg _ (Finset.sum_congr rfl fun r _ => ?_)
      split
      · exact zero_mul _
      · rw [← Real.exp_add]
        congr 1
        ring
  rw [hs, Finset.sum_congr rfl (fun (y : Fin 256) _ => exp_logitE x i M' (n + y.val)), ← coe_sum, ← EReal.coe_add]
  rw [Finset.sum_range_add]
  rw [Finset.sum_range (n := 256)]

/-- After all the rows: the logarithm of the sum, and the maximum put back, is the row's log-sum-exp. -/
theorem online_end (m s : EReal) (hi : i < 16384) (h : Online x i 16384 m s) :
    Ideal.log s + safe m = (lseR x i : EReal) := by
  rcases h with ⟨-, h, -⟩ | ⟨M, h, h0⟩
  · exact absurd h (by decide)
  · rw [h, safe_coe, h0, Finset.sum_range]
    exact log_expSum x M i

end Cert.Proof.KernelIdeal
-- ==== Proof.KernelIdeal.CombineSlow.lean ====
/-
  The combine kernel's second branch, over the extended reals: each row's log-sum-exp by a running maximum and a running sum.
-/
module

public import proofs.«01_k».proof.Proof.KernelIdeal.CombineFast
public import proofs.«01_k».proof.Proof.KernelIdeal.LseStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! ## One chunk of 256 rows against a block of 512 columns -/

theorem k2_lt (k : Fin k2_t2_loop.trips) : k.val < 64 := lt_of_lt_of_le k.isLt k2_t2_abs.2.1
theorem k2o_lt (k : Fin k2_t1_loop.trips) : k.val < 32 := lt_of_lt_of_le k.isLt k2_t1_abs.2.1

theorem iv_word (k : ℕ) : Scf.iv 0#32 1#32 k = BitVec.ofNat 32 k := by
  show 0#32 + BitVec.ofNat 32 k * 1#32 = _
  rw [BitVec.zero_add, BitVec.mul_one]

theorem mul_word (a b : ℕ) : Scalar.muli (BitVec.ofNat 32 a) (BitVec.ofNat 32 b) = BitVec.ofNat 32 (a * b) :=
  (BitVec.ofNat_mul a b).symm

theorem add_word (a b : ℕ) : IntOp.addi (BitVec.ofNat 32 a) (BitVec.ofNat 32 b) = BitVec.ofNat 32 (a + b) :=
  (BitVec.ofNat_add a b).symm

theorem ten_bits : Ideal.ofBits FTy.f32 1092616192#32 = ((10 : ℝ) : EReal) := by
  simp [Ideal.ofBits, Ideal.ieee]
  rw [← EReal.coe_mul]
  norm_num

variable {x : Vec Ideal S16384x128 .bf16} (hx : Fin' x)

include hx in
/-- The scaled inner products of a chunk, minus infinity on the diagonal. -/
theorem chunk_logit (j : Fin 32) (k : Fin k2_t2_loop.trips) (inb inb') (r : Fin 256) (q : Fin 512) :
    k2_pay2 (F := Ideal) (Scf.iv 0#32 1#32 j.val) (VecWindow.window x ![512 * j.val, 0] ![512, 128] inb') 0#32 1#32 k
        (VecWindow.window x ![256 * k.val, 0] ![256, 128] inb) (ix2 r q)
      = logitE x (512 * j.val + q.val) (256 * k.val + r.val) := by
  have hk := k2_lt k
  have e : k2_pay2 (F := Ideal) (Scf.iv 0#32 1#32 j.val) (VecWindow.window x ![512 * j.val, 0] ![512, 128] inb') 0#32 1#32 k
        (VecWindow.window x ![256 * k.val, 0] ![256, 128] inb) (ix2 r q)
      = Scalar.select (IntOp.cmpi .eq (IntOp.addi (BitVec.ofNat 32 r.val) (Scalar.muli (Scf.iv 0#32 1#32 k.val) 256#32))
          (IntOp.addi (BitVec.ofNat 32 q.val) (Scalar.muli (Scf.iv 0#32 1#32 j.val) 512#32))) (Ideal.ofBits FTy.f32 4286578688#32)
          ((∑ l : Fin 128, rowOf x (256 * k.val + r.val) l * rowOf x (512 * j.val + q.val) l) * Ideal.ofBits FTy.f32 1092616192#32) := by
    pointwise [k2_pay2]
    congr 2
    refine Finset.sum_congr rfl fun l _ => ?_
    rw [← window_rows x (256 * k.val) 256 inb r, ← window_rows x (512 * j.val) 512 inb' q]
  rw [e, iv_word, iv_word, mul_word k.val 256, mul_word j.val 512, add_word q.val, gram_coe hx, ten_bits, ninf_bits, ← EReal.coe_mul,
    select_eq r.val (q.val + j.val * 512) (k.val * 256) (by omega) (by omega)]
  unfold logitE
  by_cases h : 256 * k.val + r.val = 512 * j.val + q.val
  · rw [if_pos h, if_pos (by omega)]
  · rw [if_neg h, if_neg (by omega), gramR_comm, mul_comm]

variable (j : Fin 32) (k : Fin k2_t2_loop.trips) (inb inb') (m s : Vec Ideal S1x512 .f32) (q : Fin 512)

include hx in
/-- The running maximum after a chunk. -/
theorem chunk_max :
    k2_pay3 (F := Ideal) (Scf.iv 0#32 1#32 j.val) (VecWindow.window x ![512 * j.val, 0] ![512, 128] inb') 0#32 1#32 k
        (VecWindow.window x ![256 * k.val, 0] ![256, 128] inb) m (ix2 0 q)
      = max (m (ix2 0 q)) (chunkMax x (512 * j.val + q.val) (256 * k.val)) := by
  have e : k2_pay3 (F := Ideal) (Scf.iv 0#32 1#32 j.val) (VecWindow.window x ![512 * j.val, 0] ![512, 128] inb') 0#32 1#32 k
        (VecWindow.window x ![256 * k.val, 0] ![256, 128] inb) m (ix2 0 q)
      = max (m (ix2 0 q)) (Finset.fold max (Ideal.ofBits FTy.f32 4286578688#32)
          (fun r : Fin 256 => k2_pay2 (F := Ideal) (Scf.iv 0#32 1#32 j.val) (VecWindow.window x ![512 * j.val, 0] ![512, 128] inb') 0#32 1#32 k
            (VecWindow.window x ![256 * k.val, 0] ![256, 128] inb) (ix2 r q)) Finset.univ) := by
    pointwise [k2_pay3]
  rw [e, ninf_bits]
  unfold chunkMax
  rw [Finset.fold_congr (fun r _ => chunk_logit hx j k inb inb' r q)]

include hx in
/-- The running sum after a chunk. -/
theorem chunk_sum :
    k2_pay4 (F := Ideal) (Scf.iv 0#32 1#32 j.val) (VecWindow.window x ![512 * j.val, 0] ![512, 128] inb') 0#32 1#32 k
        (VecWindow.window x ![256 * k.val, 0] ![256, 128] inb) m s (ix2 0 q)
      = s (ix2 0 q) * Ideal.exp (m (ix2 0 q) - safe (max (m (ix2 0 q)) (chunkMax x (512 * j.val + q.val) (256 * k.val))))
        + ∑ r : Fin 256, Ideal.exp (logitE x (512 * j.val + q.val) (256 * k.val + r.val)
            - safe (max (m (ix2 0 q)) (chunkMax x (512 * j.val + q.val) (256 * k.val)))) := by
  have e : k2_pay4 (F := Ideal) (Scf.iv 0#32 1#32 j.val) (VecWindow.window x ![512 * j.val, 0] ![512, 128] inb') 0#32 1#32 k
        (VecWindow.window x ![256 * k.val, 0] ![256, 128] inb) m s (ix2 0 q)
      = s (ix2 0 q) * Ideal.exp (m (ix2 0 q) - safe (k2_pay3 (F := Ideal) (Scf.iv 0#32 1#32 j.val)
            (VecWindow.window x ![512 * j.val, 0] ![512, 128] inb') 0#32 1#32 k (VecWindow.window x ![256 * k.val, 0] ![256, 128] inb) m (ix2 0 q)))
        + ∑ r : Fin 256, Ideal.exp (k2_pay2 (F := Ideal) (Scf.iv 0#32 1#32 j.val) (VecWindow.window x ![512 * j.val, 0] ![512, 128] inb') 0#32 1#32 k
            (VecWindow.window x ![256 * k.val, 0] ![256, 128] inb) (ix2 r q)
            - safe (k2_pay3 (F := Ideal) (Scf.iv 0#32 1#32 j.val) (VecWindow.window x ![512 * j.val, 0] ![512, 128] inb') 0#32 1#32 k
                (VecWindow.window x ![256 * k.val, 0] ![256, 128] inb) m (ix2 0 q))) := by
    pointwise [k2_pay4]
    rfl
  rw [e, chunk_max hx]
  exact congrArg₂ (· + ·) rfl (Finset.sum_congr rfl fun r _ => by rw [chunk_logit hx])

theorem pay7_eq (v : Vec Ideal S1x512 .f32) : k2_pay7 (F := Ideal) v = v := by
  funext y
  pointwise [k2_pay7]

theorem pay5_apply : k2_pay5 (F := Ideal) (ix2 0 q) = ⊥ := by
  rw [← ninf_bits]
  pointwise [k2_pay5]

theorem pay6_apply : k2_pay6 (F := Ideal) (ix2 0 q) = 0 := by
  pointwise [k2_pay6]

/-- The row result from the running maximum and the running sum. -/
theorem pay123_apply : k2_pay123 (F := Ideal) (k2_pay8 m) s (ix2 0 q) = Ideal.log (s (ix2 0 q)) + safe (m (ix2 0 q)) := by
  pointwise [k2_pay123, k2_pay8]
  rfl

/-! ## The loops -/

variable (𝒱 : Variants) (c : Dev nD) (bd : Option 𝒱.V)
  (M0 : Memref sig .tc .smem S1x1 .f32) (h0 : M0.IsWhole)
  (M1 : Memref sig .tc .vmem S32x8x512 .f32) (h1 : M1.IsWhole)
  (M2 : Memref sig .tc .vmem S2x8192 .f32) (h2 : M2.IsWhole)
  (M3 : Memref sig .tc .vmem S2x8192 .i32) (h3 : M3.IsWhole)
  (M4 : Memref sig .tc .hbm S16384x128 .bf16) (h4 : M4.IsWhole)
  (M5 : Memref sig .tc .vmem S2x8192 .f32) (h5 : M5.IsWhole)
  (M6 : Memref sig .tc .vmem S2x8192 .f32) (h6 : M6.IsWhole)
  (M7 : Memref sig .tc .vmem S16384x128 .bf16) (h7 : M7.IsWhole)
  (M8 : Memref sig .tc .vmem S1x512 .f32) (h8 : M8.IsWhole)
  (M9 : Memref sig .tc .vmem S1x512 .f32) (h9 : M9.IsWhole)
  (a10 : DmaSems sig S_) (X7 : BufTy.Contents (Elt Ideal) M7.view.ty)

theorem tripM_max (a11 : BitVec 32) (v : Vec Ideal S512x128 .bf16) (f8 : BufTy.Contents (Elt Ideal) M8.view.ty)
    (f9 : BufTy.Contents (Elt Ideal) M9.view.ty) :
    M8.view.read (Elt Ideal) (M8.view.writes (Elt Ideal) f8 ((tripM (F := Ideal) 𝒱 c bd M0 h0 M1 h1 M2 h2 M3 h3 M4 h4 M5 h5 M6 h6 M7 h7 M8 h8 M9 h9 a10 X7 a11 v k).1 f8 f9))
      = k2_pay3 (F := Ideal) a11 v 0#32 1#32 k (VecWindow.window (M7.view.read (Elt Ideal) X7) ![256 * k.val, 0] ![256, 128] (k2_off2_eq k ▸ k2_off2_inb k))
          (M8.view.read (Elt Ideal) f8) := by
  unfold tripM
  dsimp only
  sl_unfold_run_names
  refine (View.read_writes_full M8.view f8 _ _ []).trans ?_
  rw [View.readAt_full, View.readAt_unit M7.view _ _ (k2_off2_eq k) (k2_off2_eq k ▸ k2_off2_inb k)]
  exact pay7_eq _

theorem tripM_sum (a11 : BitVec 32) (v : Vec Ideal S512x128 .bf16) (f8 : BufTy.Contents (Elt Ideal) M8.view.ty)
    (f9 : BufTy.Contents (Elt Ideal) M9.view.ty) :
    M9.view.read (Elt Ideal) (M9.view.writes (Elt Ideal) f9 ((tripM (F := Ideal) 𝒱 c bd M0 h0 M1 h1 M2 h2 M3 h3 M4 h4 M5 h5 M6 h6 M7 h7 M8 h8 M9 h9 a10 X7 a11 v k).2.1 f8 f9))
      = k2_pay4 (F := Ideal) a11 v 0#32 1#32 k (VecWindow.window (M7.view.read (Elt Ideal) X7) ![256 * k.val, 0] ![256, 128] (k2_off2_eq k ▸ k2_off2_inb k))
          (M8.view.read (Elt Ideal) f8) (M9.view.read (Elt Ideal) f9) := by
  unfold tripM
  dsimp only
  sl_unfold_run_names
  refine (View.read_writes_full M9.view f9 _ _ []).trans ?_
  rw [View.readAt_full, View.readAt_full, View.readAt_unit M7.view _ _ (k2_off2_eq k) (k2_off2_eq k ▸ k2_off2_inb k)]
  rfl

/-- The rows of block `j`, as the loop reads them. -/
theorem off1_inb (j : Fin 32) : ∀ a, (![512 * j.val, 0] : Fin 2 → ℕ) a + (![512, 128] : Fin 2 → ℕ) a ≤ S16384x128.size a := by
  intro a
  match a with
  | 0 => show 512 * j.val + 512 ≤ 16384; omega
  | 1 => exact Nat.le_refl _

/-- The inner loop keeps the running maximum and the running sum of the rows it has read. -/
theorem pbM_online (hx : Fin' (M7.view.read (Elt Ideal) X7)) (G8 : BufTy.Contents (Elt Ideal) M8.view.ty) (G9 : BufTy.Contents (Elt Ideal) M9.view.ty)
    (hm : M8.view.read (Elt Ideal) G8 (ix2 0 q) = (⊥ : EReal)) (hs : M9.view.read (Elt Ideal) G9 (ix2 0 q) = (0 : EReal)) :
    ∀ n, n ≤ k2_t2_loop.trips → Online (M7.view.read (Elt Ideal) X7) (512 * j.val + q.val) (256 * n)
      (M8.view.read (Elt Ideal) (M8.view.writes (Elt Ideal) G8 (pbM (F := Ideal) 𝒱 c bd M0 h0 M1 h1 M2 h2 M3 h3 M4 h4 M5 h5 M6 h6 M7 h7 M8 h8 M9 h9 a10 X7
        (Scf.iv 0#32 1#32 j.val) (VecWindow.window (M7.view.read (Elt Ideal) X7) ![512 * j.val, 0] ![512, 128] (off1_inb j)) G8 G9 n).1) (ix2 0 q))
      (M9.view.read (Elt Ideal) (M9.view.writes (Elt Ideal) G9 (pbM (F := Ideal) 𝒱 c bd M0 h0 M1 h1 M2 h2 M3 h3 M4 h4 M5 h5 M6 h6 M7 h7 M8 h8 M9 h9 a10 X7
        (Scf.iv 0#32 1#32 j.val) (VecWindow.window (M7.view.read (Elt Ideal) X7) ![512 * j.val, 0] ![512, 128] (off1_inb j)) G8 G9 n).2) (ix2 0 q)) := by
  intro n
  induction n with
  | zero => intro _; exact Or.inl ⟨hm, rfl, hs⟩
  | succ n ih =>
    intro hn
    have I := ih (Nat.le_of_succ_le hn)
    have e := pbM_succ (F := Ideal) 𝒱 c bd M0 h0 M1 h1 M2 h2 M3 h3 M4 h4 M5 h5 M6 h6 M7 h7 M8 h8 M9 h9 a10 X7
        (Scf.iv 0#32 1#32 j.val) (VecWindow.window (M7.view.read (Elt Ideal) X7) ![512 * j.val, 0] ![512, 128] (off1_inb j)) G8 G9 ⟨n, Nat.lt_of_succ_le hn⟩
    dsimp only at e
    rw [e, View.writes_append, View.writes_append, tripM_max, tripM_sum, chunk_max hx, chunk_sum hx]
    exact online_step _ _ (256 * n) _ _ I

/-- What the running maximum and the running sum start from. -/
abbrev init8 : List (View.Piece (Elt Ideal) S1x512 .f32) := [⟨Rect.unit ![0, 0] S1x512.size inb_S1x512_S1x512_0_0, k2_pay5 (F := Ideal)⟩]
@[inherit_doc init8] abbrev init9 : List (View.Piece (Elt Ideal) S1x512 .f32) := [⟨Rect.unit ![0, 0] S1x512.size inb_S1x512_S1x512_0_0, k2_pay6 (F := Ideal)⟩]

/-- The inner loop's stores, all of them, over that start. -/
abbrev chunks (j : Fin 32) := pbM (F := Ideal) 𝒱 c bd M0 h0 M1 h1 M2 h2 M3 h3 M4 h4 M5 h5 M6 h6 M7 h7 M8 h8 M9 h9 a10 X7
  (Scf.iv 0#32 1#32 j.val) (VecWindow.window (M7.view.read (Elt Ideal) X7) ![512 * j.val, 0] ![512, 128] (off1_inb j))
  (M8.view.writes (Elt Ideal) M8.view.junk init8) (M9.view.writes (Elt Ideal) M9.view.junk init9) k2_t2_loop.trips

/-- The row results a trip of the outer loop stores. -/
def slowRow (j : Fin 32) : Vec Ideal S1x512 .f32 :=
  k2_pay123 (F := Ideal)
    (k2_pay8 (M8.view.read (Elt Ideal) (M8.view.writes (Elt Ideal) M8.view.junk
      ((chunks 𝒱 c bd M0 h0 M1 h1 M2 h2 M3 h3 M4 h4 M5 h5 M6 h6 M7 h7 M8 h8 M9 h9 a10 X7 j).1 ++ init8))))
    (M9.view.read (Elt Ideal) (M9.view.writes (Elt Ideal) M9.view.junk
      ((chunks 𝒱 c bd M0 h0 M1 h1 M2 h2 M3 h3 M4 h4 M5 h5 M6 h6 M7 h7 M8 h8 M9 h9 a10 X7 j).2 ++ init9)))

/-- They are the log-sum-exp of the block's 512 rows. -/
theorem slowRow_eq (hx : Fin' (M7.view.read (Elt Ideal) X7)) (j : Fin 32) (q : Fin 512) :
    slowRow 𝒱 c bd M0 h0 M1 h1 M2 h2 M3 h3 M4 h4 M5 h5 M6 h6 M7 h7 M8 h8 M9 h9 a10 X7 j (ix2 0 q)
      = (lseR (M7.view.read (Elt Ideal) X7) (512 * j.val + q.val) : EReal) := by
  have ht : k2_t2_loop.trips = 64 := by decide
  have e8 : M8.view.read (Elt Ideal) (M8.view.writes (Elt Ideal) M8.view.junk init8) = k2_pay5 (F := Ideal) :=
    View.read_writes_full M8.view M8.view.junk inb_S1x512_S1x512_0_0 _ []
  have e9 : M9.view.read (Elt Ideal) (M9.view.writes (Elt Ideal) M9.view.junk init9) = k2_pay6 (F := Ideal) :=
    View.read_writes_full M9.view M9.view.junk inb_S1x512_S1x512_0_0 _ []
  refine (pay123_apply _ _ q).trans (online_end _ _ _ _ (by omega) ?_)
  have I := pbM_online j q 𝒱 c bd M0 h0 M1 h1 M2 h2 M3 h3 M4 h4 M5 h5 M6 h6 M7 h7 M8 h8 M9 h9 a10 X7 hx
    (M8.view.writes (Elt Ideal) M8.view.junk init8) (M9.view.writes (Elt Ideal) M9.view.junk init9)
    ((congrFun e8 (ix2 0 q)).trans (pay5_apply q)) ((congrFun e9 (ix2 0 q)).trans (pay6_apply q))
    k2_t2_loop.trips (Nat.le_refl _)
  rw [← View.writes_append, ← View.writes_append] at I
  rw [show 16384 = 256 * k2_t2_loop.trips by rw [ht]]
  exact I

/-- A trip of the outer loop makes one store, of those results. -/
theorem tripB_piece (t : Fin k2_t1_loop.trips) (f6 : BufTy.Contents (Elt Ideal) M6.view.ty) :
    (tripB (F := Ideal) 𝒱 c bd M0 h0 M1 h1 M2 h2 M3 h3 M4 h4 M5 h5 M6 h6 M7 h7 M8 h8 M9 h9 a10 X7 t).1 f6
      = [⟨Rect.unit (k2_off3 t) ![1, 512] (k2_off3_inb t),
          slowRow 𝒱 c bd M0 h0 M1 h1 M2 h2 M3 h3 M4 h4 M5 h5 M6 h6 M7 h7 M8 h8 M9 h9 a10 X7 ⟨t.val, k2o_lt t⟩⟩] := by
  have e := View.readAt_unit M7.view X7 (k2_off1_inb t) (k2_off1_eq t) (off1_inb ⟨t.val, k2o_lt t⟩)
  unfold tripB slowRow chunks
  dsimp only
  sl_unfold_run_names
  rw [← e, ← View.readAt_full M8.view _ inb_S1x512_S1x512_0_0, ← View.readAt_full M9.view _ inb_S1x512_S1x512_0_0]
  rfl

theorem off3_eq : ∀ t : Fin k2_t1_loop.trips, k2_off3 t = ![t.val / 16, 512 * (t.val % 16)] := by decide +kernel

/-- The store of a trip of the outer loop. -/
def slowPiece (t : Fin k2_t1_loop.trips) : View.Piece (Elt Ideal) S2x8192 .f32 :=
  ⟨Rect.unit (k2_off3 t) ![1, 512] (k2_off3_inb t),
    slowRow 𝒱 c bd M0 h0 M1 h1 M2 h2 M3 h3 M4 h4 M5 h5 M6 h6 M7 h7 M8 h8 M9 h9 a10 X7 ⟨t.val, k2o_lt t⟩⟩

/-- The stores of the outer loop's first `n` trips. -/
theorem mem_pbB (G : BufTy.Contents (Elt Ideal) M6.view.ty) (p : View.Piece (Elt Ideal) S2x8192 .f32) :
    ∀ n, n ≤ k2_t1_loop.trips → (p ∈ pbB (F := Ideal) 𝒱 c bd M0 h0 M1 h1 M2 h2 M3 h3 M4 h4 M5 h5 M6 h6 M7 h7 M8 h8 M9 h9 a10 X7 G n
      ↔ ∃ t : Fin k2_t1_loop.trips, t.val < n ∧ p = slowPiece 𝒱 c bd M0 h0 M1 h1 M2 h2 M3 h3 M4 h4 M5 h5 M6 h6 M7 h7 M8 h8 M9 h9 a10 X7 t) := by
  intro n
  induction n with
  | zero =>
    intro _
    exact ⟨fun h => absurd h List.not_mem_nil, fun ⟨_, h, _⟩ => absurd h (Nat.not_lt_zero _)⟩
  | succ n ih =>
    intro hn
    have e := pbB_succ (F := Ideal) 𝒱 c bd M0 h0 M1 h1 M2 h2 M3 h3 M4 h4 M5 h5 M6 h6 M7 h7 M8 h8 M9 h9 a10 X7 G ⟨n, Nat.lt_of_succ_le hn⟩
    dsimp only at e
    rw [e, tripB_piece, List.mem_append, ih (Nat.le_of_succ_le hn), List.mem_singleton]
    constructor
    · rintro (h | ⟨t, ht, h⟩)
      · exact ⟨⟨n, Nat.lt_of_succ_le hn⟩, Nat.lt_succ_self n, h⟩
      · exact ⟨t, Nat.lt_succ_of_lt ht, h⟩
    · rintro ⟨t, ht, h⟩
      rcases Nat.lt_succ_iff_lt_or_eq.mp ht with ht | ht
      · exact Or.inr ⟨t, ht, h⟩
      · obtain rfl : t = ⟨n, Nat.lt_of_succ_le hn⟩ := Fin.ext ht
        exact Or.inl h

/-- What the outer loop leaves, over whatever was there. -/
theorem read_slow (hx : Fin' (M7.view.read (Elt Ideal) X7)) (G f : BufTy.Contents (Elt Ideal) M6.view.ty) (y : S2x8192.Idx) :
    M6.view.read (Elt Ideal) (M6.view.writes (Elt Ideal) f
        (pbB (F := Ideal) 𝒱 c bd M0 h0 M1 h1 M2 h2 M3 h3 M4 h4 M5 h5 M6 h6 M7 h7 M8 h8 M9 h9 a10 X7 G k2_t1_loop.trips)) y
      = (lseR (M7.view.read (Elt Ideal) X7) (8192 * (y 0).val + (y 1).val) : EReal) := by
  have hy0 : (y 0).val < 2 := (y 0).isLt
  have hy1 : (y 1).val < 8192 := (y 1).isLt
  refine View.read_writes_apply_of_pieces M6.view f (fun y => (lseR (M7.view.read (Elt Ideal) X7) (8192 * (y 0).val + (y 1).val) : EReal)) _ ?_ y ?_
  · intro p hp z
    obtain ⟨t, -, rfl⟩ := (mem_pbB 𝒱 c bd M0 h0 M1 h1 M2 h2 M3 h3 M4 h4 M5 h5 M6 h6 M7 h7 M8 h8 M9 h9 a10 X7 G p _ (Nat.le_refl _)).mp hp
    have z0 : (z 0).val < 1 := (z 0).isLt
    have z1 : (z 1).val < 512 := (z 1).isLt
    have hz : z = ix2 (0 : Fin 1) (⟨(z 1).val, z1⟩ : Fin 512) := funext fun i => match i with
      | 0 => Fin.ext (by show (z 0).val = 0; omega)
      | 1 => rfl
    have o0 : k2_off3 t 0 = t.val / 16 := congrFun (off3_eq t) 0
    have o1 : k2_off3 t 1 = 512 * (t.val % 16) := congrFun (off3_eq t) 1
    refine (congrArg (slowPiece 𝒱 c bd M0 h0 M1 h1 M2 h2 M3 h3 M4 h4 M5 h5 M6 h6 M7 h7 M8 h8 M9 h9 a10 X7 t).2 hz).trans ((slowRow_eq 𝒱 c bd M0 h0 M1 h1 M2 h2 M3 h3 M4 h4 M5 h5 M6 h6 M7 h7 M8 h8 M9 h9 a10 X7 hx _ _).trans ?_)
    refine congrArg (fun i => ((lseR (M7.view.read (Elt Ideal) X7) i : ℝ) : EReal)) ?_
    show 512 * t.val + (z 1).val = 8192 * (k2_off3 t 0 + 1 * (z 0).val) + (k2_off3 t 1 + 1 * (z 1).val)
    rw [o0, o1]
    omega
  · have ht : k2_t1_loop.trips = 32 := by decide
    refine ⟨slowPiece 𝒱 c bd M0 h0 M1 h1 M2 h2 M3 h3 M4 h4 M5 h5 M6 h6 M7 h7 M8 h8 M9 h9 a10 X7 ⟨(y 0).val * 16 + (y 1).val / 512, by rw [ht]; omega⟩,
      (mem_pbB 𝒱 c bd M0 h0 M1 h1 M2 h2 M3 h3 M4 h4 M5 h5 M6 h6 M7 h7 M8 h8 M9 h9 a10 X7 G _ _ (Nat.le_refl _)).mpr ⟨_, Fin.isLt _, rfl⟩, ?_⟩
    refine (Rect.mem_set_unit (inb := k2_off3_inb _)).mpr fun i => ?_
    rw [off3_eq]
    match i with
    | 0 =>
      show ((y 0).val * 16 + (y 1).val / 512) / 16 ≤ (y 0).val ∧ (y 0).val < ((y 0).val * 16 + (y 1).val / 512) / 16 + 1
      omega
    | 1 =>
      show 512 * (((y 0).val * 16 + (y 1).val / 512) % 16) ≤ (y 1).val ∧ (y 1).val < 512 * (((y 0).val * 16 + (y 1).val / 512) % 16) + 512
      omega

variable (f0 : Bf (F := Ideal) c M0) (f1 : Bf (F := Ideal) c M1) (f2 : Bf (F := Ideal) c M2) (f3 : Bf (F := Ideal) c M3) (f4 : Bf (F := Ideal) c M4)

/-- The second branch's row results: each row's log-sum-exp. -/
theorem slowB (hv : chk (F := Ideal) c M1 f1 = 1#1) (hx : Fin' (M4.view.read (Elt Ideal) f4)) (y : S2x8192.Idx) :
    M6.view.read (Elt Ideal) (combineRunB (F := Ideal) c M0 h0 M1 h1 M2 h2 M3 h3 M4 h4 M5 h5 M6 h6 M7 h7 M8 h8 M9 h9 f0 f1 f2 f3 f4 hv).2.1 y
      = (lseR (M4.view.read (Elt Ideal) f4) (8192 * (y 0).val + (y 1).val) : EReal) := by
  have e7 : M7.view.read (Elt Ideal) (M7.view.writes (Elt Ideal) M7.view.junk [⟨Rect.whole S16384x128, combineRunB.sl.dma97 (F := Ideal) c M4 f4⟩])
      = M4.view.read (Elt Ideal) f4 := by
    sl_unfold_run_names
    funext y
    refine View.read_writes_apply_of_pieces M7.view _ (M4.view.read (Elt Ideal) f4) _ ?_ y ⟨_, List.mem_singleton_self _, ?_⟩
    · intro p hp z
      obtain rfl := List.mem_singleton.mp hp
      exact congrArg (M4.view.read (Elt Ideal) f4) (Rect.emb_whole_apply S16384x128 z).symm
    · exact (Rect.set_whole S16384x128).symm ▸ Finset.mem_univ _
  unfold combineRunB
  dsimp only
  rw [View.writes_append]
  refine (read_slow _ c _ M0 h0 M1 h1 M2 h2 M3 h3 M4 h4 M5 h5 M6 h6 M7 h7 M8 h8 M9 h9 _ _ (by rw [e7]; exact hx) _ _ y).trans ?_
  rw [e7]

end Cert.Proof.KernelIdeal
-- ==== Proof.KernelIdeal.CombineValue.lean ====
/-
  The combine kernel's two results over the extended reals, in both branches.
-/
module

public import proofs.«01_k».proof.Proof.KernelIdeal.CombineSlow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- A row's loss from its count of positives `n`, their summed logits `p` and its log-sum-exp `e`. -/
def lossVal (n : BitVec 32) (p e : EReal) : EReal :=
  Scalar.select (IntOp.cmpi .sgt n 0#32)
    (Ideal.ofBits FTy.f32 3216431982#32 * (Ideal.div p (FloatOps.sitofp (F := Ideal) FTy.f32 (IntOp.maxsi n 1#32)) - e)) 0

theorem pay1_apply (n : Vec Ideal S2x8192 .i32) (p e : Vec Ideal S2x8192 .f32) (y : S2x8192.Idx) :
    k2_pay1 (F := Ideal) (k2_pay125 n) (k2_pay126 n p e) k2_pay127 y = lossVal (n y) (p y) (e y) := by
  obtain ⟨s, q, rfl⟩ : ∃ (s : Fin 2) (q : Fin 8192), y = ix2 s q := ⟨y 0, y 1, funext fun i => match i with | 0 => rfl | 1 => rfl⟩
  unfold lossVal
  pointwise [k2_pay1, k2_pay124, k2_pay125, k2_pay126, k2_pay127]

variable (c : Dev nD)
  (M0 : Memref sig .tc .smem S1x1 .f32) (h0 : M0.IsWhole)
  (M1 : Memref sig .tc .vmem S32x8x512 .f32) (h1 : M1.IsWhole)
  (M2 : Memref sig .tc .vmem S2x8192 .f32) (h2 : M2.IsWhole)
  (M3 : Memref sig .tc .vmem S2x8192 .i32) (h3 : M3.IsWhole)
  (M4 : Memref sig .tc .hbm S16384x128 .bf16) (h4 : M4.IsWhole)
  (M5 : Memref sig .tc .vmem S2x8192 .f32) (h5 : M5.IsWhole)
  (M6 : Memref sig .tc .vmem S2x8192 .f32) (h6 : M6.IsWhole)
  (M7 : Memref sig .tc .vmem S16384x128 .bf16) (h7 : M7.IsWhole)
  (M8 : Memref sig .tc .vmem S1x512 .f32) (h8 : M8.IsWhole)
  (M9 : Memref sig .tc .vmem S1x512 .f32) (h9 : M9.IsWhole)
  (f0 : Bf (F := Ideal) c M0) (f1 : Bf (F := Ideal) c M1) (f2 : Bf (F := Ideal) c M2) (f3 : Bf (F := Ideal) c M3) (f4 : Bf (F := Ideal) c M4)

/-- The first branch's row results, from the rows' totals. -/
theorem rowsA (hv : ¬ chk (F := Ideal) c M1 f1 = 1#1) (y : S2x8192.Idx) :
    M6.view.read (Elt Ideal) (combineRunA (F := Ideal) c M0 h0 M1 h1 M2 h2 M3 h3 M4 h4 M5 h5 M6 h6 M7 h7 M8 h8 M9 h9 f0 f1 f2 f3 f4 hv).2.1 y
      = lseFast (k2_pay9 (F := Ideal) (M0.view.read (Elt Ideal) f0 (ix2 0 0))) (colT (M1.view.read (Elt Ideal) f1) (blk y) (col y)) := by
  rw [fastA]
  exact read_fast M6 _ _ _ y

/-- The first branch's losses, from its row results. -/
theorem lossA (hv : ¬ chk (F := Ideal) c M1 f1 = 1#1) (y : S2x8192.Idx) :
    M5.view.read (Elt Ideal) (combineRunA (F := Ideal) c M0 h0 M1 h1 M2 h2 M3 h3 M4 h4 M5 h5 M6 h6 M7 h7 M8 h8 M9 h9 f0 f1 f2 f3 f4 hv).1 y
      = lossVal (M3.view.read (Elt Ideal) f3 y) (M2.view.read (Elt Ideal) f2 y)
          (M6.view.read (Elt Ideal) (combineRunA (F := Ideal) c M0 h0 M1 h1 M2 h2 M3 h3 M4 h4 M5 h5 M6 h6 M7 h7 M8 h8 M9 h9 f0 f1 f2 f3 f4 hv).2.1 y) := by
  unfold combineRunA
  dsimp only
  rw [← View.readAt_full M3.view f3 inb_S2x8192_S2x8192_0_0, ← View.readAt_full M2.view f2 inb_S2x8192_S2x8192_0_0,
    ← View.readAt_full M6.view _ inb_S2x8192_S2x8192_0_0]
  refine (congrFun (View.read_writes_full M5.view M5.view.junk inb_S2x8192_S2x8192_0_0 _ []) y).trans ?_
  exact pay1_apply _ _ _ y

/-- The second branch's. -/
theorem lossB (hv : chk (F := Ideal) c M1 f1 = 1#1) (y : S2x8192.Idx) :
    M5.view.read (Elt Ideal) (combineRunB (F := Ideal) c M0 h0 M1 h1 M2 h2 M3 h3 M4 h4 M5 h5 M6 h6 M7 h7 M8 h8 M9 h9 f0 f1 f2 f3 f4 hv).1 y
      = lossVal (M3.view.read (Elt Ideal) f3 y) (M2.view.read (Elt Ideal) f2 y)
          (M6.view.read (Elt Ideal) (combineRunB (F := Ideal) c M0 h0 M1 h1 M2 h2 M3 h3 M4 h4 M5 h5 M6 h6 M7 h7 M8 h8 M9 h9 f0 f1 f2 f3 f4 hv).2.1 y) := by
  unfold combineRunB
  dsimp only
  rw [← View.readAt_full M3.view f3 inb_S2x8192_S2x8192_0_0, ← View.readAt_full M2.view f2 inb_S2x8192_S2x8192_0_0,
    ← View.readAt_full M6.view _ inb_S2x8192_S2x8192_0_0]
  refine (congrFun (View.read_writes_full M5.view M5.view.junk inb_S2x8192_S2x8192_0_0 _ []) y).trans ?_
  exact pay1_apply _ _ _ y

end Cert.Proof.KernelIdeal
-- ==== Proof.KernelIdeal.KernelValue.lean ====
/-
  The three results of the program over the extended reals, from its arguments.
-/
module

public import proofs.«01_k».proof.Proof.KernelIdeal.RegionValue
public import proofs.«01_k».proof.Proof.KernelIdeal.SumsValue
public import proofs.«01_k».proof.Proof.KernelIdeal.PosValue
public import proofs.«01_k».proof.Proof.KernelIdeal.CombineValue

@[expose] public section

set_option maxRecDepth 16384

noncomputable section

namespace Cert.Proof.KernelIdeal

open Cert.KernelIdeal Cert.KernelIdeal.Gen
open Idealize.ShloMosaic Idealize.ShloMosaic.TcCoe

/-- The shift of the sums, which the kernels derive from the largest squared norm, is a real number whatever that norm. -/
theorem shift_real (a : EReal) : ∃ v : ℝ, k0_pay1 (F := Ideal) a = (v : EReal) := by
  have h0 : Ideal.ofBits FTy.f32 0#32 = ((0 : ℝ) : EReal) := by simp [Ideal.ofBits, Ideal.ieee]
  have h88 : Ideal.ofBits FTy.f32 0x42B00000#32 = ((88 : ℝ) : EReal) := by
    simp [Ideal.ofBits, Ideal.ieee]
    rw [← EReal.coe_mul]
    norm_num
  obtain ⟨w, hw⟩ : ∃ w : EReal, k0_pay1 (F := Ideal) a = min (Ideal.ofBits FTy.f32 0x42B00000#32) (max (Ideal.ofBits FTy.f32 0#32) w) := ⟨_, rfl⟩
  rw [hw, h0, h88]
  refine ⟨_, (EReal.coe_toReal (ne_of_lt ?_) (ne_of_gt ?_)).symm⟩
  · exact lt_of_le_of_lt (min_le_left _ _) (EReal.coe_lt_top _)
  · exact lt_min (EReal.bot_lt_coe _) (lt_max_of_lt_left (EReal.bot_lt_coe _))

variable (m : (ℓ : Loc nD τ sig) → Buf (Elt Ideal) ℓ) (c : Dev nD)

/-- The embeddings. -/
abbrev embOf : Vec Ideal S16384x128 .bf16 := m ((c : Thread nD τ).loc main_arg0)
/-- The largest squared norm's argument. -/
abbrev nmaxOf : Vec Ideal S1x1 .f32 := m ((c : Thread nD τ).loc main_arg1)
/-- The labels. -/
abbrev labOf : Vec Ideal S8192 .i32 := m ((c : Thread nD τ).loc main_arg2)
/-- The labels as a row. -/
abbrev labRow : S1x8192.Idx → BitVec 32 := fun y => labOf m c (ix1 (y 1))

/-- The host's reshape makes the labels a row. -/
theorem U2_lab : U2 m c main_v1 = labRow m c := by
  unfold U2
  rw [hostOps1, StableHlo.after_cons, StableHlo.after_nil, StableHlo.reshape_result, U1_of m c main_arg2 (by decide)]
  funext y
  obtain ⟨s, q, rfl⟩ : ∃ (s : Fin 1) (q : Fin 8192), y = ix2 s q := ⟨y 0, y 1, funext fun i => match i with | 0 => rfl | 1 => rfl⟩
  show shapeCast S1x8192 (labOf m c) shapeCasts_S8192_S1x8192 (ix2 s q) = labOf m c (ix1 q)
  pointwise

/-- The accumulator that the combine call reads holds the rows' totals. -/
theorem acc_col (b : Fin 32) (q : Fin 512) :
    colT (accArr (E0 m) c) b q = rowSum (embOf m c) (k0_pay1 (F := Ideal) (nmaxOf m c (ix2 0 0))) (512 * b.val + q.val) := by
  have e : accArr (E0 m) c = sumsOut (E0 m) c := funext fun y => accArr_apply (E0 m) c y
  have h := sums_col c (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (stgS0 (E0 m) c) (stgS1 (E0 m) c) b q
  rw [e]
  refine h.trans ?_
  rw [stgS0_eq, stgS1_eq]
  rfl

/-- Row results: each row's log-sum-exp over the other rows. -/
theorem lse_value (hx : Fin' (embOf m c)) (y : S2x8192.Idx) :
    lseArr (E3 m) c y = (lseR (embOf m c) (8192 * (y 0).val + (y 1).val) : EReal) := by
  have ex : E3 m c main_arg0 = embOf m c := U3_arg m c main_arg0 (by decide) (by decide) (by decide) (by decide)
  have en : stgC0 (E3 m) c = nmaxOf m c := (stgC0_eq _ c).trans (U3_arg m c main_arg1 (by decide) (by decide) (by decide) (by decide))
  have ea : stgC1 (E3 m) c = accArr (E0 m) c := (stgC1_eq _ c).trans
    ((U3_eq m c main_v0 (by decide) (by decide)).trans ((U2_of m c main_v0 (by decide)).trans (U1_acc m c)))
  rw [lseArr_apply]
  unfold lseOut
  split
  · rename_i hv
    refine (slowB c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 (E3 m) c) (stgC1 (E3 m) c) (stgC2 (E3 m) c) (stgC3 (E3 m) c) (E3 m c main_arg0) hv ?_ y).trans ?_
    · exact (show (Memref.whole main_arg0).view.read (Elt Ideal) (E3 m c main_arg0) = embOf m c from ex).symm ▸ hx
    · exact congrArg (fun x : Vec Ideal S16384x128 .bf16 => ((lseR x (8192 * (y 0).val + (y 1).val) : ℝ) : EReal))
        (show (Memref.whole main_arg0).view.read (Elt Ideal) (E3 m c main_arg0) = embOf m c from ex)
  · rename_i hv
    refine (rowsA c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 (E3 m) c) (stgC1 (E3 m) c) (stgC2 (E3 m) c) (stgC3 (E3 m) c) (E3 m c main_arg0) hv y).trans ?_
    have ha : colT ((Memref.whole cc2_stg1_0).view.read (Elt Ideal) (stgC1 (E3 m) c)) (blk y) (col y)
        = rowSum (embOf m c) (k0_pay1 (F := Ideal) (nmaxOf m c (ix2 0 0))) (8192 * (y 0).val + (y 1).val) := by
      rw [← blk_col, ← acc_col, ea]
      rfl
    rw [ha, en]
    obtain ⟨v, hv⟩ := shift_real (nmaxOf m c (ix2 0 0))
    have hv' : k2_pay9 (F := Ideal) ((Memref.whole cc2_stg0_0).view.read (Elt Ideal) (nmaxOf m c) (ix2 0 0)) = (v : EReal) := hv
    rw [hv, hv']
    exact lse_first hx v _

/-- The labels are below the table's size. -/
abbrev LabOk (L : S1x8192.Idx → BitVec 32) : Prop := ∀ n, (labAt L n).toInt < 1024

/-- Counts: each row's number of positives. -/
theorem cnt_value (hL : LabOk (labRow m c)) (y : S2x8192.Idx) :
    cntArr (E2 m) c y = BitVec.ofNat 32 (cntR (labRow m c) (8192 * (y 0).val + (y 1).val)) := by
  have el : stgP0 (E2 m) c = labRow m c := (stgP0_eq _ c).trans (U2_lab m c)
  rw [cntArr_apply]
  unfold cntOut
  refine (cnt_left c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)
    (stgP0 (E2 m) c) (stgP1 (E2 m) c) ?_ _ _ y).trans ?_
  · exact (congrArg LabOk (show labV c (Memref.whole cc1_stg0_0) (stgP0 (E2 m) c) = labRow m c from el)).mpr hL
  · exact congrArg (fun L : S1x8192.Idx → BitVec 32 => BitVec.ofNat 32 (cntR L (8192 * (y 0).val + (y 1).val)))
      (show (Memref.whole cc1_stg0_0).view.read (Elt Ideal) (stgP0 (E2 m) c) = labRow m c from el)

/-- The positives' sums: each row's logits at its positives. -/
theorem pos_value (hx : Fin' (embOf m c)) (hL : LabOk (labRow m c)) (y : S2x8192.Idx) :
    posArr (E2 m) c y = (posR (embOf m c) (labRow m c) (8192 * (y 0).val + (y 1).val) : EReal) := by
  have el : stgP0 (E2 m) c = labRow m c := (stgP0_eq _ c).trans (U2_lab m c)
  have ex : stgP1 (E2 m) c = embOf m c := (stgP1_eq _ c).trans (U2_arg m c main_arg0 (by decide) (by decide))
  rw [posArr_apply]
  unfold posOut
  refine (pos_left c (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _)
    (stgP0 (E2 m) c) (stgP1 (E2 m) c) ?_ ?_ _ _ y).trans ?_
  · exact (congrArg Fin' (show embV c (Memref.whole cc1_stg1_0) (stgP1 (E2 m) c) = embOf m c from ex)).mpr hx
  · exact (congrArg LabOk (show labV c (Memref.whole cc1_stg0_0) (stgP0 (E2 m) c) = labRow m c from el)).mpr hL
  · exact congrArg₂ (fun (x : Vec Ideal S16384x128 .bf16) (L : S1x8192.Idx → BitVec 32) => ((posR x L (8192 * (y 0).val + (y 1).val) : ℝ) : EReal))
      (show (Memref.whole cc1_stg1_0).view.read (Elt Ideal) (stgP1 (E2 m) c) = embOf m c from ex)
      (show (Memref.whole cc1_stg0_0).view.read (Elt Ideal) (stgP0 (E2 m) c) = labRow m c from el)

/-- Losses: from the positives' sums and counts and the row results. -/
theorem loss_value (hx : Fin' (embOf m c)) (hL : LabOk (labRow m c)) (y : S2x8192.Idx) :
    lossArr (E3 m) c y = lossVal (BitVec.ofNat 32 (cntR (labRow m c) (8192 * (y 0).val + (y 1).val)))
      (posR (embOf m c) (labRow m c) (8192 * (y 0).val + (y 1).val) : EReal) (lseR (embOf m c) (8192 * (y 0).val + (y 1).val) : EReal) := by
  have ep : stgC2 (E3 m) c y = _ := (congrFun ((stgC2_eq _ c).trans (U3_pos m c)) y).trans (pos_value m c hx hL y)
  have ec : stgC3 (E3 m) c y = _ := (congrFun ((stgC3_eq _ c).trans (U3_cnt m c)) y).trans (cnt_value m c hL y)
  have hl := lse_value m c hx y
  rw [lseArr_apply] at hl
  rw [lossArr_apply, ← hl]
  unfold lossOut lseOut
  split
  · rename_i hv
    refine (lossB c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 (E3 m) c) (stgC1 (E3 m) c) (stgC2 (E3 m) c) (stgC3 (E3 m) c) (E3 m c main_arg0) hv y).trans ?_
    exact congrArg₂ (fun n p => lossVal n p _) ec ep
  · rename_i hv
    refine (lossA c (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole main_arg0) (Memref.isWhole_whole _) (Memref.whole cc2_stg4_0) (Memref.isWhole_whole _) (Memref.whole cc2_stg5_0) (Memref.isWhole_whole _) (Memref.whole cc2_scratch0) (Memref.isWhole_whole _) (Memref.whole cc2_scratch1) (Memref.isWhole_whole _) (Memref.whole cc2_scratch2) (Memref.isWhole_whole _)
      (stgC0 (E3 m) c) (stgC1 (E3 m) c) (stgC2 (E3 m) c) (stgC3 (E3 m) c) (E3 m c main_arg0) hv y).trans ?_
    exact congrArg₂ (fun n p => lossVal n p _) ec ep

end Cert.Proof.KernelIdeal
-- ==== Proof.KernelIdeal.Finite.lean ====
/- The precondition: where `finite` of the arguments is all ones, no embedding is infinite and no label reaches 1024. -/
module

public import proofs.«01_k».proof.Defs
public import proofs.«01_k».proof.Proof.Gen.Pre_finite
public import proofs.«01_k».proof.Proof.KernelIdeal.KernelValue
public import Idealize.ShloMosaic.Lib.ReduceAll
public import Idealize.ShloMosaic.Lib.Pointwise

@[expose] public section

noncomputable section

namespace Cert.Proof.KernelIdeal

open Idealize.ShloMosaic Idealize.SL.Sem

/-- An extended real whose magnitude is below infinity is a real. -/
theorem real_of_abs_lt (a : EReal) (h : FloatOps.cmpf (F := Ideal) (φ := .f32) .olt (FloatOps.absf (F := Ideal) (φ := .f32) a) (Ideal.ofBits .f32 0x7F800000#32) = 1#1) :
    a ≠ ⊤ ∧ a ≠ ⊥ := by
  rw [inf_bits] at h
  replace h : Ideal.cmp .olt (max a (-a)) (⊤ : EReal) = 1#1 := h
  constructor
  · rintro rfl
    simp [Ideal.cmp] at h
  · rintro rfl
    simp [Ideal.cmp] at h

/-- Two bits whose conjunction is one. -/
theorem both_of_and (a b : BitVec 1) (h : IntOp.andi a b = 1#1) : a = 1#1 ∧ b = 1#1 := by
  revert a b; decide

/-- A word below 1024 as a signed number. -/
theorem lt_of_slt (a : BitVec 32) (h : IntOp.cmpi .slt a 1024#32 = 1#1) : a.toInt < 1024 := by
  replace h : BitVec.ofBool (decide (a.toInt < 1024)) = 1#1 := h
  by_contra hn
  rw [decide_eq_false hn] at h
  exact absurd h (by decide)

variable (m : (ℓ : Loc Cert.KernelIdeal.nD Cert.KernelIdeal.τ Cert.KernelIdeal.sig) → Buf (Elt Ideal) ℓ)
  (h : @Pre_KernelIdeal_finite Cert.Pre_finite.Gen.facts m) (c : Dev Cert.KernelIdeal.nD)
include h

/-- The precondition says that every embedding is a real. -/
theorem finite_pre : Fin' (embOf m c) := fun y =>
  haveI : Subsingleton Cert.Pre_finite.S_.Idx := ⟨fun a b => funext fun d => d.elim0⟩
  real_of_abs_lt _ (Host.reduce_andi_all _ _ _ _ (fun d => d.elim0) (both_of_and _ _ (congrFun (h c) (fun d => d.elim0))).1 y)

/-- And that every label lies below 1024. -/
theorem labels_pre : LabOk (labRow m c) := fun n =>
  haveI : Subsingleton Cert.Pre_finite.S_.Idx := ⟨fun a b => funext fun d => d.elim0⟩
  lt_of_slt _ (Host.reduce_andi_all _ _ _ _ (fun d => d.elim0) (both_of_and _ _ (congrFun (h c) (fun d => d.elim0))).2 (ix1 (Fin.ofNat 8192 n)))

end Cert.Proof.KernelIdeal

end
-- ==== Proof.ReferenceIdeal.RefValue.lean ====
/-
  The reference's body over the extended reals: each row's log-sum-exp over the other rows, its positives' number and
  summed logits, and the loss from them.
-/
module

public import proofs.«01_k».proof.Proof.Gen.ReferenceIdeal.Frame
public import proofs.«01_k».proof.Proof.KernelIdeal.CombineValue
public import proofs.«01_k».proof.Proof.KernelIdeal.PosMath
public import Idealize.ShloMosaic.Lib.Pointwise

@[expose] public section

set_option maxRecDepth 16384

noncomputable section

namespace Cert.Proof.ReferenceIdeal

open Cert.ReferenceIdeal Cert.ReferenceIdeal.Gen Facts
open Idealize.ShloMosaic Idealize.ShloMosaic.TcCoe
open Cert.Proof.KernelIdeal (Fin' gramR gram_coe lseR logitE logitE_lt_top exp_logitE ninf_bits ten_bits log_expSum expSum lossVal rowOf coe_sum select_eq
  add_word labAt isPos cntR posR)

/-- A row's maximum. -/
theorem rowMax_apply {n0 n1 : ℕ} (L : FVec Ideal (⟨2, ![n0, n1]⟩ : Shape) .f32) (h : (⟨2, ![n0, n1]⟩ : Shape).Reduces [1] ⟨1, ![n0]⟩) (hφ hacc) (i : Fin n0) :
    maximumf (broadcast (⟨1, ![n0]⟩ : Shape) (Scalar.ofBits .f32 0xFF800000#32)) (multiReduction .maximumf [1] (⟨1, ![n0]⟩ : Shape) L 0xFF800000#32 h hφ hacc) (ix1 i)
      = max (Ideal.ofBits FTy.f32 4286578688#32) (Finset.fold max (Ideal.ofBits FTy.f32 4286578688#32) (fun j : Fin n1 => L (ix2 i j)) Finset.univ) := by
  pointwise

/-- The scaled inner products, minus infinity on the diagonal. -/
def logitV (a : FVec Ideal S16384x128 .bf16) : FVec Ideal S16384x16384 .f32 :=
  select (cmpi .eq (iota .tc S16384x16384 32 [0] iota_S16384x16384_d0_w32) (iota .tc S16384x16384 32 [1] iota_S16384x16384_d1_w32))
    (broadcast S16384x16384 (Scalar.ofBits .f32 0xFF800000#32))
    (mulf (matmul dot_S16384x128_S16384x128_S16384x16384_1_1_0_0_n_n none (a : FVec Ideal S16384x128 .bf16) (a : FVec Ideal S16384x128 .bf16)
        (constant S16384x16384 .f32 0x00000000#32))
      (broadcast S16384x16384 (Scalar.ofBits .f32 0x41200000#32)))

/-- The rows' maxima. -/
def topV (L : FVec Ideal S16384x16384 .f32) : FVec Ideal S16384 .f32 :=
  maximumf (broadcast S16384 (Scalar.ofBits .f32 0xFF800000#32))
    (multiReduction .maximumf [1] S16384 L 0xFF800000#32 reduces_S16384x16384_S16384 (.inl rfl) rfl)

/-- The maxima, zero where one is infinite. -/
def safeV (T : FVec Ideal S16384 .f32) : FVec Ideal S16384 .f32 :=
  select (xori (weird T) (constantI S16384 1 1#1)) T (broadcast S16384 (Scalar.ofBits .f32 0x00000000#32))

/-- The logarithms of the rows' sums of shifted exponentials, the shift put back. -/
def sumV (L : FVec Ideal S16384x16384 .f32) (S : FVec Ideal S16384 .f32) : FVec Ideal S16384 .f32 :=
  addf (log (absf (multiReduction .add [1] S16384 (exp (subf L (broadcastTo S16384x16384 (shapeCast S16384x1 S shapeCasts_S16384_S16384x1)
    broadcasts_S16384x1_S16384x16384))) 0x00000000#32 reduces_S16384x16384_S16384 (.inl rfl) rfl))) S

theorem pay7_eq (a : Vec Ideal S16384x128 .bf16) : k0_pay7 (F := Ideal) a = sumV (logitV a) (safeV (topV (logitV a))) := rfl

theorem logitV_apply {a : Vec Ideal S16384x128 .bf16} (hx : Fin' a) (i j : Fin 16384) : logitV a (ix2 i j) = logitE a i.val j.val := by
  have e : logitV a (ix2 i j) = Scalar.select (IntOp.cmpi .eq (BitVec.ofNat 32 i.val) (BitVec.ofNat 32 j.val)) (Ideal.ofBits FTy.f32 4286578688#32)
      ((∑ l : Fin 128, a (ix2 i l) * a (ix2 j l)) * Ideal.ofBits FTy.f32 1092616192#32) := by
    pointwise [logitV]
  have r : ∀ (i : Fin 16384) (l : Fin 128), a (ix2 i l) = rowOf a i.val l := fun i l => by
    show a (ix2 i l) = a (ix2 (Fin.ofNat 16384 i.val) l)
    rw [show Fin.ofNat 16384 i.val = i from Fin.ext (Nat.mod_eq_of_lt i.isLt)]
  have g : (∑ l : Fin 128, a (ix2 i l) * a (ix2 j l)) = (gramR a i.val j.val : EReal) := by
    rw [← gram_coe hx]
    exact Finset.sum_congr rfl fun l _ => by rw [r, r]
  rw [e, g, ninf_bits, ten_bits, ← EReal.coe_mul,
    show BitVec.ofNat 32 i.val = IntOp.addi (BitVec.ofNat 32 i.val) (BitVec.ofNat 32 0) from (add_word i.val 0).symm, select_eq i.val j.val 0 (by omega) (by omega)]
  unfold logitE
  by_cases h : j.val = i.val
  · rw [if_pos h, if_pos (by omega)]
  · rw [if_neg h, if_neg (by omega), mul_comm]

theorem topV_apply (L : FVec Ideal S16384x16384 .f32) (i : Fin 16384) :
    topV L (ix1 i) = max (Ideal.ofBits FTy.f32 4286578688#32)
      (Finset.fold max (Ideal.ofBits FTy.f32 4286578688#32) (fun j : Fin 16384 => L (ix2 i j)) Finset.univ) :=
  rowMax_apply L reduces_S16384x16384_S16384 (.inl rfl) rfl i

theorem safeV_apply (T : FVec Ideal S16384 .f32) (i : Fin 16384) (M : ℝ) (h : T (ix1 i) = (M : EReal)) : safeV T (ix1 i) = (M : EReal) := by
  have e : safeV T (ix1 i) = Scalar.select (IntOp.xori (FloatOps.weird (F := Ideal) (T (ix1 i))) 1#1) (T (ix1 i)) (0 : EReal) := by
    pointwise [safeV]
  have w : FloatOps.weird (F := Ideal) ((M : EReal) : Ideal .f32) = 0#1 := by
    show BitVec.ofBool (decide ((M : EReal) = ⊤ ∨ (M : EReal) = ⊥)) = 0#1
    simp
  rw [e, h, w]
  rfl

theorem sumV_apply (L : FVec Ideal S16384x16384 .f32) (S : FVec Ideal S16384 .f32) (i : Fin 16384) :
    sumV L S (ix1 i) = Ideal.log (FloatOps.absf (F := Ideal) (φ := .f32) (∑ j : Fin 16384, Ideal.exp (L (ix2 i j) - S (ix1 i)))) + S (ix1 i) := by
  pointwise [sumV]

theorem cast_apply (T : FVec Ideal S16384 .f32) (s : Fin 2) (q : Fin 8192) :
    shapeCast S2x8192 T shapeCasts_S16384_S2x8192 (ix2 s q) = T (ix1 ⟨s.val * 8192 + q.val, by omega⟩) := by
  pointwise

/-- The maximum of a row is a real number. -/
theorem topV_real {a : Vec Ideal S16384x128 .bf16} (hx : Fin' a) (i : Fin 16384) : ∃ M : ℝ, topV (logitV a) (ix1 i) = (M : EReal) := by
  rw [topV_apply, ninf_bits]
  refine ⟨_, (EReal.coe_toReal (ne_of_lt ?_) (ne_of_gt ?_)).symm⟩
  · refine max_lt bot_lt_top ((Finset.fold_max_lt _).mpr ⟨bot_lt_top, fun j _ => ?_⟩)
    rw [logitV_apply hx]
    exact logitE_lt_top a _ _
  · refine lt_max_of_lt_right ((Finset.lt_fold_max _).mpr (Or.inr ?_))
    have key : ∀ j : Fin 16384, j.val ≠ i.val → ∃ x ∈ (Finset.univ : Finset (Fin 16384)), ⊥ < logitV a (ix2 i x) := fun j hj =>
      ⟨j, Finset.mem_univ _, by rw [logitV_apply hx]; unfold logitE; rw [if_neg hj]; exact EReal.bot_lt_coe _⟩
    by_cases h : i.val = 0
    · exact key ⟨1, by decide⟩ (by show 1 ≠ i.val; omega)
    · exact key ⟨0, by decide⟩ (by show 0 ≠ i.val; omega)

/-- Each row's log-sum-exp. -/
theorem pay7_apply {a : Vec Ideal S16384x128 .bf16} (hx : Fin' a) (i : Fin 16384) : k0_pay7 (F := Ideal) a (ix1 i) = (lseR a i.val : EReal) := by
  rw [pay7_eq]
  obtain ⟨M, hM⟩ := topV_real hx i
  rw [sumV_apply, safeV_apply _ _ M hM, Finset.sum_congr rfl (fun j _ => by rw [logitV_apply hx, exp_logitE]), ← coe_sum]
  have hp := KernelIdeal.expSum_pos a M i.val
  have e : FloatOps.absf (F := Ideal) (φ := .f32) ((expSum a M i.val : ℝ) : EReal) = ((expSum a M i.val : ℝ) : EReal) := by
    show max ((expSum a M i.val : ℝ) : EReal) (-((expSum a M i.val : ℝ) : EReal)) = _
    rw [← EReal.coe_neg]
    exact max_eq_left (EReal.coe_le_coe_iff.mpr (by linarith))
  have l := log_expSum a M i.val
  rw [← e] at l
  exact l

/-- The scaled inner products. -/
theorem pay4_apply {a : Vec Ideal S16384x128 .bf16} (hx : Fin' a) (i j : Fin 16384) :
    k0_pay4 (F := Ideal) a (ix2 i j) = ((10 * gramR a i.val j.val : ℝ) : EReal) := by
  have e : k0_pay4 (F := Ideal) a (ix2 i j) = (∑ l : Fin 128, a (ix2 i l) * a (ix2 j l)) * Ideal.ofBits FTy.f32 1092616192#32 := by
    pointwise [k0_pay4]
  have r : ∀ (i : Fin 16384) (l : Fin 128), a (ix2 i l) = rowOf a i.val l := fun i l => by
    show a (ix2 i l) = a (ix2 (Fin.ofNat 16384 i.val) l)
    rw [show Fin.ofNat 16384 i.val = i from Fin.ext (Nat.mod_eq_of_lt i.isLt)]
  have g : (∑ l : Fin 128, a (ix2 i l) * a (ix2 j l)) = (gramR a i.val j.val : EReal) := by
    rw [← gram_coe hx]
    exact Finset.sum_congr rfl fun l _ => by rw [r, r]
  rw [e, g, ten_bits, ← EReal.coe_mul, mul_comm]

/-! ## The positives -/

/-- The words' sum of naturals is the word of their sum. -/
theorem fold_words {ι : Type} (s : Finset ι) (f : ι → ℕ) : Finset.fold IntOp.addi 0#32 (fun j => BitVec.ofNat 32 (f j)) s = BitVec.ofNat 32 (∑ j ∈ s, f j) := by
  classical
  induction s using Finset.induction_on with
  | empty => rfl
  | insert a s h ih => rw [Finset.fold_insert h, Finset.sum_insert h, ih, BitVec.ofNat_add]; rfl

section Positives

variable (A : Vec Ideal S16384x1 .i32) (B : Vec Ideal S1x16384 .i32) (L : S1x8192.Idx → BitVec 32)
  (hA : ∀ i : Fin 16384, A (ix2 i 0) = labAt L i.val) (hB : ∀ j : Fin 16384, B (ix2 0 j) = labAt L j.val)
include hA hB

/-- Whether row `j` is a positive of row `i`: the same label, which is no negative number, and not the row itself. -/
theorem pay6_apply (i j : Fin 16384) : k0_pay6 (F := Ideal) A B A (ix2 i j) = BitVec.ofBool (decide (isPos L i.val j.val)) := by
  have e : k0_pay6 (F := Ideal) A B A (ix2 i j) = IntOp.andi (IntOp.andi (IntOp.cmpi .eq (A (ix2 i 0)) (B (ix2 0 j))) (IntOp.cmpi .sge (A (ix2 i 0)) 0#32))
      (IntOp.xori (IntOp.cmpi .eq (BitVec.ofNat 32 i.val) (BitVec.ofNat 32 j.val)) 1#1) := by
    pointwise [k0_pay6, k0_pay5]
  have c1 : IntOp.cmpi .eq (labAt L i.val) (labAt L j.val) = BitVec.ofBool (decide (labAt L j.val = labAt L i.val)) :=
    congrArg BitVec.ofBool (show decide (labAt L i.val = labAt L j.val) = _ from decide_eq_decide.mpr eq_comm)
  have c2 : IntOp.cmpi .sge (labAt L i.val) 0#32 = BitVec.ofBool (decide (0 ≤ (labAt L i.val).toInt)) := rfl
  have c3 : IntOp.cmpi .eq (BitVec.ofNat 32 i.val) (BitVec.ofNat 32 j.val) = BitVec.ofBool (decide (j.val = i.val)) := by
    refine congrArg BitVec.ofBool (show decide (BitVec.ofNat 32 i.val = BitVec.ofNat 32 j.val) = _ from decide_eq_decide.mpr ⟨fun h => ?_, fun h => by rw [h]⟩)
    have := congrArg BitVec.toNat h
    simp only [BitVec.toNat_ofNat] at this
    omega
  rw [e, hA, hB, c1, c2, c3]
  by_cases h1 : labAt L j.val = labAt L i.val <;> by_cases h2 : 0 ≤ (labAt L i.val).toInt <;> by_cases h3 : j.val = i.val <;>
    simp only [isPos, h1, h2, h3, decide_true, decide_false, ne_eq, not_true_eq_false, not_false_eq_true, and_true, and_false, true_and, false_and] <;> rfl

/-- Each row's number of positives. -/
theorem pay8_apply (i : Fin 16384) : k0_pay8 (F := Ideal) A B A (ix1 i) = BitVec.ofNat 32 (cntR L i.val) := by
  have e : k0_pay8 (F := Ideal) A B A (ix1 i)
      = Finset.fold IntOp.addi 0#32 (fun j : Fin 16384 => BitVec.setWidth 32 (k0_pay6 (F := Ideal) A B A (ix2 i j))) Finset.univ := by
    pointwise [k0_pay8]
  rw [e, Finset.fold_congr (g := fun j : Fin 16384 => BitVec.ofNat 32 (if isPos L i.val j.val then 1 else 0)) fun j _ => ?_, fold_words]
  · rfl
  · rw [pay6_apply A B L hA hB]
    by_cases h : isPos L i.val j.val
    · rw [if_pos h, decide_eq_true h]; rfl
    · rw [if_neg h, decide_eq_false h]; rfl

/-- Each row's positives' summed logits. -/
theorem posV_apply {a : Vec Ideal S16384x128 .bf16} (hx : Fin' a) (i : Fin 16384) :
    multiReduction .add [1] S16384 (select (k0_pay6 (F := Ideal) A B A) (k0_pay4 a) (broadcast S16384x16384 (Scalar.ofBits .f32 0x00000000#32))) 0x00000000#32
      reduces_S16384x16384_S16384 (.inl rfl) rfl (ix1 i) = (posR a L i.val : EReal) := by
  have e : multiReduction .add [1] S16384 (select (k0_pay6 (F := Ideal) A B A) (k0_pay4 a) (broadcast S16384x16384 (Scalar.ofBits .f32 0x00000000#32))) 0x00000000#32
      reduces_S16384x16384_S16384 (.inl rfl) rfl (ix1 i)
      = ∑ j : Fin 16384, Scalar.select (k0_pay6 (F := Ideal) A B A (ix2 i j)) (k0_pay4 (F := Ideal) a (ix2 i j)) (0 : EReal) := by
    pointwise
  rw [e]
  unfold posR
  rw [coe_sum]
  refine Finset.sum_congr rfl fun j _ => ?_
  rw [pay6_apply A B L hA hB, pay4_apply hx]
  by_cases h : isPos L i.val j.val
  · rw [if_pos h, decide_eq_true h]; rfl
  · rw [if_neg h, decide_eq_false h]; rfl

end Positives

end Cert.Proof.ReferenceIdeal
-- ==== Proof.ReferenceIdeal.RefRun.lean ====
/-
  The reference's run over the extended reals: each result array, from the argument arrays. The host repeats the labels
  for the second view and hands them to the body as a column and as a row; the body's one grid point takes every array
  whole.
-/
module

public import proofs.«01_k».proof.Proof.Gen.ReferenceIdeal.Frame
public import proofs.«01_k».proof.Proof.ReferenceIdeal.RefValue
public import Idealize.ShloMosaic.Lib.Pipeline.Value
public import Idealize.ShloMosaic.Lib.Pointwise

@[expose] public section

set_option maxRecDepth 16384

noncomputable section

namespace Cert.Proof.ReferenceIdeal

open Cert.ReferenceIdeal Cert.ReferenceIdeal.Gen Facts
open Idealize.ShloMosaic Idealize.ShloMosaic.TcCoe Idealize.SL.Sem
open Cert.Proof.KernelIdeal (Fin' lseR lossVal labAt cntR posR)

variable (m : (ℓ : Loc nD τ sig) → Buf (Elt Ideal) ℓ) (ρ : Dev nD → PrngReg)

theorem origin_eq : (![0, 0] : Fin 2 → Nat) = fun _ => 0 := funext fun a => by fin_cases a <;> rfl

/-! ## Every window's block is its array -/

theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x128.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 128 + 1 * (j 1).val = (j 1).val; omega

/-- Input window 0's block is its array. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x1.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 1 + 1 * (j 1).val = (j 1).val; omega

/-- Input window 1's block is its array. -/
theorem iblk1_eq (c : Dev nD) (t : Fin cfg0.N) : iblk m c 1 t = V m c main_v3 := by
  funext j; show V m c main_v3 (((cfg0.win 1).blk t).view.emb j) = V m c main_v3 j; rw [emb1]

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x16384.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 16384 + 1 * (j 1).val = (j 1).val; omega

/-- Input window 2's block is its array. -/
theorem iblk2_eq (c : Dev nD) (t : Fin cfg0.N) : iblk m c 2 t = V m c main_v4 := by
  funext j; show V m c main_v4 (((cfg0.win 2).blk t).view.emb j) = V m c main_v4 j; rw [emb2]

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2x8192.Idx) : ((cfg0.win 3).blk t).view.emb j = j := by
  obtain ⟨e0, e1⟩ := idx_zero3 t
  funext a; apply Fin.ext
  match a with
  | ⟨0, _⟩ => show win0_3.index t (0 : Fin 2) * 2 + 1 * (j 0).val = (j 0).val; omega
  | ⟨1, _⟩ => show win0_3.index t (1 : Fin 2) * 8192 + 1 * (j 1).val = (j 1).val; omega

theorem cut3_eq (t : Fin cfg0.N) (X : Vec Ideal S2x8192 .f32) :
    (cfg0.win 3).cut (grid0.coords t) X = ((cfg0.win 3).blk t).view.read (Elt Ideal) X := by
  funext j
  show X j = X (((cfg0.win 3).blk t).view.emb j)
  rw [emb3]

theorem covered3 (i : S2x8192.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2x8192.Idx) : ((cfg0.win 4).blk t).view.emb j = j := by
  obtain ⟨e0, e1⟩ := idx_zero4 t
  funext a; apply Fin.ext
  match a with
  | ⟨0, _⟩ => show win0_4.index t (0 : Fin 2) * 2 + 1 * (j 0).val = (j 0).val; omega
  | ⟨1, _⟩ => show win0_4.index t (1 : Fin 2) * 8192 + 1 * (j 1).val = (j 1).val; omega

theorem cut4_eq (t : Fin cfg0.N) (X : Vec Ideal S2x8192 .f32) :
    (cfg0.win 4).cut (grid0.coords t) X = ((cfg0.win 4).blk t).view.read (Elt Ideal) X := by
  funext j
  show X j = X (((cfg0.win 4).blk t).view.emb j)
  rw [emb4]

theorem covered4 (i : S2x8192.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2x8192.Idx) : ((cfg0.win 5).blk t).view.emb j = j := by
  obtain ⟨e0, e1⟩ := idx_zero5 t
  funext a; apply Fin.ext
  match a with
  | ⟨0, _⟩ => show win0_5.index t (0 : Fin 2) * 2 + 1 * (j 0).val = (j 0).val; omega
  | ⟨1, _⟩ => show win0_5.index t (1 : Fin 2) * 8192 + 1 * (j 1).val = (j 1).val; omega

theorem cut5_eq (t : Fin cfg0.N) (X : Vec Ideal S2x8192 .i32) :
    (cfg0.win 5).cut (grid0.coords t) X = ((cfg0.win 5).blk t).view.read (Elt Ideal) X := by
  funext j
  show X j = X (((cfg0.win 5).blk t).view.emb j)
  rw [emb5]

theorem covered5 (i : S2x8192.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-! ## The body's results, of whole arrays -/

abbrev lossOf (x : Vec Ideal S16384x128 .bf16) (A : Vec Ideal S16384x1 .i32) (B : Vec Ideal S1x16384 .i32) : Vec Ideal S2x8192 .f32 :=
  k0_pay1 (k0_pay4 x) (k0_pay6 A B A) (k0_pay7 x) (k0_pay8 A B A)
abbrev lseOf (x : Vec Ideal S16384x128 .bf16) : Vec Ideal S2x8192 .f32 := k0_pay2 (k0_pay7 x)
abbrev cntOf (A : Vec Ideal S16384x1 .i32) (B : Vec Ideal S1x16384 .i32) : Vec Ideal S2x8192 .i32 := k0_pay3 (k0_pay8 A B A)

variable (x : Vec Ideal S16384x128 .bf16) (A : Vec Ideal S16384x1 .i32) (B : Vec Ideal S1x16384 .i32)

theorem pay9_eq : k0_pay9 x A B = k0_pay7 x := by
  unfold k0_pay9; rw [View.ld_unit_zero (S := S16384x128) origin_eq _ x]
theorem pay10_eq : k0_pay10 x A B = k0_pay8 A B A := by
  unfold k0_pay10; rw [View.ld_unit_zero (S := S16384x1) origin_eq _ A, View.ld_unit_zero (S := S1x16384) origin_eq _ B]

theorem out3_eq : out0_3 x A B = lossOf x A B := by
  unfold out0_3
  rw [View.canon_unit_zero origin_eq, pay9_eq, pay10_eq, View.ld_unit_zero (S := S16384x128) origin_eq _ x, View.ld_unit_zero (S := S16384x1) origin_eq _ A,
    View.ld_unit_zero (S := S1x16384) origin_eq _ B]
theorem out4_eq : out0_4 x A B = lseOf x := by
  unfold out0_4
  rw [View.canon_unit_zero origin_eq, pay9_eq]
theorem out5_eq : out0_5 x A B = cntOf A B := by
  unfold out0_5
  rw [View.canon_unit_zero origin_eq, pay10_eq]

/-! ## The result arrays -/

theorem final3 (c : Dev nD) : (dats m 0 c).arrAt 3 cfg0.N = lossOf (V m c main_arg0) (V m c main_v3) (V m c main_v4) :=
  (dats m 0 c).arrAt_eq_of_cover 3 (lossOf (V m c main_arg0) (V m c main_v3) (V m c main_v4)) (fun t _ => by
    show (cfg0.win 3).cut (grid0.coords t) ((dats m 0 c).after 3 t) = _
    rw [after0_3, out3_eq, iblk0_eq, iblk1_eq, iblk2_eq]
    exact cut3_eq t _) covered3

theorem final4 (c : Dev nD) : (dats m 0 c).arrAt 4 cfg0.N = lseOf (V m c main_arg0) :=
  (dats m 0 c).arrAt_eq_of_cover 4 (lseOf (V m c main_arg0)) (fun t _ => by
    show (cfg0.win 4).cut (grid0.coords t) ((dats m 0 c).after 4 t) = _
    rw [after0_4, out4_eq, iblk0_eq]
    exact cut4_eq t _) covered4

theorem final5 (c : Dev nD) : (dats m 0 c).arrAt 5 cfg0.N = cntOf (V m c main_v3) (V m c main_v4) :=
  (dats m 0 c).arrAt_eq_of_cover 5 (cntOf (V m c main_v3) (V m c main_v4)) (fun t _ => by
    show (cfg0.win 5).cut (grid0.coords t) ((dats m 0 c).after 5 t) = _
    rw [after0_5, out5_eq, iblk1_eq, iblk2_eq]
    exact cut5_eq t _) covered5

/-! ## The labels that the host hands over -/

variable (c : Dev nD)

/-- The labels, as an array and as a row. -/
abbrev labOf : Vec Ideal S8192 .i32 := m ((c : Thread nD τ).loc main_arg2)
abbrev labRow : S1x8192.Idx → BitVec 32 := fun y => labOf m c (ix1 (y 1))

/-- The labels, once for each view. -/
abbrev lab2 : Vec Ideal S16384 .i32 :=
  shapeCast S16384 (broadcastInDim S2x8192 ![0, 1] bcast_S1x8192_S2x8192_0_1 (shapeCast S1x8192 (labOf m c) shapeCasts_S8192_S1x8192)) shapeCasts_S2x8192_S16384

theorem V_col : (V m c main_v3 : Vec Ideal S16384x1 .i32) = shapeCast S16384x1 (lab2 m c) shapeCasts_S16384_S16384x1 := by
  unfold V hostOps0
  after_results
  rfl
theorem V_row : (V m c main_v4 : Vec Ideal S1x16384 .i32) = shapeCast S1x16384 (lab2 m c) shapeCasts_S16384_S1x16384 := by
  unfold V hostOps0
  after_results
  rfl

theorem lab2_apply (i : Fin 16384) : lab2 m c (ix1 i) = labAt (labRow m c) i.val := by
  have e : lab2 m c (ix1 i) = labOf m c (ix1 ⟨i.val % 8192, Nat.mod_lt _ (by decide)⟩) := by
    pointwise
  rw [e]
  rfl

theorem col_apply (i : Fin 16384) : (V m c main_v3 : Vec Ideal S16384x1 .i32) (ix2 i 0) = labAt (labRow m c) i.val := by
  rw [V_col, ← lab2_apply]
  show shapeCast S16384x1 (lab2 m c) shapeCasts_S16384_S16384x1 (ix2 i 0) = _
  generalize lab2 m c = T
  pointwise
theorem row_apply (j : Fin 16384) : (V m c main_v4 : Vec Ideal S1x16384 .i32) (ix2 0 j) = labAt (labRow m c) j.val := by
  rw [V_row, ← lab2_apply]
  show shapeCast S1x16384 (lab2 m c) shapeCasts_S16384_S1x16384 (ix2 0 j) = _
  generalize lab2 m c = T
  pointwise

/-! ## The results, entry by entry -/

abbrev embOf : Vec Ideal S16384x128 .bf16 := m ((c : Thread nD τ).loc main_arg0)

theorem icast_apply (T : IVec S16384 32) (s : Fin 2) (q : Fin 8192) :
    shapeCast S2x8192 T shapeCasts_S16384_S2x8192 (ix2 s q) = T (ix1 ⟨s.val * 8192 + q.val, by omega⟩) := by
  pointwise

theorem pay3_eq (n : IVec S16384 32) : k0_pay3 n = shapeCast S2x8192 n shapeCasts_S16384_S2x8192 := rfl
theorem pay2_eq (e : FVec Ideal S16384 .f32) : k0_pay2 e = shapeCast S2x8192 e shapeCasts_S16384_S2x8192 := rfl

/-- Counts: each row's number of positives. -/
theorem cnt_value (y : S2x8192.Idx) :
    (dats m 0 c).arrAt 5 cfg0.N y = BitVec.ofNat 32 (cntR (labRow m c) (8192 * (y 0).val + (y 1).val)) := by
  rw [final5]
  obtain ⟨s, q, rfl⟩ : ∃ (s : Fin 2) (q : Fin 8192), y = ix2 s q := ⟨y 0, y 1, funext fun i => match i with | 0 => rfl | 1 => rfl⟩
  unfold cntOf
  rw [pay3_eq, icast_apply, pay8_apply _ _ (labRow m c) (col_apply m c) (row_apply m c)]
  show BitVec.ofNat 32 (cntR (labRow m c) (s.val * 8192 + q.val)) = BitVec.ofNat 32 (cntR (labRow m c) (8192 * s.val + q.val))
  rw [Nat.mul_comm]

/-- Row results: each row's log-sum-exp. -/
theorem lse_value (hx : Fin' (embOf m c)) (y : S2x8192.Idx) :
    (dats m 0 c).arrAt 4 cfg0.N y = (lseR (embOf m c) (8192 * (y 0).val + (y 1).val) : EReal) := by
  rw [final4, V_main_arg0]
  obtain ⟨s, q, rfl⟩ : ∃ (s : Fin 2) (q : Fin 8192), y = ix2 s q := ⟨y 0, y 1, funext fun i => match i with | 0 => rfl | 1 => rfl⟩
  unfold lseOf
  rw [pay2_eq, cast_apply, pay7_apply hx]
  show ((lseR (embOf m c) (s.val * 8192 + q.val) : ℝ) : EReal) = ((lseR (embOf m c) (8192 * s.val + q.val) : ℝ) : EReal)
  rw [Nat.mul_comm]

/-- The positives' summed logits, from the logits and from the rows' positives. -/
def posV (l : FVec Ideal S16384x16384 .f32) (p : IVec S16384x16384 1) : FVec Ideal S16384 .f32 :=
  multiReduction .add [1] S16384 (select p l (broadcast S16384x16384 (Scalar.ofBits .f32 0x00000000#32))) 0x00000000#32 reduces_S16384x16384_S16384 (.inl rfl) rfl

theorem posV_value (hx : Fin' (embOf m c)) (i : Fin 16384) :
    posV (k0_pay4 (embOf m c)) (k0_pay6 (F := Ideal) (V m c main_v3) (V m c main_v4) (V m c main_v3)) (ix1 i) = (posR (embOf m c) (labRow m c) i.val : EReal) :=
  posV_apply _ _ (labRow m c) (col_apply m c) (row_apply m c) hx i

/-- The losses, from the rows' sums, counts and log-sum-exps. -/
def lossV (P : FVec Ideal S16384 .f32) (e : FVec Ideal S16384 .f32) (n : IVec S16384 32) : FVec Ideal S2x8192 .f32 :=
  shapeCast S2x8192 (select (cmpi .sgt n (broadcast S16384 0#32))
    (mulf (broadcast S16384 (Scalar.ofBits .f32 0xBFB6DB6E#32)) (subf (divf P (sitofp .f32 (maxsi n (broadcast S16384 1#32)))) e))
    (broadcast S16384 (Scalar.ofBits .f32 0x00000000#32))) shapeCasts_S16384_S2x8192

theorem pay1_eq (l : FVec Ideal S16384x16384 .f32) (p : IVec S16384x16384 1) (e : FVec Ideal S16384 .f32) (n : IVec S16384 32) :
    k0_pay1 l p e n = lossV (posV l p) e n := rfl

theorem lossV_apply (P : FVec Ideal S16384 .f32) (e : FVec Ideal S16384 .f32) (n : IVec S16384 32) (s : Fin 2) (q : Fin 8192) :
    lossV P e n (ix2 s q) = lossVal (n (ix1 ⟨s.val * 8192 + q.val, by omega⟩)) (P (ix1 ⟨s.val * 8192 + q.val, by omega⟩)) (e (ix1 ⟨s.val * 8192 + q.val, by omega⟩)) := by
  unfold lossVal
  pointwise [lossV]

/-- Losses: from the positives' sums and counts and the row results. -/
theorem loss_value (hx : Fin' (embOf m c)) (y : S2x8192.Idx) :
    (dats m 0 c).arrAt 3 cfg0.N y = lossVal (BitVec.ofNat 32 (cntR (labRow m c) (8192 * (y 0).val + (y 1).val)))
      (posR (embOf m c) (labRow m c) (8192 * (y 0).val + (y 1).val) : EReal) (lseR (embOf m c) (8192 * (y 0).val + (y 1).val) : EReal) := by
  rw [final3, V_main_arg0]
  obtain ⟨s, q, rfl⟩ : ∃ (s : Fin 2) (q : Fin 8192), y = ix2 s q := ⟨y 0, y 1, funext fun i => match i with | 0 => rfl | 1 => rfl⟩
  unfold lossOf
  rw [pay1_eq, lossV_apply, pay8_apply _ _ (labRow m c) (col_apply m c) (row_apply m c),
    posV_value m c hx, pay7_apply hx]
  have e : s.val * 8192 + q.val = 8192 * s.val + q.val := by omega
  exact congrArg (fun i : ℕ => lossVal (BitVec.ofNat 32 (cntR (labRow m c) i)) (posR (embOf m c) (labRow m c) i : EReal) (lseR (embOf m c) i : EReal)) e

/-! ## The run -/

/-- The reference runs, its results are those arrays, and its arguments end as launched. -/
theorem run : θ_run (defs (F := Ideal)) (onTc (τ := τ) (main (F := Ideal))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Proof.ReferenceIdeal
-- ==== Proof.Prep.Scale.lean ====
/-
  The scales of the embeddings: an exponent byte `e` stands for `2^(e - 127)`, whether it is put into the exponent
  field of a float or taken through `exp2`.
-/
module

public import Idealize.ShloMosaic.Lib.Pointwise

@[expose] public section

noncomputable section

namespace Cert.Proof.Prep

open Idealize.ShloMosaic

/-- The scale that an exponent byte stands for. -/
def scaleR (e : BitVec 8) : ℝ := (2 : ℝ) ^ ((e.toNat : ℤ) - 127)

/-- The fields of a float whose bits are an exponent byte shifted by 23. -/
theorem fields : ∀ e : BitVec 8, ((IntOp.shli .vector (e.setWidth 32) 23#32).extractLsb' 23 8 = e)
    ∧ ((IntOp.shli .vector (e.setWidth 32) 23#32).extractLsb' 0 23 = 0#23) ∧ ((IntOp.shli .vector (e.setWidth 32) 23#32).extractLsb' 31 1 = 0#1) := by
  decide +kernel

/-- The float whose exponent field is `e`, for a normal exponent. -/
theorem bits_scale (e : BitVec 8) (h0 : 0 < e.toNat) (h1 : e.toNat < 255) :
    Ideal.ofBits .f32 (IntOp.shli .vector (e.setWidth 32) 23#32) = (scaleR e : EReal) := by
  obtain ⟨a, b, c⟩ := fields e
  simp only [Ideal.ofBits, Ideal.ieee, a, b, c, show (8 + 23 : ℕ) = 31 from rfl]
  rw [if_neg (by omega), if_neg (by omega)]
  refine congrArg _ ?_
  unfold scaleR
  rw [show ((e.toNat : ℤ) - (2 ^ (8 - 1) - 1) - ((23 : ℕ) : ℤ)) = ((e.toNat : ℤ) - 127) - 23 by norm_num, zpow_sub₀ (by norm_num)]
  generalize (2 : ℝ) ^ ((e.toNat : ℤ) - 127) = x
  norm_num
  ring

/-- `exp2` of the exponent less the bias. -/
theorem exp2_scale (e : BitVec 8) :
    Ideal.exp2 (((IntOp.subi (e.setWidth 32) 127#32).toInt : ℝ) : EReal) = (scaleR e : EReal) := by
  have t : (IntOp.subi (e.setWidth 32) 127#32).toInt = (e.toNat : ℤ) - 127 := (by decide +kernel : ∀ e : BitVec 8, (IntOp.subi (e.setWidth 32) 127#32).toInt = (e.toNat : ℤ) - 127) e
  rw [t, Ideal.exp2_coe]
  refine congrArg _ ?_
  unfold scaleR
  exact Real.rpow_intCast 2 _

end Cert.Proof.Prep

end
-- ==== Proof.Prep.KernelPay.lean ====
/-
  What one grid point of the kernel computes: the block's embeddings and the largest squared norm so far.
-/
module

public import proofs.«01_k».proof.Proof.Gen.PrepIdeal.Value
public import proofs.«01_k».proof.Proof.Prep.Scale
public import Idealize.ShloMosaic.Lib.Pointwise

@[expose] public section

set_option maxRecDepth 16384

noncomputable section

namespace Cert.Proof.Prep

open Cert.PrepIdeal Cert.PrepIdeal.Gen Facts
open Idealize.ShloMosaic Idealize.ShloMosaic.TcCoe

/-- Channel `d`'s word, divided by 32 rounding down, is compared with the scale's number. -/
theorem mask_word : ∀ (x : Fin 4) (d : Fin 128),
    IntOp.cmpi CmpIPredicate.eq (BitVec.ofNat 32 x.val)
      (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 d.val) 32#32) 0#32))
        (IntOp.subi (IntOp.divsi ArithUnit.vector (BitVec.ofNat 32 d.val) 32#32) 1#32)
        (IntOp.divsi ArithUnit.vector (BitVec.ofNat 32 d.val) 32#32))
      = if x = ⟨d.val / 32, by omega⟩ then 1#1 else 0#1 := by
  decide +kernel

/-- A sum of terms times an indicator is the indicated term. -/
theorem sum_mask (f : Fin 4 → EReal) (y : Fin 4) :
    ∑ x, f x * FloatOps.sitofp (F := Ideal) FTy.f32 (BitVec.setWidth 32 (if x = y then 1#1 else 0#1)) = f y := by
  have e : ∀ x : Fin 4, f x * FloatOps.sitofp (F := Ideal) FTy.f32 (BitVec.setWidth 32 (if x = y then 1#1 else 0#1)) = if x = y then f x else 0 := by
    intro x
    by_cases h : x = y
    · rw [if_pos h, if_pos h]
      show f x * (((1 : ℤ) : ℝ) : EReal) = _
      norm_num
    · rw [if_neg h, if_neg h]
      show f x * (((0 : ℤ) : ℝ) : EReal) = _
      norm_num
  rw [Finset.sum_congr rfl fun x _ => e x, Finset.sum_ite_eq' Finset.univ y f, if_pos (Finset.mem_univ y)]

/-- An embedding is its code times the scale of its thirty-two channels. -/
theorem pay3_apply (v0 : Vec Ideal S2048x4 .i8) (v37 : Vec Ideal S2048x128 .fp8e4m3) (r : Fin 2048) (d : Fin 128) :
    k0_pay3 (F := Ideal) v0 v37 (ix2 r d)
      = v37 (ix2 r d) * Ideal.ofBits FTy.f32 (IntOp.shli ArithUnit.vector (BitVec.setWidth 32 (v0 (ix2 r ⟨d.val / 32, by omega⟩))) 23#32) := by
  pointwise [k0_pay3]
  rw [Finset.sum_congr rfl fun x _ => by rw [mask_word x d]]
  rw [sum_mask (fun x => Ideal.ofBits FTy.f32 (IntOp.shli ArithUnit.vector (BitVec.setWidth 32 (v0 (ix2 r x))) 23#32))]

/-- With normal exponents the scale is the power of two that the byte stands for. -/
theorem pay3_normal (v0 : Vec Ideal S2048x4 .i8) (v37 : Vec Ideal S2048x128 .fp8e4m3) (hx : ∀ r k, 0 < (v0 (ix2 r k)).toNat ∧ (v0 (ix2 r k)).toNat < 255)
    (r : Fin 2048) (d : Fin 128) :
    k0_pay3 (F := Ideal) v0 v37 (ix2 r d) = v37 (ix2 r d) * (scaleR (v0 (ix2 r ⟨d.val / 32, by omega⟩)) : EReal) := by
  rw [pay3_apply, bits_scale _ (hx r _).1 (hx r _).2]

/-- The new largest squared norm: the old one and the block's rows'. -/
theorem pay2_apply (v0 : Vec Ideal S2048x4 .i8) (v37 : Vec Ideal S2048x128 .fp8e4m3) (v51 : Vec Ideal S1x1 .f32) :
    k0_pay2 (F := Ideal) (k0_pay4 (F := Ideal) v0 v37) v51 (ix2 0 0) = max (v51 (ix2 0 0))
      (Finset.fold max (Ideal.ofBits FTy.f32 4286578688#32)
        (fun r : Fin 2048 => ∑ d : Fin 128, k0_pay3 (F := Ideal) v0 v37 (ix2 r d) * k0_pay3 (F := Ideal) v0 v37 (ix2 r d)) Finset.univ) := by
  pointwise [k0_pay2, k0_pay4]

/-- The first largest squared norm is zero. -/
theorem pay1_apply : k0_pay1 (F := Ideal) (ix2 0 0) = (0 : EReal) := by
  pointwise [k0_pay1]

end Cert.Proof.Prep

end
-- ==== Proof.Prep.KernelOut.lean ====
/-
  What the kernel's body leaves at a grid point, in both cases: the block's embeddings, and the largest squared norm.
-/
module

public import proofs.«01_k».proof.Proof.Prep.KernelPay
public import Idealize.ShloMosaic.Lib.Tactic

@[expose] public section

set_option maxRecDepth 16384

noncomputable section

namespace Cert.Proof.Prep

open Cert.PrepIdeal Cert.PrepIdeal.Gen Facts
open Idealize.ShloMosaic Idealize.ShloMosaic.TcCoe

variable {F : FTy → Type} [FloatOps F]

theorem hz : (![0, 0] : Fin 2 → Nat) = fun _ => 0 := funext fun a => by fin_cases a <;> rfl

section
variable (c : Dev nD) (i : grid0.Coords) (a1 : Memref sig .tc .vmem S2048x128 .fp8e4m3) (h1 : a1.IsWhole) (a2 : Memref sig .tc .vmem S2048x4 .i8) (h2 : a2.IsWhole)
  (a3 : Memref sig .tc .vmem S2048x128 .bf16) (h3 : a3.IsWhole) (a4 : Memref sig .tc .vmem S1x1 .f32) (h4 : a4.IsWhole)
  (x0 : Vec F S2048x128 .fp8e4m3) (x1 : Vec F S2048x4 .i8)

/-- After the first point the block holds its embeddings. -/
theorem out_A_2 (hc : cond0_0 i) : out0_A_2 c i a1 h1 a2 h2 a3 h3 a4 h4 hc x0 x1 = k0_pay3 x1 x0 := by
  unfold out0_A_2
  rw [View.read_writes_eq_canon _ _ _ (cover0_A_2 c i a1 h1 a2 h2 a3 h3 a4 h4 hc x0 x1)]
  unfold kernelRun0_A
  dsimp only
  rw [View.canon_unit_zero hz]
  simp only [View.readAt_eq_ld, h1.read_unread, h2.read_unread, View.ld_unit_zero (S := S2048x128) hz, View.ld_unit_zero (S := S2048x4) hz]

/-- After a later point the block holds its embeddings. -/
theorem out_B_2 (hc : ¬cond0_0 i) (xo : Vec F S1x1 .f32) : out0_B_2 c i a1 h1 a2 h2 a3 h3 a4 h4 hc x0 x1 xo = k0_pay3 x1 x0 := by
  unfold out0_B_2
  rw [View.read_writes_eq_canon _ _ _ (cover0_B_2 c i a1 h1 a2 h2 a3 h3 a4 h4 hc x0 x1 xo)]
  unfold kernelRun0_B
  dsimp only
  rw [View.canon_unit_zero hz]
  simp only [View.readAt_eq_ld, h1.read_unread, h2.read_unread, View.ld_unit_zero (S := S2048x128) hz, View.ld_unit_zero (S := S2048x4) hz]

/-- After the first point: the largest squared norm of the block, or zero. -/
theorem out_A_3 (hc : cond0_0 i) : out0_A_3 c i a1 h1 a2 h2 a3 h3 a4 h4 hc x0 x1 = k0_pay2 (k0_pay4 x1 x0) (k0_pay1 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x128) hz, View.ld_unit_zero (S := S2048x4) hz]

/-- After a later point: the larger of what the point before left and the block's largest squared norm. -/
theorem out_B_3 (hc : ¬cond0_0 i) (xo : Vec F S1x1 .f32) : out0_B_3 c i a1 h1 a2 h2 a3 h3 a4 h4 hc x0 x1 xo = k0_pay2 (k0_pay4 x1 x0) xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h4.read_unread, View.ld_unit_zero (S := S2048x128) hz, View.ld_unit_zero (S := S2048x4) hz,
    View.ld_unit_zero (S := S1x1) hz]
end

variable (m : (ℓ : Loc nD τ sig) → Buf (Elt F) ℓ)

/-- The embeddings that a point leaves. -/
theorem outs_fst (c : Dev nD) (t : Fin cfg0.N) : (outsAt0 m c t.val t.isLt).1 = k0_pay3 (F := F) (iblk m c 1 t) (iblk m c 0 t) := by
  by_cases h : t.val % 8 = 0
  · rw [outsAt0_A m c t h]
    dsimp only
    rw [out_A_2]
  · rw [outsAt0_B m c t h]
    dsimp only
    rw [out_B_2]

/-- The largest squared norm that the first point leaves. -/
theorem outs_snd_zero (c : Dev nD) (t : Fin cfg0.N) (h : t.val % 8 = 0) :
    (outsAt0 m c t.val t.isLt).2 = k0_pay2 (F := F) (k0_pay4 (F := F) (iblk m c 1 t) (iblk m c 0 t)) (k0_pay1 (F := F)) :=
  (congrArg Prod.snd (outsAt0_A m c t h)).trans (out_A_3 (F := F) c (grid0.coords t) (ms0_0 t) (hs0_0 t) (ms0_1 t) (hs0_1 t) (ms0_2 t) (hs0_2 t) (ms0_3 t) (hs0_3 t) (iblk m c 0 t) (iblk m c 1 t) ((hcond0_0 t).mpr h))

/-- The largest squared norm that a later point leaves, from what the point before left. -/
theorem outs_snd_succ (c : Dev nD) (t : Fin cfg0.N) (h : ¬t.val % 8 = 0) :
    (outsAt0 m c t.val t.isLt).2 = k0_pay2 (F := F) (k0_pay4 (F := F) (iblk m c 1 t) (iblk m c 0 t)) (outsAt0 m c (t.val - 1) (Nat.lt_of_le_of_lt (Nat.sub_le _ _) t.isLt)).2 :=
  (congrArg Prod.snd (outsAt0_B m c t h)).trans (out_B_3 (F := F) c (grid0.coords t) (ms0_0 t) (hs0_0 t) (ms0_1 t) (hs0_1 t) (ms0_2 t) (hs0_2 t) (ms0_3 t) (hs0_3 t) (iblk m c 0 t) (iblk m c 1 t) (fun h' => h ((hcond0_0 t).mp h')) (outsAt0 m c (t.val - 1) (Nat.lt_of_le_of_lt (Nat.sub_le _ _) t.isLt)).2)

/-- What a point leaves depends on its number alone. -/
theorem outs_congr (c : Dev nD) {k n : ℕ} (hk : k < cfg0.N) (hn : n < cfg0.N) (e : k = n) : outsAt0 m c k hk = outsAt0 m c n hn := by
  subst e; rfl

/-- The same at point zero. -/
theorem outs_snd_first (c : Dev nD) (h : 0 < cfg0.N) :
    (outsAt0 m c 0 h).2 = k0_pay2 (F := F) (k0_pay4 (F := F) (iblk m c 1 ⟨0, h⟩) (iblk m c 0 ⟨0, h⟩)) (k0_pay1 (F := F)) :=
  outs_snd_zero m c ⟨0, h⟩ (Nat.zero_mod _)

/-- The same at point `n + 1`. -/
theorem outs_snd_next (c : Dev nD) (n : ℕ) (h : n + 1 < cfg0.N) :
    (outsAt0 m c (n + 1) h).2 = k0_pay2 (F := F) (k0_pay4 (F := F) (iblk m c 1 ⟨n + 1, h⟩) (iblk m c 0 ⟨n + 1, h⟩)) (outsAt0 m c n (Nat.lt_of_succ_lt h)).2 := by
  have hN : cfg0.N = 8 := N_0
  have e := outs_snd_succ m c ⟨n + 1, h⟩ (by dsimp only; omega)
  rw [outs_congr m c _ (Nat.lt_of_succ_lt h) (Nat.add_sub_cancel n 1)] at e
  exact e

/-- The array index that a block's index of the codes stands for. -/
theorem emb_codes : ∀ t : Fin cfg0.N, win0_0.index t (0 : Fin 2) = t.val ∧ win0_0.index t (1 : Fin 2) = 0 :=
  (by decide +kernel : ∀ t : Fin grid0.N, _)
theorem emb_exps : ∀ t : Fin cfg0.N, win0_1.index t (0 : Fin 2) = t.val ∧ win0_1.index t (1 : Fin 2) = 0 :=
  (by decide +kernel : ∀ t : Fin grid0.N, _)
theorem emb_embs : ∀ t : Fin cfg0.N, win0_2.index t (0 : Fin 2) = t.val ∧ win0_2.index t (1 : Fin 2) = 0 :=
  (by decide +kernel : ∀ t : Fin grid0.N, _)
theorem emb_norm : ∀ t : Fin cfg0.N, win0_3.index t (0 : Fin 2) = 0 ∧ win0_3.index t (1 : Fin 2) = 0 :=
  (by decide +kernel : ∀ t : Fin grid0.N, _)

/-- Row `r` of block `t`, as a row of the array. -/
def rowAt (t : Fin cfg0.N) (r : Fin 2048) : Fin 16384 := ⟨t.val * 2048 + r.val, by have := t.isLt; have hN : cfg0.N = 8 := N_0; omega⟩

theorem codes_apply (c : Dev nD) (t : Fin cfg0.N) (r : Fin 2048) (d : Fin 128) :
    (iblk m c 0 t : Vec F S2048x128 .fp8e4m3) (ix2 r d) = (V m c main_arg0 : Vec F S16384x128 .fp8e4m3) (ix2 (rowAt t r) d) := by
  obtain ⟨e0, e1⟩ := emb_codes t
  show V m c main_arg0 (((cfg0.win 0).blk t).view.emb (ix2 r d)) = _
  refine congrArg (V m c main_arg0) (funext fun a => Fin.ext ?_)
  match a with
  | ⟨0, _⟩ => show win0_0.index t (0 : Fin 2) * 2048 + 1 * r.val = t.val * 2048 + r.val; omega
  | ⟨1, _⟩ => show win0_0.index t (1 : Fin 2) * 128 + 1 * d.val = d.val; omega

theorem exps_apply (c : Dev nD) (t : Fin cfg0.N) (r : Fin 2048) (k : Fin 4) :
    (iblk m c 1 t : Vec F S2048x4 .i8) (ix2 r k) = (V m c main_arg1 : Vec F S16384x4 .i8) (ix2 (rowAt t r) k) := by
  obtain ⟨e0, e1⟩ := emb_exps t
  show V m c main_arg1 (((cfg0.win 1).blk t).view.emb (ix2 r k)) = _
  refine congrArg (V m c main_arg1) (funext fun a => Fin.ext ?_)
  match a with
  | ⟨0, _⟩ => show win0_1.index t (0 : Fin 2) * 2048 + 1 * r.val = t.val * 2048 + r.val; omega
  | ⟨1, _⟩ => show win0_1.index t (1 : Fin 2) * 4 + 1 * k.val = k.val; omega

theorem embs_emb (t : Fin cfg0.N) (r : Fin 2048) (d : Fin 128) :
    ((cfg0.win 2).blk t).view.emb (ix2 r d) = (ix2 (rowAt t r) d : S16384x128.Idx) := by
  obtain ⟨e0, e1⟩ := emb_embs t
  refine funext fun a => Fin.ext ?_
  match a with
  | ⟨0, _⟩ => show win0_2.index t (0 : Fin 2) * 2048 + 1 * r.val = t.val * 2048 + r.val; omega
  | ⟨1, _⟩ => show win0_2.index t (1 : Fin 2) * 128 + 1 * d.val = d.val; omega

theorem norm_emb (t : Fin cfg0.N) (j : S1x1.Idx) : ((cfg0.win 3).blk t).view.emb j = j := by
  obtain ⟨e0, e1⟩ := emb_norm t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega

end Cert.Proof.Prep

end
-- ==== Proof.Prep.RefPay.lean ====
/-
  What the reference computes.
-/
module

public import proofs.«01_k».proof.Proof.Gen.PrepReferenceIdeal.Value
public import proofs.«01_k».proof.Proof.Prep.Scale
public import Idealize.ShloMosaic.Lib.Pointwise

@[expose] public section

set_option maxRecDepth 16384

noncomputable section

namespace Cert.Proof.Prep.Ref

open Cert.PrepReferenceIdeal Cert.PrepReferenceIdeal.Gen Facts
open Idealize.ShloMosaic Idealize.ShloMosaic.TcCoe

/-- An embedding is its code times the scale of its thirty-two channels. -/
theorem pay1_apply (v0 : Vec Ideal S16384x4 .i8) (v7 : Vec Ideal S16384x128 .fp8e4m3) (r : Fin 16384) (d : Fin 128) :
    k0_pay1 (F := Ideal) v0 v7 (ix2 r d) = v7 (ix2 r d) * (scaleR (v0 (ix2 r ⟨d.val / 32, by omega⟩)) : EReal) := by
  rw [← exp2_scale]
  pointwise [k0_pay1]
  rfl

/-- The maximum of one row. -/
theorem rowMax_apply {n1 : ℕ} (L : FVec Ideal (⟨2, ![1, n1]⟩ : Shape) .f32) (h : (⟨2, ![1, n1]⟩ : Shape).Reduces [1] ⟨1, ![1]⟩) (hφ hacc) :
    (multiReduction .maximumf [1] (⟨1, ![1]⟩ : Shape) L 0xFF800000#32 h hφ hacc) (ix1 0)
      = (Finset.fold max (Ideal.ofBits FTy.f32 4286578688#32) (fun j : Fin n1 => L (ix2 0 j)) Finset.univ) := by
  pointwise

/-- The rows' squared norms, as a row. -/
def normV (x : FVec Ideal S16384x128 .bf16) : FVec Ideal S1x16384 .f32 :=
  shapeCast S1x16384 (multiReduction .add [1] S16384 (mulf (extf .f32 x bitsLt_bf16_f32) (extf .f32 x bitsLt_bf16_f32)) 0x00000000#32
    reduces_S16384x128_S16384 (.inl rfl) rfl) shapeCasts_S16384_S1x16384

theorem normV_apply (x : FVec Ideal S16384x128 .bf16) (j : Fin 16384) : normV x (ix2 0 j) = ∑ d : Fin 128, x (ix2 j d) * x (ix2 j d) := by
  pointwise [normV]

/-- The maximum as the reference lays it out. -/
def topV (y : FVec Ideal S1 .f32) : FVec Ideal S1x1 .f32 :=
  broadcast S1x1 (extractAt ![0, 0] (shapeCast S1x1 y shapeCasts_S1_S1x1) inpos_S1x1_p0_0)

theorem topV_apply (y : FVec Ideal S1 .f32) : topV y (ix2 0 0) = y (ix1 0) := by
  pointwise [topV]

theorem pay2_eq (v0 : Vec Ideal S16384x4 .i8) (v7 : Vec Ideal S16384x128 .fp8e4m3) :
    k0_pay2 (F := Ideal) v0 v7 = topV (multiReduction .maximumf [1] S1 (normV (k0_pay1 (F := Ideal) v0 v7)) 0xFF800000#32 reduces_S1x16384_S1 (.inl rfl) rfl) := rfl

/-- The largest squared norm. -/
theorem pay2_apply (v0 : Vec Ideal S16384x4 .i8) (v7 : Vec Ideal S16384x128 .fp8e4m3) :
    k0_pay2 (F := Ideal) v0 v7 (ix2 0 0) = Finset.fold max (Ideal.ofBits FTy.f32 4286578688#32)
      (fun j : Fin 16384 => ∑ d : Fin 128, k0_pay1 (F := Ideal) v0 v7 (ix2 j d) * k0_pay1 (F := Ideal) v0 v7 (ix2 j d)) Finset.univ := by
  rw [pay2_eq, topV_apply, rowMax_apply (normV (k0_pay1 (F := Ideal) v0 v7)) reduces_S1x16384_S1 (.inl rfl) rfl]
  exact congrArg (fun f => Finset.fold max (Ideal.ofBits FTy.f32 4286578688#32) f Finset.univ) (funext fun j => normV_apply _ j)

end Cert.Proof.Prep.Ref

end
-- ==== Proof.Prep.KernelRun.lean ====
/-
  The kernel's two arrays after the run are the reference's functions of the codes and the exponents: the embeddings block
  by block, and the largest squared norm, kept over the blocks, as one maximum over all rows.
-/
module

public import proofs.«01_k».proof.Proof.Prep.KernelOut
public import proofs.«01_k».proof.Proof.Prep.RefPay

@[expose] public section

set_option maxRecDepth 16384

noncomputable section

namespace Cert.Proof.Prep

open Cert.PrepIdeal Cert.PrepIdeal.Gen Facts
open Idealize.ShloMosaic Idealize.ShloMosaic.TcCoe

/-- The embeddings that the reference makes of codes and exponents. -/
abbrev embT (a0 : Vec Ideal S16384x128 .fp8e4m3) (a1 : Vec Ideal S16384x4 .i8) : Vec Ideal S16384x128 .bf16 :=
  Cert.PrepReferenceIdeal.Gen.k0_pay1 (F := Ideal) a1 a0

/-- The largest squared norm that the reference makes of codes and exponents. -/
abbrev topT (a0 : Vec Ideal S16384x128 .fp8e4m3) (a1 : Vec Ideal S16384x4 .i8) : Vec Ideal S1x1 .f32 :=
  Cert.PrepReferenceIdeal.Gen.k0_pay2 (F := Ideal) a1 a0

/-- Every exponent byte stands for a normal power of two. -/
def Norm (a1 : Vec Ideal S16384x4 .i8) : Prop := ∀ (i : Fin 16384) (k : Fin 4), 0 < (a1 (ix2 i k)).toNat ∧ (a1 (ix2 i k)).toNat < 255

/-- The squared norm of row `i`. -/
def sq (x : Vec Ideal S16384x128 .bf16) (i : Fin 16384) : EReal := ∑ d : Fin 128, x (ix2 i d) * x (ix2 i d)

theorem sq_nonneg (x : Vec Ideal S16384x128 .bf16) (i : Fin 16384) : 0 ≤ sq x i :=
  Finset.sum_nonneg fun d _ => by
    show (0 : EReal) ≤ x (ix2 i d) * x (ix2 i d)
    rcases le_total (0 : EReal) (x (ix2 i d)) with h | h
    · exact mul_nonneg h h
    · exact EReal.mul_nonneg_iff.mpr (Or.inr ⟨h, h⟩)

/-- An index of two axes is a pair. -/
theorem exists_ix2 {n0 n1 : ℕ} (j : (⟨2, ![n0, n1]⟩ : Shape).Idx) : ∃ (r : Fin n0) (d : Fin n1), j = ix2 r d :=
  ⟨j 0, j 1, funext fun a => by fin_cases a <;> rfl⟩

/-- The reference's maximum. -/
theorem topT_apply (a0 : Vec Ideal S16384x128 .fp8e4m3) (a1 : Vec Ideal S16384x4 .i8) :
    topT a0 a1 (ix2 0 0) = Finset.fold max (Ideal.ofBits FTy.f32 4286578688#32) (fun i => sq (embT a0 a1) i) Finset.univ :=
  Ref.pay2_apply _ _

theorem ninf_bits : Ideal.ofBits FTy.f32 4286578688#32 = (⊥ : EReal) := by
  simp [Ideal.ofBits, Ideal.ieee]

variable (m : (ℓ : Loc nD τ sig) → Buf (Elt Ideal) ℓ)

/-- A block's embeddings are the reference's rows. -/
theorem pay3_eq_embT (c : Dev nD) (hx : Norm (V m c main_arg1)) (t : Fin cfg0.N) (r : Fin 2048) (d : Fin 128) :
    k0_pay3 (F := Ideal) (iblk m c 1 t) (iblk m c 0 t) (ix2 r d) = embT (V m c main_arg0) (V m c main_arg1) (ix2 (rowAt t r) d) := by
  rw [pay3_normal _ _ (fun r k => by rw [exps_apply]; exact hx _ k), codes_apply, exps_apply]
  exact (Ref.pay1_apply _ _ _ _).symm

/-- What a point writes back to the embeddings is its block of the reference's. -/
theorem flushed2_eq (c : Dev nD) (hx : Norm (V m c main_arg1)) (t : Fin cfg0.N) :
    (dats m 0 c).flushed 2 t = ((cfg0.win 2).blk t).view.read (Elt Ideal) (embT (V m c main_arg0) (V m c main_arg1)) := by
  rw [Cert.PrepIdeal.Value.flushed2, outs_fst]
  have key := fun r d => pay3_eq_embT m c hx t r d
  generalize k0_pay3 (F := Ideal) (iblk m c 1 t) (iblk m c 0 t) = P at key ⊢
  generalize embT (V m c main_arg0) (V m c main_arg1) = X at key ⊢
  funext j
  show P j = X (((cfg0.win 2).blk t).view.emb j)
  obtain ⟨r, d, rfl⟩ := exists_ix2 (n0 := 2048) (n1 := 128) j
  rw [key]
  exact congrArg X (embs_emb t r d).symm

/-- Every index of the embeddings lies in a block. -/
theorem covered2 (i : S16384x128.Idx) : ∃ t : Fin cfg0.N, (cfg0.win 2).flush t = true ∧ i ∈ ((cfg0.win 2).blk t).view.set := by
  have hN : cfg0.N = 8 := N_0
  obtain ⟨r, d, rfl⟩ := exists_ix2 (n0 := 16384) (n1 := 128) i
  have hr : r.val / 2048 < cfg0.N := by rw [hN]; omega
  refine ⟨⟨r.val / 2048, hr⟩, flush0_2 _, ?_⟩
  have h := ((cfg0.win 2).blk ⟨r.val / 2048, hr⟩).view.emb_mem_set (ix2 (n0 := 2048) (n1 := 128) ⟨r.val % 2048, by omega⟩ d)
  rwa [embs_emb, show rowAt ⟨r.val / 2048, hr⟩ ⟨r.val % 2048, by omega⟩ = r from
    Fin.ext (by show r.val / 2048 * 2048 + r.val % 2048 = r.val; omega)] at h

/-- The embeddings after the run. -/
theorem final2 (c : Dev nD) (hx : Norm (m ((c : Thread nD τ).loc main_arg1))) :
    (dats m 0 c).arrAt 2 cfg0.N = embT (m ((c : Thread nD τ).loc main_arg0)) (m ((c : Thread nD τ).loc main_arg1)) := by
  have e0 := V_main_arg0 m c
  have e1 := V_main_arg1 m c
  rw [← e1] at hx
  rw [← e0, ← e1]
  exact (dats m 0 c).arrAt_eq_of_cover 2 _ (fun t _ => flushed2_eq m c hx t) covered2

/-- Bounds of the blocks before `t` and of block `t` are bounds of the blocks up to `t`. -/
theorem bounds_step (f : Fin 16384 → EReal) (b : EReal) (t : Fin cfg0.N) :
    ((∀ i : Fin 16384, i.val < t.val * 2048 → f i ≤ b) ∧ ∀ r : Fin 2048, f (rowAt t r) ≤ b) ↔ ∀ i : Fin 16384, i.val < (t.val + 1) * 2048 → f i ≤ b := by
  refine ⟨fun H i hi => ?_, fun H => ⟨fun i hi => H i (by omega), fun r => H _ ?_⟩⟩
  · by_cases hl : i.val < t.val * 2048
    · exact H.1 i hl
    · have := H.2 ⟨i.val - t.val * 2048, by omega⟩
      rwa [show rowAt t ⟨i.val - t.val * 2048, by omega⟩ = i from Fin.ext (by show t.val * 2048 + (i.val - t.val * 2048) = i.val; omega)] at this
  · show t.val * 2048 + r.val < (t.val + 1) * 2048; omega

/-- The largest squared norm so far, as its upper bounds: zero and the rows of the blocks so far. -/
theorem outs_le (c : Dev nD) (hx : Norm (V m c main_arg1)) (b : EReal) : ∀ (n : ℕ) (h : n < cfg0.N),
    (outsAt0 m c n h).2 (ix2 0 0) ≤ b ↔ 0 ≤ b ∧ ∀ i : Fin 16384, i.val < (n + 1) * 2048 → sq (embT (V m c main_arg0) (V m c main_arg1)) i ≤ b := by
  have hN : cfg0.N = 8 := N_0
  have blockLe : ∀ t : Fin cfg0.N, Finset.fold max (Ideal.ofBits FTy.f32 4286578688#32)
        (fun r : Fin 2048 => ∑ d : Fin 128, k0_pay3 (F := Ideal) (iblk m c 1 t) (iblk m c 0 t) (ix2 r d) * k0_pay3 (F := Ideal) (iblk m c 1 t) (iblk m c 0 t) (ix2 r d)) Finset.univ ≤ b
      ↔ ∀ r : Fin 2048, sq (embT (V m c main_arg0) (V m c main_arg1)) (rowAt t r) ≤ b := by
    intro t
    rw [Finset.fold_max_le, ninf_bits]
    have e : ∀ r : Fin 2048, (∑ d : Fin 128, k0_pay3 (F := Ideal) (iblk m c 1 t) (iblk m c 0 t) (ix2 r d) * k0_pay3 (F := Ideal) (iblk m c 1 t) (iblk m c 0 t) (ix2 r d))
        = sq (embT (V m c main_arg0) (V m c main_arg1)) (rowAt t r) := fun r =>
      Finset.sum_congr rfl fun d _ => by rw [pay3_eq_embT m c hx]
    exact ⟨fun h r => (e r) ▸ h.2 r (Finset.mem_univ r), fun h => ⟨bot_le, fun r _ => (e r).symm ▸ h r⟩⟩
  intro n
  induction n with
  | zero =>
    intro h
    rw [outs_snd_first m c h, pay2_apply, pay1_apply, max_le_iff, blockLe]
    refine and_congr_right fun _ => ⟨fun H i hi => ?_, fun H r => H _ ?_⟩
    · have := H ⟨i.val, by omega⟩
      rwa [show rowAt ⟨0, h⟩ ⟨i.val, by omega⟩ = i from Fin.ext (by show 0 * 2048 + i.val = i.val; omega)] at this
    · show 0 * 2048 + r.val < (0 + 1) * 2048; omega
  | succ n ih =>
    intro h
    rw [outs_snd_next m c n h, pay2_apply, max_le_iff, blockLe, ih, and_assoc]
    exact and_congr_right fun _ => bounds_step _ b ⟨n + 1, h⟩

/-- After the last point it is the reference's maximum. -/
theorem outs_last (c : Dev nD) (hx : Norm (V m c main_arg1)) (t : Fin cfg0.N) (ht : t.val = 7) :
    (outsAt0 m c t.val t.isLt).2 = topT (V m c main_arg0) (V m c main_arg1) := by
  funext j
  have hj : j = ix2 (n0 := 1) (n1 := 1) 0 0 := funext fun a => by fin_cases a <;> exact Subsingleton.elim (α := Fin 1) _ _
  rw [hj, topT_apply]
  refine eq_of_forall_ge_iff fun b => ?_
  rw [outs_le m c hx b, Finset.fold_max_le, ninf_bits]
  exact ⟨fun H => ⟨bot_le, fun i _ => H.2 i (by omega)⟩, fun H => ⟨(sq_nonneg _ 0).trans (H.2 0 (Finset.mem_univ _)), fun i _ => H.2 i (Finset.mem_univ i)⟩⟩

/-- The one write-back of the largest squared norm. -/
theorem flushed3_eq (c : Dev nD) (hx : Norm (V m c main_arg1)) (t : Fin cfg0.N) (hf : (cfg0.win 3).flush t = true) :
    (dats m 0 c).flushed 3 t = ((cfg0.win 3).blk t).view.read (Elt Ideal) (topT (V m c main_arg0) (V m c main_arg1)) := by
  have hN : cfg0.N = 8 := N_0
  have h7 : t.val = 7 := by have := (flush0_3 t).mp hf; have := t.isLt; omega
  rw [Cert.PrepIdeal.Value.flushed3, outs_last m c hx t h7]
  generalize topT (V m c main_arg0) (V m c main_arg1) = X
  funext j
  show X j = X (((cfg0.win 3).blk t).view.emb j)
  rw [norm_emb]

theorem covered3 (i : S1x1.Idx) : ∃ t : Fin cfg0.N, (cfg0.win 3).flush t = true ∧ i ∈ ((cfg0.win 3).blk t).view.set :=
  ⟨t0_7, (flush0_3 t0_7).mpr rfl, by have h := ((cfg0.win 3).blk t0_7).view.emb_mem_set i; rwa [norm_emb] at h⟩

/-- The largest squared norm after the run. -/
theorem final3 (c : Dev nD) (hx : Norm (m ((c : Thread nD τ).loc main_arg1))) :
    (dats m 0 c).arrAt 3 cfg0.N = topT (m ((c : Thread nD τ).loc main_arg0)) (m ((c : Thread nD τ).loc main_arg1)) := by
  have e0 := V_main_arg0 m c
  have e1 := V_main_arg1 m c
  rw [← e1] at hx
  rw [← e0, ← e1]
  exact (dats m 0 c).arrAt_eq_of_cover 3 _ (fun t hf => flushed3_eq m c hx t hf) covered3

end Cert.Proof.Prep

end
-- ==== Proof.Prep.Normal.lean ====
/-
  The precondition's word as a statement about the exponents.
-/
module

public import proofs.«01_k».proof.Proof.Gen.Pre_normal
public import proofs.«01_k».proof.Proof.Prep.KernelRun
public import Idealize.ShloMosaic.Lib.ReduceAll

@[expose] public section

noncomputable section

namespace Cert.Proof.Prep

open Cert.Pre_normal Cert.Pre_normal.Facts
open Idealize.ShloMosaic

theorem lt_of_ult (a : BitVec 8) (h : IntOp.cmpi .ult a 255#8 = 1#1) : a.toNat < 255 := by
  revert a; decide +kernel

theorem pos_of_ugt (a : BitVec 8) (h : IntOp.cmpi .ugt a 0#8 = 1#1) : 0 < a.toNat := by
  revert a; decide +kernel

theorem both_of_and (a b : BitVec 1) (h : IntOp.andi a b = 1#1) : a = 1#1 ∧ b = 1#1 := by
  revert a b; decide

/-- Where the precondition holds, every exponent byte stands for a normal power of two. -/
theorem norm_of_pre (x : FVec Ideal S16384x128 .fp8e4m3) (a : IVec S16384x4 8)
    (h : @Cert.Pre_normal.fn Cert.Pre_normal.Gen.facts Ideal _ x a = fun _ => 1#1) : Norm a := fun i k =>
  haveI : Subsingleton Cert.Pre_normal.S_.Idx := ⟨fun a b => funext fun d => d.elim0⟩
  ⟨pos_of_ugt _ (Host.reduce_andi_all _ _ _ _ (fun d => d.elim0) (both_of_and _ _ (congrFun h (fun d => d.elim0))).1 (ix2 i k)),
    lt_of_ult _ (Host.reduce_andi_all _ _ _ _ (fun d => d.elim0) (both_of_and _ _ (congrFun h (fun d => d.elim0))).2 (ix2 i k))⟩

end Cert.Proof.Prep

end
-- ==== Proof.Prep.Claims.lean ====
/-
  The claims of the first call: its frames, its idealization, and its agreement with its reference.
-/
module

public import proofs.«01_k».proof.Defs
public import proofs.«01_k».proof.Proof.Gen.Prep.Frame
public import proofs.«01_k».proof.Proof.Prep.Normal
public import Idealize.ShloMosaic.Adequacy
public import Idealize.ShloMosaic.Init

@[expose] public section

set_option maxRecDepth 16384

noncomputable section

namespace Cert.Proof.Prep

open Idealize.ShloMosaic Idealize.SL.Sem

/-- The call's frame: both arguments end as launched, every semaphore counter at zero. -/
theorem frame_q : @quiescent_Prep Cert.Prep.Gen.facts := fun m g _ => Cert.Prep.Gen.frame (F := Bits) m g

/-- The idealized call's frame. -/
theorem frame_qi : @quiescent_PrepIdeal Cert.PrepIdeal.Gen.facts := fun m g _ => Cert.PrepIdeal.Gen.frame (F := Ideal) m g

/-- Its reference's frame. -/
theorem frame_si : @quiescent_PrepReferenceIdeal Cert.PrepReferenceIdeal.Gen.facts := fun m g _ => Cert.PrepReferenceIdeal.Gen.frame (F := Ideal) m g

/-- The frames once more, under the precondition. -/
theorem frame_qi_normal : @quiescent_PrepIdeal_pre_normal Cert.PrepIdeal.Gen.facts Cert.Pre_normal.Gen.facts := fun m g _ =>
  Cert.PrepIdeal.Gen.frame (F := Ideal) m g

theorem frame_si_normal : @quiescent_PrepReferenceIdeal_pre_normal Cert.PrepReferenceIdeal.Gen.facts Cert.Pre_normal.Gen.facts := fun m g _ =>
  Cert.PrepReferenceIdeal.Gen.frame (F := Ideal) m g

/-- The idealization replaces nothing. -/
theorem preserves : preserves_Prep_PrepIdeal := trivial

/-- From exponents of normal powers of two, the call's embeddings and largest squared norm are the reference's. -/
theorem algebraic : @algebraic_PrepIdeal_PrepReferenceIdeal_pre_normal Cert.PrepIdeal.Gen.facts Cert.PrepReferenceIdeal.Gen.facts
    Cert.Pre_normal.Gen.facts := by
  intro m g m' g' hpre hagree
  refine ⟨fun c => embT (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => topT (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    (θ_run _ _ _).mono (fun r h c => ?_) (Cert.PrepIdeal.Value.run_blocks (F := Ideal) m g),
    (θ_run _ _ _).mono (fun r h c => ?_) (Cert.PrepReferenceIdeal.Value.run (F := Ideal) m' g')⟩
  · have hx := norm_of_pre _ _ (hpre c)
    exact ⟨(h c).1.trans (final2 m c hx), (h c).2.1.trans (final3 m c hx), (h c).2.2⟩
  · have e := hagree c
    refine ⟨(h c).1.trans ?_, (h c).2.1.trans ?_, (h c).2.2⟩
    · exact congrArg₂ embT e.1 e.2
    · exact congrArg₂ topT e.1 e.2

end Cert.Proof.Prep

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Prep
public import proofs.«01_k».proof.Proof.Gen.PrepIdeal
public import proofs.«01_k».proof.Proof.Gen.PrepReferenceIdeal
public import proofs.«01_k».proof.Proof.Gen.Prep.Frame
public import proofs.«01_k».proof.Proof.Gen.PrepIdeal.Frame
public import proofs.«01_k».proof.Proof.Gen.PrepIdeal.Value
public import proofs.«01_k».proof.Proof.Gen.PrepReferenceIdeal.Frame
public import proofs.«01_k».proof.Proof.Gen.PrepReferenceIdeal.Value
public import proofs.«01_k».proof.Proof.Gen.Pre_normal
public import proofs.«01_k».proof.Proof.Gen.Pre_finite
public import proofs.«01_k».proof.Proof.Kernel.Frame
public import proofs.«01_k».proof.Proof.KernelIdeal.Frame
public import proofs.«01_k».proof.Proof.KernelIdeal.KernelValue
public import proofs.«01_k».proof.Proof.KernelIdeal.Finite
public import proofs.«01_k».proof.Proof.ReferenceIdeal.RefRun
public import proofs.«01_k».proof.Proof.Prep.Claims
public import Idealize.ShloMosaic.Adequacy
public import Idealize.ShloMosaic.Init

@[expose] public section

noncomputable section

namespace Cert.Proof

open Idealize.ShloMosaic Idealize.SL.Sem

/-- The kernel's frame: every argument ends as launched, every semaphore counter at zero. -/
theorem frame_p : @quiescent_Kernel Cert.Kernel.Gen.facts := fun m g _ =>
  (θ_run _ _ _).mono (fun _ h => ⟨fun c => (h.1 c).2.2.2, h.2⟩) (Kernel.run_main (F := Bits) m g)

/-- The idealized kernel's frame. -/
theorem frame_pi : @quiescent_KernelIdeal Cert.KernelIdeal.Gen.facts := fun m g _ =>
  (θ_run _ _ _).mono (fun _ h => ⟨fun c => (h.1 c).2.2.2, h.2⟩) (KernelIdeal.run_main (F := Ideal) m g)

/-- The reference's frame. -/
theorem frame_ri : @quiescent_ReferenceIdeal Cert.ReferenceIdeal.Gen.facts := fun m g _ => Cert.ReferenceIdeal.Gen.frame (F := Ideal) m g

/-- The two named constants: `10 / log 2` and `log 2`, each the rounding that the kernel spells. -/
theorem preserves : preserves_Kernel_KernelIdeal := ⟨
  IdealRules.named_const.statement Cert.KernelIdeal.κ "ten_log2e" .f32 0x4166D4CA#32 ((10 * (Real.log 2)⁻¹ : ℝ) : EReal) rfl,
  IdealRules.named_const.statement Cert.KernelIdeal.κ "ln2" .f32 0x3F317218#32 ((Real.log 2 : ℝ) : EReal) rfl⟩

/-- The frames once more, under the precondition. -/
theorem frame_pi_finite : @quiescent_KernelIdeal_pre_finite Cert.KernelIdeal.Gen.facts Cert.Pre_finite.Gen.facts := fun m g _ =>
  (θ_run _ _ _).mono (fun _ h => ⟨fun c => (h.1 c).2.2.2, h.2⟩) (KernelIdeal.run_main (F := Ideal) m g)

theorem frame_ri_finite : @quiescent_ReferenceIdeal_pre_finite Cert.ReferenceIdeal.Gen.facts Cert.Pre_finite.Gen.facts := fun m g _ =>
  Cert.ReferenceIdeal.Gen.frame (F := Ideal) m g

/-- From real embeddings and labels below 1024, the kernel's losses, row results and counts are the reference's. -/
theorem algebraic : @algebraic_KernelIdeal_ReferenceIdeal_pre_finite Cert.KernelIdeal.Gen.facts Cert.ReferenceIdeal.Gen.facts
    Cert.Pre_finite.Gen.facts := by
  intro m g m' g' hpre hagree
  refine ⟨fun c => KernelIdeal.lossArr (KernelIdeal.E3 m) c, fun c => KernelIdeal.lseArr (KernelIdeal.E3 m) c, fun c => KernelIdeal.cntArr (KernelIdeal.E2 m) c,
    (θ_run _ _ _).mono (fun _ h => h.1) (KernelIdeal.run_main (F := Ideal) m g),
    (θ_run _ _ _).mono (fun r h c => ⟨(h c).1.trans ?_, (h c).2.1.trans ?_, (h c).2.2.1.trans ?_, (h c).2.2.2⟩) (ReferenceIdeal.run m' g')⟩
  all_goals
    have hx := KernelIdeal.finite_pre m hpre c
    have hL := KernelIdeal.labels_pre m hpre c
    have ex : ReferenceIdeal.embOf m' c = KernelIdeal.embOf m c := (hagree c).1
    have el : ReferenceIdeal.labRow m' c = KernelIdeal.labRow m c :=
      funext fun y => congrFun (show ReferenceIdeal.labOf m' c = KernelIdeal.labOf m c from (hagree c).2.2) (ix1 (y 1))
    have hx' : KernelIdeal.Fin' (ReferenceIdeal.embOf m' c) := (congrArg KernelIdeal.Fin' ex).mpr hx
    funext y
  · refine (ReferenceIdeal.loss_value m' c hx' y).trans (Eq.trans ?_ (KernelIdeal.loss_value m c hx hL y).symm)
    rw [ex, el]
  · refine (ReferenceIdeal.lse_value m' c hx' y).trans (Eq.trans ?_ (KernelIdeal.lse_value m c hx y).symm)
    rw [ex]
  · refine (ReferenceIdeal.cnt_value m' c y).trans (Eq.trans ?_ (KernelIdeal.cnt_value m c hL y).symm)
    rw [el]

theorem claim : Cert.Claim := ⟨Cert.Kernel.Gen.facts, Cert.KernelIdeal.Gen.facts, Cert.ReferenceIdeal.Gen.facts, Cert.Prep.Gen.facts,
  Cert.PrepIdeal.Gen.facts, Cert.PrepReferenceIdeal.Gen.facts, Cert.Pre_finite.Gen.facts, Cert.Pre_normal.Gen.facts,
  frame_p, frame_pi, frame_pi_finite, frame_ri, frame_ri_finite, Prep.frame_q, Prep.frame_qi, Prep.frame_qi_normal, Prep.frame_si, Prep.frame_si_normal,
  preserves, algebraic, Prep.preserves, Prep.algebraic⟩

end Cert.Proof

end
